-- ==== Defs.lean ====
def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpReferenceIdeal (m : (ℓ : Loc Cert.InpReferenceIdeal.nD Cert.InpReferenceIdeal.τ Cert.InpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Dattn (m : (ℓ : Loc Cert.Dattn.nD Cert.Dattn.τ Cert.Dattn.sig) → Buf (Elt Bits) ℓ) : Prop :=
  True

def Pre_DattnIdeal (m : (ℓ : Loc Cert.DattnIdeal.nD Cert.DattnIdeal.τ Cert.DattnIdeal.sig) → Buf (Elt Ideal) ℓ) : Prop :=
  True

def Pre_DattnReferenceIdeal (m : (ℓ : Loc Cert.DattnReferenceIdeal.nD Cert.DattnReferenceIdeal.τ Cert.DattnReferenceIdeal.sig) → Buf (Elt Ideal) ℓ) : Prop :=
  True

def Pre_Drz (m : (ℓ : Loc Cert.Drz.nD Cert.Drz.τ Cert.Drz.sig) → Buf (Elt Bits) ℓ) : Prop :=
  True

def Pre_DrzIdeal (m : (ℓ : Loc Cert.DrzIdeal.nD Cert.DrzIdeal.τ Cert.DrzIdeal.sig) → Buf (Elt Ideal) ℓ) : Prop :=
  True

def Pre_DrzReferenceIdeal (m : (ℓ : Loc Cert.DrzReferenceIdeal.nD Cert.DrzReferenceIdeal.τ Cert.DrzReferenceIdeal.sig) → Buf (Elt Ideal) ℓ) : Prop :=
  True

def Pre_Attno (m : (ℓ : Loc Cert.Attno.nD Cert.Attno.τ Cert.Attno.sig) → Buf (Elt Bits) ℓ) : Prop :=
  True

def Pre_AttnoIdeal (m : (ℓ : Loc Cert.AttnoIdeal.nD Cert.AttnoIdeal.τ Cert.AttnoIdeal.sig) → Buf (Elt Ideal) ℓ) : Prop :=
  True

def Pre_AttnoReferenceIdeal (m : (ℓ : Loc Cert.AttnoReferenceIdeal.nD Cert.AttnoReferenceIdeal.τ Cert.AttnoReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupReferenceIdeal (m : (ℓ : Loc Cert.WupReferenceIdeal.nD Cert.WupReferenceIdeal.τ Cert.WupReferenceIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownReferenceIdeal (m : (ℓ : Loc Cert.WdownReferenceIdeal.nD Cert.WdownReferenceIdeal.τ Cert.WdownReferenceIdeal.sig) → Buf (Elt Ideal) ℓ) : Prop :=
  True

def Pre_Wao (m : (ℓ : Loc Cert.Wao.nD Cert.Wao.τ Cert.Wao.sig) → Buf (Elt Bits) ℓ) : Prop :=
  True

def Pre_WaoIdeal (m : (ℓ : Loc Cert.WaoIdeal.nD Cert.WaoIdeal.τ Cert.WaoIdeal.sig) → Buf (Elt Ideal) ℓ) : Prop :=
  True

def Pre_WaoReferenceIdeal (m : (ℓ : Loc Cert.WaoReferenceIdeal.nD Cert.WaoReferenceIdeal.τ Cert.WaoReferenceIdeal.sig) → Buf (Elt Ideal) ℓ) : Prop :=
  True

def Pre_Wro (m : (ℓ : Loc Cert.Wro.nD Cert.Wro.τ Cert.Wro.sig) → Buf (Elt Bits) ℓ) : Prop :=
  True

def Pre_WroIdeal (m : (ℓ : Loc Cert.WroIdeal.nD Cert.WroIdeal.τ Cert.WroIdeal.sig) → Buf (Elt Ideal) ℓ) : Prop :=
  True

def Pre_WroReferenceIdeal (m : (ℓ : Loc Cert.WroReferenceIdeal.nD Cert.WroReferenceIdeal.τ Cert.WroReferenceIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Wgate (m : (ℓ : Loc Cert.Wgate.nD Cert.Wgate.τ Cert.Wgate.sig) → Buf (Elt Bits) ℓ) : Prop :=
  True

def Pre_WgateIdeal (m : (ℓ : Loc Cert.WgateIdeal.nD Cert.WgateIdeal.τ Cert.WgateIdeal.sig) → Buf (Elt Ideal) ℓ) : Prop :=
  True

def Pre_WgateReferenceIdeal (m : (ℓ : Loc Cert.WgateReferenceIdeal.nD Cert.WgateReferenceIdeal.τ Cert.WgateReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2)
      ∧ r.2.mem ((c.tc : Thread Cert.OprojReferenceIdeal.nD Cert.OprojReferenceIdeal.τ).loc Cert.OprojReferenceIdeal.main_arg3) = m ((c.tc : Thread Cert.OprojReferenceIdeal.nD Cert.OprojReferenceIdeal.τ).loc Cert.OprojReferenceIdeal.main_arg3))
      ∧ r.2.sem = fun _ => 0)

def quiescent_Dattn [hDattn : Cert.Dattn.Facts] : Prop :=
  ∀ (m : (ℓ : Loc Cert.Dattn.nD Cert.Dattn.τ Cert.Dattn.sig) → Buf (Elt Bits) ℓ) (g : Dev Cert.Dattn.nD → PrngReg), Pre_Dattn m →
    θ_run (Cert.Dattn.defs (F := Bits)) (onTc (τ := Cert.Dattn.τ) (Cert.Dattn.main (F := Bits))) ⟨m, fun _ => 0, g⟩ (fun r => (∀ c : Dev Cert.Dattn.nD,
      r.2.mem ((c.tc : Thread Cert.Dattn.nD Cert.Dattn.τ).loc Cert.Dattn.main_arg0) = m ((c.tc : Thread Cert.Dattn.nD Cert.Dattn.τ).loc Cert.Dattn.main_arg0)
      ∧ r.2.mem ((c.tc : Thread Cert.Dattn.nD Cert.Dattn.τ).loc Cert.Dattn.main_arg1) = m ((c.tc : Thread Cert.Dattn.nD Cert.Dattn.τ).loc Cert.Dattn.main_arg1))
      ∧ r.2.sem = fun _ => 0)

def quiescent_DattnIdeal [hDattnIdeal : Cert.DattnIdeal.Facts] : Prop :=
  ∀ (m : (ℓ : Loc Cert.DattnIdeal.nD Cert.DattnIdeal.τ Cert.DattnIdeal.sig) → Buf (Elt Ideal) ℓ) (g : Dev Cert.DattnIdeal.nD → PrngReg), Pre_DattnIdeal m →
    θ_run (Cert.DattnIdeal.defs (F := Ideal)) (onTc (τ := Cert.DattnIdeal.τ) (Cert.DattnIdeal.main (F := Ideal))) ⟨m, fun _ => 0, g⟩ (fun r => (∀ c : Dev Cert.DattnIdeal.nD,
      r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
      ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1))
      ∧ r.2.sem = fun _ => 0)

def quiescent_DattnReferenceIdeal [hDattnReferenceIdeal : Cert.DattnReferenceIdeal.Facts] : Prop :=
  ∀ (m : (ℓ : Loc Cert.DattnReferenceIdeal.nD Cert.DattnReferenceIdeal.τ Cert.DattnReferenceIdeal.sig) → Buf (Elt Ideal) ℓ) (g : Dev Cert.DattnReferenceIdeal.nD → PrngReg), Pre_DattnReferenceIdeal m →
    θ_run (Cert.DattnReferenceIdeal.defs (F := Ideal)) (onTc (τ := Cert.DattnReferenceIdeal.τ) (Cert.DattnReferenceIdeal.main (F := Ideal))) ⟨m, fun _ => 0, g⟩ (fun r => (∀ c : Dev Cert.DattnReferenceIdeal.nD,
      r.2.mem ((c.tc : Thread Cert.DattnReferenceIdeal.nD Cert.DattnReferenceIdeal.τ).loc Cert.DattnReferenceIdeal.main_arg0) = m ((c.tc : Thread Cert.DattnReferenceIdeal.nD Cert.DattnReferenceIdeal.τ).loc Cert.DattnReferenceIdeal.main_arg0)
      ∧ r.2.mem ((c.tc : Thread Cert.DattnReferenceIdeal.nD Cert.DattnReferenceIdeal.τ).loc Cert.DattnReferenceIdeal.main_arg1) = m ((c.tc : Thread Cert.DattnReferenceIdeal.nD Cert.DattnReferenceIdeal.τ).loc Cert.DattnReferenceIdeal.main_arg1))
      ∧ r.2.sem = fun _ => 0)

def quiescent_Drz [hDrz : Cert.Drz.Facts] : Prop :=
  ∀ (m : (ℓ : Loc Cert.Drz.nD Cert.Drz.τ Cert.Drz.sig) → Buf (Elt Bits) ℓ) (g : Dev Cert.Drz.nD → PrngReg), Pre_Drz m →
    θ_run (Cert.Drz.defs (F := Bits)) (onTc (τ := Cert.Drz.τ) (Cert.Drz.main (F := Bits))) ⟨m, fun _ => 0, g⟩ (fun r => (∀ c : Dev Cert.Drz.nD,
      r.2.mem ((c.tc : Thread Cert.Drz.nD Cert.Drz.τ).loc Cert.Drz.main_arg0) = m ((c.tc : Thread Cert.Drz.nD Cert.Drz.τ).loc Cert.Drz.main_arg0)
      ∧ r.2.mem ((c.tc : Thread Cert.Drz.nD Cert.Drz.τ).loc Cert.Drz.main_arg1) = m ((c.tc : Thread Cert.Drz.nD Cert.Drz.τ).loc Cert.Drz.main_arg1))
      ∧ r.2.sem = fun _ => 0)

def quiescent_DrzIdeal [hDrzIdeal : Cert.DrzIdeal.Facts] : Prop :=
  ∀ (m : (ℓ : Loc Cert.DrzIdeal.nD Cert.DrzIdeal.τ Cert.DrzIdeal.sig) → Buf (Elt Ideal) ℓ) (g : Dev Cert.DrzIdeal.nD → PrngReg), Pre_DrzIdeal m →
    θ_run (Cert.DrzIdeal.defs (F := Ideal)) (onTc (τ := Cert.DrzIdeal.τ) (Cert.DrzIdeal.main (F := Ideal))) ⟨m, fun _ => 0, g⟩ (fun r => (∀ c : Dev Cert.DrzIdeal.nD,
      r.2.mem ((c.tc : Thread Cert.DrzIdeal.nD Cert.DrzIdeal.τ).loc Cert.DrzIdeal.main_arg0) = m ((c.tc : Thread Cert.DrzIdeal.nD Cert.DrzIdeal.τ).loc Cert.DrzIdeal.main_arg0)
      ∧ r.2.mem ((c.tc : Thread Cert.DrzIdeal.nD Cert.DrzIdeal.τ).loc Cert.DrzIdeal.main_arg1) = m ((c.tc : Thread Cert.DrzIdeal.nD Cert.DrzIdeal.τ).loc Cert.DrzIdeal.main_arg1))
      ∧ r.2.sem = fun _ => 0)

def quiescent_DrzReferenceIdeal [hDrzReferenceIdeal : Cert.DrzReferenceIdeal.Facts] : Prop :=
  ∀ (m : (ℓ : Loc Cert.DrzReferenceIdeal.nD Cert.DrzReferenceIdeal.τ Cert.DrzReferenceIdeal.sig) → Buf (Elt Ideal) ℓ) (g : Dev Cert.DrzReferenceIdeal.nD → PrngReg), Pre_DrzReferenceIdeal m →
    θ_run (Cert.DrzReferenceIdeal.defs (F := Ideal)) (onTc (τ := Cert.DrzReferenceIdeal.τ) (Cert.DrzReferenceIdeal.main (F := Ideal))) ⟨m, fun _ => 0, g⟩ (fun r => (∀ c : Dev Cert.DrzReferenceIdeal.nD,
      r.2.mem ((c.tc : Thread Cert.DrzReferenceIdeal.nD Cert.DrzReferenceIdeal.τ).loc Cert.DrzReferenceIdeal.main_arg0) = m ((c.tc : Thread Cert.DrzReferenceIdeal.nD Cert.DrzReferenceIdeal.τ).loc Cert.DrzReferenceIdeal.main_arg0)
      ∧ r.2.mem ((c.tc : Thread Cert.DrzReferenceIdeal.nD Cert.DrzReferenceIdeal.τ).loc Cert.DrzReferenceIdeal.main_arg1) = m ((c.tc : Thread Cert.DrzReferenceIdeal.nD Cert.DrzReferenceIdeal.τ).loc Cert.DrzReferenceIdeal.main_arg1))
      ∧ r.2.sem = fun _ => 0)

def quiescent_Attno [hAttno : Cert.Attno.Facts] : Prop :=
  ∀ (m : (ℓ : Loc Cert.Attno.nD Cert.Attno.τ Cert.Attno.sig) → Buf (Elt Bits) ℓ) (g : Dev Cert.Attno.nD → PrngReg), Pre_Attno m →
    θ_run (Cert.Attno.defs (F := Bits)) (onTc (τ := Cert.Attno.τ) (Cert.Attno.main (F := Bits))) ⟨m, fun _ => 0, g⟩ (fun r => (∀ c : Dev Cert.Attno.nD,
      r.2.mem ((c.tc : Thread Cert.Attno.nD Cert.Attno.τ).loc Cert.Attno.main_arg0) = m ((c.tc : Thread Cert.Attno.nD Cert.Attno.τ).loc Cert.Attno.main_arg0)
      ∧ r.2.mem ((c.tc : Thread Cert.Attno.nD Cert.Attno.τ).loc Cert.Attno.main_arg1) = m ((c.tc : Thread Cert.Attno.nD Cert.Attno.τ).loc Cert.Attno.main_arg1))
      ∧ r.2.sem = fun _ => 0)

def quiescent_AttnoIdeal [hAttnoIdeal : Cert.AttnoIdeal.Facts] : Prop :=
  ∀ (m : (ℓ : Loc Cert.AttnoIdeal.nD Cert.AttnoIdeal.τ Cert.AttnoIdeal.sig) → Buf (Elt Ideal) ℓ) (g : Dev Cert.AttnoIdeal.nD → PrngReg), Pre_AttnoIdeal m →
    θ_run (Cert.AttnoIdeal.defs (F := Ideal)) (onTc (τ := Cert.AttnoIdeal.τ) (Cert.AttnoIdeal.main (F := Ideal))) ⟨m, fun _ => 0, g⟩ (fun r => (∀ c : Dev Cert.AttnoIdeal.nD,
      r.2.mem ((c.tc : Thread Cert.AttnoIdeal.nD Cert.AttnoIdeal.τ).loc Cert.AttnoIdeal.main_arg0) = m ((c.tc : Thread Cert.AttnoIdeal.nD Cert.AttnoIdeal.τ).loc Cert.AttnoIdeal.main_arg0)
      ∧ r.2.mem ((c.tc : Thread Cert.AttnoIdeal.nD Cert.AttnoIdeal.τ).loc Cert.AttnoIdeal.main_arg1) = m ((c.tc : Thread Cert.AttnoIdeal.nD Cert.AttnoIdeal.τ).loc Cert.AttnoIdeal.main_arg1))
      ∧ r.2.sem = fun _ => 0)

def quiescent_AttnoReferenceIdeal [hAttnoReferenceIdeal : Cert.AttnoReferenceIdeal.Facts] : Prop :=
  ∀ (m : (ℓ : Loc Cert.AttnoReferenceIdeal.nD Cert.AttnoReferenceIdeal.τ Cert.AttnoReferenceIdeal.sig) → Buf (Elt Ideal) ℓ) (g : Dev Cert.AttnoReferenceIdeal.nD → PrngReg), Pre_AttnoReferenceIdeal m →
    θ_run (Cert.AttnoReferenceIdeal.defs (F := Ideal)) (onTc (τ := Cert.AttnoReferenceIdeal.τ) (Cert.AttnoReferenceIdeal.main (F := Ideal))) ⟨m, fun _ => 0, g⟩ (fun r => (∀ c : Dev Cert.AttnoReferenceIdeal.nD,
      r.2.mem ((c.tc : Thread Cert.AttnoReferenceIdeal.nD Cert.AttnoReferenceIdeal.τ).loc Cert.AttnoReferenceIdeal.main_arg0) = m ((c.tc : Thread Cert.AttnoReferenceIdeal.nD Cert.AttnoReferenceIdeal.τ).loc Cert.AttnoReferenceIdeal.main_arg0)
      ∧ r.2.mem ((c.tc : Thread Cert.AttnoReferenceIdeal.nD Cert.AttnoReferenceIdeal.τ).loc Cert.AttnoReferenceIdeal.main_arg1) = m ((c.tc : Thread Cert.AttnoReferenceIdeal.nD Cert.AttnoReferenceIdeal.τ).loc Cert.AttnoReferenceIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupReferenceIdeal [hWupReferenceIdeal : Cert.WupReferenceIdeal.Facts] : Prop :=
  ∀ (m : (ℓ : Loc Cert.WupReferenceIdeal.nD Cert.WupReferenceIdeal.τ Cert.WupReferenceIdeal.sig) → Buf (Elt Ideal) ℓ) (g : Dev Cert.WupReferenceIdeal.nD → PrngReg), Pre_WupReferenceIdeal m →
    θ_run (Cert.WupReferenceIdeal.defs (F := Ideal)) (onTc (τ := Cert.WupReferenceIdeal.τ) (Cert.WupReferenceIdeal.main (F := Ideal))) ⟨m, fun _ => 0, g⟩ (fun r => (∀ c : Dev Cert.WupReferenceIdeal.nD,
      r.2.mem ((c.tc : Thread Cert.WupReferenceIdeal.nD Cert.WupReferenceIdeal.τ).loc Cert.WupReferenceIdeal.main_arg0) = m ((c.tc : Thread Cert.WupReferenceIdeal.nD Cert.WupReferenceIdeal.τ).loc Cert.WupReferenceIdeal.main_arg0)
      ∧ r.2.mem ((c.tc : Thread Cert.WupReferenceIdeal.nD Cert.WupReferenceIdeal.τ).loc Cert.WupReferenceIdeal.main_arg1) = m ((c.tc : Thread Cert.WupReferenceIdeal.nD Cert.WupReferenceIdeal.τ).loc Cert.WupReferenceIdeal.main_arg1)
      ∧ r.2.mem ((c.tc : Thread Cert.WupReferenceIdeal.nD Cert.WupReferenceIdeal.τ).loc Cert.WupReferenceIdeal.main_arg2) = m ((c.tc : Thread Cert.WupReferenceIdeal.nD Cert.WupReferenceIdeal.τ).loc Cert.WupReferenceIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownReferenceIdeal [hWdownReferenceIdeal : Cert.WdownReferenceIdeal.Facts] : Prop :=
  ∀ (m : (ℓ : Loc Cert.WdownReferenceIdeal.nD Cert.WdownReferenceIdeal.τ Cert.WdownReferenceIdeal.sig) → Buf (Elt Ideal) ℓ) (g : Dev Cert.WdownReferenceIdeal.nD → PrngReg), Pre_WdownReferenceIdeal m →
    θ_run (Cert.WdownReferenceIdeal.defs (F := Ideal)) (onTc (τ := Cert.WdownReferenceIdeal.τ) (Cert.WdownReferenceIdeal.main (F := Ideal))) ⟨m, fun _ => 0, g⟩ (fun r => (∀ c : Dev Cert.WdownReferenceIdeal.nD,
      r.2.mem ((c.tc : Thread Cert.WdownReferenceIdeal.nD Cert.WdownReferenceIdeal.τ).loc Cert.WdownReferenceIdeal.main_arg0) = m ((c.tc : Thread Cert.WdownReferenceIdeal.nD Cert.WdownReferenceIdeal.τ).loc Cert.WdownReferenceIdeal.main_arg0)
      ∧ r.2.mem ((c.tc : Thread Cert.WdownReferenceIdeal.nD Cert.WdownReferenceIdeal.τ).loc Cert.WdownReferenceIdeal.main_arg1) = m ((c.tc : Thread Cert.WdownReferenceIdeal.nD Cert.WdownReferenceIdeal.τ).loc Cert.WdownReferenceIdeal.main_arg1))
      ∧ r.2.sem = fun _ => 0)

def quiescent_Wao [hWao : Cert.Wao.Facts] : Prop :=
  ∀ (m : (ℓ : Loc Cert.Wao.nD Cert.Wao.τ Cert.Wao.sig) → Buf (Elt Bits) ℓ) (g : Dev Cert.Wao.nD → PrngReg), Pre_Wao m →
    θ_run (Cert.Wao.defs (F := Bits)) (onTc (τ := Cert.Wao.τ) (Cert.Wao.main (F := Bits))) ⟨m, fun _ => 0, g⟩ (fun r => (∀ c : Dev Cert.Wao.nD,
      r.2.mem ((c.tc : Thread Cert.Wao.nD Cert.Wao.τ).loc Cert.Wao.main_arg0) = m ((c.tc : Thread Cert.Wao.nD Cert.Wao.τ).loc Cert.Wao.main_arg0)
      ∧ r.2.mem ((c.tc : Thread Cert.Wao.nD Cert.Wao.τ).loc Cert.Wao.main_arg1) = m ((c.tc : Thread Cert.Wao.nD Cert.Wao.τ).loc Cert.Wao.main_arg1))
      ∧ r.2.sem = fun _ => 0)

def quiescent_WaoIdeal [hWaoIdeal : Cert.WaoIdeal.Facts] : Prop :=
  ∀ (m : (ℓ : Loc Cert.WaoIdeal.nD Cert.WaoIdeal.τ Cert.WaoIdeal.sig) → Buf (Elt Ideal) ℓ) (g : Dev Cert.WaoIdeal.nD → PrngReg), Pre_WaoIdeal m →
    θ_run (Cert.WaoIdeal.defs (F := Ideal)) (onTc (τ := Cert.WaoIdeal.τ) (Cert.WaoIdeal.main (F := Ideal))) ⟨m, fun _ => 0, g⟩ (fun r => (∀ c : Dev Cert.WaoIdeal.nD,
      r.2.mem ((c.tc : Thread Cert.WaoIdeal.nD Cert.WaoIdeal.τ).loc Cert.WaoIdeal.main_arg0) = m ((c.tc : Thread Cert.WaoIdeal.nD Cert.WaoIdeal.τ).loc Cert.WaoIdeal.main_arg0)
      ∧ r.2.mem ((c.tc : Thread Cert.WaoIdeal.nD Cert.WaoIdeal.τ).loc Cert.WaoIdeal.main_arg1) = m ((c.tc : Thread Cert.WaoIdeal.nD Cert.WaoIdeal.τ).loc Cert.WaoIdeal.main_arg1))
      ∧ r.2.sem = fun _ => 0)

def quiescent_WaoReferenceIdeal [hWaoReferenceIdeal : Cert.WaoReferenceIdeal.Facts] : Prop :=
  ∀ (m : (ℓ : Loc Cert.WaoReferenceIdeal.nD Cert.WaoReferenceIdeal.τ Cert.WaoReferenceIdeal.sig) → Buf (Elt Ideal) ℓ) (g : Dev Cert.WaoReferenceIdeal.nD → PrngReg), Pre_WaoReferenceIdeal m →
    θ_run (Cert.WaoReferenceIdeal.defs (F := Ideal)) (onTc (τ := Cert.WaoReferenceIdeal.τ) (Cert.WaoReferenceIdeal.main (F := Ideal))) ⟨m, fun _ => 0, g⟩ (fun r => (∀ c : Dev Cert.WaoReferenceIdeal.nD,
      r.2.mem ((c.tc : Thread Cert.WaoReferenceIdeal.nD Cert.WaoReferenceIdeal.τ).loc Cert.WaoReferenceIdeal.main_arg0) = m ((c.tc : Thread Cert.WaoReferenceIdeal.nD Cert.WaoReferenceIdeal.τ).loc Cert.WaoReferenceIdeal.main_arg0)
      ∧ r.2.mem ((c.tc : Thread Cert.WaoReferenceIdeal.nD Cert.WaoReferenceIdeal.τ).loc Cert.WaoReferenceIdeal.main_arg1) = m ((c.tc : Thread Cert.WaoReferenceIdeal.nD Cert.WaoReferenceIdeal.τ).loc Cert.WaoReferenceIdeal.main_arg1))
      ∧ r.2.sem = fun _ => 0)

def quiescent_Wro [hWro : Cert.Wro.Facts] : Prop :=
  ∀ (m : (ℓ : Loc Cert.Wro.nD Cert.Wro.τ Cert.Wro.sig) → Buf (Elt Bits) ℓ) (g : Dev Cert.Wro.nD → PrngReg), Pre_Wro m →
    θ_run (Cert.Wro.defs (F := Bits)) (onTc (τ := Cert.Wro.τ) (Cert.Wro.main (F := Bits))) ⟨m, fun _ => 0, g⟩ (fun r => (∀ c : Dev Cert.Wro.nD,
      r.2.mem ((c.tc : Thread Cert.Wro.nD Cert.Wro.τ).loc Cert.Wro.main_arg0) = m ((c.tc : Thread Cert.Wro.nD Cert.Wro.τ).loc Cert.Wro.main_arg0)
      ∧ r.2.mem ((c.tc : Thread Cert.Wro.nD Cert.Wro.τ).loc Cert.Wro.main_arg1) = m ((c.tc : Thread Cert.Wro.nD Cert.Wro.τ).loc Cert.Wro.main_arg1))
      ∧ r.2.sem = fun _ => 0)

def quiescent_WroIdeal [hWroIdeal : Cert.WroIdeal.Facts] : Prop :=
  ∀ (m : (ℓ : Loc Cert.WroIdeal.nD Cert.WroIdeal.τ Cert.WroIdeal.sig) → Buf (Elt Ideal) ℓ) (g : Dev Cert.WroIdeal.nD → PrngReg), Pre_WroIdeal m →
    θ_run (Cert.WroIdeal.defs (F := Ideal)) (onTc (τ := Cert.WroIdeal.τ) (Cert.WroIdeal.main (F := Ideal))) ⟨m, fun _ => 0, g⟩ (fun r => (∀ c : Dev Cert.WroIdeal.nD,
      r.2.mem ((c.tc : Thread Cert.WroIdeal.nD Cert.WroIdeal.τ).loc Cert.WroIdeal.main_arg0) = m ((c.tc : Thread Cert.WroIdeal.nD Cert.WroIdeal.τ).loc Cert.WroIdeal.main_arg0)
      ∧ r.2.mem ((c.tc : Thread Cert.WroIdeal.nD Cert.WroIdeal.τ).loc Cert.WroIdeal.main_arg1) = m ((c.tc : Thread Cert.WroIdeal.nD Cert.WroIdeal.τ).loc Cert.WroIdeal.main_arg1))
      ∧ r.2.sem = fun _ => 0)

def quiescent_WroReferenceIdeal [hWroReferenceIdeal : Cert.WroReferenceIdeal.Facts] : Prop :=
  ∀ (m : (ℓ : Loc Cert.WroReferenceIdeal.nD Cert.WroReferenceIdeal.τ Cert.WroReferenceIdeal.sig) → Buf (Elt Ideal) ℓ) (g : Dev Cert.WroReferenceIdeal.nD → PrngReg), Pre_WroReferenceIdeal m →
    θ_run (Cert.WroReferenceIdeal.defs (F := Ideal)) (onTc (τ := Cert.WroReferenceIdeal.τ) (Cert.WroReferenceIdeal.main (F := Ideal))) ⟨m, fun _ => 0, g⟩ (fun r => (∀ c : Dev Cert.WroReferenceIdeal.nD,
      r.2.mem ((c.tc : Thread Cert.WroReferenceIdeal.nD Cert.WroReferenceIdeal.τ).loc Cert.WroReferenceIdeal.main_arg0) = m ((c.tc : Thread Cert.WroReferenceIdeal.nD Cert.WroReferenceIdeal.τ).loc Cert.WroReferenceIdeal.main_arg0)
      ∧ r.2.mem ((c.tc : Thread Cert.WroReferenceIdeal.nD Cert.WroReferenceIdeal.τ).loc Cert.WroReferenceIdeal.main_arg1) = m ((c.tc : Thread Cert.WroReferenceIdeal.nD Cert.WroReferenceIdeal.τ).loc Cert.WroReferenceIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_Wgate [hWgate : Cert.Wgate.Facts] : Prop :=
  ∀ (m : (ℓ : Loc Cert.Wgate.nD Cert.Wgate.τ Cert.Wgate.sig) → Buf (Elt Bits) ℓ) (g : Dev Cert.Wgate.nD → PrngReg), Pre_Wgate m →
    θ_run (Cert.Wgate.defs (F := Bits)) (onTc (τ := Cert.Wgate.τ) (Cert.Wgate.main (F := Bits))) ⟨m, fun _ => 0, g⟩ (fun r => (∀ c : Dev Cert.Wgate.nD,
      r.2.mem ((c.tc : Thread Cert.Wgate.nD Cert.Wgate.τ).loc Cert.Wgate.main_arg0) = m ((c.tc : Thread Cert.Wgate.nD Cert.Wgate.τ).loc Cert.Wgate.main_arg0)
      ∧ r.2.mem ((c.tc : Thread Cert.Wgate.nD Cert.Wgate.τ).loc Cert.Wgate.main_arg1) = m ((c.tc : Thread Cert.Wgate.nD Cert.Wgate.τ).loc Cert.Wgate.main_arg1)
      ∧ r.2.mem ((c.tc : Thread Cert.Wgate.nD Cert.Wgate.τ).loc Cert.Wgate.main_arg2) = m ((c.tc : Thread Cert.Wgate.nD Cert.Wgate.τ).loc Cert.Wgate.main_arg2))
      ∧ r.2.sem = fun _ => 0)

def quiescent_WgateIdeal [hWgateIdeal : Cert.WgateIdeal.Facts] : Prop :=
  ∀ (m : (ℓ : Loc Cert.WgateIdeal.nD Cert.WgateIdeal.τ Cert.WgateIdeal.sig) → Buf (Elt Ideal) ℓ) (g : Dev Cert.WgateIdeal.nD → PrngReg), Pre_WgateIdeal m →
    θ_run (Cert.WgateIdeal.defs (F := Ideal)) (onTc (τ := Cert.WgateIdeal.τ) (Cert.WgateIdeal.main (F := Ideal))) ⟨m, fun _ => 0, g⟩ (fun r => (∀ c : Dev Cert.WgateIdeal.nD,
      r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
      ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1)
      ∧ r.2.mem ((c.tc : Thread Cert.WgateIdeal.nD Cert.WgateIdeal.τ).loc Cert.WgateIdeal.main_arg2) = m ((c.tc : Thread Cert.WgateIdeal.nD Cert.WgateIdeal.τ).loc Cert.WgateIdeal.main_arg2))
      ∧ r.2.sem = fun _ => 0)

def quiescent_WgateReferenceIdeal [hWgateReferenceIdeal : Cert.WgateReferenceIdeal.Facts] : Prop :=
  ∀ (m : (ℓ : Loc Cert.WgateReferenceIdeal.nD Cert.WgateReferenceIdeal.τ Cert.WgateReferenceIdeal.sig) → Buf (Elt Ideal) ℓ) (g : Dev Cert.WgateReferenceIdeal.nD → PrngReg), Pre_WgateReferenceIdeal m →
    θ_run (Cert.WgateReferenceIdeal.defs (F := Ideal)) (onTc (τ := Cert.WgateReferenceIdeal.τ) (Cert.WgateReferenceIdeal.main (F := Ideal))) ⟨m, fun _ => 0, g⟩ (fun r => (∀ c : Dev Cert.WgateReferenceIdeal.nD,
      r.2.mem ((c.tc : Thread Cert.WgateReferenceIdeal.nD Cert.WgateReferenceIdeal.τ).loc Cert.WgateReferenceIdeal.main_arg0) = m ((c.tc : Thread Cert.WgateReferenceIdeal.nD Cert.WgateReferenceIdeal.τ).loc Cert.WgateReferenceIdeal.main_arg0)
      ∧ r.2.mem ((c.tc : Thread Cert.WgateReferenceIdeal.nD Cert.WgateReferenceIdeal.τ).loc Cert.WgateReferenceIdeal.main_arg1) = m ((c.tc : Thread Cert.WgateReferenceIdeal.nD Cert.WgateReferenceIdeal.τ).loc Cert.WgateReferenceIdeal.main_arg1)
      ∧ r.2.mem ((c.tc : Thread Cert.WgateReferenceIdeal.nD Cert.WgateReferenceIdeal.τ).loc Cert.WgateReferenceIdeal.main_arg2) = m ((c.tc : Thread Cert.WgateReferenceIdeal.nD Cert.WgateReferenceIdeal.τ).loc Cert.WgateReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Inp_InpIdeal : Prop :=
  True

def algebraic_InpIdeal_InpReferenceIdeal [hInpIdeal : Cert.InpIdeal.Facts] [hInpReferenceIdeal : Cert.InpReferenceIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpIdeal m →
    (∀ c : Dev Cert.InpIdeal.nD,
      m' ((c.tc : Thread Cert.InpReferenceIdeal.nD Cert.InpReferenceIdeal.τ).loc Cert.InpReferenceIdeal.main_arg0) = m ((c.tc : Thread Cert.InpIdeal.nD Cert.InpIdeal.τ).loc Cert.InpIdeal.main_arg0)
      ∧ m' ((c.tc : Thread Cert.InpReferenceIdeal.nD Cert.InpReferenceIdeal.τ).loc Cert.InpReferenceIdeal.main_arg1) = m ((c.tc : Thread Cert.InpIdeal.nD Cert.InpIdeal.τ).loc Cert.InpIdeal.main_arg1)
      ∧ m' ((c.tc : Thread Cert.InpReferenceIdeal.nD Cert.InpReferenceIdeal.τ).loc Cert.InpReferenceIdeal.main_arg2) = m ((c.tc : Thread Cert.InpIdeal.nD Cert.InpIdeal.τ).loc Cert.InpIdeal.main_arg2)
      ∧ m' ((c.tc : Thread Cert.InpReferenceIdeal.nD Cert.InpReferenceIdeal.τ).loc Cert.InpReferenceIdeal.main_arg3) = m ((c.tc : Thread Cert.InpIdeal.nD Cert.InpIdeal.τ).loc Cert.InpIdeal.main_arg3)
      ∧ m' ((c.tc : Thread Cert.InpReferenceIdeal.nD Cert.InpReferenceIdeal.τ).loc Cert.InpReferenceIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v19)) (v1 : (c : Dev Cert.InpIdeal.nD) → Buf (Elt Ideal) ((c.tc : Thread Cert.InpIdeal.nD Cert.InpIdeal.τ).loc Cert.InpIdeal.main_v18_0)) (v2 : (c : Dev Cert.InpIdeal.nD) → Buf (Elt Ideal) ((c.tc : Thread Cert.InpIdeal.nD Cert.InpIdeal.τ).loc Cert.InpIdeal.main_v21)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v19) = v0 c
          ∧ r.2.mem ((c.tc : Thread Cert.InpIdeal.nD Cert.InpIdeal.τ).loc Cert.InpIdeal.main_v18_0) = v1 c
          ∧ r.2.mem ((c.tc : Thread Cert.InpIdeal.nD Cert.InpIdeal.τ).loc Cert.InpIdeal.main_v21) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v16) = v0 c
          ∧ r.2.mem ((c.tc : Thread Cert.InpReferenceIdeal.nD Cert.InpReferenceIdeal.τ).loc Cert.InpReferenceIdeal.main_v40) = v1 c
          ∧ r.2.mem ((c.tc : Thread Cert.InpReferenceIdeal.nD Cert.InpReferenceIdeal.τ).loc Cert.InpReferenceIdeal.main_v25) = v2 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_v15) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)
      ∧ m' ((c.tc : Thread Cert.OprojReferenceIdeal.nD Cert.OprojReferenceIdeal.τ).loc Cert.OprojReferenceIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v3_0)) (v1 : (c : Dev Cert.OprojIdeal.nD) → Buf (Elt Ideal) ((c.tc : Thread Cert.OprojIdeal.nD Cert.OprojIdeal.τ).loc Cert.OprojIdeal.main_v3_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v3_0) = v0 c
          ∧ r.2.mem ((c.tc : Thread Cert.OprojIdeal.nD Cert.OprojIdeal.τ).loc Cert.OprojIdeal.main_v3_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v1) = v0 c
          ∧ r.2.mem ((c.tc : Thread Cert.OprojReferenceIdeal.nD Cert.OprojReferenceIdeal.τ).loc Cert.OprojReferenceIdeal.main_v15) = v1 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2)
          ∧ r.2.mem ((c.tc : Thread Cert.OprojReferenceIdeal.nD Cert.OprojReferenceIdeal.τ).loc Cert.OprojReferenceIdeal.main_arg3) = m' ((c.tc : Thread Cert.OprojReferenceIdeal.nD Cert.OprojReferenceIdeal.τ).loc Cert.OprojReferenceIdeal.main_arg3))

def preserves_Dattn_DattnIdeal : Prop :=
  True

def algebraic_DattnIdeal_DattnReferenceIdeal [hDattnIdeal : Cert.DattnIdeal.Facts] [hDattnReferenceIdeal : Cert.DattnReferenceIdeal.Facts] : Prop :=
  ∀ (m : (ℓ : Loc Cert.DattnIdeal.nD Cert.DattnIdeal.τ Cert.DattnIdeal.sig) → Buf (Elt Ideal) ℓ) (g : Dev Cert.DattnIdeal.nD → PrngReg)
    (m' : (ℓ : Loc Cert.DattnReferenceIdeal.nD Cert.DattnReferenceIdeal.τ Cert.DattnReferenceIdeal.sig) → Buf (Elt Ideal) ℓ) (g' : Dev Cert.DattnReferenceIdeal.nD → PrngReg), Pre_DattnIdeal m →
    (∀ c : Dev Cert.DattnIdeal.nD,
      m' ((c.tc : Thread Cert.DattnReferenceIdeal.nD Cert.DattnReferenceIdeal.τ).loc Cert.DattnReferenceIdeal.main_arg0) = m ((c.tc : Thread Cert.DattnIdeal.nD Cert.DattnIdeal.τ).loc Cert.DattnIdeal.main_arg0)
      ∧ m' ((c.tc : Thread Cert.DattnReferenceIdeal.nD Cert.DattnReferenceIdeal.τ).loc Cert.DattnReferenceIdeal.main_arg1) = m ((c.tc : Thread Cert.DattnIdeal.nD Cert.DattnIdeal.τ).loc Cert.DattnIdeal.main_arg1)) →
    ∃ (v0 : (c : Dev Cert.DattnIdeal.nD) → Buf (Elt Ideal) ((c.tc : Thread Cert.DattnIdeal.nD Cert.DattnIdeal.τ).loc Cert.DattnIdeal.main_v2)),
      θ_run (Cert.DattnIdeal.defs (F := Ideal)) (onTc (τ := Cert.DattnIdeal.τ) (Cert.DattnIdeal.main (F := Ideal))) ⟨m, fun _ => 0, g⟩ (fun r => ∀ c : Dev Cert.DattnIdeal.nD,
          r.2.mem ((c.tc : Thread Cert.DattnIdeal.nD Cert.DattnIdeal.τ).loc Cert.DattnIdeal.main_v2) = v0 c
          ∧ r.2.mem ((c.tc : Thread Cert.DattnIdeal.nD Cert.DattnIdeal.τ).loc Cert.DattnIdeal.main_arg0) = m ((c.tc : Thread Cert.DattnIdeal.nD Cert.DattnIdeal.τ).loc Cert.DattnIdeal.main_arg0)
          ∧ r.2.mem ((c.tc : Thread Cert.DattnIdeal.nD Cert.DattnIdeal.τ).loc Cert.DattnIdeal.main_arg1) = m ((c.tc : Thread Cert.DattnIdeal.nD Cert.DattnIdeal.τ).loc Cert.DattnIdeal.main_arg1))
      ∧ θ_run (Cert.DattnReferenceIdeal.defs (F := Ideal)) (onTc (τ := Cert.DattnReferenceIdeal.τ) (Cert.DattnReferenceIdeal.main (F := Ideal))) ⟨m', fun _ => 0, g'⟩ (fun r => ∀ c : Dev Cert.DattnReferenceIdeal.nD,
          r.2.mem ((c.tc : Thread Cert.DattnReferenceIdeal.nD Cert.DattnReferenceIdeal.τ).loc Cert.DattnReferenceIdeal.main_v2) = v0 c
          ∧ r.2.mem ((c.tc : Thread Cert.DattnReferenceIdeal.nD Cert.DattnReferenceIdeal.τ).loc Cert.DattnReferenceIdeal.main_arg0) = m' ((c.tc : Thread Cert.DattnReferenceIdeal.nD Cert.DattnReferenceIdeal.τ).loc Cert.DattnReferenceIdeal.main_arg0)
          ∧ r.2.mem ((c.tc : Thread Cert.DattnReferenceIdeal.nD Cert.DattnReferenceIdeal.τ).loc Cert.DattnReferenceIdeal.main_arg1) = m' ((c.tc : Thread Cert.DattnReferenceIdeal.nD Cert.DattnReferenceIdeal.τ).loc Cert.DattnReferenceIdeal.main_arg1))

def preserves_Drz_DrzIdeal : Prop :=
  True

def algebraic_DrzIdeal_DrzReferenceIdeal [hDrzIdeal : Cert.DrzIdeal.Facts] [hDrzReferenceIdeal : Cert.DrzReferenceIdeal.Facts] : Prop :=
  ∀ (m : (ℓ : Loc Cert.DrzIdeal.nD Cert.DrzIdeal.τ Cert.DrzIdeal.sig) → Buf (Elt Ideal) ℓ) (g : Dev Cert.DrzIdeal.nD → PrngReg)
    (m' : (ℓ : Loc Cert.DrzReferenceIdeal.nD Cert.DrzReferenceIdeal.τ Cert.DrzReferenceIdeal.sig) → Buf (Elt Ideal) ℓ) (g' : Dev Cert.DrzReferenceIdeal.nD → PrngReg), Pre_DrzIdeal m →
    (∀ c : Dev Cert.DrzIdeal.nD,
      m' ((c.tc : Thread Cert.DrzReferenceIdeal.nD Cert.DrzReferenceIdeal.τ).loc Cert.DrzReferenceIdeal.main_arg0) = m ((c.tc : Thread Cert.DrzIdeal.nD Cert.DrzIdeal.τ).loc Cert.DrzIdeal.main_arg0)
      ∧ m' ((c.tc : Thread Cert.DrzReferenceIdeal.nD Cert.DrzReferenceIdeal.τ).loc Cert.DrzReferenceIdeal.main_arg1) = m ((c.tc : Thread Cert.DrzIdeal.nD Cert.DrzIdeal.τ).loc Cert.DrzIdeal.main_arg1)) →
    ∃ (v0 : (c : Dev Cert.DrzIdeal.nD) → Buf (Elt Ideal) ((c.tc : Thread Cert.DrzIdeal.nD Cert.DrzIdeal.τ).loc Cert.DrzIdeal.main_v2)),
      θ_run (Cert.DrzIdeal.defs (F := Ideal)) (onTc (τ := Cert.DrzIdeal.τ) (Cert.DrzIdeal.main (F := Ideal))) ⟨m, fun _ => 0, g⟩ (fun r => ∀ c : Dev Cert.DrzIdeal.nD,
          r.2.mem ((c.tc : Thread Cert.DrzIdeal.nD Cert.DrzIdeal.τ).loc Cert.DrzIdeal.main_v2) = v0 c
          ∧ r.2.mem ((c.tc : Thread Cert.DrzIdeal.nD Cert.DrzIdeal.τ).loc Cert.DrzIdeal.main_arg0) = m ((c.tc : Thread Cert.DrzIdeal.nD Cert.DrzIdeal.τ).loc Cert.DrzIdeal.main_arg0)
          ∧ r.2.mem ((c.tc : Thread Cert.DrzIdeal.nD Cert.DrzIdeal.τ).loc Cert.DrzIdeal.main_arg1) = m ((c.tc : Thread Cert.DrzIdeal.nD Cert.DrzIdeal.τ).loc Cert.DrzIdeal.main_arg1))
      ∧ θ_run (Cert.DrzReferenceIdeal.defs (F := Ideal)) (onTc (τ := Cert.DrzReferenceIdeal.τ) (Cert.DrzReferenceIdeal.main (F := Ideal))) ⟨m', fun _ => 0, g'⟩ (fun r => ∀ c : Dev Cert.DrzReferenceIdeal.nD,
          r.2.mem ((c.tc : Thread Cert.DrzReferenceIdeal.nD Cert.DrzReferenceIdeal.τ).loc Cert.DrzReferenceIdeal.main_v2) = v0 c
          ∧ r.2.mem ((c.tc : Thread Cert.DrzReferenceIdeal.nD Cert.DrzReferenceIdeal.τ).loc Cert.DrzReferenceIdeal.main_arg0) = m' ((c.tc : Thread Cert.DrzReferenceIdeal.nD Cert.DrzReferenceIdeal.τ).loc Cert.DrzReferenceIdeal.main_arg0)
          ∧ r.2.mem ((c.tc : Thread Cert.DrzReferenceIdeal.nD Cert.DrzReferenceIdeal.τ).loc Cert.DrzReferenceIdeal.main_arg1) = m' ((c.tc : Thread Cert.DrzReferenceIdeal.nD Cert.DrzReferenceIdeal.τ).loc Cert.DrzReferenceIdeal.main_arg1))

def preserves_Attno_AttnoIdeal : Prop :=
  True

def algebraic_AttnoIdeal_AttnoReferenceIdeal [hAttnoIdeal : Cert.AttnoIdeal.Facts] [hAttnoReferenceIdeal : Cert.AttnoReferenceIdeal.Facts] : Prop :=
  ∀ (m : (ℓ : Loc Cert.AttnoIdeal.nD Cert.AttnoIdeal.τ Cert.AttnoIdeal.sig) → Buf (Elt Ideal) ℓ) (g : Dev Cert.AttnoIdeal.nD → PrngReg)
    (m' : (ℓ : Loc Cert.AttnoReferenceIdeal.nD Cert.AttnoReferenceIdeal.τ Cert.AttnoReferenceIdeal.sig) → Buf (Elt Ideal) ℓ) (g' : Dev Cert.AttnoReferenceIdeal.nD → PrngReg), Pre_AttnoIdeal m →
    (∀ c : Dev Cert.AttnoIdeal.nD,
      m' ((c.tc : Thread Cert.AttnoReferenceIdeal.nD Cert.AttnoReferenceIdeal.τ).loc Cert.AttnoReferenceIdeal.main_arg0) = m ((c.tc : Thread Cert.AttnoIdeal.nD Cert.AttnoIdeal.τ).loc Cert.AttnoIdeal.main_arg0)
      ∧ m' ((c.tc : Thread Cert.AttnoReferenceIdeal.nD Cert.AttnoReferenceIdeal.τ).loc Cert.AttnoReferenceIdeal.main_arg1) = m ((c.tc : Thread Cert.AttnoIdeal.nD Cert.AttnoIdeal.τ).loc Cert.AttnoIdeal.main_arg1)) →
    ∃ (v0 : (c : Dev Cert.AttnoIdeal.nD) → Buf (Elt Ideal) ((c.tc : Thread Cert.AttnoIdeal.nD Cert.AttnoIdeal.τ).loc Cert.AttnoIdeal.main_v2)),
      θ_run (Cert.AttnoIdeal.defs (F := Ideal)) (onTc (τ := Cert.AttnoIdeal.τ) (Cert.AttnoIdeal.main (F := Ideal))) ⟨m, fun _ => 0, g⟩ (fun r => ∀ c : Dev Cert.AttnoIdeal.nD,
          r.2.mem ((c.tc : Thread Cert.AttnoIdeal.nD Cert.AttnoIdeal.τ).loc Cert.AttnoIdeal.main_v2) = v0 c
          ∧ r.2.mem ((c.tc : Thread Cert.AttnoIdeal.nD Cert.AttnoIdeal.τ).loc Cert.AttnoIdeal.main_arg0) = m ((c.tc : Thread Cert.AttnoIdeal.nD Cert.AttnoIdeal.τ).loc Cert.AttnoIdeal.main_arg0)
          ∧ r.2.mem ((c.tc : Thread Cert.AttnoIdeal.nD Cert.AttnoIdeal.τ).loc Cert.AttnoIdeal.main_arg1) = m ((c.tc : Thread Cert.AttnoIdeal.nD Cert.AttnoIdeal.τ).loc Cert.AttnoIdeal.main_arg1))
      ∧ θ_run (Cert.AttnoReferenceIdeal.defs (F := Ideal)) (onTc (τ := Cert.AttnoReferenceIdeal.τ) (Cert.AttnoReferenceIdeal.main (F := Ideal))) ⟨m', fun _ => 0, g'⟩ (fun r => ∀ c : Dev Cert.AttnoReferenceIdeal.nD,
          r.2.mem ((c.tc : Thread Cert.AttnoReferenceIdeal.nD Cert.AttnoReferenceIdeal.τ).loc Cert.AttnoReferenceIdeal.main_v1) = v0 c
          ∧ r.2.mem ((c.tc : Thread Cert.AttnoReferenceIdeal.nD Cert.AttnoReferenceIdeal.τ).loc Cert.AttnoReferenceIdeal.main_arg0) = m' ((c.tc : Thread Cert.AttnoReferenceIdeal.nD Cert.AttnoReferenceIdeal.τ).loc Cert.AttnoReferenceIdeal.main_arg0)
          ∧ r.2.mem ((c.tc : Thread Cert.AttnoReferenceIdeal.nD Cert.AttnoReferenceIdeal.τ).loc Cert.AttnoReferenceIdeal.main_arg1) = m' ((c.tc : Thread Cert.AttnoReferenceIdeal.nD Cert.AttnoReferenceIdeal.τ).loc Cert.AttnoReferenceIdeal.main_arg1))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)
      ∧ m' ((c.tc : Thread Cert.WinReferenceIdeal.nD Cert.WinReferenceIdeal.τ).loc Cert.WinReferenceIdeal.main_arg2) = m ((c.tc : Thread Cert.WinIdeal.nD Cert.WinIdeal.τ).loc Cert.WinIdeal.main_arg2)) →
    ∃ (v0 : (c : Dev Cert.WinIdeal.nD) → Buf (Elt Ideal) ((c.tc : Thread Cert.WinIdeal.nD Cert.WinIdeal.τ).loc Cert.WinIdeal.main_v15)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v15) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v16) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def preserves_Wup_WupIdeal : Prop :=
  True

def algebraic_WupIdeal_WupReferenceIdeal [hWupIdeal : Cert.WupIdeal.Facts] [hWupReferenceIdeal : Cert.WupReferenceIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupReferenceIdeal.nD Cert.WupReferenceIdeal.τ Cert.WupReferenceIdeal.sig) → Buf (Elt Ideal) ℓ) (g' : Dev Cert.WupReferenceIdeal.nD → PrngReg), Pre_WupIdeal m →
    (∀ c : Dev Cert.WupIdeal.nD,
      m' ((c.tc : Thread Cert.WupReferenceIdeal.nD Cert.WupReferenceIdeal.τ).loc Cert.WupReferenceIdeal.main_arg0) = m ((c.tc : Thread Cert.WupIdeal.nD Cert.WupIdeal.τ).loc Cert.WupIdeal.main_arg0)
      ∧ m' ((c.tc : Thread Cert.WupReferenceIdeal.nD Cert.WupReferenceIdeal.τ).loc Cert.WupReferenceIdeal.main_arg1) = m ((c.tc : Thread Cert.WupIdeal.nD Cert.WupIdeal.τ).loc Cert.WupIdeal.main_arg1)
      ∧ m' ((c.tc : Thread Cert.WupReferenceIdeal.nD Cert.WupReferenceIdeal.τ).loc Cert.WupReferenceIdeal.main_arg2) = m ((c.tc : Thread Cert.WupIdeal.nD Cert.WupIdeal.τ).loc Cert.WupIdeal.main_arg2)) →
    ∃ (v0 : (c : Dev Cert.WupIdeal.nD) → Buf (Elt Ideal) ((c.tc : Thread Cert.WupIdeal.nD Cert.WupIdeal.τ).loc Cert.WupIdeal.main_v15)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v15) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ θ_run (Cert.WupReferenceIdeal.defs (F := Ideal)) (onTc (τ := Cert.WupReferenceIdeal.τ) (Cert.WupReferenceIdeal.main (F := Ideal))) ⟨m', fun _ => 0, g'⟩ (fun r => ∀ c : Dev Cert.WupReferenceIdeal.nD,
          r.2.mem ((c.tc : Thread Cert.WupReferenceIdeal.nD Cert.WupReferenceIdeal.τ).loc Cert.WupReferenceIdeal.main_v16) = v0 c
          ∧ r.2.mem ((c.tc : Thread Cert.WupReferenceIdeal.nD Cert.WupReferenceIdeal.τ).loc Cert.WupReferenceIdeal.main_arg0) = m' ((c.tc : Thread Cert.WupReferenceIdeal.nD Cert.WupReferenceIdeal.τ).loc Cert.WupReferenceIdeal.main_arg0)
          ∧ r.2.mem ((c.tc : Thread Cert.WupReferenceIdeal.nD Cert.WupReferenceIdeal.τ).loc Cert.WupReferenceIdeal.main_arg1) = m' ((c.tc : Thread Cert.WupReferenceIdeal.nD Cert.WupReferenceIdeal.τ).loc Cert.WupReferenceIdeal.main_arg1)
          ∧ r.2.mem ((c.tc : Thread Cert.WupReferenceIdeal.nD Cert.WupReferenceIdeal.τ).loc Cert.WupReferenceIdeal.main_arg2) = m' ((c.tc : Thread Cert.WupReferenceIdeal.nD Cert.WupReferenceIdeal.τ).loc Cert.WupReferenceIdeal.main_arg2))

def preserves_Wdown_WdownIdeal : Prop :=
  True

def algebraic_WdownIdeal_WdownReferenceIdeal [hWdownIdeal : Cert.WdownIdeal.Facts] [hWdownReferenceIdeal : Cert.WdownReferenceIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownReferenceIdeal.nD Cert.WdownReferenceIdeal.τ Cert.WdownReferenceIdeal.sig) → Buf (Elt Ideal) ℓ) (g' : Dev Cert.WdownReferenceIdeal.nD → PrngReg), Pre_WdownIdeal m →
    (∀ c : Dev Cert.WdownIdeal.nD,
      m' ((c.tc : Thread Cert.WdownReferenceIdeal.nD Cert.WdownReferenceIdeal.τ).loc Cert.WdownReferenceIdeal.main_arg0) = m ((c.tc : Thread Cert.WdownIdeal.nD Cert.WdownIdeal.τ).loc Cert.WdownIdeal.main_arg0)
      ∧ m' ((c.tc : Thread Cert.WdownReferenceIdeal.nD Cert.WdownReferenceIdeal.τ).loc Cert.WdownReferenceIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v2)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v2) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownReferenceIdeal.defs (F := Ideal)) (onTc (τ := Cert.WdownReferenceIdeal.τ) (Cert.WdownReferenceIdeal.main (F := Ideal))) ⟨m', fun _ => 0, g'⟩ (fun r => ∀ c : Dev Cert.WdownReferenceIdeal.nD,
          r.2.mem ((c.tc : Thread Cert.WdownReferenceIdeal.nD Cert.WdownReferenceIdeal.τ).loc Cert.WdownReferenceIdeal.main_v3) = v0 c
          ∧ r.2.mem ((c.tc : Thread Cert.WdownReferenceIdeal.nD Cert.WdownReferenceIdeal.τ).loc Cert.WdownReferenceIdeal.main_arg0) = m' ((c.tc : Thread Cert.WdownReferenceIdeal.nD Cert.WdownReferenceIdeal.τ).loc Cert.WdownReferenceIdeal.main_arg0)
          ∧ r.2.mem ((c.tc : Thread Cert.WdownReferenceIdeal.nD Cert.WdownReferenceIdeal.τ).loc Cert.WdownReferenceIdeal.main_arg1) = m' ((c.tc : Thread Cert.WdownReferenceIdeal.nD Cert.WdownReferenceIdeal.τ).loc Cert.WdownReferenceIdeal.main_arg1))

def preserves_Wao_WaoIdeal : Prop :=
  True

def algebraic_WaoIdeal_WaoReferenceIdeal [hWaoIdeal : Cert.WaoIdeal.Facts] [hWaoReferenceIdeal : Cert.WaoReferenceIdeal.Facts] : Prop :=
  ∀ (m : (ℓ : Loc Cert.WaoIdeal.nD Cert.WaoIdeal.τ Cert.WaoIdeal.sig) → Buf (Elt Ideal) ℓ) (g : Dev Cert.WaoIdeal.nD → PrngReg)
    (m' : (ℓ : Loc Cert.WaoReferenceIdeal.nD Cert.WaoReferenceIdeal.τ Cert.WaoReferenceIdeal.sig) → Buf (Elt Ideal) ℓ) (g' : Dev Cert.WaoReferenceIdeal.nD → PrngReg), Pre_WaoIdeal m →
    (∀ c : Dev Cert.WaoIdeal.nD,
      m' ((c.tc : Thread Cert.WaoReferenceIdeal.nD Cert.WaoReferenceIdeal.τ).loc Cert.WaoReferenceIdeal.main_arg0) = m ((c.tc : Thread Cert.WaoIdeal.nD Cert.WaoIdeal.τ).loc Cert.WaoIdeal.main_arg0)
      ∧ m' ((c.tc : Thread Cert.WaoReferenceIdeal.nD Cert.WaoReferenceIdeal.τ).loc Cert.WaoReferenceIdeal.main_arg1) = m ((c.tc : Thread Cert.WaoIdeal.nD Cert.WaoIdeal.τ).loc Cert.WaoIdeal.main_arg1)) →
    ∃ (v0 : (c : Dev Cert.WaoIdeal.nD) → Buf (Elt Ideal) ((c.tc : Thread Cert.WaoIdeal.nD Cert.WaoIdeal.τ).loc Cert.WaoIdeal.main_v2)),
      θ_run (Cert.WaoIdeal.defs (F := Ideal)) (onTc (τ := Cert.WaoIdeal.τ) (Cert.WaoIdeal.main (F := Ideal))) ⟨m, fun _ => 0, g⟩ (fun r => ∀ c : Dev Cert.WaoIdeal.nD,
          r.2.mem ((c.tc : Thread Cert.WaoIdeal.nD Cert.WaoIdeal.τ).loc Cert.WaoIdeal.main_v2) = v0 c
          ∧ r.2.mem ((c.tc : Thread Cert.WaoIdeal.nD Cert.WaoIdeal.τ).loc Cert.WaoIdeal.main_arg0) = m ((c.tc : Thread Cert.WaoIdeal.nD Cert.WaoIdeal.τ).loc Cert.WaoIdeal.main_arg0)
          ∧ r.2.mem ((c.tc : Thread Cert.WaoIdeal.nD Cert.WaoIdeal.τ).loc Cert.WaoIdeal.main_arg1) = m ((c.tc : Thread Cert.WaoIdeal.nD Cert.WaoIdeal.τ).loc Cert.WaoIdeal.main_arg1))
      ∧ θ_run (Cert.WaoReferenceIdeal.defs (F := Ideal)) (onTc (τ := Cert.WaoReferenceIdeal.τ) (Cert.WaoReferenceIdeal.main (F := Ideal))) ⟨m', fun _ => 0, g'⟩ (fun r => ∀ c : Dev Cert.WaoReferenceIdeal.nD,
          r.2.mem ((c.tc : Thread Cert.WaoReferenceIdeal.nD Cert.WaoReferenceIdeal.τ).loc Cert.WaoReferenceIdeal.main_v3) = v0 c
          ∧ r.2.mem ((c.tc : Thread Cert.WaoReferenceIdeal.nD Cert.WaoReferenceIdeal.τ).loc Cert.WaoReferenceIdeal.main_arg0) = m' ((c.tc : Thread Cert.WaoReferenceIdeal.nD Cert.WaoReferenceIdeal.τ).loc Cert.WaoReferenceIdeal.main_arg0)
          ∧ r.2.mem ((c.tc : Thread Cert.WaoReferenceIdeal.nD Cert.WaoReferenceIdeal.τ).loc Cert.WaoReferenceIdeal.main_arg1) = m' ((c.tc : Thread Cert.WaoReferenceIdeal.nD Cert.WaoReferenceIdeal.τ).loc Cert.WaoReferenceIdeal.main_arg1))

def preserves_Wro_WroIdeal : Prop :=
  True

def algebraic_WroIdeal_WroReferenceIdeal [hWroIdeal : Cert.WroIdeal.Facts] [hWroReferenceIdeal : Cert.WroReferenceIdeal.Facts] : Prop :=
  ∀ (m : (ℓ : Loc Cert.WroIdeal.nD Cert.WroIdeal.τ Cert.WroIdeal.sig) → Buf (Elt Ideal) ℓ) (g : Dev Cert.WroIdeal.nD → PrngReg)
    (m' : (ℓ : Loc Cert.WroReferenceIdeal.nD Cert.WroReferenceIdeal.τ Cert.WroReferenceIdeal.sig) → Buf (Elt Ideal) ℓ) (g' : Dev Cert.WroReferenceIdeal.nD → PrngReg), Pre_WroIdeal m →
    (∀ c : Dev Cert.WroIdeal.nD,
      m' ((c.tc : Thread Cert.WroReferenceIdeal.nD Cert.WroReferenceIdeal.τ).loc Cert.WroReferenceIdeal.main_arg0) = m ((c.tc : Thread Cert.WroIdeal.nD Cert.WroIdeal.τ).loc Cert.WroIdeal.main_arg0)
      ∧ m' ((c.tc : Thread Cert.WroReferenceIdeal.nD Cert.WroReferenceIdeal.τ).loc Cert.WroReferenceIdeal.main_arg1) = m ((c.tc : Thread Cert.WroIdeal.nD Cert.WroIdeal.τ).loc Cert.WroIdeal.main_arg1)) →
    ∃ (v0 : (c : Dev Cert.WroIdeal.nD) → Buf (Elt Ideal) ((c.tc : Thread Cert.WroIdeal.nD Cert.WroIdeal.τ).loc Cert.WroIdeal.main_v2)),
      θ_run (Cert.WroIdeal.defs (F := Ideal)) (onTc (τ := Cert.WroIdeal.τ) (Cert.WroIdeal.main (F := Ideal))) ⟨m, fun _ => 0, g⟩ (fun r => ∀ c : Dev Cert.WroIdeal.nD,
          r.2.mem ((c.tc : Thread Cert.WroIdeal.nD Cert.WroIdeal.τ).loc Cert.WroIdeal.main_v2) = v0 c
          ∧ r.2.mem ((c.tc : Thread Cert.WroIdeal.nD Cert.WroIdeal.τ).loc Cert.WroIdeal.main_arg0) = m ((c.tc : Thread Cert.WroIdeal.nD Cert.WroIdeal.τ).loc Cert.WroIdeal.main_arg0)
          ∧ r.2.mem ((c.tc : Thread Cert.WroIdeal.nD Cert.WroIdeal.τ).loc Cert.WroIdeal.main_arg1) = m ((c.tc : Thread Cert.WroIdeal.nD Cert.WroIdeal.τ).loc Cert.WroIdeal.main_arg1))
      ∧ θ_run (Cert.WroReferenceIdeal.defs (F := Ideal)) (onTc (τ := Cert.WroReferenceIdeal.τ) (Cert.WroReferenceIdeal.main (F := Ideal))) ⟨m', fun _ => 0, g'⟩ (fun r => ∀ c : Dev Cert.WroReferenceIdeal.nD,
          r.2.mem ((c.tc : Thread Cert.WroReferenceIdeal.nD Cert.WroReferenceIdeal.τ).loc Cert.WroReferenceIdeal.main_v3) = v0 c
          ∧ r.2.mem ((c.tc : Thread Cert.WroReferenceIdeal.nD Cert.WroReferenceIdeal.τ).loc Cert.WroReferenceIdeal.main_arg0) = m' ((c.tc : Thread Cert.WroReferenceIdeal.nD Cert.WroReferenceIdeal.τ).loc Cert.WroReferenceIdeal.main_arg0)
          ∧ r.2.mem ((c.tc : Thread Cert.WroReferenceIdeal.nD Cert.WroReferenceIdeal.τ).loc Cert.WroReferenceIdeal.main_arg1) = m' ((c.tc : Thread Cert.WroReferenceIdeal.nD Cert.WroReferenceIdeal.τ).loc Cert.WroReferenceIdeal.main_arg1))

def preserves_Wout_WoutIdeal : Prop :=
  True

def algebraic_WoutIdeal_WoutReferenceIdeal [hWoutIdeal : Cert.WoutIdeal.Facts] [hWoutReferenceIdeal : Cert.WoutReferenceIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutIdeal m →
    (∀ c : Dev Cert.WoutIdeal.nD,
      m' ((c.tc : Thread Cert.WoutReferenceIdeal.nD Cert.WoutReferenceIdeal.τ).loc Cert.WoutReferenceIdeal.main_arg0) = m ((c.tc : Thread Cert.WoutIdeal.nD Cert.WoutIdeal.τ).loc Cert.WoutIdeal.main_arg0)
      ∧ m' ((c.tc : Thread Cert.WoutReferenceIdeal.nD Cert.WoutReferenceIdeal.τ).loc Cert.WoutReferenceIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v2)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v2) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v3) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_Wgate_WgateIdeal : Prop :=
  True

def algebraic_WgateIdeal_WgateReferenceIdeal [hWgateIdeal : Cert.WgateIdeal.Facts] [hWgateReferenceIdeal : Cert.WgateReferenceIdeal.Facts] : Prop :=
  ∀ (m : (ℓ : Loc Cert.WgateIdeal.nD Cert.WgateIdeal.τ Cert.WgateIdeal.sig) → Buf (Elt Ideal) ℓ) (g : Dev Cert.WgateIdeal.nD → PrngReg)
    (m' : (ℓ : Loc Cert.WgateReferenceIdeal.nD Cert.WgateReferenceIdeal.τ Cert.WgateReferenceIdeal.sig) → Buf (Elt Ideal) ℓ) (g' : Dev Cert.WgateReferenceIdeal.nD → PrngReg), Pre_WgateIdeal m →
    (∀ c : Dev Cert.WgateIdeal.nD,
      m' ((c.tc : Thread Cert.WgateReferenceIdeal.nD Cert.WgateReferenceIdeal.τ).loc Cert.WgateReferenceIdeal.main_arg0) = m ((c.tc : Thread Cert.WgateIdeal.nD Cert.WgateIdeal.τ).loc Cert.WgateIdeal.main_arg0)
      ∧ m' ((c.tc : Thread Cert.WgateReferenceIdeal.nD Cert.WgateReferenceIdeal.τ).loc Cert.WgateReferenceIdeal.main_arg1) = m ((c.tc : Thread Cert.WgateIdeal.nD Cert.WgateIdeal.τ).loc Cert.WgateIdeal.main_arg1)
      ∧ m' ((c.tc : Thread Cert.WgateReferenceIdeal.nD Cert.WgateReferenceIdeal.τ).loc Cert.WgateReferenceIdeal.main_arg2) = m ((c.tc : Thread Cert.WgateIdeal.nD Cert.WgateIdeal.τ).loc Cert.WgateIdeal.main_arg2)) →
    ∃ (v0 : (c : Dev Cert.WgateIdeal.nD) → Buf (Elt Ideal) ((c.tc : Thread Cert.WgateIdeal.nD Cert.WgateIdeal.τ).loc Cert.WgateIdeal.main_v15)),
      θ_run (Cert.WgateIdeal.defs (F := Ideal)) (onTc (τ := Cert.WgateIdeal.τ) (Cert.WgateIdeal.main (F := Ideal))) ⟨m, fun _ => 0, g⟩ (fun r => ∀ c : Dev Cert.WgateIdeal.nD,
          r.2.mem ((c.tc : Thread Cert.WgateIdeal.nD Cert.WgateIdeal.τ).loc Cert.WgateIdeal.main_v15) = v0 c
          ∧ r.2.mem ((c.tc : Thread Cert.WgateIdeal.nD Cert.WgateIdeal.τ).loc Cert.WgateIdeal.main_arg0) = m ((c.tc : Thread Cert.WgateIdeal.nD Cert.WgateIdeal.τ).loc Cert.WgateIdeal.main_arg0)
          ∧ r.2.mem ((c.tc : Thread Cert.WgateIdeal.nD Cert.WgateIdeal.τ).loc Cert.WgateIdeal.main_arg1) = m ((c.tc : Thread Cert.WgateIdeal.nD Cert.WgateIdeal.τ).loc Cert.WgateIdeal.main_arg1)
          ∧ r.2.mem ((c.tc : Thread Cert.WgateIdeal.nD Cert.WgateIdeal.τ).loc Cert.WgateIdeal.main_arg2) = m ((c.tc : Thread Cert.WgateIdeal.nD Cert.WgateIdeal.τ).loc Cert.WgateIdeal.main_arg2))
      ∧ θ_run (Cert.WgateReferenceIdeal.defs (F := Ideal)) (onTc (τ := Cert.WgateReferenceIdeal.τ) (Cert.WgateReferenceIdeal.main (F := Ideal))) ⟨m', fun _ => 0, g'⟩ (fun r => ∀ c : Dev Cert.WgateReferenceIdeal.nD,
          r.2.mem ((c.tc : Thread Cert.WgateReferenceIdeal.nD Cert.WgateReferenceIdeal.τ).loc Cert.WgateReferenceIdeal.main_v16) = v0 c
          ∧ r.2.mem ((c.tc : Thread Cert.WgateReferenceIdeal.nD Cert.WgateReferenceIdeal.τ).loc Cert.WgateReferenceIdeal.main_arg0) = m' ((c.tc : Thread Cert.WgateReferenceIdeal.nD Cert.WgateReferenceIdeal.τ).loc Cert.WgateReferenceIdeal.main_arg0)
          ∧ r.2.mem ((c.tc : Thread Cert.WgateReferenceIdeal.nD Cert.WgateReferenceIdeal.τ).loc Cert.WgateReferenceIdeal.main_arg1) = m' ((c.tc : Thread Cert.WgateReferenceIdeal.nD Cert.WgateReferenceIdeal.τ).loc Cert.WgateReferenceIdeal.main_arg1)
          ∧ r.2.mem ((c.tc : Thread Cert.WgateReferenceIdeal.nD Cert.WgateReferenceIdeal.τ).loc Cert.WgateReferenceIdeal.main_arg2) = m' ((c.tc : Thread Cert.WgateReferenceIdeal.nD Cert.WgateReferenceIdeal.τ).loc Cert.WgateReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v20_0)) (v1 : (c : Dev Cert.MlpIdeal.nD) → Buf (Elt Ideal) ((c.tc : Thread Cert.MlpIdeal.nD Cert.MlpIdeal.τ).loc Cert.MlpIdeal.main_v22)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v20_0) = v0 c
          ∧ r.2.mem ((c.tc : Thread Cert.MlpIdeal.nD Cert.MlpIdeal.τ).loc Cert.MlpIdeal.main_v22) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v56) = v0 c
          ∧ r.2.mem ((c.tc : Thread Cert.MlpReferenceIdeal.nD Cert.MlpReferenceIdeal.τ).loc Cert.MlpReferenceIdeal.main_v41) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v74)) (v2 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v74) = v1 c
          ∧ r.2.mem ((c.tc : Thread Cert.KernelIdeal.nD Cert.KernelIdeal.τ).loc Cert.KernelIdeal.main_v76) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hInp : Cert.Inp.Facts) (hInpIdeal : Cert.InpIdeal.Facts) (hInpReferenceIdeal : Cert.InpReferenceIdeal.Facts) (hDown : Cert.Down.Facts) (hDownIdeal : Cert.DownIdeal.Facts) (hDownReferenceIdeal : Cert.DownReferenceIdeal.Facts) (hOproj : Cert.Oproj.Facts) (hOprojIdeal : Cert.OprojIdeal.Facts) (hOprojReferenceIdeal : Cert.OprojReferenceIdeal.Facts) (hDattn : Cert.Dattn.Facts) (hDattnIdeal : Cert.DattnIdeal.Facts) (hDattnReferenceIdeal : Cert.DattnReferenceIdeal.Facts) (hDrz : Cert.Drz.Facts) (hDrzIdeal : Cert.DrzIdeal.Facts) (hDrzReferenceIdeal : Cert.DrzReferenceIdeal.Facts) (hAttno : Cert.Attno.Facts) (hAttnoIdeal : Cert.AttnoIdeal.Facts) (hAttnoReferenceIdeal : Cert.AttnoReferenceIdeal.Facts) (hWin : Cert.Win.Facts) (hWinIdeal : Cert.WinIdeal.Facts) (hWinReferenceIdeal : Cert.WinReferenceIdeal.Facts) (hWup : Cert.Wup.Facts) (hWupIdeal : Cert.WupIdeal.Facts) (hWupReferenceIdeal : Cert.WupReferenceIdeal.Facts) (hWdown : Cert.Wdown.Facts) (hWdownIdeal : Cert.WdownIdeal.Facts) (hWdownReferenceIdeal : Cert.WdownReferenceIdeal.Facts) (hWao : Cert.Wao.Facts) (hWaoIdeal : Cert.WaoIdeal.Facts) (hWaoReferenceIdeal : Cert.WaoReferenceIdeal.Facts) (hWro : Cert.Wro.Facts) (hWroIdeal : Cert.WroIdeal.Facts) (hWroReferenceIdeal : Cert.WroReferenceIdeal.Facts) (hWout : Cert.Wout.Facts) (hWoutIdeal : Cert.WoutIdeal.Facts) (hWoutReferenceIdeal : Cert.WoutReferenceIdeal.Facts) (hWgate : Cert.Wgate.Facts) (hWgateIdeal : Cert.WgateIdeal.Facts) (hWgateReferenceIdeal : Cert.WgateReferenceIdeal.Facts) (hMlp : Cert.Mlp.Facts) (hMlpIdeal : Cert.MlpIdeal.Facts) (hMlpReferenceIdeal : Cert.MlpReferenceIdeal.Facts) (hKernel : Cert.Kernel.Facts) (hKernelIdeal : Cert.KernelIdeal.Facts) (hReferenceIdeal : Cert.ReferenceIdeal.Facts) (hPre_finite : Cert.Pre_finite.Facts),
    quiescent_Inp (hInp := hInp)
    ∧ quiescent_InpIdeal (hInpIdeal := hInpIdeal)
    ∧ quiescent_InpReferenceIdeal (hInpReferenceIdeal := hInpReferenceIdeal)
    ∧ quiescent_Down (hDown := hDown)
    ∧ quiescent_DownIdeal (hDownIdeal := hDownIdeal)
    ∧ quiescent_DownReferenceIdeal (hDownReferenceIdeal := hDownReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Dattn (hDattn := hDattn)
    ∧ quiescent_DattnIdeal (hDattnIdeal := hDattnIdeal)
    ∧ quiescent_DattnReferenceIdeal (hDattnReferenceIdeal := hDattnReferenceIdeal)
    ∧ quiescent_Drz (hDrz := hDrz)
    ∧ quiescent_DrzIdeal (hDrzIdeal := hDrzIdeal)
    ∧ quiescent_DrzReferenceIdeal (hDrzReferenceIdeal := hDrzReferenceIdeal)
    ∧ quiescent_Attno (hAttno := hAttno)
    ∧ quiescent_AttnoIdeal (hAttnoIdeal := hAttnoIdeal)
    ∧ quiescent_AttnoReferenceIdeal (hAttnoReferenceIdeal := hAttnoReferenceIdeal)
    ∧ quiescent_Win (hWin := hWin)
    ∧ quiescent_WinIdeal (hWinIdeal := hWinIdeal)
    ∧ quiescent_WinReferenceIdeal (hWinReferenceIdeal := hWinReferenceIdeal)
    ∧ quiescent_Wup (hWup := hWup)
    ∧ quiescent_WupIdeal (hWupIdeal := hWupIdeal)
    ∧ quiescent_WupReferenceIdeal (hWupReferenceIdeal := hWupReferenceIdeal)
    ∧ quiescent_Wdown (hWdown := hWdown)
    ∧ quiescent_WdownIdeal (hWdownIdeal := hWdownIdeal)
    ∧ quiescent_WdownReferenceIdeal (hWdownReferenceIdeal := hWdownReferenceIdeal)
    ∧ quiescent_Wao (hWao := hWao)
    ∧ quiescent_WaoIdeal (hWaoIdeal := hWaoIdeal)
    ∧ quiescent_WaoReferenceIdeal (hWaoReferenceIdeal := hWaoReferenceIdeal)
    ∧ quiescent_Wro (hWro := hWro)
    ∧ quiescent_WroIdeal (hWroIdeal := hWroIdeal)
    ∧ quiescent_WroReferenceIdeal (hWroReferenceIdeal := hWroReferenceIdeal)
    ∧ quiescent_Wout (hWout := hWout)
    ∧ quiescent_WoutIdeal (hWoutIdeal := hWoutIdeal)
    ∧ quiescent_WoutReferenceIdeal (hWoutReferenceIdeal := hWoutReferenceIdeal)
    ∧ quiescent_Wgate (hWgate := hWgate)
    ∧ quiescent_WgateIdeal (hWgateIdeal := hWgateIdeal)
    ∧ quiescent_WgateReferenceIdeal (hWgateReferenceIdeal := hWgateReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Inp_InpIdeal
    ∧ algebraic_InpIdeal_InpReferenceIdeal (hInpIdeal := hInpIdeal) (hInpReferenceIdeal := hInpReferenceIdeal)
    ∧ preserves_Down_DownIdeal
    ∧ algebraic_DownIdeal_DownReferenceIdeal (hDownIdeal := hDownIdeal) (hDownReferenceIdeal := hDownReferenceIdeal)
    ∧ preserves_Oproj_OprojIdeal
    ∧ algebraic_OprojIdeal_OprojReferenceIdeal (hOprojIdeal := hOprojIdeal) (hOprojReferenceIdeal := hOprojReferenceIdeal)
    ∧ preserves_Dattn_DattnIdeal
    ∧ algebraic_DattnIdeal_DattnReferenceIdeal (hDattnIdeal := hDattnIdeal) (hDattnReferenceIdeal := hDattnReferenceIdeal)
    ∧ preserves_Drz_DrzIdeal
    ∧ algebraic_DrzIdeal_DrzReferenceIdeal (hDrzIdeal := hDrzIdeal) (hDrzReferenceIdeal := hDrzReferenceIdeal)
    ∧ preserves_Attno_AttnoIdeal
    ∧ algebraic_AttnoIdeal_AttnoReferenceIdeal (hAttnoIdeal := hAttnoIdeal) (hAttnoReferenceIdeal := hAttnoReferenceIdeal)
    ∧ preserves_Win_WinIdeal
    ∧ algebraic_WinIdeal_WinReferenceIdeal (hWinIdeal := hWinIdeal) (hWinReferenceIdeal := hWinReferenceIdeal)
    ∧ preserves_Wup_WupIdeal
    ∧ algebraic_WupIdeal_WupReferenceIdeal (hWupIdeal := hWupIdeal) (hWupReferenceIdeal := hWupReferenceIdeal)
    ∧ preserves_Wdown_WdownIdeal
    ∧ algebraic_WdownIdeal_WdownReferenceIdeal (hWdownIdeal := hWdownIdeal) (hWdownReferenceIdeal := hWdownReferenceIdeal)
    ∧ preserves_Wao_WaoIdeal
    ∧ algebraic_WaoIdeal_WaoReferenceIdeal (hWaoIdeal := hWaoIdeal) (hWaoReferenceIdeal := hWaoReferenceIdeal)
    ∧ preserves_Wro_WroIdeal
    ∧ algebraic_WroIdeal_WroReferenceIdeal (hWroIdeal := hWroIdeal) (hWroReferenceIdeal := hWroReferenceIdeal)
    ∧ preserves_Wout_WoutIdeal
    ∧ algebraic_WoutIdeal_WoutReferenceIdeal (hWoutIdeal := hWoutIdeal) (hWoutReferenceIdeal := hWoutReferenceIdeal)
    ∧ preserves_Wgate_WgateIdeal
    ∧ algebraic_WgateIdeal_WgateReferenceIdeal (hWgateIdeal := hWgateIdeal) (hWgateReferenceIdeal := hWgateReferenceIdeal)
    ∧ preserves_Mlp_MlpIdeal
    ∧ algebraic_MlpIdeal_MlpReferenceIdeal (hMlpIdeal := hMlpIdeal) (hMlpReferenceIdeal := hMlpReferenceIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x8x64 : Shape := ⟨3, ![16384, 8, 64]⟩
abbrev S16384x2x64 : Shape := ⟨3, ![16384, 2, 64]⟩
abbrev S16384x512 : Shape := ⟨2, ![16384, 512]⟩
abbrev S_ : Shape := ⟨0, ![]⟩

class Facts : Prop where
  bcast_S_S16384x8x64 : S_.BroadcastsInDim S16384x8x64 (![] : Fin 0 → Fin S16384x8x64.rank)
  bcast_S_S16384x2x64 : S_.BroadcastsInDim S16384x2x64 (![] : Fin 0 → Fin S16384x2x64.rank)
  bcast_S_S16384x512 : S_.BroadcastsInDim S16384x512 (![] : Fin 0 → Fin S16384x512.rank)

variable [Facts]

def fn {F : FTy → Type} [FloatOps F] (main_arg0 : FVec F S16384x8x64 .f32) (main_arg1 : FVec F S16384x2x64 .f32) (main_arg2 : FVec F S16384x2x64 .f32) (main_arg3 : FVec F S16384x512 .f32) : IVec S16384x8x64 1 × IVec S16384x2x64 1 × IVec S16384x2x64 1 × IVec S16384x512 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_v3 : FVec F S16384x2x64 .f32 := Host.absf main_arg1
  let main_cst_0 : FVec F S_ .f32 := constant S_ .f32 0x7F800000#32
  let main_v4 : FVec F S16384x2x64 .f32 := broadcastInDim S16384x2x64 ![] bcast_S_S16384x2x64 main_cst_0
  let main_v5 : IVec S16384x2x64 1 := cmpf .olt main_v3 main_v4
  let main_v6 : FVec F S16384x2x64 .f32 := Host.absf main_arg2
  let main_cst_1 : FVec F S_ .f32 := constant S_ .f32 0x7F800000#32
  let main_v7 : FVec F S16384x2x64 .f32 := broadcastInDim S16384x2x64 ![] bcast_S_S16384x2x64 main_cst_1
  let main_v8 : IVec S16384x2x64 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  (main_v2, main_v5, main_v8, main_v11)
-- ==== Inp.lean ====
abbrev S16384x1024 : Shape := ⟨2, ![16384, 1024]⟩
abbrev S1024 : Shape := ⟨1, ![1024]⟩
abbrev S1024x4864 : Shape := ⟨2, ![1024, 4864]⟩
abbrev S16384x4864 : Shape := ⟨2, ![16384, 4864]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x1024 : Shape := ⟨2, ![1024, 1024]⟩
abbrev S1024x2432 : Shape := ⟨2, ![1024, 2432]⟩
abbrev S8x1024 : Shape := ⟨2, ![8, 1024]⟩
abbrev S512x4864 : Shape := ⟨2, ![512, 4864]⟩
abbrev S512x1024 : Shape := ⟨2, ![512, 1024]⟩
abbrev S512 : Shape := ⟨1, ![512]⟩
abbrev S512x1 : Shape := ⟨2, ![512, 1]⟩

abbrev nBuf : Space → Nat
  | .hbm => 31
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x1024, .f32⟩
  | .hbm, ⟨4, _⟩ => ⟨S16384x4864, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S1024x4864, .bf16⟩
  | .hbm, ⟨24, _⟩ => ⟨S16384x4864, .bf16⟩
  | .hbm, ⟨25, _⟩ => ⟨S16384x4864, .bf16⟩
  | .hbm, ⟨26, _⟩ => ⟨S16384x1024, .f32⟩
  | .hbm, ⟨27, _⟩ => ⟨S8x1024, .f32⟩
  | .hbm, ⟨28, _⟩ => ⟨S16384x4864, .f32⟩
  | .hbm, ⟨29, _⟩ => ⟨S1x1024, .f32⟩
  | .hbm, ⟨30, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .bf16⟩
  | .local _ .vmem, ⟨5, _⟩ => ⟨S1024x2432, .bf16⟩
  | .local _ .vmem, ⟨6, _⟩ => ⟨S512x4864, .bf16⟩
  | .local _ .vmem, ⟨7, _⟩ => ⟨S512x4864, .bf16⟩
  | .local _ .vmem, ⟨8, _⟩ => ⟨S1024x4864, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![32, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4864 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x4864 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 1 → Memref sig .tc .vmem S8x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]
-- ==== InpReferenceIdeal.lean ====
abbrev S16384x1024 : Shape := ⟨2, ![16384, 1024]⟩
abbrev S1024 : Shape := ⟨1, ![1024]⟩
abbrev S1024x4864 : Shape := ⟨2, ![1024, 4864]⟩
abbrev S16384x4864 : Shape := ⟨2, ![16384, 4864]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4864x1024 : Shape := ⟨2, ![4864, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4864, .f32⟩
  | .hbm, ⟨3, _⟩ => ⟨S16384x1024, .f32⟩
  | .hbm, ⟨4, _⟩ => ⟨S16384x4864, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4864, .f32⟩
  | .hbm, ⟨26, _⟩ => ⟨S4864x1024, .f32⟩
  | .hbm, ⟨27, _⟩ => ⟨S1024x4864, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Down.lean ====
abbrev S16384x1024 : Shape := ⟨2, ![16384, 1024]⟩
abbrev S16384x4096 : Shape := ⟨2, ![16384, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S16384x4096, .bf16⟩
  | .hbm, ⟨6, _⟩ => ⟨S4096x1024, .bf16⟩
  | .hbm, ⟨7, _⟩ => ⟨S16384x1024, .f32⟩
  | .hbm, ⟨8, _⟩ => ⟨S16384x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownReferenceIdeal.lean ====
abbrev S16384x1024 : Shape := ⟨2, ![16384, 1024]⟩
abbrev S16384x4096 : Shape := ⟨2, ![16384, 4096]⟩
abbrev S4096x1024 : Shape := ⟨2, ![4096, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S4096x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Oproj.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S16384x1024, .bf16⟩
  | .hbm, ⟨6, _⟩ => ⟨S1024x1024, .bf16⟩
  | .hbm, ⟨7, _⟩ => ⟨S16384x1024, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OprojReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Dattn.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DattnReferenceIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Drz.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DrzReferenceIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Attno.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x512, .bf16⟩
  | .hbm, ⟨3, _⟩ => ⟨S512x1024, .bf16⟩
  | .hbm, ⟨4, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnoReferenceIdeal.lean ====
abbrev S16384x512 : Shape := ⟨2, ![16384, 512]⟩
abbrev S512x1024 : Shape := ⟨2, ![512, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Win.lean ====
abbrev S16384x1024 : Shape := ⟨2, ![16384, 1024]⟩
abbrev S1024 : Shape := ⟨1, ![1024]⟩
abbrev S16384x4864 : Shape := ⟨2, ![16384, 4864]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x4864 : Shape := ⟨2, ![1024, 4864]⟩
abbrev S2048x512 : Shape := ⟨2, ![2048, 512]⟩
abbrev S2048x2432 : Shape := ⟨2, ![2048, 2432]⟩
abbrev S512x2432 : Shape := ⟨2, ![512, 2432]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4864, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x4864, .bf16⟩
  | .hbm, ⟨21, _⟩ => ⟨S1024x4864, .f32⟩
  | .local _ .vmem, ⟨0, _⟩ => ⟨S2048x512, .bf16⟩
  | .local _ .vmem, ⟨1, _⟩ => ⟨S2048x512, .bf16⟩
  | .local _ .vmem, ⟨2, _⟩ => ⟨S2048x2432, .bf16⟩
  | .local _ .vmem, ⟨3, _⟩ => ⟨S2048x2432, .bf16⟩
  | .local _ .vmem, ⟨4, _⟩ => ⟨S512x2432, .f32⟩
  | .local _ .vmem, ⟨5, _⟩ => ⟨S512x2432, .f32⟩
  | .local _ .vmem, ⟨6, _⟩ => ⟨S512x2432, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S16384x1024 : Shape := ⟨2, ![16384, 1024]⟩
abbrev S1024 : Shape := ⟨1, ![1024]⟩
abbrev S16384x4864 : Shape := ⟨2, ![16384, 4864]⟩
abbrev S_ : Shape := ⟨0, ![]⟩
abbrev S1024x4864 : Shape := ⟨2, ![1024, 4864]⟩
abbrev S16384 : Shape := ⟨1, ![16384]⟩
abbrev S16384x1 : Shape := ⟨2, ![16384, 1]⟩
abbrev S1x1024 : Shape := ⟨2, ![1, 1024]⟩
abbrev S4864x1024 : Shape := ⟨2, ![4864, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4864, .f32⟩
  | .hbm, ⟨3, _⟩ => ⟨S_, .f32⟩
  | .hbm, ⟨4, _⟩ => ⟨S1024x4864, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4864, .f32⟩
  | .hbm, ⟨22, _⟩ => ⟨S4864x1024, .f32⟩
  | .hbm, ⟨23, _⟩ => ⟨S1024x4864, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wup.lean ====
abbrev S16384x1024 : Shape := ⟨2, ![16384, 1024]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 22
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x4096, .bf16⟩
  | .hbm, ⟨21, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WupReferenceIdeal.lean ====
abbrev S16384x1024 : Shape := ⟨2, ![16384, 1024]⟩
abbrev S1024 : Shape := ⟨1, ![1024]⟩
abbrev S16384x4096 : Shape := ⟨2, ![16384, 4096]⟩
abbrev S_ : Shape := ⟨0, ![]⟩
abbrev S1024x4096 : Shape := ⟨2, ![1024, 4096]⟩
abbrev S16384 : Shape := ⟨1, ![16384]⟩
abbrev S16384x1 : Shape := ⟨2, ![16384, 1]⟩
abbrev S1x1024 : Shape := ⟨2, ![1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x4096, .f32⟩
  | .hbm, ⟨3, _⟩ => ⟨S_, .f32⟩
  | .hbm, ⟨4, _⟩ => ⟨S1024x4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S4096x1024, .f32⟩
  | .hbm, ⟨23, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wdown.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdownReferenceIdeal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S16384x1024, .f32⟩
  | .hbm, ⟨5, _⟩ => ⟨S1024x4096, .f32⟩
  | .hbm, ⟨6, _⟩ => ⟨S4096x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wao.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WaoReferenceIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wro.lean ====
abbrev S16384x512 : Shape := ⟨2, ![16384, 512]⟩
abbrev S16384x1024 : Shape := ⟨2, ![16384, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WroReferenceIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wout.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoutReferenceIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wgate.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 22
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1024, .bf16⟩
  | .hbm, ⟨21, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WgateReferenceIdeal.lean ====
abbrev S16384x1024 : Shape := ⟨2, ![16384, 1024]⟩
abbrev S1024 : Shape := ⟨1, ![1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1024x1024 : Shape := ⟨2, ![1024, 1024]⟩
abbrev S1024x2048 : Shape := ⟨2, ![1024, 2048]⟩
abbrev S2048x1024 : Shape := ⟨2, ![2048, 1024]⟩
abbrev S8x1024 : Shape := ⟨2, ![8, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 33
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .bf16⟩
  | .hbm, ⟨23, _⟩ => ⟨S1024x4096, .bf16⟩
  | .hbm, ⟨24, _⟩ => ⟨S4096x1024, .bf16⟩
  | .hbm, ⟨25, _⟩ => ⟨S16384x1024, .bf16⟩
  | .hbm, ⟨26, _⟩ => ⟨S16384x4096, .bf16⟩
  | .hbm, ⟨27, _⟩ => ⟨S16384x4096, .bf16⟩
  | .hbm, ⟨28, _⟩ => ⟨S16384x1024, .f32⟩
  | .hbm, ⟨29, _⟩ => ⟨S16384x1024, .bf16⟩
  | .hbm, ⟨30, _⟩ => ⟨S8x1024, .f32⟩
  | .hbm, ⟨31, _⟩ => ⟨S1x1024, .f32⟩
  | .hbm, ⟨32, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S512x4096, .bf16⟩
  | .local _ .vmem, ⟨15, _⟩ => ⟨S512x4096, .bf16⟩
  | .local _ .vmem, ⟨16, _⟩ => ⟨S1024x4096, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![32, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 1 → Memref sig .tc .vmem S8x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]
-- ==== MlpReferenceIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .i1⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1024x4096, .f32⟩
  | .hbm, ⟨42, _⟩ => ⟨S4096x1024, .f32⟩
  | .hbm, ⟨43, _⟩ => ⟨S16384x4096, .f32⟩
  | .hbm, ⟨44, _⟩ => ⟨S16384x4096, .f32⟩
  | .hbm, ⟨45, _⟩ => ⟨S_, .f32⟩
  | .hbm, ⟨46, _⟩ => ⟨S16384x4096, .f32⟩
  | .hbm, ⟨47, _⟩ => ⟨S16384x4096, .f32⟩
  | .hbm, ⟨48, _⟩ => ⟨S4096x1024, .f32⟩
  | .hbm, ⟨49, _⟩ => ⟨S1024x4096, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Kernel.lean ====
abbrev S16384x8x64 : Shape := ⟨3, ![16384, 8, 64]⟩
abbrev S16384x2x64 : Shape := ⟨3, ![16384, 2, 64]⟩
abbrev S16384x512 : Shape := ⟨2, ![16384, 512]⟩
abbrev S_ : Shape := ⟨0, ![]⟩
abbrev S16384x2x4x64 : Shape := ⟨4, ![16384, 2, 4, 64]⟩
abbrev S2x16384x16384x4 : Shape := ⟨4, ![2, 16384, 16384, 4]⟩
abbrev S2x4x16384x16384 : Shape := ⟨4, ![2, 4, 16384, 16384]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S8x32x1x512 : Shape := ⟨4, ![8, 32, 1, 512]⟩
abbrev S16384x8 : Shape := ⟨2, ![16384, 8]⟩
abbrev S8x16384 : Shape := ⟨2, ![8, 16384]⟩
abbrev S32x512x8x64 : Shape := ⟨4, ![32, 512, 8, 64]⟩
abbrev S32x8x64x512 : Shape := ⟨4, ![32, 8, 64, 512]⟩
abbrev S32x4x64x512 : Shape := ⟨4, ![32, 4, 64, 512]⟩
abbrev S32x4x128x512 : Shape := ⟨4, ![32, 4, 128, 512]⟩
abbrev S32x8x128x512 : Shape := ⟨4, ![32, 8, 128, 512]⟩
abbrev S32x1024x512 : Shape := ⟨3, ![32, 1024, 512]⟩
abbrev S16384x128 : Shape := ⟨2, ![16384, 128]⟩
abbrev S32x512x128 : Shape := ⟨3, ![32, 512, 128]⟩
abbrev S32x128x512 : Shape := ⟨3, ![32, 128, 512]⟩
abbrev S32x512x512 : Shape := ⟨3, ![32, 512, 512]⟩
abbrev S8x16384x128 : Shape := ⟨3, ![8, 16384, 128]⟩
abbrev S1x32x1x512 : Shape := ⟨4, ![1, 32, 1, 512]⟩
abbrev S2048x128 : Shape := ⟨2, ![2048, 128]⟩
abbrev S4x64x512 : Shape := ⟨3, ![4, 64, 512]⟩
abbrev S32x64x512 : Shape := ⟨3, ![32, 64, 512]⟩
abbrev S1x2048x128 : Shape := ⟨3, ![1, 2048, 128]⟩
abbrev S2048x512 : Shape := ⟨2, ![2048, 512]⟩
abbrev S1x64x512 : Shape := ⟨3, ![1, 64, 512]⟩
abbrev S64x512 : Shape := ⟨2, ![64, 512]⟩
abbrev S64x2048 : Shape := ⟨2, ![64, 2048]⟩
abbrev S1x128x512 : Shape := ⟨3, ![1, 128, 512]⟩
abbrev S128x512 : Shape := ⟨2, ![128, 512]⟩
abbrev S1x1x1x512 : Shape := ⟨4, ![1, 1, 1, 512]⟩
abbrev S1x512 : Shape := ⟨2, ![1, 512]⟩

abbrev nBuf : Space → Nat
  | .hbm => 97
  | .vmem => 30
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x512, .f32⟩
  | .hbm, ⟨4, _⟩ => ⟨S_, .f32⟩
  | .hbm, ⟨5, _⟩ => ⟨S_, .f32⟩
  | .hbm, ⟨6, _⟩ => ⟨S16384x2x4x64, .f32⟩
  | .hbm, ⟨7, _⟩ => ⟨S2x16384x16384x4, .f32⟩
  | .hbm, ⟨8, _⟩ => ⟨S2x4x16384x16384, .f32⟩
  | .hbm, ⟨9, _⟩ => ⟨S_, .f32⟩
  | .hbm, ⟨10, _⟩ => ⟨S2x4x16384x16384, .f32⟩
  | .hbm, ⟨11, _⟩ => ⟨S2x4x16384x16384, .f32⟩
  | .hbm, ⟨12, _⟩ => ⟨S_, .f32⟩
  | .hbm, ⟨13, _⟩ => ⟨S2x4x16384, .f32⟩
  | .hbm, ⟨14, _⟩ => ⟨S_, .f32⟩
  | .hbm, ⟨15, _⟩ => ⟨S2x4x16384, .f32⟩
  | .hbm, ⟨16, _⟩ => ⟨S2x4x16384, .f32⟩
  | .hbm, ⟨17, _⟩ => ⟨S2x4x16384x1, .f32⟩
  | .hbm, ⟨18, _⟩ => ⟨S2x4x16384x16384, .f32⟩
  | .hbm, ⟨19, _⟩ => ⟨S2x4x16384x16384, .f32⟩
  | .hbm, ⟨20, _⟩ => ⟨S2x4x16384x16384, .f32⟩
  | .hbm, ⟨21, _⟩ => ⟨S_, .f32⟩
  | .hbm, ⟨22, _⟩ => ⟨S2x4x16384, .f32⟩
  | .hbm, ⟨23, _⟩ => ⟨S2x4x16384x1, .f32⟩
  | .hbm, ⟨24, _⟩ => ⟨S2x4x16384x16384, .f32⟩
  | .hbm, ⟨25, _⟩ => ⟨S2x4x16384x16384, .f32⟩
  | .hbm, ⟨26, _⟩ => ⟨S2x64x4x16384, .f32⟩
  | .hbm, ⟨27, _⟩ => ⟨S16384x2x4x64, .f32⟩
  | .hbm, ⟨28, _⟩ => ⟨S16384x512, .f32⟩
  | .hbm, ⟨29, _⟩ => ⟨S_, .f32⟩
  | .hbm, ⟨30, _⟩ => ⟨S2x4x16384, .f32⟩
  | .hbm, ⟨31, _⟩ => ⟨S2x4x16384x1, .f32⟩
  | .hbm, ⟨32, _⟩ => ⟨S2x4x16384x16384, .f32⟩
  | .hbm, ⟨33, _⟩ => ⟨S2x4x16384x16384, .f32⟩
  | .hbm, ⟨34, _⟩ => ⟨S2x4x16384x16384, .f32⟩
  | .hbm, ⟨35, _⟩ => ⟨S_, .f32⟩
  | .hbm, ⟨36, _⟩ => ⟨S2x4x16384, .f32⟩
  | .hbm, ⟨37, _⟩ => ⟨S2x4x16384, .f32⟩
  | .hbm, ⟨38, _⟩ => ⟨S2x4x16384, .f32⟩
  | .hbm, ⟨39, _⟩ => ⟨S2x4x16384, .f32⟩
  | .hbm, ⟨40, _⟩ => ⟨S2x4x16384, .f32⟩
  | .hbm, ⟨41, _⟩ => ⟨S8x32x1x512, .f32⟩
  | .hbm, ⟨42, _⟩ => ⟨S16384x512, .f32⟩
  | .hbm, ⟨43, _⟩ => ⟨S16384x8x64, .f32⟩
  | .hbm, ⟨44, _⟩ => ⟨S_, .f32⟩
  | .hbm, ⟨45, _⟩ => ⟨S16384x8, .f32⟩
  | .hbm, ⟨46, _⟩ => ⟨S8x16384, .f32⟩
  | .hbm, ⟨47, _⟩ => ⟨S8x32x1x512, .f32⟩
  | .hbm, ⟨48, _⟩ => ⟨S_, .f32⟩
  | .hbm, ⟨49, _⟩ => ⟨S_, .f32⟩
  | .hbm, ⟨50, _⟩ => ⟨S16384x8x64, .f32⟩
  | .hbm, ⟨51, _⟩ => ⟨S16384x8x64, .f32⟩
  | .hbm, ⟨52, _⟩ => ⟨S32x512x8x64, .f32⟩
  | .hbm, ⟨53, _⟩ => ⟨S32x8x64x512, .f32⟩
  | .hbm, ⟨54, _⟩ => ⟨S_, .f32⟩
  | .hbm, ⟨55, _⟩ => ⟨S32x4x64x512, .f32⟩
  | .hbm, ⟨56, _⟩ => ⟨S32x4x64x512, .f32⟩
  | .hbm, ⟨57, _⟩ => ⟨S32x4x128x512, .f32⟩
  | .hbm, ⟨58, _⟩ => ⟨S32x4x64x512, .f32⟩
  | .hbm, ⟨59, _⟩ => ⟨S32x4x128x512, .f32⟩
  | .hbm, ⟨60, _⟩ => ⟨S32x8x128x512, .f32⟩
  | .hbm, ⟨61, _⟩ => ⟨S32x1024x512, .f32⟩
  | .hbm, ⟨62, _⟩ => ⟨S32x1024x512, .bf16⟩
  | .hbm, ⟨63, _⟩ => ⟨S16384x8x64, .f32⟩
  | .hbm, ⟨64, _⟩ => ⟨S32x512x8x64, .f32⟩
  | .hbm, ⟨65, _⟩ => ⟨S32x8x64x512, .f32⟩
  | .hbm, ⟨66, _⟩ => ⟨S_, .f32⟩
  | .hbm, ⟨67, _⟩ => ⟨S32x4x64x512, .f32⟩
  | .hbm, ⟨68, _⟩ => ⟨S32x4x64x512, .f32⟩
  | .hbm, ⟨69, _⟩ => ⟨S32x4x128x512, .f32⟩
  | .hbm, ⟨70, _⟩ => ⟨S32x4x64x512, .f32⟩
  | .hbm, ⟨71, _⟩ => ⟨S32x4x128x512, .f32⟩
  | .hbm, ⟨72, _⟩ => ⟨S32x8x128x512, .f32⟩
  | .hbm, ⟨73, _⟩ => ⟨S32x1024x512, .f32⟩
  | .hbm, ⟨74, _⟩ => ⟨S32x1024x512, .bf16⟩
  | .hbm, ⟨75, _⟩ => ⟨S16384x128, .f32⟩
  | .hbm, ⟨76, _⟩ => ⟨S16384x128, .bf16⟩
  | .hbm, ⟨77, _⟩ => ⟨S16384x128, .f32⟩
  | .hbm, ⟨78, _⟩ => ⟨S16384x128, .bf16⟩
  | .hbm, ⟨79, _⟩ => ⟨S32x512x128, .bf16⟩
  | .hbm, ⟨80, _⟩ => ⟨S32x128x512, .bf16⟩
  | .hbm, ⟨81, _⟩ => ⟨S32x512x512, .f32⟩
  | .hbm, ⟨82, _⟩ => ⟨S8x16384x128, .bf16⟩
  | .hbm, ⟨83, _⟩ => ⟨S8x16384x128, .bf16⟩
  | .hbm, ⟨84, _⟩ => ⟨S32x512x512, .f32⟩
  | .hbm, ⟨85, _⟩ => ⟨S16384x512, .f32⟩
  | .hbm, ⟨86, _⟩ => ⟨S_, .f32⟩
  | .hbm, ⟨87, _⟩ => ⟨S16384x512, .f32⟩
  | .hbm, ⟨88, _⟩ => ⟨S16384x512, .f32⟩
  | .hbm, ⟨89, _⟩ => ⟨S8x16384x128, .f32⟩
  | .hbm, ⟨90, _⟩ => ⟨S_, .f32⟩
  | .hbm, ⟨91, _⟩ => ⟨S16384x128, .f32⟩
  | .hbm, ⟨92, _⟩ => ⟨S16384x128, .f32⟩
  | .hbm, ⟨93, _⟩ => ⟨S16384x128, .f32⟩
  | .hbm, ⟨94, _⟩ => ⟨S8x16384x128, .f32⟩
  | .hbm, ⟨95, _⟩ => ⟨S_, .f32⟩
  | .hbm, ⟨96, _⟩ => ⟨S16384x128, .f32⟩
  | .local _ .vmem, ⟨0, _⟩ => ⟨S32x128x512, .bf16⟩
  | .local _ .vmem, ⟨1, _⟩ => ⟨S32x128x512, .bf16⟩
  | .local _ .vmem, ⟨2, _⟩ => ⟨S32x128x512, .bf16⟩
  | .local _ .vmem, ⟨3, _⟩ => ⟨S32x128x512, .bf16⟩
  | .local _ .vmem, ⟨4, _⟩ => ⟨S1x32x1x512, .f32⟩
  | .local _ .vmem, ⟨5, _⟩ => ⟨S1x32x1x512, .f32⟩
  | .local _ .vmem, ⟨6, _⟩ => ⟨S1x32x1x512, .f32⟩
  | .local _ .vmem, ⟨7, _⟩ => ⟨S1x32x1x512, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S4x64x512, .bf16⟩
  | .local _ .vmem, ⟨13, _⟩ => ⟨S4x64x512, .bf16⟩
  | .local _ .vmem, ⟨14, _⟩ => ⟨S32x64x512, .f32⟩
  | .local _ .vmem, ⟨15, _⟩ => ⟨S32x64x512, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S2048x128, .f32⟩
  | .local _ .vmem, ⟨21, _⟩ => ⟨S2048x128, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | .local _ .vmem, ⟨26, _⟩ => ⟨S2048x512, .bf16⟩
  | .local _ .vmem, ⟨27, _⟩ => ⟨S2048x512, .bf16⟩
  | .local _ .vmem, ⟨28, _⟩ => ⟨S2048x512, .bf16⟩
  | .local _ .vmem, ⟨29, _⟩ => ⟨S2048x512, .bf16⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66_0 : Ref sig .tc := ⟨.hbm, 81, rfl⟩
abbrev main_v66_1 : Ref sig .tc := ⟨.hbm, 82, rfl⟩
abbrev main_v66_2 : Ref sig .tc := ⟨.hbm, 83, rfl⟩
abbrev main_v67 : Ref sig .tc := ⟨.hbm, 84, rfl⟩
abbrev main_v68 : Ref sig .tc := ⟨.hbm, 85, rfl⟩
abbrev main_cst_10 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_58 : BitVec 32 := 0#32
  let c15_i32 : BitVec 32 := 15#32
  let v68 : BitVec 32 := Scalar.addi c0_i32_58 c15_i32
  let c1_i32 : BitVec 32 := 1#32
  ⟨c0_i32_58, v68, c1_i32⟩
def k0_off1 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v153 : Index := Scalar.indexCast v149
  let c0_144 : Index := 0#32
  let c0_145 : Index := 0#32
  ![v153.toNat, 0, 0]
def k0_off2 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v170 : Index := Scalar.indexCast v149
  let c0_156 : Index := 0#32
  let c0_157 : Index := 0#32
  ![v170.toNat, 0, 0]
def k0_off3 (k0_t1 : Fin k0_t1_loop.trips) (c1_i32_161 : BitVec 32) : Fin 4 → Nat :=
  let c0_164 : Index := 0#32
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v179 : BitVec 32 := Scalar.addi v149 c1_i32_161
  let v181 : Index := Scalar.indexCast v179
  let c0_165 : Index := 0#32
  let c0_166 : Index := 0#32
  ![0, v181.toNat, 0, 0]
def k0_off4 (k0_t1 : Fin k0_t1_loop.trips) (c2_i32_176 : BitVec 32) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let v202 : BitVec 32 := Scalar.addi v149 c2_i32_176
  let v203 : Index := Scalar.indexCast v202
  let c0_177 : Index := 0#32
  let c0_178 : Index := 0#32
  ![v203.toNat, 0, 0]
def k0_off5 (k0_t1 : Fin k0_t1_loop.trips) : Fin 3 → Nat :=
  let c2_i32 : BitVec 32 := 2#32
  let c0_i32_58 : BitVec 32 := 0#32
  let c1_i32 : BitVec 32 := 1#32
  let arg22 : BitVec 32 := Scf.iv c0_i32_58 c1_i32 k0_t1
  let v149 : BitVec 32 := Scalar.muli c2_i32 arg22
  let c1_i32_187 : BitVec 32 := 1#32
  let v217 : BitVec 32 := Scalar.addi v149 c1_i32_187
  let v238 : Index := Scalar.indexCast v217
  let c0_206 : Index := 0#32
  let c0_207 : Index := 0#32
  ![v238.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg1.toNat, v16.toNat, c0_i32_4.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x8x64 : Shape := ⟨3, ![16384, 8, 64]⟩
abbrev S16384x2x64 : Shape := ⟨3, ![16384, 2, 64]⟩
abbrev S16384x512 : Shape := ⟨2, ![16384, 512]⟩
abbrev S16384x2x4x64 : Shape := ⟨4, ![16384, 2, 4, 64]⟩
abbrev S2x16384x16384x4 : Shape := ⟨4, ![2, 16384, 16384, 4]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16384 : Shape := ⟨3, ![2, 64, 16384]⟩
abbrev S2x16384x4x64 : Shape := ⟨4, ![2, 16384, 4, 64]⟩
abbrev S2x16384x64 : Shape := ⟨3, ![2, 16384, 64]⟩
abbrev S16384x128 : Shape := ⟨2, ![16384, 128]⟩

abbrev nBuf : Space → Nat
  | .hbm => 82
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x2x64, .f32⟩
  | .hbm, ⟨2, _⟩ => ⟨S16384x2x64, .f32⟩
  | .hbm, ⟨3, _⟩ => ⟨S16384x512, .f32⟩
  | .hbm, ⟨4, _⟩ => ⟨S16384x2x4x64, .f32⟩
  | .hbm, ⟨5, _⟩ => ⟨S2x16384x16384x4, .f32⟩
  | .hbm, ⟨6, _⟩ => ⟨S2x4x16384x16384, .f32⟩
  | .hbm, ⟨7, _⟩ => ⟨S_, .f32⟩
  | .hbm, ⟨8, _⟩ => ⟨S2x4x16384x16384, .f32⟩
  | .hbm, ⟨9, _⟩ => ⟨S2x4x16384x16384, .f32⟩
  | .hbm, ⟨10, _⟩ => ⟨S_, .f32⟩
  | .hbm, ⟨11, _⟩ => ⟨S2x4x16384, .f32⟩
  | .hbm, ⟨12, _⟩ => ⟨S2x4x16384x1, .f32⟩
  | .hbm, ⟨13, _⟩ => ⟨S2x4x16384x16384, .f32⟩
  | .hbm, ⟨14, _⟩ => ⟨S2x4x16384x16384, .i1⟩
  | .hbm, ⟨15, _⟩ => ⟨S2x4x16384x16384, .f32⟩
  | .hbm, ⟨16, _⟩ => ⟨S_, .f32⟩
  | .hbm, ⟨17, _⟩ => ⟨S2x4x16384, .f32⟩
  | .hbm, ⟨18, _⟩ => ⟨S_, .f32⟩
  | .hbm, ⟨19, _⟩ => ⟨S2x4x16384, .f32⟩
  | .hbm, ⟨20, _⟩ => ⟨S2x4x16384, .f32⟩
  | .hbm, ⟨21, _⟩ => ⟨S_, .f32⟩
  | .hbm, ⟨22, _⟩ => ⟨S2x4x16384, .f32⟩
  | .hbm, ⟨23, _⟩ => ⟨S2x4x16384, .i1⟩
  | .hbm, ⟨24, _⟩ => ⟨S_, .f32⟩
  | .hbm, ⟨25, _⟩ => ⟨S2x4x16384, .f32⟩
  | .hbm, ⟨26, _⟩ => ⟨S2x4x16384, .i1⟩
  | .hbm, ⟨27, _⟩ => ⟨S_, .f32⟩
  | .hbm, ⟨28, _⟩ => ⟨S2x4x16384, .f32⟩
  | .hbm, ⟨29, _⟩ => ⟨S_, .f32⟩
  | .hbm, ⟨30, _⟩ => ⟨S2x4x16384, .f32⟩
  | .hbm, ⟨31, _⟩ => ⟨S_, .f32⟩
  | .hbm, ⟨32, _⟩ => ⟨S2x4x16384, .f32⟩
  | .hbm, ⟨33, _⟩ => ⟨S2x4x16384, .f32⟩
  | .hbm, ⟨34, _⟩ => ⟨S2x4x16384, .f32⟩
  | .hbm, ⟨35, _⟩ => ⟨S2x4x16384x1, .f32⟩
  | .hbm, ⟨36, _⟩ => ⟨S2x4x16384x16384, .f32⟩
  | .hbm, ⟨37, _⟩ => ⟨S2x4x16384x16384, .f32⟩
  | .hbm, ⟨38, _⟩ => ⟨S2x4x16384x16384, .f32⟩
  | .hbm, ⟨39, _⟩ => ⟨S_, .f32⟩
  | .hbm, ⟨40, _⟩ => ⟨S2x4x16384, .f32⟩
  | .hbm, ⟨41, _⟩ => ⟨S2x4x16384x1, .f32⟩
  | .hbm, ⟨42, _⟩ => ⟨S2x4x16384x16384, .f32⟩
  | .hbm, ⟨43, _⟩ => ⟨S2x4x16384x16384, .f32⟩
  | .hbm, ⟨44, _⟩ => ⟨S2x4x16384x1, .f32⟩
  | .hbm, ⟨45, _⟩ => ⟨S_, .f32⟩
  | .hbm, ⟨46, _⟩ => ⟨S2x4x16384x1, .f32⟩
  | .hbm, ⟨47, _⟩ => ⟨S2x4x16384x1, .f32⟩
  | .hbm, ⟨48, _⟩ => ⟨S2x64x4x16384, .f32⟩
  | .hbm, ⟨49, _⟩ => ⟨S16384x2x4x64, .f32⟩
  | .hbm, ⟨50, _⟩ => ⟨S16384x512, .f32⟩
  | .hbm, ⟨51, _⟩ => ⟨S16384x2x4x64, .f32⟩
  | .hbm, ⟨52, _⟩ => ⟨S2x64x4x16384, .f32⟩
  | .hbm, ⟨53, _⟩ => ⟨S2x4x16384x16384, .f32⟩
  | .hbm, ⟨54, _⟩ => ⟨S2x64x16384, .f32⟩
  | .hbm, ⟨55, _⟩ => ⟨S16384x2x64, .f32⟩
  | .hbm, ⟨56, _⟩ => ⟨S2x4x16384x16384, .f32⟩
  | .hbm, ⟨57, _⟩ => ⟨S2x4x16384x16384, .f32⟩
  | .hbm, ⟨58, _⟩ => ⟨S2x4x16384x16384, .f32⟩
  | .hbm, ⟨59, _⟩ => ⟨S_, .f32⟩
  | .hbm, ⟨60, _⟩ => ⟨S2x4x16384, .f32⟩
  | .hbm, ⟨61, _⟩ => ⟨S2x4x16384x1, .f32⟩
  | .hbm, ⟨62, _⟩ => ⟨S2x4x16384x1, .f32⟩
  | .hbm, ⟨63, _⟩ => ⟨S2x4x16384x16384, .f32⟩
  | .hbm, ⟨64, _⟩ => ⟨S2x4x16384x16384, .f32⟩
  | .hbm, ⟨65, _⟩ => ⟨S_, .f32⟩
  | .hbm, ⟨66, _⟩ => ⟨S2x4x16384, .f32⟩
  | .hbm, ⟨67, _⟩ => ⟨S2x4x16384x16384, .f32⟩
  | .hbm, ⟨68, _⟩ => ⟨S2x4x16384x16384, .f32⟩
  | .hbm, ⟨69, _⟩ => ⟨S2x4x16384x16384, .f32⟩
  | .hbm, ⟨70, _⟩ => ⟨S_, .f32⟩
  | .hbm, ⟨71, _⟩ => ⟨S2x4x16384x16384, .f32⟩
  | .hbm, ⟨72, _⟩ => ⟨S2x4x16384x16384, .f32⟩
  | .hbm, ⟨73, _⟩ => ⟨S2x16384x16384x4, .f32⟩
  | .hbm, ⟨74, _⟩ => ⟨S2x16384x4x64, .f32⟩
  | .hbm, ⟨75, _⟩ => ⟨S16384x2x4x64, .f32⟩
  | .hbm, ⟨76, _⟩ => ⟨S2x16384x64, .f32⟩
  | .hbm, ⟨77, _⟩ => ⟨S16384x2x64, .f32⟩
  | .hbm, ⟨78, _⟩ => ⟨S16384x8x64, .f32⟩
  | .hbm, ⟨79, _⟩ => ⟨S16384x512, .f32⟩
  | .hbm, ⟨80, _⟩ => ⟨S16384x128, .f32⟩
  | .hbm, ⟨81, _⟩ => ⟨S16384x128, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.Ideal.Trip.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-! ## What the blocks hold -/

/-- Row `n` of a block of 32 tiles (128 lanes by 512 rows). -/
def rowQ (x : Vec F S32x128x512 .bf16) (n : ℕ) : Vec F S1x128x512 .bf16 :=
  View.ld x (Rect.unit (s := S32x128x512) ![n % 32, 0, 0] S1x128x512.size
    (fun a => match a with | 0 => Nat.mod_lt n (by decide) | 1 => Nat.le_refl 128 | 2 => Nat.le_refl 512))

/-- Row `n` of a block of 32 tiles of statistics (512 rows). -/
def rowL (x : Vec F S1x32x1x512 .f32) (n : ℕ) : Vec F S1x1x1x512 .f32 :=
  View.ld x (Rect.unit (s := S1x32x1x512) ![0, n % 32, 0, 0] S1x1x1x512.size
    (fun a => match a with | 0 => Nat.le_refl 1 | 1 => Nat.mod_lt n (by decide) | 2 => Nat.le_refl 1 | 3 => Nat.le_refl 512))

/-- The rectangle of row `n` of the block of the query gradient. -/
def rectD (n : ℕ) : Rect S32x64x512 :=
  Rect.unit (s := S32x64x512) ![n % 32, 0, 0] S1x64x512.size
    (fun a => match a with | 0 => Nat.mod_lt n (by decide) | 1 => Nat.le_refl 64 | 2 => Nat.le_refl 512)

/-- Row `n` of the block of the query gradient. -/
def rowD (x : Vec F S32x64x512 .f32) (n : ℕ) : Vec F S1x64x512 .f32 := View.ld x (rectD n)

/-- The scores of the keys' block against tile `n` (transposed). -/
def SS (v4 : FVec F S2048x128 .bf16) (x2 : Vec F S32x128x512 .bf16) (n : ℕ) : FVec F S2048x512 .f32 := k0_pay9 v4 (rowQ x2 n)

/-- The probabilities of tile `n` from the scores and the row's statistic. -/
def PP (v4 : FVec F S2048x128 .bf16) (x2 : Vec F S32x128x512 .bf16) (x4 : Vec F S1x32x1x512 .f32) (n : ℕ) : FVec F S2048x512 .bf16 :=
  k0_pay7 (SS v4 x2 n) (rowL x4 n)

/-- The scores' cotangent of tile `n`. -/
def GG (v4 v6 : FVec F S2048x128 .bf16) (x2 x3 : Vec F S32x128x512 .bf16) (x4 x5 : Vec F S1x32x1x512 .f32) (n : ℕ) : FVec F S2048x512 .bf16 :=
  k0_pay8 (SS v4 x2 n) (rowL x4 n) (SS v6 x3 n) (rowL x5 n)

/-- The values' gradient after the first `n` tiles. -/
def dvA (v4 : FVec F S2048x128 .bf16) (x2 x3 : Vec F S32x128x512 .bf16) (x4 : Vec F S1x32x1x512 .f32) : ℕ → FVec F S2048x128 .f32
  | 0 => k0_pay25
  | n + 1 => k0_pay3 (dvA v4 x2 x3 x4 n) (PP v4 x2 x4 n) (rowQ x3 n)

/-- The keys' gradient after the first `n` tiles. -/
def dkA (v4 v6 : FVec F S2048x128 .bf16) (x2 x3 : Vec F S32x128x512 .bf16) (x4 x5 : Vec F S1x32x1x512 .f32) : ℕ → FVec F S2048x128 .f32
  | 0 => k0_pay24
  | n + 1 => k0_pay4 (GG v4 v6 x2 x3 x4 x5 n) (dkA v4 v6 x2 x3 x4 x5 n) (rowQ x2 n)

/-- Row `n` of the block of the query gradient replaced by `w`. -/
def setD (x : Vec F S32x64x512 .f32) (n : ℕ) (w : Vec F S1x64x512 .f32) : Vec F S32x64x512 .f32 :=
  fun y => if h : (y 0).val = n then w (fun a => match a with | 0 => ⟨0, by decide⟩ | 1 => y 1 | 2 => y 2) else x y

/-- The query gradient's block after the first `n` tiles have added to it. -/
def dqA (v15 : FVec F S64x2048 .bf16) (v4 v6 : FVec F S2048x128 .bf16) (x2 x3 : Vec F S32x128x512 .bf16) (x4 x5 : Vec F S1x32x1x512 .f32)
    (x9 : Vec F S32x64x512 .f32) : ℕ → Vec F S32x64x512 .f32
  | 0 => x9
  | n + 1 => setD (dqA v15 v4 v6 x2 x3 x4 x5 x9 n) n (k0_pay5 v15 (GG v4 v6 x2 x3 x4 x5 n) (rowD (dqA v15 v4 v6 x2 x3 x4 x5 x9 n) n))

/-! ## Reading back -/

section
variable {κ : Kind} {sp : Space}

/-- Reading a buffer whose last write was whole gives what was written. -/
theorem read_whole {s : Shape} {e : EltTy} (v : View sig κ sp s e) (f : v.ty.Contents (Elt F)) (off : Fin s.rank → ℕ)
    (h0 : ∀ a, off a = 0) (inb : ∀ a, off a + s.size a ≤ s.size a) (w : s.Idx → Elt F e) (L : List (View.Piece (Elt F) s e)) :
    v.read (Elt F) (v.writes (Elt F) f (⟨Rect.unit off s.size inb, w⟩ :: L)) = w := by
  funext y
  refine View.read_writes_cons_hit_of_coords v f (Rect.unit off s.size inb) w L y y (fun a => ?_)
  simp [h0 a]

/-- A load of the whole buffer reads it. -/
theorem readAt_whole {s : Shape} {e : EltTy} (v : View sig κ sp s e) (f : v.ty.Contents (Elt F)) (off : Fin s.rank → ℕ)
    (h0 : ∀ a, off a = 0) (inb : ∀ a, off a + s.size a ≤ s.size a) :
    v.readAt (Elt F) (Rect.unit off s.size inb).toLoadRect f = v.read (Elt F) f := by
  funext y
  show v.read (Elt F) f _ = _
  congr 1
  funext a
  apply Fin.ext
  simp [LoadRect.idx, h0 a]

/-- A load of the whole buffer after a whole write gives what was written. -/
theorem readCov_whole {s : Shape} {e : EltTy} (v : View sig κ sp s e) (off : Fin s.rank → ℕ)
    (inb : ∀ a, off a + s.size a ≤ s.size a) (w : s.Idx → Elt F e) (L : List (View.Piece (Elt F) s e)) :
    v.readCov (⟨Rect.unit off s.size inb, w⟩ :: L) (Rect.unit off s.size inb).toLoadRect = w :=
  View.readCov_cons_toLoadRect ..

theorem readAt_rowQ (v : View sig κ sp S32x128x512 .bf16) (f : v.ty.Contents (Elt F)) (off : Fin 3 → ℕ) (n : ℕ) (h : off = ![n, 0, 0])
    (hn : n < 32) (inb : ∀ a, off a + S1x128x512.size a ≤ S32x128x512.size a) :
    v.readAt (Elt F) (Rect.unit (s := S32x128x512) off S1x128x512.size inb).toLoadRect f = rowQ (v.read (Elt F) f) n := by
  subst h
  funext y
  refine congrArg (v.read (Elt F) f) (funext fun a => Fin.ext ?_)
  show (![n, 0, 0] : Fin _ → ℕ) a + 1 * (y a).val = (![n % 32, 0, 0] : Fin _ → ℕ) a + 1 * (y a).val
  rw [Nat.mod_eq_of_lt hn]

theorem readAt_rowL (v : View sig κ sp S1x32x1x512 .f32) (f : v.ty.Contents (Elt F)) (off : Fin 4 → ℕ) (n : ℕ) (h : off = ![0, n, 0, 0])
    (hn : n < 32) (inb : ∀ a, off a + S1x1x1x512.size a ≤ S1x32x1x512.size a) :
    v.readAt (Elt F) (Rect.unit (s := S1x32x1x512) off S1x1x1x512.size inb).toLoadRect f = rowL (v.read (Elt F) f) n := by
  subst h
  funext y
  refine congrArg (v.read (Elt F) f) (funext fun a => Fin.ext ?_)
  show (![0, n, 0, 0] : Fin _ → ℕ) a + 1 * (y a).val = (![0, n % 32, 0, 0] : Fin _ → ℕ) a + 1 * (y a).val
  rw [Nat.mod_eq_of_lt hn]

theorem readAt_rowD (v : View sig κ sp S32x64x512 .f32) (f : v.ty.Contents (Elt F)) (off : Fin 3 → ℕ) (n : ℕ) (h : off = ![n, 0, 0])
    (hn : n < 32) (inb : ∀ a, off a + S1x64x512.size a ≤ S32x64x512.size a) :
    v.readAt (Elt F) (Rect.unit (s := S32x64x512) off S1x64x512.size inb).toLoadRect f = rowD (v.read (Elt F) f) n := by
  subst h
  funext y
  refine congrArg (v.read (Elt F) f) (funext fun a => Fin.ext ?_)
  show (![n, 0, 0] : Fin _ → ℕ) a + 1 * (y a).val = (![n % 32, 0, 0] : Fin _ → ℕ) a + 1 * (y a).val
  rw [Nat.mod_eq_of_lt hn]

theorem read_setD (v : View sig κ sp S32x64x512 .f32) (f : v.ty.Contents (Elt F)) (off : Fin 3 → ℕ) (n : ℕ) (h : off = ![n, 0, 0])
    (inb : ∀ a, off a + S1x64x512.size a ≤ S32x64x512.size a) (w : Vec F S1x64x512 .f32) (L : List (View.Piece (Elt F) S32x64x512 .f32)) :
    v.read (Elt F) (v.writes (Elt F) f (⟨Rect.unit (s := S32x64x512) off S1x64x512.size inb, w⟩ :: L))
      = setD (v.read (Elt F) (v.writes (Elt F) f L)) n w := by
  subst h
  funext y
  unfold setD
  split
  · rename_i hy
    refine View.read_writes_cons_hit_of_coords v f (Rect.unit (s := S32x64x512) ![n, 0, 0] S1x64x512.size inb) w L _ y (fun a => ?_)
    match a with
    | 0 => simp [hy]
    | 1 => simp
    | 2 => simp
  · rename_i hy
    refine View.read_writes_cons_miss_of_axis v f _ L y 0 n 1 rfl rfl rfl ?_
    have := (y 0).isLt
    omega

theorem rowD_setD (x : Vec F S32x64x512 .f32) (n m : ℕ) (w : Vec F S1x64x512 .f32) (hm : m < 32) (hnm : m ≠ n) :
    rowD (setD x n w) m = rowD x m := by
  funext y
  show setD x n w _ = x _
  unfold setD
  rw [dif_neg]
  show ¬ (m % 32 + 1 * (y 0).val = n)
  have : (y 0).val < 1 := (y 0).isLt
  rw [Nat.mod_eq_of_lt hm]; omega

end

section
variable (c : Dev nD) (i : grid0.Coords)
  (arg2 : Memref sig .tc .vmem S32x128x512 .bf16) (harg2 : arg2.IsWhole)
  (arg3 : Memref sig .tc .vmem S32x128x512 .bf16) (harg3 : arg3.IsWhole)
  (arg4 : Memref sig .tc .vmem S1x32x1x512 .f32) (harg4 : arg4.IsWhole)
  (arg5 : Memref sig .tc .vmem S1x32x1x512 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S4x64x512 .bf16) (harg8 : arg8.IsWhole)
  (arg9 : Memref sig .tc .vmem S32x64x512 .f32) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x512 .f32) (harg14 : arg14.IsWhole)
  (arg15 : Memref sig .tc .vmem S2048x512 .f32) (harg15 : arg15.IsWhole)
  (arg16 : Memref sig .tc .vmem S2048x512 .f32) (harg16 : arg16.IsWhole)
  (arg17 : Memref sig .tc .vmem S2048x512 .f32) (harg17 : arg17.IsWhole)
  (arg18 : Memref sig .tc .vmem S2048x512 .bf16) (harg18 : arg18.IsWhole)
  (arg19 : Memref sig .tc .vmem S2048x512 .bf16) (harg19 : arg19.IsWhole)
  (arg20 : Memref sig .tc .vmem S2048x512 .bf16) (harg20 : arg20.IsWhole)
  (arg21 : Memref sig .tc .vmem S2048x512 .bf16) (harg21 : arg21.IsWhole)
  (v4 v6 : FVec F S2048x128 .bf16) (v15 : FVec F S64x2048 .bf16)
  (x2 x3 : Vec F S32x128x512 .bf16) (x4 x5 : Vec F S1x32x1x512 .f32) (x9 : Vec F S32x64x512 .f32)

/-- What the loop holds before trip `n`: two tiles done per trip, the products of the two tiles after them formed, the
    cotangents of the first of the two formed. -/
def Inv (n : ℕ) : sProp 𝕄 :=
  iprop(owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg9 fullShare (dqA v15 v4 v6 x2 x3 x4 x5 x9 (2 * n))
    ∗ owns (c : Thread nD τ) arg12 fullShare (dkA v4 v6 x2 x3 x4 x5 (2 * n))
    ∗ owns (c : Thread nD τ) arg13 fullShare (dvA v4 x2 x3 x4 (2 * n))
    ∗ (∃ d, owns (c : Thread nD τ) arg14 fullShare d)
    ∗ owns (c : Thread nD τ) arg15 fullShare (SS v4 x2 (2 * n + 1))
    ∗ (∃ d, owns (c : Thread nD τ) arg16 fullShare d)
    ∗ owns (c : Thread nD τ) arg17 fullShare (SS v6 x3 (2 * n + 1))
    ∗ owns (c : Thread nD τ) arg18 fullShare (PP v4 x2 x4 (2 * n))
    ∗ (∃ d, owns (c : Thread nD τ) arg19 fullShare d)
    ∗ owns (c : Thread nD τ) arg20 fullShare (GG v4 v6 x2 x3 x4 x5 (2 * n))
    ∗ (∃ d, owns (c : Thread nD τ) arg21 fullShare d))

set_option maxHeartbeats 4000000 in
/-- One trip keeps the invariant. -/
theorem trip (k : Fin k0_t1_loop.trips) (v53 : FVec F S2048x512 .f32) (v54 : FVec F S2048x512 .bf16) (E : Set ℕ) :
    Inv c arg2 arg3 arg4 arg5 arg9 arg12 arg13 arg14 arg15 arg16 arg17 arg18 arg19 arg20 arg21 v4 v6 v15 x2 x3 x4 x5 x9 k.val
    ⊢ wp frame (wpE (defs₀ (F := F)) Variants.none c none) E
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v15 v53 v54 k ())
      (fun _ => Inv c arg2 arg3 arg4 arg5 arg9 arg12 arg13 arg14 arg15 arg16 arg17 arg18 arg19 arg20 arg21 v4 v6 v15 x2 x3 x4 x5 x9 (k.val + 1)) := by
  have hk : k.val < 15 := lt_of_lt_of_le k.isLt k0_t1_abs.2.1
  have e1 : (k0_off4 k 1#32) = ![2 * k.val + 1, 0, 0] := k0_off4_eq k 0
  have e2 : (k0_off4 k 2#32) = ![2 * k.val + 2, 0, 0] := k0_off4_eq k 1
  have e3 : (k0_off4 k 3#32) = ![2 * k.val + 3, 0, 0] := k0_off4_eq k 2
  have g1 : (k0_off3 k 1#32) = ![0, 2 * k.val + 1, 0, 0] := k0_off3_eq k 0
  have g2 : (k0_off3 k 2#32) = ![0, 2 * k.val + 2, 0, 0] := k0_off3_eq k 1
  have s2 : 2 * (k.val + 1) = 2 * k.val + 2 := rfl
  have s3 : 2 * (k.val + 1) + 1 = 2 * k.val + 3 := rfl
  have z2 : ∀ a : Fin 2, (![0, 0] : Fin 2 → ℕ) a = 0 := by decide
  unfold Inv owns k0_t1_body
  iintro ⟨⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%f18, %hf18, H18⟩, ⟨%d19, %f19, -, H19⟩, ⟨%f20, %hf20, H20⟩, ⟨%d21, %f21, -, H21⟩⟩
  sl_exec
  sl_step
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  isplitl [H9]
  · iexists _; isplitr; swap
    · iexact H9
    ipureintro
    delta trip.sl.r_1 trip.sl.v239 trip.sl.v218 trip.sl.H21_1
    rw [read_setD _ _ _ _ (k0_off5_eq k), read_setD _ _ _ _ (k0_off2_eq k)]
    rw [readCov_whole, readAt_whole _ _ _ z2, readAt_whole _ _ _ z2, readAt_whole _ _ _ z2, hf20, hf15, hf17,
      readAt_rowL _ _ _ _ g1 (by omega), readAt_rowL _ _ _ _ g1 (by omega), readAt_rowD _ _ _ _ (k0_off2_eq k) (by omega),
      readAt_rowD _ _ _ _ (k0_off5_eq k) (by omega), hf4, hf5]
    show setD (setD (View.read (Elt F) arg9.view f9) _ _) _ _ = _
    rw [hf9, s2]
    conv_rhs => rw [dqA]
    conv_rhs => rw [dqA]
    rw [rowD_setD _ _ _ _ (by omega) (by omega)]
    rfl
  isplitl [H12]
  · iexists _; isplitr; swap
    · iexact H12
    ipureintro
    delta trip.sl.v229 trip.sl.v218 trip.sl.H12_1 trip.sl.H21_1
    rw [read_whole _ _ _ z2, readCov_whole, readCov_whole]
    rw [readAt_whole _ _ _ z2, readAt_whole _ _ _ z2, readAt_whole _ _ _ z2, readAt_whole _ _ _ z2, hf12, hf20, hf15, hf17,
      readAt_rowQ _ _ _ _ (k0_off1_eq k) (by omega), readAt_rowQ _ _ _ _ e1 (by omega), readAt_rowL _ _ _ _ g1 (by omega),
      readAt_rowL _ _ _ _ g1 (by omega), hf2, hf4, hf5, s2]
    rfl
  isplitl [H13]
  · iexists _; isplitr; swap
    · iexact H13
    ipureintro
    delta trip.sl.v219 trip.sl.v220 trip.sl.H13_1 trip.sl.H19_1
    rw [read_whole _ _ _ z2, readCov_whole, readCov_whole]
    rw [readAt_whole _ _ _ z2, readAt_whole _ _ _ z2, readAt_whole _ _ _ z2, hf13, hf18, hf15,
      readAt_rowQ _ _ _ _ (k0_off1_eq k) (by omega), readAt_rowQ _ _ _ _ e1 (by omega), readAt_rowL _ _ _ _ g1 (by omega), hf3, hf4, s2]
    rfl
  isplitl [H14]; · iexists _, _; isplitr; swap; (· iexact H14); ipureintro; rfl
  isplitl [H15]
  · iexists _; isplitr; swap
    · iexact H15
    ipureintro
    rw [read_whole _ _ _ z2, readAt_rowQ _ _ _ _ e3 (by omega), hf2, s3]
    rfl
  isplitl [H16]; · iexists _, _; isplitr; swap; (· iexact H16); ipureintro; rfl
  isplitl [H17]
  · iexists _; isplitr; swap
    · iexact H17
    ipureintro
    rw [read_whole _ _ _ z2, readAt_rowQ _ _ _ _ e3 (by omega), hf3, s3]
    rfl
  isplitl [H18]
  · iexists _; isplitr; swap
    · iexact H18
    ipureintro
    delta trip.sl.v248 trip.sl.H14_1
    rw [read_whole _ _ _ z2, readCov_whole, readAt_rowQ _ _ _ _ e2 (by omega), readAt_rowL _ _ _ _ g2 (by omega), hf2, hf4, s2]
    rfl
  isplitl [H19]; · iexists _, _; isplitr; swap; (· iexact H19); ipureintro; rfl
  isplitl [H20]
  · iexists _; isplitr; swap
    · iexact H20
    ipureintro
    delta trip.sl.v248 trip.sl.H14_1 trip.sl.v259 trip.sl.H16_1 trip.sl.r
    rw [read_whole _ _ _ z2, readCov_whole, readCov_whole, readAt_rowQ _ _ _ _ e2 (by omega), readAt_rowQ _ _ _ _ e2 (by omega),
      readAt_rowL _ _ _ _ g2 (by omega), readAt_rowL _ _ _ _ g2 (by omega), hf2, hf3, hf4, hf5, s2]
    rfl
  · iexists _, _; isplitr; swap; (· iexact H21); ipureintro; rfl

end

end Cert.KernelIdeal.Hand

end
-- ==== Proof.Ideal.Body.lean ====
module

public import proofs.«01_k».proof.Proof.Ideal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

/-! ## The body of the grid -/

/-- The keys' block laid out as columns: the four tiles of the transposed layout side by side. -/
def ktj (x8 : Vec F S4x64x512 .bf16) : FVec F S64x2048 .bf16 :=
  k0_pay23
    (View.ld x8 (Rect.unit (s := S4x64x512) ![0, 0, 0] S1x64x512.size inb_S4x64x512_S1x64x512_0_0_0))
    (View.ld x8 (Rect.unit (s := S4x64x512) ![1, 0, 0] S1x64x512.size inb_S4x64x512_S1x64x512_1_0_0))
    (View.ld x8 (Rect.unit (s := S4x64x512) ![2, 0, 0] S1x64x512.size inb_S4x64x512_S1x64x512_2_0_0))
    (View.ld x8 (Rect.unit (s := S4x64x512) ![3, 0, 0] S1x64x512.size inb_S4x64x512_S1x64x512_3_0_0))

/-- The block of the query gradient after a point, from the blocks of the inputs and what it held. -/
def outQ (x2 x3 : Vec F S32x128x512 .bf16) (x4 x5 : Vec F S1x32x1x512 .f32) (x6 x7 : Vec F S2048x128 .bf16) (x8 : Vec F S4x64x512 .bf16)
    (x9 : Vec F S32x64x512 .f32) : Vec F S32x64x512 .f32 :=
  dqA (ktj x8) (k0_pay21 x6) (k0_pay22 x7) x2 x3 x4 x5 x9 32

/-- The block of the key gradient after a point. -/
def outK (x2 x3 : Vec F S32x128x512 .bf16) (x4 x5 : Vec F S1x32x1x512 .f32) (x6 x7 : Vec F S2048x128 .bf16) : Vec F S1x2048x128 .bf16 :=
  k0_pay1 (dkA (k0_pay21 x6) (k0_pay22 x7) x2 x3 x4 x5 32)

/-- The block of the value gradient after a point. -/
def outV (x2 x3 : Vec F S32x128x512 .bf16) (x4 : Vec F S1x32x1x512 .f32) (x6 : Vec F S2048x128 .bf16) : Vec F S1x2048x128 .bf16 :=
  k0_pay2 (dvA (k0_pay21 x6) x2 x3 x4 32)

section
variable (c : Dev nD) (i : grid0.Coords)
  (arg2 : Memref sig .tc .vmem S32x128x512 .bf16) (harg2 : arg2.IsWhole)
  (arg3 : Memref sig .tc .vmem S32x128x512 .bf16) (harg3 : arg3.IsWhole)
  (arg4 : Memref sig .tc .vmem S1x32x1x512 .f32) (harg4 : arg4.IsWhole)
  (arg5 : Memref sig .tc .vmem S1x32x1x512 .f32) (harg5 : arg5.IsWhole)
  (arg6 : Memref sig .tc .vmem S2048x128 .bf16) (harg6 : arg6.IsWhole)
  (arg7 : Memref sig .tc .vmem S2048x128 .bf16) (harg7 : arg7.IsWhole)
  (arg8 : Memref sig .tc .vmem S4x64x512 .bf16) (harg8 : arg8.IsWhole)
  (arg9 : Memref sig .tc .vmem S32x64x512 .f32) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (arg14 : Memref sig .tc .vmem S2048x512 .f32) (harg14 : arg14.IsWhole)
  (arg15 : Memref sig .tc .vmem S2048x512 .f32) (harg15 : arg15.IsWhole)
  (arg16 : Memref sig .tc .vmem S2048x512 .f32) (harg16 : arg16.IsWhole)
  (arg17 : Memref sig .tc .vmem S2048x512 .f32) (harg17 : arg17.IsWhole)
  (arg18 : Memref sig .tc .vmem S2048x512 .bf16) (harg18 : arg18.IsWhole)
  (arg19 : Memref sig .tc .vmem S2048x512 .bf16) (harg19 : arg19.IsWhole)
  (arg20 : Memref sig .tc .vmem S2048x512 .bf16) (harg20 : arg20.IsWhole)
  (arg21 : Memref sig .tc .vmem S2048x512 .bf16) (harg21 : arg21.IsWhole)
  (x2 x3 : Vec F S32x128x512 .bf16) (x4 x5 : Vec F S1x32x1x512 .f32) (x6 x7 : Vec F S2048x128 .bf16) (x8 : Vec F S4x64x512 .bf16)
  (x9 : Vec F S32x64x512 .f32)

/-- Whether the point is the first of its head. -/
abbrev first (i : grid0.Coords) : Prop :=
  Scalar.cmpi .ne (Scalar.extui (Scalar.cmpi .eq (BitVec.ofNat 32 (i 1).val) 0#32)) 0#32 = 1#1

theorem k0_trips : Scf.trips k0_t1_loop.lb k0_t1_loop.ub k0_t1_loop.st = 15 := by decide

/-- What a point of the grid leaves, `y` the block of the query gradient before the point. -/
def bodyEnd (y : Vec F S32x64x512 .f32) : sProp 𝕄 :=
  iprop(owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg8 fullShare x8
    ∗ owns (c : Thread nD τ) arg9 fullShare (outQ x2 x3 x4 x5 x6 x7 x8 y)
    ∗ owns (c : Thread nD τ) arg10 fullShare (outK x2 x3 x4 x5 x6 x7)
    ∗ owns (c : Thread nD τ) arg11 fullShare (outV x2 x3 x4 x6)
    ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg21 fullShare d))

set_option maxHeartbeats 8000000 in
/-- The body at a later point of a head: the tiles add to what the block of the query gradient held. -/
theorem body_later (E : Set ℕ) (K : Unit → sProp 𝕄) (hc : ¬ first i) :
    iprop(owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg8 fullShare x8
    ∗ owns (c : Thread nD τ) arg9 fullShare x9
    ∗ (∃ d, owns (c : Thread nD τ) arg10 fullShare d) ∗ (∃ d, owns (c : Thread nD τ) arg11 fullShare d)
    ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg21 fullShare d)
    ∗ (bodyEnd c arg2 arg3 arg4 arg5 arg6 arg7 arg8 arg9 arg10 arg11 arg12 arg13 arg14 arg15 arg16 arg17 arg18 arg19 arg20 arg21 x2 x3 x4 x5 x6 x7 x8 x9 -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have z2 : ∀ a : Fin 2, (![0, 0] : Fin 2 → ℕ) a = 0 := by decide
  have z3 : ∀ a : Fin 3, (![0, 0, 0] : Fin 3 → ℕ) a = 0 := by decide
  simp only [cc0_attn_bwd_eq_skeleton]; unfold cc0_attn_bwd_skel bodyEnd owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  sl_exec (disch := first | sl_exact hc)
  have hr : body_later.sl.r c arg6 f6 = k0_pay21 x6 := by
    delta body_later.sl.r; rw [readAt_whole _ _ _ z2, hf6]
  have hr1 : body_later.sl.r_1 c arg7 f7 = k0_pay22 x7 := by
    delta body_later.sl.r_1; rw [readAt_whole _ _ _ z2, hf7]
  have hr2 : body_later.sl.r_2 c arg8 f8 = ktj x8 := by
    rw [← hf8]; rfl
  have h48 : body_later.sl.v48 c arg2 arg6 arg14 f2 f6 = SS (k0_pay21 x6) x2 0 := by
    delta body_later.sl.v48 body_later.sl.H14_1 body_later.sl.r_3
    rw [readCov_whole, readAt_whole _ _ _ z2, readAt_rowQ _ _ _ 0 rfl (by omega), hf2, hf6]; rfl
  have h58 : body_later.sl.v58 c arg3 arg7 arg16 f3 f7 = SS (k0_pay22 x7) x3 0 := by
    delta body_later.sl.v58 body_later.sl.H16_1
    rw [readCov_whole, hr1, readAt_rowQ _ _ _ 0 rfl (by omega), hf3]; rfl
  sl_for (fun n _ => Inv c arg2 arg3 arg4 arg5 arg9 arg12 arg13 arg14 arg15 arg16 arg17 arg18 arg19 arg20 arg21 (k0_pay21 x6) (k0_pay22 x7) (ktj x8) x2 x3 x4 x5 x9 n) $$ [H2 H3 H4 H5 H9 H12 H13 H14 H15 H16 H17 H18 H19 H20 H21]
  case region =>
    intro k a
    delta body_later.sl.prog.body_1
    rw [hr, hr1, hr2]
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay21 x6) (k0_pay22 x7) (ktj x8) x2 x3 x4 x5 x9 k _ _ E
  · unfold Inv owns
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H9]
    · iexists _; isplitr; swap
      · iexact H9
      ipureintro
      exact hf9
    isplitl [H12]
    · iexists _; isplitr; swap
      · iexact H12
      ipureintro
      delta body_later.sl.H12_1
      rw [read_whole _ _ _ z2]; rfl
    isplitl [H13]
    · iexists _; isplitr; swap
      · iexact H13
      ipureintro
      delta body_later.sl.H13_1
      rw [read_whole _ _ _ z2]; rfl
    isplitl [H14]; · iexists _, _; isplitr; swap; (· iexact H14); ipureintro; rfl
    isplitl [H15]
    · iexists _; isplitr; swap
      · iexact H15
      ipureintro
      delta body_later.sl.H15_1
      rw [read_whole _ _ _ z2, hr, readAt_rowQ _ _ _ 1 rfl (by omega), hf2]; rfl
    isplitl [H16]; · iexists _, _; isplitr; swap; (· iexact H16); ipureintro; rfl
    isplitl [H17]
    · iexists _; isplitr; swap
      · iexact H17
      ipureintro
      delta body_later.sl.H17_1
      rw [read_whole _ _ _ z2, hr1, readAt_rowQ _ _ _ 1 rfl (by omega), hf3]; rfl
    isplitl [H18]
    · iexists _; isplitr; swap
      · iexact H18
      ipureintro
      delta body_later.sl.H18_1 body_later.sl.r_5
      rw [read_whole _ _ _ z2, h48, readAt_rowL _ _ _ 0 rfl (by omega), hf4]; rfl
    isplitl [H19]; · iexists _, _; isplitr; swap; (· iexact H19); ipureintro; rfl
    isplitl [H20]
    · iexists _; isplitr; swap
      · iexact H20
      ipureintro
      delta body_later.sl.H20_1 body_later.sl.r_4
      rw [read_whole _ _ _ z2, h48, h58, readAt_rowL _ _ _ 0 rfl (by omega), readAt_rowL _ _ _ 0 rfl (by omega), hf4, hf5]; rfl
    · iexists _, _; isplitr; swap; (· iexact H21); ipureintro; rfl
  iintro %a HI
  unfold Inv owns
  icases HI with ⟨⟨%g2, %hg2, H2⟩, ⟨%g3, %hg3, H3⟩, ⟨%g4, %hg4, H4⟩, ⟨%g5, %hg5, H5⟩, ⟨%g9, %hg9, H9⟩, ⟨%g12, %hg12, H12⟩, ⟨%g13, %hg13, H13⟩, ⟨%e14, %g14, -, H14⟩, ⟨%g15, %hg15, H15⟩, ⟨%e16, %g16, -, H16⟩, ⟨%g17, %hg17, H17⟩, ⟨%g18, %hg18, H18⟩, ⟨%e19, %g19, -, H19⟩, ⟨%g20, %hg20, H20⟩, ⟨%e21, %g21, -, H21⟩⟩
  have hT : Scf.trips k0_t1_loop.lb k0_t1_loop.ub k0_t1_loop.st = 15 := k0_trips
  rw [hT] at hg9 hg12 hg13 hg15 hg17 hg18 hg20
  sl_exec
  sl_step
  have h114 : body_later.sl.v114 c arg4 arg5 arg15 arg17 arg21 g4 g5 g15 g17 = GG (k0_pay21 x6) (k0_pay22 x7) x2 x3 x4 x5 31 := by
    delta body_later.sl.v114 body_later.sl.H21_1 body_later.sl.r_9
    rw [readCov_whole, readAt_whole _ _ _ z2, readAt_whole _ _ _ z2, readAt_rowL _ _ _ 31 rfl (by omega),
      readAt_rowL _ _ _ 31 rfl (by omega), hg4, hg5, hg15, hg17]; rfl
  have h6 : body_later.sl.r_6 c arg20 g20 = GG (k0_pay21 x6) (k0_pay22 x7) x2 x3 x4 x5 30 := by
    delta body_later.sl.r_6; rw [readAt_whole _ _ _ z2, hg20]
  iapply Hk
  isplitl [H2]; · iexists _; isplitr; swap; (· iexact H2); ipureintro; exact hg2
  isplitl [H3]; · iexists _; isplitr; swap; (· iexact H3); ipureintro; exact hg3
  isplitl [H4]; · iexists _; isplitr; swap; (· iexact H4); ipureintro; exact hg4
  isplitl [H5]; · iexists _; isplitr; swap; (· iexact H5); ipureintro; exact hg5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]
  · iexists _; isplitr; swap
    · iexact H9
    ipureintro
    delta body_later.sl.v132
    rw [read_setD _ _ _ 31 rfl, read_setD _ _ _ 30 rfl, h114, h6, hr2, readAt_rowD _ _ _ 31 rfl (by omega),
      readAt_rowD _ _ _ 30 rfl (by omega)]
    show setD (setD (View.read (Elt F) arg9.view g9) _ _) _ _ = _
    rw [hg9]
    unfold outQ
    conv_rhs => rw [dqA]
    conv_rhs => rw [dqA]
    rw [rowD_setD _ _ _ _ (by omega) (by omega)]
    rfl
  isplitl [H10]
  · iexists _; isplitr; swap
    · iexact H10
    ipureintro
    delta body_later.sl.v body_later.sl.H12_2 body_later.sl.v124 body_later.sl.H12_1_1 body_later.sl.r_7 body_later.sl.r_8
    rw [read_whole _ _ _ z3, readCov_whole, readCov_whole, h114, h6, readAt_whole _ _ _ z2, readAt_rowQ _ _ _ 31 rfl (by omega),
      readAt_rowQ _ _ _ 30 rfl (by omega), hg12, hg2]
    rfl
  isplitl [H11]
  · iexists _; isplitr; swap
    · iexact H11
    ipureintro
    delta body_later.sl.v144 body_later.sl.H13_2 body_later.sl.v115 body_later.sl.v116 body_later.sl.H13_1_1 body_later.sl.H19_1
    rw [read_whole _ _ _ z3, readCov_whole, readCov_whole, readCov_whole, readAt_whole _ _ _ z2, readAt_whole _ _ _ z2,
      readAt_whole _ _ _ z2, readAt_rowQ _ _ _ 31 rfl (by omega), readAt_rowQ _ _ _ 30 rfl (by omega),
      readAt_rowL _ _ _ 31 rfl (by omega), hg13, hg18, hg15, hg3, hg4]
    rfl
  isplitl [H12]; · iexists _, _; isplitr; swap; (· iexact H12); ipureintro; rfl
  isplitl [H13]; · iexists _, _; isplitr; swap; (· iexact H13); ipureintro; rfl
  isplitl [H14]; · iexists _, _; isplitr; swap; (· iexact H14); ipureintro; rfl
  isplitl [H15]; · iexists _, _; isplitr; swap; (· iexact H15); ipureintro; rfl
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  · iexists _, _; isplitr; swap; (· iexact H21); ipureintro; rfl
set_option maxHeartbeats 8000000 in
/-- The body at the first point of a head: the tiles add to zeros. -/
theorem body_first (E : Set ℕ) (K : Unit → sProp 𝕄) (hc : first i) :
    iprop(owns (c : Thread nD τ) arg2 fullShare x2 ∗ owns (c : Thread nD τ) arg3 fullShare x3
    ∗ owns (c : Thread nD τ) arg4 fullShare x4 ∗ owns (c : Thread nD τ) arg5 fullShare x5
    ∗ owns (c : Thread nD τ) arg6 fullShare x6 ∗ owns (c : Thread nD τ) arg7 fullShare x7
    ∗ owns (c : Thread nD τ) arg8 fullShare x8
    ∗ owns (c : Thread nD τ) arg9 fullShare x9
    ∗ (∃ d, owns (c : Thread nD τ) arg10 fullShare d) ∗ (∃ d, owns (c : Thread nD τ) arg11 fullShare d)
    ∗ (∃ d, owns (c : Thread nD τ) arg12 fullShare d) ∗ (∃ d, owns (c : Thread nD τ) arg13 fullShare d)
    ∗ (∃ d, owns (c : Thread nD τ) arg14 fullShare d) ∗ (∃ d, owns (c : Thread nD τ) arg15 fullShare d)
    ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg21 fullShare d)
    ∗ (bodyEnd c arg2 arg3 arg4 arg5 arg6 arg7 arg8 arg9 arg10 arg11 arg12 arg13 arg14 arg15 arg16 arg17 arg18 arg19 arg20 arg21 x2 x3 x4 x5 x6 x7 x8 k0_pay20 -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have z2 : ∀ a : Fin 2, (![0, 0] : Fin 2 → ℕ) a = 0 := by decide
  have z3 : ∀ a : Fin 3, (![0, 0, 0] : Fin 3 → ℕ) a = 0 := by decide
  simp only [cc0_attn_bwd_eq_skeleton]; unfold cc0_attn_bwd_skel bodyEnd owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  sl_exec (disch := first | sl_exact hc)
  have hr : body_first.sl.r c arg6 f6 = k0_pay21 x6 := by
    delta body_first.sl.r; rw [readAt_whole _ _ _ z2, hf6]
  have hr1 : body_first.sl.r_1 c arg7 f7 = k0_pay22 x7 := by
    delta body_first.sl.r_1; rw [readAt_whole _ _ _ z2, hf7]
  have hr2 : body_first.sl.r_2 c arg8 f8 = ktj x8 := by
    rw [← hf8]; rfl
  have h48 : body_first.sl.v48 c arg2 arg6 arg14 f2 f6 = SS (k0_pay21 x6) x2 0 := by
    delta body_first.sl.v48 body_first.sl.H14_1 body_first.sl.r_3
    rw [readCov_whole, readAt_whole _ _ _ z2, readAt_rowQ _ _ _ 0 rfl (by omega), hf2, hf6]; rfl
  have h58 : body_first.sl.v58 c arg3 arg7 arg16 f3 f7 = SS (k0_pay22 x7) x3 0 := by
    delta body_first.sl.v58 body_first.sl.H16_1
    rw [readCov_whole, hr1, readAt_rowQ _ _ _ 0 rfl (by omega), hf3]; rfl
  sl_for (fun n _ => Inv c arg2 arg3 arg4 arg5 arg9 arg12 arg13 arg14 arg15 arg16 arg17 arg18 arg19 arg20 arg21 (k0_pay21 x6) (k0_pay22 x7) (ktj x8) x2 x3 x4 x5 k0_pay20 n) $$ [H2 H3 H4 H5 H9 H12 H13 H14 H15 H16 H17 H18 H19 H20 H21]
  case region =>
    intro k a
    delta body_first.sl.prog.body_1
    rw [hr, hr1, hr2]
    exact trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (k0_pay21 x6) (k0_pay22 x7) (ktj x8) x2 x3 x4 x5 k0_pay20 k _ _ E
  · unfold Inv owns
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H9]
    · iexists _; isplitr; swap
      · iexact H9
      ipureintro
      delta body_first.sl.H9_1; rw [read_whole _ _ _ z3]; rfl
    isplitl [H12]
    · iexists _; isplitr; swap
      · iexact H12
      ipureintro
      delta body_first.sl.H12_1
      rw [read_whole _ _ _ z2]; rfl
    isplitl [H13]
    · iexists _; isplitr; swap
      · iexact H13
      ipureintro
      delta body_first.sl.H13_1
      rw [read_whole _ _ _ z2]; rfl
    isplitl [H14]; · iexists _, _; isplitr; swap; (· iexact H14); ipureintro; rfl
    isplitl [H15]
    · iexists _; isplitr; swap
      · iexact H15
      ipureintro
      delta body_first.sl.H15_1
      rw [read_whole _ _ _ z2, hr, readAt_rowQ _ _ _ 1 rfl (by omega), hf2]; rfl
    isplitl [H16]; · iexists _, _; isplitr; swap; (· iexact H16); ipureintro; rfl
    isplitl [H17]
    · iexists _; isplitr; swap
      · iexact H17
      ipureintro
      delta body_first.sl.H17_1
      rw [read_whole _ _ _ z2, hr1, readAt_rowQ _ _ _ 1 rfl (by omega), hf3]; rfl
    isplitl [H18]
    · iexists _; isplitr; swap
      · iexact H18
      ipureintro
      delta body_first.sl.H18_1 body_first.sl.r_5
      rw [read_whole _ _ _ z2, h48, readAt_rowL _ _ _ 0 rfl (by omega), hf4]; rfl
    isplitl [H19]; · iexists _, _; isplitr; swap; (· iexact H19); ipureintro; rfl
    isplitl [H20]
    · iexists _; isplitr; swap
      · iexact H20
      ipureintro
      delta body_first.sl.H20_1 body_first.sl.r_4
      rw [read_whole _ _ _ z2, h48, h58, readAt_rowL _ _ _ 0 rfl (by omega), readAt_rowL _ _ _ 0 rfl (by omega), hf4, hf5]; rfl
    · iexists _, _; isplitr; swap; (· iexact H21); ipureintro; rfl
  iintro %a HI
  unfold Inv owns
  icases HI with ⟨⟨%g2, %hg2, H2⟩, ⟨%g3, %hg3, H3⟩, ⟨%g4, %hg4, H4⟩, ⟨%g5, %hg5, H5⟩, ⟨%g9, %hg9, H9⟩, ⟨%g12, %hg12, H12⟩, ⟨%g13, %hg13, H13⟩, ⟨%e14, %g14, -, H14⟩, ⟨%g15, %hg15, H15⟩, ⟨%e16, %g16, -, H16⟩, ⟨%g17, %hg17, H17⟩, ⟨%g18, %hg18, H18⟩, ⟨%e19, %g19, -, H19⟩, ⟨%g20, %hg20, H20⟩, ⟨%e21, %g21, -, H21⟩⟩
  have hT : Scf.trips k0_t1_loop.lb k0_t1_loop.ub k0_t1_loop.st = 15 := k0_trips
  rw [hT] at hg9 hg12 hg13 hg15 hg17 hg18 hg20
  sl_exec
  sl_step
  have h114 : body_first.sl.v114 c arg4 arg5 arg15 arg17 arg21 g4 g5 g15 g17 = GG (k0_pay21 x6) (k0_pay22 x7) x2 x3 x4 x5 31 := by
    delta body_first.sl.v114 body_first.sl.H21_1 body_first.sl.r_9
    rw [readCov_whole, readAt_whole _ _ _ z2, readAt_whole _ _ _ z2, readAt_rowL _ _ _ 31 rfl (by omega),
      readAt_rowL _ _ _ 31 rfl (by omega), hg4, hg5, hg15, hg17]; rfl
  have h6 : body_first.sl.r_6 c arg20 g20 = GG (k0_pay21 x6) (k0_pay22 x7) x2 x3 x4 x5 30 := by
    delta body_first.sl.r_6; rw [readAt_whole _ _ _ z2, hg20]
  iapply Hk
  isplitl [H2]; · iexists _; isplitr; swap; (· iexact H2); ipureintro; exact hg2
  isplitl [H3]; · iexists _; isplitr; swap; (· iexact H3); ipureintro; exact hg3
  isplitl [H4]; · iexists _; isplitr; swap; (· iexact H4); ipureintro; exact hg4
  isplitl [H5]; · iexists _; isplitr; swap; (· iexact H5); ipureintro; exact hg5
  isplitl [H6]; · iexists _; isplitr; swap; (· iexact H6); ipureintro; exact hf6
  isplitl [H7]; · iexists _; isplitr; swap; (· iexact H7); ipureintro; exact hf7
  isplitl [H8]; · iexists _; isplitr; swap; (· iexact H8); ipureintro; exact hf8
  isplitl [H9]
  · iexists _; isplitr; swap
    · iexact H9
    ipureintro
    delta body_first.sl.v132
    rw [read_setD _ _ _ 31 rfl, read_setD _ _ _ 30 rfl, h114, h6, hr2, readAt_rowD _ _ _ 31 rfl (by omega),
      readAt_rowD _ _ _ 30 rfl (by omega)]
    show setD (setD (View.read (Elt F) arg9.view g9) _ _) _ _ = _
    rw [hg9]
    unfold outQ
    conv_rhs => rw [dqA]
    conv_rhs => rw [dqA]
    rw [rowD_setD _ _ _ _ (by omega) (by omega)]
    rfl
  isplitl [H10]
  · iexists _; isplitr; swap
    · iexact H10
    ipureintro
    delta body_first.sl.v body_first.sl.H12_2 body_first.sl.v124 body_first.sl.H12_1_1 body_first.sl.r_7 body_first.sl.r_8
    rw [read_whole _ _ _ z3, readCov_whole, readCov_whole, h114, h6, readAt_whole _ _ _ z2, readAt_rowQ _ _ _ 31 rfl (by omega),
      readAt_rowQ _ _ _ 30 rfl (by omega), hg12, hg2]
    rfl
  isplitl [H11]
  · iexists _; isplitr; swap
    · iexact H11
    ipureintro
    delta body_first.sl.v144 body_first.sl.H13_2 body_first.sl.v115 body_first.sl.v116 body_first.sl.H13_1_1 body_first.sl.H19_1
    rw [read_whole _ _ _ z3, readCov_whole, readCov_whole, readCov_whole, readAt_whole _ _ _ z2, readAt_whole _ _ _ z2,
      readAt_whole _ _ _ z2, readAt_rowQ _ _ _ 31 rfl (by omega), readAt_rowQ _ _ _ 30 rfl (by omega),
      readAt_rowL _ _ _ 31 rfl (by omega), hg13, hg18, hg15, hg3, hg4]
    rfl
  isplitl [H12]; · iexists _, _; isplitr; swap; (· iexact H12); ipureintro; rfl
  isplitl [H13]; · iexists _, _; isplitr; swap; (· iexact H13); ipureintro; rfl
  isplitl [H14]; · iexists _, _; isplitr; swap; (· iexact H14); ipureintro; rfl
  isplitl [H15]; · iexists _, _; isplitr; swap; (· iexact H15); ipureintro; rfl
  isplitl [H16]; · iexists _, _; isplitr; swap; (· iexact H16); ipureintro; rfl
  isplitl [H17]; · iexists _, _; isplitr; swap; (· iexact H17); ipureintro; rfl
  isplitl [H18]; · iexists _, _; isplitr; swap; (· iexact H18); ipureintro; rfl
  isplitl [H19]; · iexists _, _; isplitr; swap; (· iexact H19); ipureintro; rfl
  isplitl [H20]; · iexists _, _; isplitr; swap; (· iexact H20); ipureintro; rfl
  · iexists _, _; isplitr; swap; (· iexact H21); ipureintro; rfl

end

end Cert.KernelIdeal.Hand

end
-- ==== Proof.Ideal.Run.lean ====
module

public import proofs.«01_k».proof.Proof.Ideal.Body
public import proofs.«01_k».proof.Proof.Gen.KernelIdeal.Points
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The point is the first of its head when its number is a multiple of eight. -/
theorem hfirst (t : Fin cfg0.N) : first (grid0.coords t) ↔ t.val % 8 = 0 := by
  have ht : t.val < 64 := Nat.lt_of_lt_of_eq t.isLt N_0
  have e1 : (grid0.coords t 1).val = t.val / 1 % 8 := Pipeline.Grid.coords_val t 1 (by decide) rfl
  unfold first
  rw [e1]
  generalize t.val = n at ht
  word_cmp

/-- The block of the query gradient after point `t`, `y` what the tiles add to. -/
def stepQ (c : Dev nD) (t : Fin cfg0.N) (y : Vec F S32x64x512 .f32) : Vec F S32x64x512 .f32 :=
  outQ (iblk m c 0 t) (iblk m c 1 t) (iblk m c 2 t) (iblk m c 3 t) (iblk m c 4 t) (iblk m c 5 t) (iblk m c 6 t) y

/-- The block of the query gradient after point `n`: a head's eight points add to zeros. -/
def accQ (c : Dev nD) : (n : ℕ) → n < cfg0.N → Vec F S32x64x512 .f32
  | 0, h => stepQ m c ⟨0, h⟩ k0_pay20
  | n + 1, h => stepQ m c ⟨n + 1, h⟩ (if (n + 1) % 8 = 0 then k0_pay20 else accQ c n (Nat.lt_of_succ_lt h))

theorem accQ_first (c : Dev nD) (t : Fin cfg0.N) (h : t.val % 8 = 0) : accQ m c t.val t.isLt = stepQ m c t k0_pay20 := by
  obtain ⟨n, hn⟩ := t
  cases n with
  | zero => rfl
  | succ n => show stepQ m c _ (if (n + 1) % 8 = 0 then _ else _) = _; rw [if_pos h]

theorem accQ_later (c : Dev nD) (t : Fin cfg0.N) (h : ¬ t.val % 8 = 0) :
    accQ m c t.val t.isLt = stepQ m c t (accQ m c (t.val - 1) (Nat.lt_of_le_of_lt (Nat.sub_le _ _) t.isLt)) := by
  obtain ⟨n, hn⟩ := t
  cases n with
  | zero => exact absurd rfl h
  | succ n => show stepQ m c _ (if (n + 1) % 8 = 0 then _ else _) = _; rw [if_neg h]; rfl

/-- The pipeline's proof data on core `c`: the arrays as the region finds them; after a point each input's buffer at its block and
    each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accQ m c t.val t.isLt
    | ⟨8, _⟩ => outK (iblk m c 0 t) (iblk m c 1 t) (iblk m c 2 t) (iblk m c 3 t) (iblk m c 4 t) (iblk m c 5 t)
    | ⟨9, _⟩ => outV (iblk m c 0 t) (iblk m c 1 t) (iblk m c 2 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = accQ m c t.val t.isLt := by dsimp only [dats]
theorem after8 (c : Dev nD) (t : Fin cfg0.N) : (dats m 0 c).after 8 t = outK (iblk m c 0 t) (iblk m c 1 t) (iblk m c 2 t) (iblk m c 3 t) (iblk m c 4 t) (iblk m c 5 t) := by dsimp only [dats]
theorem after9 (c : Dev nD) (t : Fin cfg0.N) : (dats m 0 c).after 9 t = outV (iblk m c 0 t) (iblk m c 1 t) (iblk m c 2 t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
/-- At a later point of a head the query gradient's buffer holds what the point before left. -/
theorem before7 (c : Dev nD) (t : Fin cfg0.N) (h : ¬ t.val % 8 = 0) (d) :
    (dats m 0 c).before 7 t d = accQ m c (t.val - 1) (Nat.lt_of_le_of_lt (Nat.sub_le _ _) t.isLt) := by
  rw [(dats m 0 c).before_out_kept 7 rfl t (fun h0 => h (by rw [h0])) (by
      rw [Bool.eq_false_iff, ne_eq, flush0_7]
      show ¬ ((t.val - 1) % 8 = 7)
      omega) (fun _ => rfl) (fun _ _ => rfl)]
  exact after7 m c _

/-! ## The body at a point -/

abbrev ms0 (t : Fin cfg0.N) : Memref sig .tc .vmem S32x128x512 .bf16 := win0_0.stage (cfg0.slots t 0)
abbrev ms1 (t : Fin cfg0.N) : Memref sig .tc .vmem S32x128x512 .bf16 := win0_1.stage (cfg0.slots t 1)
abbrev ms2 (t : Fin cfg0.N) : Memref sig .tc .vmem S1x32x1x512 .f32 := win0_2.stage (cfg0.slots t 2)
abbrev ms3 (t : Fin cfg0.N) : Memref sig .tc .vmem S1x32x1x512 .f32 := win0_3.stage (cfg0.slots t 3)
abbrev ms4 (t : Fin cfg0.N) : Memref sig .tc .vmem S2048x128 .bf16 := win0_4.stage (cfg0.slots t 4)
abbrev ms5 (t : Fin cfg0.N) : Memref sig .tc .vmem S2048x128 .bf16 := win0_5.stage (cfg0.slots t 5)
abbrev ms6 (t : Fin cfg0.N) : Memref sig .tc .vmem S4x64x512 .bf16 := win0_6.stage (cfg0.slots t 6)
abbrev ms7 (t : Fin cfg0.N) : Memref sig .tc .vmem S32x64x512 .f32 := win0_7.stage (cfg0.slots t 7)
abbrev ms8 (t : Fin cfg0.N) : Memref sig .tc .vmem S1x2048x128 .bf16 := win0_8.stage (cfg0.slots t 8)
abbrev ms9 (t : Fin cfg0.N) : Memref sig .tc .vmem S1x2048x128 .bf16 := win0_9.stage (cfg0.slots t 9)
abbrev sc0 : Memref sig .tc .vmem S2048x128 .f32 := Memref.whole cc0_scratch0
abbrev sc1 : Memref sig .tc .vmem S2048x128 .f32 := Memref.whole cc0_scratch1
abbrev sc2 : Memref sig .tc .vmem S2048x512 .f32 := Memref.whole cc0_scratch2
abbrev sc3 : Memref sig .tc .vmem S2048x512 .f32 := Memref.whole cc0_scratch3
abbrev sc4 : Memref sig .tc .vmem S2048x512 .f32 := Memref.whole cc0_scratch4
abbrev sc5 : Memref sig .tc .vmem S2048x512 .f32 := Memref.whole cc0_scratch5
abbrev sc6 : Memref sig .tc .vmem S2048x512 .bf16 := Memref.whole cc0_scratch6
abbrev sc7 : Memref sig .tc .vmem S2048x512 .bf16 := Memref.whole cc0_scratch7
abbrev sc8 : Memref sig .tc .vmem S2048x512 .bf16 := Memref.whole cc0_scratch8
abbrev sc9 : Memref sig .tc .vmem S2048x512 .bf16 := Memref.whole cc0_scratch9

/-- The scratch buffers as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl, after0, after1, after2, after3, after4, after5, after6, after7, after8, after9]
  rw [show (dats m 0 c).Φ t.castSucc = Pipeline.ΦA spec0 c from rfl, PhiA0_eq]
  by_cases h0 : t.val % 8 = 0
  · rw [accQ_first m c t h0]
    iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((body_first (F := F) c (grid0.coords t) _ _ _ _ _ _ _ _ _ _ _ _ _ _ _ _ _ _ _ _ _ _ _ _ _ _ _ _ _ _ _ _ _ _ _ _ _ _ _ _ _ _ _ _ _ _ _ ((dats m 0 c).before 7 t d7) Set.univ _ ((hfirst t).mpr h0)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    unfold bodyEnd
    iintro ⟨H0, H1, H2, H3, H4, H5, H6, H7, H8, H9, S0, S1, S2, S3, S4, S5, S6, S7, S8, S9⟩
    isplitl [S0 S1 S2 S3 S4 S5 S6 S7 S8 S9 Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact S9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [accQ_later m c t h0]
    simp only [before7 m c t h0]
    iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((body_later (F := F) c (grid0.coords t) _ _ _ _ _ _ _ _ _ _ _ _ _ _ _ _ _ _ _ _ _ _ _ _ _ _ _ _ _ _ _ _ _ _ _ _ _ _ _ _ _ _ _ _ _ _ _ _ Set.univ _ (fun h => h0 ((hfirst t).mp h))))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    unfold bodyEnd
    iintro ⟨H0, H1, H2, H3, H4, H5, H6, H7, H8, H9, S0, S1, S2, S3, S4, S5, S6, S7, S8, S9⟩
    isplitl [S0 S1 S2 S3 S4 S5 S6 S7 S8 S9 Hg]
    · isplitr [Hg]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        iexact S9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 4000000 in
/-- Every run ends with the arrays at what the proof data say, the rest as the host operations leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (hQ' := fun _ h => h)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Ideal.Math.lean ====
/- The gradients of grouped-query softmax attention as real functions of the arguments' entries, and the facts of extended
   reals that reading a program's values at finite arguments needs. -/
module

public import Idealize.ShloMosaic.PureOps.Ideal.Laws
public import Idealize.ShloMosaic.Lib.ValueIdx

@[expose] public section

noncomputable section

namespace Cert.Attn

open Idealize.ShloMosaic

/-! ## Extended reals at finite values -/

/-- A finite sum of reals, taken in the extended reals. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A sum of products of reals, taken in the extended reals. -/
theorem sum_mul_coe {ι : Type} (s : Finset ι) (f g : ι → ℝ) :
    ∑ k ∈ s, ((f k : ℝ) : EReal) * ((g k : ℝ) : EReal) = ((∑ k ∈ s, f k * g k : ℝ) : EReal) := by
  rw [← sum_coe]
  exact Finset.sum_congr rfl fun k _ => (EReal.coe_mul _ _).symm

/-- The quotient of two reals, the divisor not zero. -/
theorem div_real (x : ℝ) {y : ℝ} (h : y ≠ 0) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

theorem bits_zero : Ideal.ofBits .f32 0x00000000#32 = ((0 : ℝ) : EReal) := by simp [Ideal.ofBits, Ideal.ieee, -EReal.coe_mul]
theorem bits_eighth : Ideal.ofBits .f32 0x3E000000#32 = ((1 / 8 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_bot : Ideal.ofBits .f32 0xFF800000#32 = ⊥ := by simp [Ideal.ofBits, Ideal.ieee, -EReal.coe_mul]
theorem bits_top : Ideal.ofBits .f32 0x7F800000#32 = ⊤ := by simp [Ideal.ofBits, Ideal.ieee, -EReal.coe_mul]

/-- The maximum of finitely many reals, folded from minus infinity, is minus infinity of no real and a real of some. -/
theorem fold_max_real {ι : Type} (s : Finset ι) (x : ι → EReal) (hx : ∀ i, ∃ r : ℝ, x i = (r : EReal)) :
    (s = ∅ ∧ s.fold max ⊥ x = ⊥) ∨ ∃ r : ℝ, s.fold max ⊥ x = (r : EReal) := by
  classical
  induction s using Finset.induction_on with
  | empty => exact .inl ⟨rfl, rfl⟩
  | insert a s ha ih =>
    right
    rw [Finset.fold_insert ha]
    obtain ⟨r, hr⟩ := hx a
    rcases ih with ⟨_, h⟩ | ⟨u, h⟩
    · exact ⟨r, by rw [h, hr]; simp⟩
    · exact ⟨max r u, by rw [h, hr]; exact (EReal.coe_strictMono.monotone.map_max).symm⟩

/-- The maximum over the last axis of an array of reals is a real. -/
theorem reduce_max_real {s t u : Shape} {a : Fin s.rank} (x : s.Idx → EReal) (hx : ∀ i, ∃ r : ℝ, x i = (r : EReal))
    (init : u.Idx → EReal) (hi : ∀ i, init i = ⊥) (h' : s.ReducesTo [a] t) (h : s.Reduces [a] t) (hu : 0 < u.numel) (hn : 0 < s.size a) (j : t.Idx) :
    ∃ r : ℝ, Host.reduce (α := EReal) max x init h' hu j = (r : EReal) := by
  rw [Host.reduce_eq_fold_single max x init h' h hu j, hi]
  rcases fold_max_real Finset.univ (x ∘ h.lift j) (fun i => hx _) with ⟨he, _⟩ | hr
  · exact absurd he (Finset.univ_nonempty_iff.mpr ⟨(⟨0, hn⟩ : Fin (s.size a))⟩).ne_empty
  · exact hr

/-! ## The real functions

Entries are read at natural numbers: `q i h d` is the query of row `i`, head `h`, coordinate `d`; `k j g d` and `v j g d` the key and
value of row `j` and group `g`; `o i c` the output's cotangent at row `i` and column `c`, of which head `h` has the columns from `64 * h`.
Heads `4 * g` to `4 * g + 3` read the keys and values of group `g`. -/

section

variable (q k v : ℕ → ℕ → ℕ → ℝ) (o : ℕ → ℕ → ℝ)

/-- The scaled score of row `i` of head `h` with row `j` of group `g`. -/
def sc (g h i j : ℕ) : ℝ := (∑ d : Fin 64, k j g d.val * q i h d.val) * (1 / 8)

/-- The sum of the exponentials of a row's scores. -/
def den (g h i : ℕ) : ℝ := ∑ j : Fin 16384, Real.exp (sc q k g h i j.val)

/-- The attention's probability. -/
def prob (g h i j : ℕ) : ℝ := Real.exp (sc q k g h i j) / den q k g h i

/-- The probability's cotangent. -/
def dprob (g h i j : ℕ) : ℝ := ∑ d : Fin 64, o i (h * 64 + d.val) * v j g d.val

/-- The sum over a row of probability times cotangent. -/
def row (g h i : ℕ) : ℝ := ∑ j : Fin 16384, prob q k g h i j.val * dprob v o g h i j.val

/-- The cotangent of the score. -/
def dsc (g h i j : ℕ) : ℝ := prob q k g h i j * (dprob v o g h i j - row q k v o g h i)

/-- The query's gradient at row `i` and column `c`. -/
def gradQ (i c : ℕ) : ℝ := ∑ j : Fin 16384, dsc q k v o (c / 256) (c / 64) i j.val * (1 / 8) * k j.val (c / 256) (c % 64)

/-- The key's gradient at row `j` and column `c`: the four heads of the column's group. -/
def gradK (j c : ℕ) : ℝ := ∑ r : Fin 4, ∑ i : Fin 16384, dsc q k v o (c / 64) (c / 64 * 4 + r.val) i.val j * (1 / 8) * q i.val (c / 64 * 4 + r.val) (c % 64)

/-- The value's gradient at row `j` and column `c`. -/
def gradV (j c : ℕ) : ℝ := ∑ r : Fin 4, ∑ i : Fin 16384, prob q k (c / 64) (c / 64 * 4 + r.val) i.val j * o i.val ((c / 64 * 4 + r.val) * 64 + c % 64)

theorem den_pos (g h i : ℕ) : 0 < den q k g h i := Finset.sum_pos (fun _ _ => Real.exp_pos _) ⟨⟨0, by decide⟩, Finset.mem_univ _⟩

/-- The shifted exponentials' sum. -/
def denM (M : ℝ) (g h i : ℕ) : ℝ := ∑ j : Fin 16384, Real.exp (sc q k g h i j.val - M)

theorem denM_eq (M : ℝ) (g h i : ℕ) : denM q k M g h i = den q k g h i * Real.exp (-M) := by
  unfold denM den
  rw [Finset.sum_mul]
  exact Finset.sum_congr rfl fun j _ => by rw [sub_eq_add_neg, Real.exp_add]

theorem denM_pos (M : ℝ) (g h i : ℕ) : 0 < denM q k M g h i := by
  rw [denM_eq]; exact mul_pos (den_pos q k g h i) (Real.exp_pos _)

/-- Shifting a row's scores by any number leaves the probabilities. -/
theorem prob_shift (M : ℝ) (g h i j : ℕ) : Real.exp (sc q k g h i j - M) / denM q k M g h i = prob q k g h i j := by
  rw [denM_eq, sub_eq_add_neg, Real.exp_add, prob, mul_div_mul_right _ _ (Real.exp_pos _).ne']

/-- The probability from the scores and the row's log-sum-exp, both in base 2. -/
theorem prob_base_two (M : ℝ) (g h i j : ℕ) :
    Real.rpow 2 (sc q k g h i j / Real.log 2 - (M + Real.log (denM q k M g h i)) / Real.log 2) = prob q k g h i j := by
  have h2 : Real.log 2 ≠ 0 := (Real.log_pos (by norm_num)).ne'
  rw [Real.rpow_eq_pow, Real.rpow_def_of_pos (by norm_num), ← prob_shift q k M, ← sub_div, mul_div_cancel₀ _ h2, ← sub_sub, Real.exp_sub,
    Real.exp_log (denM_pos q k M g h i)]

end

/-- The score's cotangent as a quotient's derivative states it. -/
theorem quotient_rule {n : ℕ} (E D : Fin n → ℝ) (L : ℝ) (hL : L ≠ 0) (j : Fin n) :
    (D j / L + -(∑ t : Fin n, D t * (1 / (L * L)) * E t)) * E j = E j / L * (D j - ∑ t : Fin n, E t / L * D t) := by
  have h : ∑ t : Fin n, D t * (1 / (L * L)) * E t = (∑ t : Fin n, E t / L * D t) / L := by
    rw [Finset.sum_div]
    exact Finset.sum_congr rfl fun t _ => by field_simp
  rw [h]
  field_simp
  ring

end Cert.Attn

end
-- ==== Proof.Ideal.Point.lean ====
/- What a point of the grid leaves at real blocks: the gradients' blocks as sums over tiles and lanes. -/
module

public import proofs.«01_k».proof.Proof.Ideal.Body
public import proofs.«01_k».proof.Proof.Ideal.Math
public import Idealize.ShloMosaic.Lib.TwoAxisContraction
public import Idealize.ShloMosaic.Lib.Pipeline.Value

@[expose] public section

set_option maxRecDepth 8192

noncomputable section

namespace Cert.KernelIdeal.Hand

open Cert.KernelIdeal Cert.KernelIdeal.Gen Idealize.ShloMosaic Cert.Attn

/-! ## The products -/

theorem scoreDot_l0 (i : S2048x512.Idx) (t : dot_S2048x128_S128x512_S2048x512_1_0_0_1_n_n.contr.Idx) : (dot_S2048x128_S128x512_S2048x512_1_0_0_1_n_n.lhsIdx i t 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem scoreDot_l1 (i : S2048x512.Idx) (t : dot_S2048x128_S128x512_S2048x512_1_0_0_1_n_n.contr.Idx) : (dot_S2048x128_S128x512_S2048x512_1_0_0_1_n_n.lhsIdx i t 1).val = (t ⟨0, by decide⟩).val :=
  dot_S2048x128_S128x512_S2048x512_1_0_0_1_n_n.lhsIdx_val_of_single rfl i t
theorem scoreDot_r1 (i : S2048x512.Idx) (t : dot_S2048x128_S128x512_S2048x512_1_0_0_1_n_n.contr.Idx) : (dot_S2048x128_S128x512_S2048x512_1_0_0_1_n_n.rhsIdx i t 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl
theorem scoreDot_r0 (i : S2048x512.Idx) (t : dot_S2048x128_S128x512_S2048x512_1_0_0_1_n_n.contr.Idx) : (dot_S2048x128_S128x512_S2048x512_1_0_0_1_n_n.rhsIdx i t 0).val = (t ⟨0, by decide⟩).val :=
  dot_S2048x128_S128x512_S2048x512_1_0_0_1_n_n.rhsIdx_val_of_single rfl i t
abbrev scoreDot_l (i : S2048x512.Idx) (t : Fin 128) : S2048x128.Idx := fun a => match a with
  | ⟨0, _⟩ => ⟨(i 0).val, (i 0).isLt⟩
  | ⟨1, _⟩ => ⟨t.val, t.isLt⟩
abbrev scoreDot_r (i : S2048x512.Idx) (t : Fin 128) : S128x512.Idx := fun a => match a with
  | ⟨0, _⟩ => ⟨t.val, t.isLt⟩
  | ⟨1, _⟩ => ⟨(i 1).val, (i 1).isLt⟩
/-- A product into zeros, at an index. -/
theorem scoreDot (x : FVec Ideal S2048x128 .bf16) (y : FVec Ideal S128x512 .bf16) (i : S2048x512.Idx) :
    matmul (F := Ideal) dot_S2048x128_S128x512_S2048x512_1_0_0_1_n_n none x y (constant S2048x512 .f32 0x00000000#32) i = ∑ t : Fin 128, x (scoreDot_l i t) * y (scoreDot_r i t) := by
  refine (Ideal.matmul_constant_zero_apply dot_S2048x128_S128x512_S2048x512_1_0_0_1_n_n none x y i).trans ?_
  rw [← Equiv.sum_comp (ValueIdx.contrEquiv1 dot_S2048x128_S128x512_S2048x512_1_0_0_1_n_n 128 rfl rfl).symm]
  refine Finset.sum_congr rfl fun t _ => ?_
  have ht := ValueIdx.contrEquiv1_symm_val dot_S2048x128_S128x512_S2048x512_1_0_0_1_n_n 128 rfl rfl t
  have el : dot_S2048x128_S128x512_S2048x512_1_0_0_1_n_n.lhsIdx i ((ValueIdx.contrEquiv1 dot_S2048x128_S128x512_S2048x512_1_0_0_1_n_n 128 rfl rfl).symm t) = scoreDot_l i t := funext fun a => Fin.ext (by
    match a with
    | ⟨0, _⟩ => exact scoreDot_l0 _ _
    | ⟨1, _⟩ => exact (scoreDot_l1 _ _).trans ht)
  have er : dot_S2048x128_S128x512_S2048x512_1_0_0_1_n_n.rhsIdx i ((ValueIdx.contrEquiv1 dot_S2048x128_S128x512_S2048x512_1_0_0_1_n_n 128 rfl rfl).symm t) = scoreDot_r i t := funext fun a => Fin.ext (by
    match a with
    | ⟨0, _⟩ => exact (scoreDot_r0 _ _).trans ht
    | ⟨1, _⟩ => exact scoreDot_r1 _ _)
  rw [el, er]

theorem keyDot_l0 (i : S2048x128.Idx) (t : dot_S2048x512_S128x512_S2048x128_1_1_0_0_n_n.contr.Idx) : (dot_S2048x512_S128x512_S2048x128_1_1_0_0_n_n.lhsIdx i t 0).val = (i 0).val := by
  unfold DotDims.lhsIdx
  rw [dif_neg (show ¬(0 : Fin S2048x512.rank) ∈ dot_S2048x512_S128x512_S2048x128_1_1_0_0_n_n.lhsBatch by decide), dif_pos (show (0 : Fin S2048x512.rank) ∈ dot_S2048x512_S128x512_S2048x128_1_1_0_0_n_n.lhsNonContracting by decide)]
  rfl
theorem keyDot_l1 (i : S2048x128.Idx) (t : dot_S2048x512_S128x512_S2048x128_1_1_0_0_n_n.contr.Idx) : (dot_S2048x512_S128x512_S2048x128_1_1_0_0_n_n.lhsIdx i t 1).val = (t ⟨0, by decide⟩).val :=
  dot_S2048x512_S128x512_S2048x128_1_1_0_0_n_n.lhsIdx_val_of_single rfl i t
theorem keyDot_r0 (i : S2048x128.Idx) (t : dot_S2048x512_S128x512_S2048x128_1_1_0_0_n_n.contr.Idx) : (dot_S2048x512_S128x512_S2048x128_1_1_0_0_n_n.rhsIdx i t 0).val = (i 1).val := by
  unfold DotDims.rhsIdx
  rw [dif_neg (show ¬(0 : Fin S128x512.rank) ∈ dot_S2048x512_S128x512_S2048x128_1_1_0_0_n_n.rhsBatch by decide), dif_pos (show (0 : Fin S128x512.rank) ∈ dot_S2048x512_S128x512_S2048x128_1_1_0_0_n_n.rhsNonContracting by decide)]
  rfl
theorem keyDot_r1 (i : S2048x128.Idx) (t : dot_S2048x512_S128x512_S2048x128_1_1_0_0_n_n.contr.Idx) : (dot_S2048x512_S128x512_S2048x128_1_1_0_0_n_n.rhsIdx i t 1).val = (t ⟨0, by decide⟩).val :=
  dot_S2048x512_S128x512_S2048x128_1_1_0_0_n_n.rhsIdx_val_of_single rfl i t
abbrev keyDot_l (i : S2048x128.Idx) (t : Fin 512) : S2048x512.Idx := fun a => match a with
  | ⟨0, _⟩ => ⟨(i 0).val, (i 0).isLt⟩
  | ⟨1, _⟩ => ⟨t.val, t.isLt⟩
abbrev keyDot_r (i : S2048x128.Idx) (t : Fin 512) : S128x512.Idx := fun a => match a with
  | ⟨1, _⟩ => ⟨t.val, t.isLt⟩
  | ⟨0, _⟩ => ⟨(i 1).val, (i 1).isLt⟩
/-- A product into zeros, at an index. -/
theorem keyDot (x : FVec Ideal S2048x512 .bf16) (y : FVec Ideal S128x512 .bf16) (i : S2048x128.Idx) :
    matmul (F := Ideal) dot_S2048x512_S128x512_S2048x128_1_1_0_0_n_n none x y (constant S2048x128 .f32 0x00000000#32) i = ∑ t : Fin 512, x (keyDot_l i t) * y (keyDot_r i t) := by
  refine (Ideal.matmul_constant_zero_apply dot_S2048x512_S128x512_S2048x128_1_1_0_0_n_n none x y i).trans ?_
  rw [← Equiv.sum_comp (ValueIdx.contrEquiv1 dot_S2048x512_S128x512_S2048x128_1_1_0_0_n_n 512 rfl rfl).symm]
  refine Finset.sum_congr rfl fun t _ => ?_
  have ht := ValueIdx.contrEquiv1_symm_val dot_S2048x512_S128x512_S2048x128_1_1_0_0_n_n 512 rfl rfl t
  have el : dot_S2048x512_S128x512_S2048x128_1_1_0_0_n_n.lhsIdx i ((ValueIdx.contrEquiv1 dot_S2048x512_S128x512_S2048x128_1_1_0_0_n_n 512 rfl rfl).symm t) = keyDot_l i t := funext fun a => Fin.ext (by
    match a with
    | ⟨0, _⟩ => exact keyDot_l0 _ _
    | ⟨1, _⟩ => exact (keyDot_l1 _ _).trans ht)
  have er : dot_S2048x512_S128x512_S2048x128_1_1_0_0_n_n.rhsIdx i ((ValueIdx.contrEquiv1 dot_S2048x512_S128x512_S2048x128_1_1_0_0_n_n 512 rfl rfl).symm t) = keyDot_r i t := funext fun a => Fin.ext (by
    match a with
    | ⟨1, _⟩ => exact (keyDot_r1 _ _).trans ht
    | ⟨0, _⟩ => exact keyDot_r0 _ _)
  rw [el, er]

theorem queryDot_l0 (i : S64x512.Idx) (t : dot_S64x2048_S2048x512_S64x512_1_0_0_1_n_n.contr.Idx) : (dot_S64x2048_S2048x512_S64x512_1_0_0_1_n_n.lhsIdx i t 0).val = (i 0).val := by
  unfold DotDims.lhsIdx
  rw [dif_neg (show ¬(0 : Fin S64x2048.rank) ∈ dot_S64x2048_S2048x512_S64x512_1_0_0_1_n_n.lhsBatch by decide), dif_pos (show (0 : Fin S64x2048.rank) ∈ dot_S64x2048_S2048x512_S64x512_1_0_0_1_n_n.lhsNonContracting by decide)]
  rfl
theorem queryDot_l1 (i : S64x512.Idx) (t : dot_S64x2048_S2048x512_S64x512_1_0_0_1_n_n.contr.Idx) : (dot_S64x2048_S2048x512_S64x512_1_0_0_1_n_n.lhsIdx i t 1).val = (t ⟨0, by decide⟩).val :=
  dot_S64x2048_S2048x512_S64x512_1_0_0_1_n_n.lhsIdx_val_of_single rfl i t
theorem queryDot_r1 (i : S64x512.Idx) (t : dot_S64x2048_S2048x512_S64x512_1_0_0_1_n_n.contr.Idx) : (dot_S64x2048_S2048x512_S64x512_1_0_0_1_n_n.rhsIdx i t 1).val = (i 1).val := by
  unfold DotDims.rhsIdx
  rw [dif_neg (show ¬(1 : Fin S2048x512.rank) ∈ dot_S64x2048_S2048x512_S64x512_1_0_0_1_n_n.rhsBatch by decide), dif_pos (show (1 : Fin S2048x512.rank) ∈ dot_S64x2048_S2048x512_S64x512_1_0_0_1_n_n.rhsNonContracting by decide)]
  rfl
theorem queryDot_r0 (i : S64x512.Idx) (t : dot_S64x2048_S2048x512_S64x512_1_0_0_1_n_n.contr.Idx) : (dot_S64x2048_S2048x512_S64x512_1_0_0_1_n_n.rhsIdx i t 0).val = (t ⟨0, by decide⟩).val :=
  dot_S64x2048_S2048x512_S64x512_1_0_0_1_n_n.rhsIdx_val_of_single rfl i t
abbrev queryDot_l (i : S64x512.Idx) (t : Fin 2048) : S64x2048.Idx := fun a => match a with
  | ⟨0, _⟩ => ⟨(i 0).val, (i 0).isLt⟩
  | ⟨1, _⟩ => ⟨t.val, t.isLt⟩
abbrev queryDot_r (i : S64x512.Idx) (t : Fin 2048) : S2048x512.Idx := fun a => match a with
  | ⟨0, _⟩ => ⟨t.val, t.isLt⟩
  | ⟨1, _⟩ => ⟨(i 1).val, (i 1).isLt⟩
/-- A product into zeros, at an index. -/
theorem queryDot (x : FVec Ideal S64x2048 .bf16) (y : FVec Ideal S2048x512 .bf16) (i : S64x512.Idx) :
    matmul (F := Ideal) dot_S64x2048_S2048x512_S64x512_1_0_0_1_n_n none x y (constant S64x512 .f32 0x00000000#32) i = ∑ t : Fin 2048, x (queryDot_l i t) * y (queryDot_r i t) := by
  refine (Ideal.matmul_constant_zero_apply dot_S64x2048_S2048x512_S64x512_1_0_0_1_n_n none x y i).trans ?_
  rw [← Equiv.sum_comp (ValueIdx.contrEquiv1 dot_S64x2048_S2048x512_S64x512_1_0_0_1_n_n 2048 rfl rfl).symm]
  refine Finset.sum_congr rfl fun t _ => ?_
  have ht := ValueIdx.contrEquiv1_symm_val dot_S64x2048_S2048x512_S64x512_1_0_0_1_n_n 2048 rfl rfl t
  have el : dot_S64x2048_S2048x512_S64x512_1_0_0_1_n_n.lhsIdx i ((ValueIdx.contrEquiv1 dot_S64x2048_S2048x512_S64x512_1_0_0_1_n_n 2048 rfl rfl).symm t) = queryDot_l i t := funext fun a => Fin.ext (by
    match a with
    | ⟨0, _⟩ => exact queryDot_l0 _ _
    | ⟨1, _⟩ => exact (queryDot_l1 _ _).trans ht)
  have er : dot_S64x2048_S2048x512_S64x512_1_0_0_1_n_n.rhsIdx i ((ValueIdx.contrEquiv1 dot_S64x2048_S2048x512_S64x512_1_0_0_1_n_n 2048 rfl rfl).symm t) = queryDot_r i t := funext fun a => Fin.ext (by
    match a with
    | ⟨0, _⟩ => exact (queryDot_r0 _ _).trans ht
    | ⟨1, _⟩ => exact queryDot_r1 _ _)
  rw [el, er]

/-! ## Real blocks -/

section

variable (Q D : ℕ → ℕ → ℕ → ℝ) (L E : ℕ → ℕ → ℝ) (K W : ℕ → ℕ → ℝ) (T : ℕ → ℕ → ℕ → ℝ)

/-- A score: a key's row against a query's column. -/
def tileS (n r x : ℕ) : ℝ := ∑ c : Fin 128, K r c.val * Q n c.val x
/-- A probability: two to the score less the column's statistic. -/
def tileP (n r x : ℕ) : ℝ := Real.rpow 2 (tileS Q K n r x - L n x)
/-- A score's cotangent. -/
def tileG (n r x : ℕ) : ℝ := tileP Q L K n r x * (tileS D W n r x - E n x)

variable {x2 x3 : Vec Ideal S32x128x512 .bf16} {x4 x5 : Vec Ideal S1x32x1x512 .f32} {v4 v6 : FVec Ideal S2048x128 .bf16}
variable (hQ : ∀ i, x2 i = ((Q (i 0).val (i 1).val (i 2).val : ℝ) : EReal)) (hD : ∀ i, x3 i = ((D (i 0).val (i 1).val (i 2).val : ℝ) : EReal))
variable (hL : ∀ i, x4 i = ((L (i 1).val (i 3).val : ℝ) : EReal)) (hE : ∀ i, x5 i = ((E (i 1).val (i 3).val : ℝ) : EReal))
variable (hK : ∀ i, v4 i = ((K (i 0).val (i 1).val : ℝ) : EReal)) (hW : ∀ i, v6 i = ((W (i 0).val (i 1).val : ℝ) : EReal))

abbrev unrow (i : S128x512.Idx) : S1x128x512.Idx := fun a => match a with
  | ⟨0, _⟩ => ⟨0, Nat.one_pos⟩
  | ⟨1, _⟩ => ⟨(i 0).val, (i 0).isLt⟩
  | ⟨2, _⟩ => ⟨(i 1).val, (i 1).isLt⟩

theorem row_cast (y : Vec Ideal S1x128x512 .bf16) (i : S128x512.Idx) :
    (shapeCast S128x512 y shapeCasts_S1x128x512_S128x512 : FVec Ideal S128x512 .bf16) i = y (unrow i) :=
  shapeCast_apply y shapeCasts_S1x128x512_S128x512 i (unrow i) (by
    rewrite [Shape.rowMajor_val_two, Shape.rowMajor_val_three]
    show (0 * 128 + (i 0).val) * 512 + (i 1).val = (i 0).val * 512 + (i 1).val
    omega)

include hQ in
theorem rowQ_real {n : ℕ} (hn : n < 32) (i : S128x512.Idx) :
    (shapeCast S128x512 (rowQ x2 n) shapeCasts_S1x128x512_S128x512 : FVec Ideal S128x512 .bf16) i = ((Q n (i 0).val (i 1).val : ℝ) : EReal) := by
  rw [row_cast]
  unfold rowQ
  refine (hQ _).trans ?_
  show ((Q (n % 32 + 1 * 0) (0 + 1 * (i 0).val) (0 + 1 * (i 1).val) : ℝ) : EReal) = _
  rw [Nat.mod_eq_of_lt hn]; simp only [Nat.mul_zero, Nat.add_zero, Nat.zero_add, Nat.one_mul]

abbrev unstat (i : S1x512.Idx) : S1x1x1x512.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 1).val, (i 1).isLt⟩

abbrev statIdx (i : S2048x512.Idx) : S1x512.Idx := fun a => match a with
  | ⟨0, _⟩ => ⟨0, Nat.one_pos⟩
  | ⟨1, _⟩ => ⟨(i 1).val, (i 1).isLt⟩

include hL in
/-- A row's statistic, spread over the keys. -/
theorem rowL_real {n : ℕ} (hn : n < 32) (i : S2048x512.Idx) :
    (broadcastTo S2048x512 (shapeCast S1x512 (rowL x4 n) shapeCasts_S1x1x1x512_S1x512 : FVec Ideal S1x512 .f32) broadcasts_S1x512_S2048x512 : FVec Ideal S2048x512 .f32) i
      = ((L n (i 1).val : ℝ) : EReal) := by
  rw [broadcastTo_apply _ broadcasts_S1x512_S2048x512 i (statIdx i) (fun a => match a with | ⟨0, _⟩ => rfl | ⟨1, _⟩ => rfl),
    shapeCast_apply (rowL x4 n) shapeCasts_S1x1x1x512_S1x512 (statIdx i) (unstat (statIdx i)) (by
      rewrite [Shape.rowMajor_val_two, Shape.rowMajor_val_four]
      show ((0 * 1 + 0) * 1 + 0) * 512 + (i 1).val = 0 * 512 + (i 1).val
      omega)]
  unfold rowL
  refine (hL _).trans ?_
  show ((L (n % 32 + 1 * 0) (0 + 1 * (i 1).val) : ℝ) : EReal) = _
  rw [Nat.mod_eq_of_lt hn]; simp only [Nat.mul_zero, Nat.add_zero, Nat.zero_add, Nat.one_mul]

include hQ hK in
theorem SS_real {n : ℕ} (hn : n < 32) (i : S2048x512.Idx) : SS v4 x2 n i = ((tileS Q K n (i 0).val (i 1).val : ℝ) : EReal) := by
  unfold SS k0_pay9
  dsimp only
  rw [shapeCast_self, scoreDot]
  simp only [hK, rowQ_real Q hQ hn, sum_mul_coe]
  rfl

include hQ hL hK in
theorem pay6_real {n : ℕ} (hn : n < 32) (i : S2048x512.Idx) :
    k0_pay6 (SS v4 x2 n) (rowL x4 n) i = ((tileP Q L K n (i 0).val (i 1).val : ℝ) : EReal) := by
  unfold k0_pay6
  dsimp only
  show Ideal.exp2 (SS v4 x2 n i - _) = _
  rw [rowL_real L hL hn, SS_real Q K hQ hK hn, ← EReal.coe_sub, Ideal.exp2_coe]
  rfl

include hQ hL hK in
theorem PP_real {n : ℕ} (hn : n < 32) (i : S2048x512.Idx) : PP v4 x2 x4 n i = ((tileP Q L K n (i 0).val (i 1).val : ℝ) : EReal) := by
  unfold PP k0_pay7
  dsimp only
  rw [shapeCast_self]
  exact pay6_real Q L K hQ hL hK hn i

include hQ hD hL hE hK hW in
theorem GG_real {n : ℕ} (hn : n < 32) (i : S2048x512.Idx) :
    GG v4 v6 x2 x3 x4 x5 n i = ((tileG Q D L E K W n (i 0).val (i 1).val : ℝ) : EReal) := by
  unfold GG k0_pay8
  dsimp only
  rw [shapeCast_self]
  show k0_pay6 (SS v4 x2 n) (rowL x4 n) i * (SS v6 x3 n i - _) = _
  rw [pay6_real Q L K hQ hL hK hn, rowL_real E hE hn, SS_real D W hD hW hn, ← EReal.coe_sub, ← EReal.coe_mul]
  rfl

include hQ hD hL hK in
/-- The values' gradient: over the tiles and their columns, probability times cotangent. -/
theorem dvA_real : ∀ (N : ℕ) (_ : N ≤ 32) (i : S2048x128.Idx), dvA v4 x2 x3 x4 N i
    = ((∑ n ∈ Finset.range N, ∑ x : Fin 512, tileP Q L K n (i 0).val x.val * D n (i 1).val x.val : ℝ) : EReal)
  | 0, _, i => by
    show (k0_pay25 (F := Ideal)) i = _
    unfold k0_pay25
    dsimp only
    rw [shapeCast_self]
    exact bits_zero
  | N + 1, hN, i => by
    have hn : N < 32 := hN
    show k0_pay3 (dvA v4 x2 x3 x4 N) (PP v4 x2 x4 N) (rowQ x3 N) i = _
    unfold k0_pay3
    dsimp only
    rw [shapeCast_self]
    show dvA v4 x2 x3 x4 N i + matmul dot_S2048x512_S128x512_S2048x128_1_1_0_0_n_n none _ _ _ i = _
    rw [dvA_real N (Nat.le_of_succ_le hN) i, keyDot]
    simp only [PP_real Q L K hQ hL hK hn, rowQ_real D hD hn, sum_mul_coe]
    rw [← EReal.coe_add, Finset.sum_range_succ]

include hQ hD hL hE hK hW in
/-- The keys' gradient: over the tiles and their columns, the score's cotangent times the query. -/
theorem dkA_real : ∀ (N : ℕ) (_ : N ≤ 32) (i : S2048x128.Idx), dkA v4 v6 x2 x3 x4 x5 N i
    = ((∑ n ∈ Finset.range N, ∑ x : Fin 512, tileG Q D L E K W n (i 0).val x.val * Q n (i 1).val x.val : ℝ) : EReal)
  | 0, _, i => by
    show (k0_pay24 (F := Ideal)) i = _
    unfold k0_pay24
    dsimp only
    rw [shapeCast_self]
    exact bits_zero
  | N + 1, hN, i => by
    have hn : N < 32 := hN
    show k0_pay4 (GG v4 v6 x2 x3 x4 x5 N) (dkA v4 v6 x2 x3 x4 x5 N) (rowQ x2 N) i = _
    unfold k0_pay4
    dsimp only
    rw [shapeCast_self]
    show dkA v4 v6 x2 x3 x4 x5 N i + matmul dot_S2048x512_S128x512_S2048x128_1_1_0_0_n_n none _ _ _ i = _
    rw [dkA_real N (Nat.le_of_succ_le hN) i, keyDot]
    simp only [GG_real Q D L E K W hQ hD hL hE hK hW hn, rowQ_real Q hQ hn, sum_mul_coe]
    rw [← EReal.coe_add, Finset.sum_range_succ]

abbrev unD (i : S64x512.Idx) : S1x64x512.Idx := fun a => match a with
  | ⟨0, _⟩ => ⟨0, Nat.one_pos⟩
  | ⟨1, _⟩ => ⟨(i 0).val, (i 0).isLt⟩
  | ⟨2, _⟩ => ⟨(i 1).val, (i 1).isLt⟩

abbrev reD (i : S1x64x512.Idx) : S64x512.Idx := fun a => match a with
  | ⟨0, _⟩ => ⟨(i 1).val, (i 1).isLt⟩
  | ⟨1, _⟩ => ⟨(i 2).val, (i 2).isLt⟩

/-- What one tile leaves in its row of the query gradient. -/
theorem pay5_real {v15 : FVec Ideal S64x2048 .bf16} {g : FVec Ideal S2048x512 .bf16} {y : Vec Ideal S1x64x512 .f32} (U : ℕ → ℕ → ℝ) (G : ℕ → ℕ → ℝ) (Y : ℕ → ℕ → ℝ)
    (hU : ∀ i, v15 i = ((U (i 0).val (i 1).val : ℝ) : EReal)) (hG : ∀ i, g i = ((G (i 0).val (i 1).val : ℝ) : EReal))
    (hY : ∀ i, y i = ((Y (i 1).val (i 2).val : ℝ) : EReal)) (i : S1x64x512.Idx) :
    k0_pay5 v15 g y i = ((Y (i 1).val (i 2).val + ∑ r : Fin 2048, U (i 1).val r.val * G r.val (i 2).val : ℝ) : EReal) := by
  unfold k0_pay5
  dsimp only
  have b0 : (i 0).val < 1 := (i 0).isLt
  rw [shapeCast_apply _ shapeCasts_S64x512_S1x64x512 i (reD i) (by
      rewrite [Shape.rowMajor_val_two, Shape.rowMajor_val_three]
      show (i 1).val * 512 + (i 2).val = ((i 0).val * 64 + (i 1).val) * 512 + (i 2).val
      omega)]
  show shapeCast S64x512 y shapeCasts_S1x64x512_S64x512 (reD i) + matmul (F := Ideal) dot_S64x2048_S2048x512_S64x512_1_0_0_1_n_n none v15 g (constant S64x512 .f32 0x00000000#32) (reD i) = _
  rw [shapeCast_apply y shapeCasts_S1x64x512_S64x512 (reD i) (unD (reD i)) (by
      rewrite [Shape.rowMajor_val_two, Shape.rowMajor_val_three]
      show (0 * 64 + (i 1).val) * 512 + (i 2).val = (i 1).val * 512 + (i 2).val
      omega), queryDot]
  simp only [hU, hG, hY, sum_mul_coe]
  exact (EReal.coe_add _ _).symm

include hQ hD hL hE hK hW in
/-- The query gradient's block: each tile already taken has added the keys times the scores' cotangent to its row. -/
theorem dqA_real {v15 : FVec Ideal S64x2048 .bf16} (U : ℕ → ℕ → ℝ) (hU : ∀ i, v15 i = ((U (i 0).val (i 1).val : ℝ) : EReal))
    {x9 : Vec Ideal S32x64x512 .f32} (Y : ℕ → ℕ → ℕ → ℝ) (hY : ∀ i, x9 i = ((Y (i 0).val (i 1).val (i 2).val : ℝ) : EReal)) :
    ∀ (N : ℕ) (_ : N ≤ 32) (i : S32x64x512.Idx), dqA v15 v4 v6 x2 x3 x4 x5 x9 N i
      = ((if (i 0).val < N then Y (i 0).val (i 1).val (i 2).val + ∑ r : Fin 2048, U (i 1).val r.val * tileG Q D L E K W (i 0).val r.val (i 2).val
          else Y (i 0).val (i 1).val (i 2).val : ℝ) : EReal)
  | 0, _, i => by rw [if_neg (Nat.not_lt_zero _)]; exact hY i
  | N + 1, hN, i => by
    have hn : N < 32 := hN
    show setD (dqA v15 v4 v6 x2 x3 x4 x5 x9 N) N (k0_pay5 v15 (GG v4 v6 x2 x3 x4 x5 N) (rowD (dqA v15 v4 v6 x2 x3 x4 x5 x9 N) N)) i = _
    unfold setD
    by_cases h : (i 0).val = N
    · rw [dif_pos h, if_pos (by omega)]
      refine (pay5_real U (tileG Q D L E K W N) (Y N) hU (GG_real Q D L E K W hQ hD hL hE hK hW hn) (fun j => ?_) _).trans ?_
      · unfold rowD
        refine (dqA_real U hU Y hY N (Nat.le_of_succ_le hN) _).trans ?_
        have e0 : (((rectD N).idx j) 0).val = N := by
          show N % 32 + 1 * (j 0).val = N
          have : (j 0).val < 1 := (j 0).isLt
          rw [Nat.mod_eq_of_lt hn]; omega
        have e1 : (((rectD N).idx j) 1).val = (j 1).val := by show 0 + 1 * (j 1).val = _; omega
        have e2 : (((rectD N).idx j) 2).val = (j 2).val := by show 0 + 1 * (j 2).val = _; omega
        rw [e0, e1, e2, if_neg (Nat.lt_irrefl _)]
      · rw [h]
    · rw [dif_neg h, dqA_real U hU Y hY N (Nat.le_of_succ_le hN) i]
      by_cases h' : (i 0).val < N
      · rw [if_pos h', if_pos (by omega)]
      · rw [if_neg h', if_neg (by omega)]

/-- The keys' block as columns: four tiles side by side. -/
theorem ktj_real {x8 : Vec Ideal S4x64x512 .bf16} (hT : ∀ i, x8 i = ((T (i 0).val (i 1).val (i 2).val : ℝ) : EReal)) (i : S64x2048.Idx) :
    ktj x8 i = ((T ((i 1).val / 512) (i 0).val ((i 1).val % 512) : ℝ) : EReal) := by
  have b1 : (i 1).val < 2048 := (i 1).isLt
  let f : Fin 4 → (S64x512.Idx → Ideal .bf16) := fun u => match u with
    | ⟨0, _⟩ => shapeCast S64x512 (View.ld x8 (Rect.unit (s := S4x64x512) ![0, 0, 0] S1x64x512.size inb_S4x64x512_S1x64x512_0_0_0)) shapeCasts_S1x64x512_S64x512
    | ⟨1, _⟩ => shapeCast S64x512 (View.ld x8 (Rect.unit (s := S4x64x512) ![1, 0, 0] S1x64x512.size inb_S4x64x512_S1x64x512_1_0_0)) shapeCasts_S1x64x512_S64x512
    | ⟨2, _⟩ => shapeCast S64x512 (View.ld x8 (Rect.unit (s := S4x64x512) ![2, 0, 0] S1x64x512.size inb_S4x64x512_S1x64x512_2_0_0)) shapeCasts_S1x64x512_S64x512
    | ⟨3, _⟩ => shapeCast S64x512 (View.ld x8 (Rect.unit (s := S4x64x512) ![3, 0, 0] S1x64x512.size inb_S4x64x512_S1x64x512_3_0_0)) shapeCasts_S1x64x512_S64x512
  let j : S64x512.Idx := fun a => match a with
    | ⟨0, _⟩ => ⟨(i 0).val, (i 0).isLt⟩
    | ⟨1, _⟩ => ⟨(i 1).val % 512, Nat.mod_lt _ (by decide)⟩
  have hf : ∀ u : Fin 4, f u j = ((T u.val (i 0).val ((i 1).val % 512) : ℝ) : EReal) := fun u => by
    have key : ∀ (y : Vec Ideal S1x64x512 .bf16), (shapeCast S64x512 y shapeCasts_S1x64x512_S64x512 : FVec Ideal S64x512 .bf16) j = y (unD j) := fun y =>
      shapeCast_apply y shapeCasts_S1x64x512_S64x512 j (unD j) (by
        rewrite [Shape.rowMajor_val_two, Shape.rowMajor_val_three]
        show (0 * 64 + (j 0).val) * 512 + (j 1).val = (j 0).val * 512 + (j 1).val
        omega)
    have tri : ∀ {a b c a' b' c' : ℕ}, a = a' → b = b' → c = c' → ((T a b c : ℝ) : EReal) = ((T a' b' c' : ℝ) : EReal) := fun h h' h'' => by rw [h, h', h'']
    match u with
    | ⟨0, _⟩ => exact (key _).trans ((hT _).trans (tri (by rfl) (by show 0 + 1 * (i 0).val = _; omega) (by show 0 + 1 * ((i 1).val % 512) = _; omega)))
    | ⟨1, _⟩ => exact (key _).trans ((hT _).trans (tri (by rfl) (by show 0 + 1 * (i 0).val = _; omega) (by show 0 + 1 * ((i 1).val % 512) = _; omega)))
    | ⟨2, _⟩ => exact (key _).trans ((hT _).trans (tri (by rfl) (by show 0 + 1 * (i 0).val = _; omega) (by show 0 + 1 * ((i 1).val % 512) = _; omega)))
    | ⟨3, _⟩ => exact (key _).trans ((hT _).trans (tri (by rfl) (by show 0 + 1 * (i 0).val = _; omega) (by show 0 + 1 * ((i 1).val % 512) = _; omega)))
  have h := concatenate_ofFn_apply (s₁ := S64x512) (t := S64x2048) 1 f concatenates_S64x512_S64x512_S64x512_S64x512_S64x2048_d1 rfl 512 rfl i
    ⟨(i 1).val / 512, by omega⟩ rfl j rfl (fun b hb => match b with
      | ⟨0, _⟩ => rfl
      | ⟨1, _⟩ => absurd rfl hb)
  refine Eq.trans ?_ (h.trans (hf _))
  rfl

include hQ hD hL hE in
/-- A point's block of the query gradient. -/
theorem outQ_real {x6 x7 : Vec Ideal S2048x128 .bf16} (h6 : ∀ i, x6 i = ((K (i 0).val (i 1).val : ℝ) : EReal)) (h7 : ∀ i, x7 i = ((W (i 0).val (i 1).val : ℝ) : EReal))
    {x8 : Vec Ideal S4x64x512 .bf16} (hT : ∀ i, x8 i = ((T (i 0).val (i 1).val (i 2).val : ℝ) : EReal))
    {x9 : Vec Ideal S32x64x512 .f32} (Y : ℕ → ℕ → ℕ → ℝ) (hY : ∀ i, x9 i = ((Y (i 0).val (i 1).val (i 2).val : ℝ) : EReal)) (i : S32x64x512.Idx) :
    outQ x2 x3 x4 x5 x6 x7 x8 x9 i = ((Y (i 0).val (i 1).val (i 2).val
      + ∑ r : Fin 2048, T (r.val / 512) (i 1).val (r.val % 512) * tileG Q D L E K W (i 0).val r.val (i 2).val : ℝ) : EReal) := by
  have b0 : (i 0).val < 32 := (i 0).isLt
  unfold outQ k0_pay21 k0_pay22
  dsimp only
  rw [shapeCast_self, shapeCast_self]
  rw [dqA_real Q D L E K W hQ hD hL hE h6 h7 (fun c r => T (r / 512) c (r % 512)) (ktj_real T hT) Y hY 32 (Nat.le_refl _) i, if_pos b0]

abbrev unlead (i : S1x2048x128.Idx) : S2048x128.Idx := fun a => match a with
  | ⟨0, _⟩ => ⟨(i 1).val, (i 1).isLt⟩
  | ⟨1, _⟩ => ⟨(i 2).val, (i 2).isLt⟩

theorem lead_cast (y : FVec Ideal S2048x128 .bf16) (i : S1x2048x128.Idx) :
    (shapeCast S1x2048x128 y shapeCasts_S2048x128_S1x2048x128 : FVec Ideal S1x2048x128 .bf16) i = y (unlead i) :=
  shapeCast_apply y shapeCasts_S2048x128_S1x2048x128 i (unlead i) (by
    have b0 : (i 0).val < 1 := (i 0).isLt
    rewrite [Shape.rowMajor_val_two, Shape.rowMajor_val_three]
    show (i 1).val * 128 + (i 2).val = ((i 0).val * 2048 + (i 1).val) * 128 + (i 2).val
    omega)

include hQ hD hL hE in
/-- A point's block of the key gradient. -/
theorem outK_real {x6 x7 : Vec Ideal S2048x128 .bf16} (h6 : ∀ i, x6 i = ((K (i 0).val (i 1).val : ℝ) : EReal)) (h7 : ∀ i, x7 i = ((W (i 0).val (i 1).val : ℝ) : EReal))
    (i : S1x2048x128.Idx) : outK x2 x3 x4 x5 x6 x7 i
      = ((∑ n ∈ Finset.range 32, ∑ x : Fin 512, tileG Q D L E K W n (i 1).val x.val * Q n (i 2).val x.val : ℝ) : EReal) := by
  unfold outK k0_pay21 k0_pay22
  dsimp only
  rw [shapeCast_self, shapeCast_self]
  unfold k0_pay1
  rw [lead_cast]
  exact dkA_real Q D L E K W hQ hD hL hE h6 h7 32 (Nat.le_refl _) (unlead i)

include hQ hD hL in
/-- A point's block of the value gradient. -/
theorem outV_real {x6 : Vec Ideal S2048x128 .bf16} (h6 : ∀ i, x6 i = ((K (i 0).val (i 1).val : ℝ) : EReal)) (i : S1x2048x128.Idx) :
    outV x2 x3 x4 x6 i = ((∑ n ∈ Finset.range 32, ∑ x : Fin 512, tileP Q L K n (i 1).val x.val * D n (i 2).val x.val : ℝ) : EReal) := by
  unfold outV k0_pay21
  dsimp only
  rw [shapeCast_self]
  unfold k0_pay2
  rw [lead_cast]
  exact dvA_real Q D L K hQ hD hL h6 32 (Nat.le_refl _) (unlead i)

end

end Cert.KernelIdeal.Hand

end
-- ==== Proof.Ideal.Arr.lean ====
/- The call's result arrays at real arguments: the blocks the points leave, read at the arrays' indices. -/
module

public import proofs.«01_k».proof.Proof.Ideal.Run
public import proofs.«01_k».proof.Proof.Ideal.Point
public import Idealize.ShloMosaic.Lib.Pipeline.ValueKit.Geometry

@[expose] public section

set_option maxRecDepth 16384

noncomputable section

namespace Cert.KernelIdeal.Hand

open Cert.KernelIdeal Cert.KernelIdeal.Gen Idealize.ShloMosaic Idealize.ShloMosaic.TcCoe Idealize.ShloMosaic.Pipeline Cert.Attn

theorem index_0 : ∀ t : Fin cfg0.N, win0_0.index t = ![0, t.val / 8, 0] := (by decide +kernel : ∀ t : Fin grid0.N, _)
theorem index_1 : ∀ t : Fin cfg0.N, win0_1.index t = ![0, t.val / 8, 0] := (by decide +kernel : ∀ t : Fin grid0.N, _)
theorem index_2 : ∀ t : Fin cfg0.N, win0_2.index t = ![t.val / 8, 0, 0, 0] := (by decide +kernel : ∀ t : Fin grid0.N, _)
theorem index_3 : ∀ t : Fin cfg0.N, win0_3.index t = ![t.val / 8, 0, 0, 0] := (by decide +kernel : ∀ t : Fin grid0.N, _)
theorem index_4 : ∀ t : Fin cfg0.N, win0_4.index t = ![t.val % 8, 0] := (by decide +kernel : ∀ t : Fin grid0.N, _)
theorem index_5 : ∀ t : Fin cfg0.N, win0_5.index t = ![t.val % 8, 0] := (by decide +kernel : ∀ t : Fin grid0.N, _)
theorem index_6 : ∀ t : Fin cfg0.N, win0_6.index t = ![t.val % 8, t.val / 8 / 4, 0] := (by decide +kernel : ∀ t : Fin grid0.N, _)
theorem index_7 : ∀ t : Fin cfg0.N, win0_7.index t = ![0, t.val / 8, 0] := (by decide +kernel : ∀ t : Fin grid0.N, _)
theorem index_8 : ∀ t : Fin cfg0.N, win0_8.index t = ![t.val / 8, t.val % 8, 0] := (by decide +kernel : ∀ t : Fin grid0.N, _)
theorem index_9 : ∀ t : Fin cfg0.N, win0_9.index t = ![t.val / 8, t.val % 8, 0] := (by decide +kernel : ∀ t : Fin grid0.N, _)

variable (m : (ℓ : Loc nD τ sig) → Buf (Elt Ideal) ℓ) (c : Dev nD)

variable (QT OT : ℕ → ℕ → ℕ → ℝ) (LS DL : ℕ → ℕ → ℕ → ℝ) (KR VR : ℕ → ℕ → ℝ) (KT : ℕ → ℕ → ℕ → ℝ)

/-- A head's tiles in an array that stacks the heads' 128 lanes. -/
def headOf (X : ℕ → ℕ → ℕ → ℝ) (h n l x : ℕ) : ℝ := X n (h * 128 + l) x

/-- The cotangent of the score of query `x` of tile `n` against key `r`, in head `h`. -/
def headG (h n r x : ℕ) : ℝ := tileG (headOf QT h) (headOf OT h) (LS h) (DL h) KR VR n r x

/-- Its probability. -/
def headP (h n r x : ℕ) : ℝ := tileP (headOf QT h) (LS h) KR n r x

variable (hq : ∀ i, (V m c main_v48 : (⟨S32x1024x512, .bf16⟩ : BufTy).Contents (Elt Ideal)) i = ((QT (i 0).val (i 1).val (i 2).val : ℝ) : EReal))
variable (ho : ∀ i, (V m c main_v59 : (⟨S32x1024x512, .bf16⟩ : BufTy).Contents (Elt Ideal)) i = ((OT (i 0).val (i 1).val (i 2).val : ℝ) : EReal))
variable (hl : ∀ i, (V m c main_v30 : (⟨S8x32x1x512, .f32⟩ : BufTy).Contents (Elt Ideal)) i = ((LS (i 0).val (i 1).val (i 3).val : ℝ) : EReal))
variable (hd : ∀ i, (V m c main_v35 : (⟨S8x32x1x512, .f32⟩ : BufTy).Contents (Elt Ideal)) i = ((DL (i 0).val (i 1).val (i 3).val : ℝ) : EReal))
variable (hk : ∀ i, (V m c main_v61 : (⟨S16384x128, .bf16⟩ : BufTy).Contents (Elt Ideal)) i = ((KR (i 0).val (i 1).val : ℝ) : EReal))
variable (hv : ∀ i, (V m c main_v63 : (⟨S16384x128, .bf16⟩ : BufTy).Contents (Elt Ideal)) i = ((VR (i 0).val (i 1).val : ℝ) : EReal))
variable (ht : ∀ i, (V m c main_v65 : (⟨S32x128x512, .bf16⟩ : BufTy).Contents (Elt Ideal)) i = ((KT (i 0).val (i 1).val (i 2).val : ℝ) : EReal))

/-! ## The input blocks -/

include hq in
theorem blk0_real (t : Fin cfg0.N) (i : S32x128x512.Idx) :
    (iblk m c 0 t : Vec Ideal S32x128x512 .bf16) i = ((headOf QT (t.val / 8) (i 0).val (i 1).val (i 2).val : ℝ) : EReal) := by
  blk_simp [iblk]
  refine (hq _).trans ?_
  blk_simp [index_0]
  rfl

include ho in
theorem blk1_real (t : Fin cfg0.N) (i : S32x128x512.Idx) :
    (iblk m c 1 t : Vec Ideal S32x128x512 .bf16) i = ((headOf OT (t.val / 8) (i 0).val (i 1).val (i 2).val : ℝ) : EReal) := by
  blk_simp [iblk]
  refine (ho _).trans ?_
  blk_simp [index_1]
  rfl

include hl in
theorem blk2_real (t : Fin cfg0.N) (i : S1x32x1x512.Idx) :
    (iblk m c 2 t : Vec Ideal S1x32x1x512 .f32) i = ((LS (t.val / 8) (i 1).val (i 3).val : ℝ) : EReal) := by
  have b0 : (i 0).val < 1 := (i 0).isLt
  blk_simp [iblk]
  refine (hl _).trans ?_
  blk_simp [index_2]

include hd in
theorem blk3_real (t : Fin cfg0.N) (i : S1x32x1x512.Idx) :
    (iblk m c 3 t : Vec Ideal S1x32x1x512 .f32) i = ((DL (t.val / 8) (i 1).val (i 3).val : ℝ) : EReal) := by
  have b0 : (i 0).val < 1 := (i 0).isLt
  blk_simp [iblk]
  refine (hd _).trans ?_
  blk_simp [index_3]

include hk in
theorem blk4_real (t : Fin cfg0.N) (i : S2048x128.Idx) :
    (iblk m c 4 t : Vec Ideal S2048x128 .bf16) i = ((KR (t.val % 8 * 2048 + (i 0).val) (i 1).val : ℝ) : EReal) := by
  blk_simp [iblk]
  refine (hk _).trans ?_
  blk_simp [index_4]

include hv in
theorem blk5_real (t : Fin cfg0.N) (i : S2048x128.Idx) :
    (iblk m c 5 t : Vec Ideal S2048x128 .bf16) i = ((VR (t.val % 8 * 2048 + (i 0).val) (i 1).val : ℝ) : EReal) := by
  blk_simp [iblk]
  refine (hv _).trans ?_
  blk_simp [index_5]

include ht in
theorem blk6_real (t : Fin cfg0.N) (i : S4x64x512.Idx) :
    (iblk m c 6 t : Vec Ideal S4x64x512 .bf16) i = ((KT (t.val % 8 * 4 + (i 0).val) (t.val / 8 / 4 * 64 + (i 1).val) (i 2).val : ℝ) : EReal) := by
  blk_simp [iblk]
  refine (ht _).trans ?_
  blk_simp [index_6]

/-! ## The points' blocks -/

include hq ho hl hd hk hv ht in
/-- What a point adds to the head's block of the query gradient. -/
theorem stepQ_real (t : Fin cfg0.N) {y : Vec Ideal S32x64x512 .f32} (Y : ℕ → ℕ → ℕ → ℝ)
    (hY : ∀ i, y i = ((Y (i 0).val (i 1).val (i 2).val : ℝ) : EReal)) (i : S32x64x512.Idx) :
    stepQ m c t y i = ((Y (i 0).val (i 1).val (i 2).val + ∑ r : Fin 2048, KT (t.val % 8 * 4 + r.val / 512) (t.val / 8 / 4 * 64 + (i 1).val) (r.val % 512)
      * headG QT OT LS DL KR VR (t.val / 8) (i 0).val (t.val % 8 * 2048 + r.val) (i 2).val : ℝ) : EReal) :=
  outQ_real (headOf QT (t.val / 8)) (headOf OT (t.val / 8)) (LS (t.val / 8)) (DL (t.val / 8))
    (fun r l => KR (t.val % 8 * 2048 + r) l) (fun r l => VR (t.val % 8 * 2048 + r) l) (fun u l x => KT (t.val % 8 * 4 + u) (t.val / 8 / 4 * 64 + l) x)
    (blk0_real m c QT hq t) (blk1_real m c OT ho t) (blk2_real m c LS hl t) (blk3_real m c DL hd t) (blk4_real m c KR hk t) (blk5_real m c VR hv t)
    (blk6_real m c KT ht t) Y hY i

include hq ho hl hd hk hv ht in
/-- The head's block of the query gradient after a point: the key blocks up to the point's. -/
theorem accQ_real : ∀ (j : ℕ) (hj : j < 8) (h : ℕ) (ht' : h * 8 + j < cfg0.N) (i : S32x64x512.Idx), accQ m c (h * 8 + j) ht' i
    = ((∑ b ∈ Finset.range (j + 1), ∑ r : Fin 2048, KT (b * 4 + r.val / 512) (h / 4 * 64 + (i 1).val) (r.val % 512)
      * headG QT OT LS DL KR VR h (i 0).val (b * 2048 + r.val) (i 2).val : ℝ) : EReal)
  | 0, hj, h, ht', i => by
    have ef := accQ_first m c ⟨h * 8 + 0, ht'⟩ (by show (h * 8 + 0) % 8 = 0; omega)
    have e0 : ∀ i : S32x64x512.Idx, (k0_pay20 (F := Ideal)) i = (((fun _ _ _ => 0 : ℕ → ℕ → ℕ → ℝ) (i 0).val (i 1).val (i 2).val : ℝ) : EReal) := fun i => bits_zero
    refine (congrFun ef i).trans ((stepQ_real m c QT OT LS DL KR VR KT hq ho hl hd hk hv ht ⟨h * 8 + 0, ht'⟩ (fun _ _ _ => 0) e0 i).trans ?_)
    show (((0 : ℝ) + ∑ r : Fin 2048, KT ((h * 8 + 0) % 8 * 4 + r.val / 512) ((h * 8 + 0) / 8 / 4 * 64 + (i 1).val) (r.val % 512)
      * headG QT OT LS DL KR VR ((h * 8 + 0) / 8) (i 0).val ((h * 8 + 0) % 8 * 2048 + r.val) (i 2).val : ℝ) : EReal) = _
    rw [show (h * 8 + 0) % 8 = 0 by omega, show (h * 8 + 0) / 8 = h by omega, zero_add, Finset.sum_range_one]
  | j + 1, hj, h, ht', i => by
    have el := accQ_later m c ⟨h * 8 + (j + 1), ht'⟩ (by show ¬ (h * 8 + (j + 1)) % 8 = 0; omega)
    have ep : ∀ i : S32x64x512.Idx, accQ m c (h * 8 + (j + 1) - 1) (Nat.lt_of_le_of_lt (Nat.sub_le _ _) ht') i = _ :=
      fun i => accQ_real j (by omega) h (by show h * 8 + j < cfg0.N; omega) i
    refine (congrFun el i).trans ((stepQ_real m c QT OT LS DL KR VR KT hq ho hl hd hk hv ht ⟨h * 8 + (j + 1), ht'⟩
      (fun n l x => ∑ b ∈ Finset.range (j + 1), ∑ r : Fin 2048, KT (b * 4 + r.val / 512) (h / 4 * 64 + l) (r.val % 512)
      * headG QT OT LS DL KR VR h n (b * 2048 + r.val) x) ep i).trans ?_)
    show ((_ + ∑ r : Fin 2048, KT ((h * 8 + (j + 1)) % 8 * 4 + r.val / 512) ((h * 8 + (j + 1)) / 8 / 4 * 64 + (i 1).val) (r.val % 512)
      * headG QT OT LS DL KR VR ((h * 8 + (j + 1)) / 8) (i 0).val ((h * 8 + (j + 1)) % 8 * 2048 + r.val) (i 2).val : ℝ) : EReal) = _
    rw [show (h * 8 + (j + 1)) % 8 = j + 1 by omega, show (h * 8 + (j + 1)) / 8 = h by omega, Finset.sum_range_succ _ (j + 1)]

/-! ## The arrays -/

/-- The array of the query gradient. -/
def dqArr : (⟨S32x512x512, .f32⟩ : BufTy).Contents (Elt Ideal) := fun i =>
  ((∑ b ∈ Finset.range 8, ∑ r : Fin 2048, KT (b * 4 + r.val / 512) ((i 1).val / 64 / 4 * 64 + (i 1).val % 64) (r.val % 512)
    * headG QT OT LS DL KR VR ((i 1).val / 64) (i 0).val (b * 2048 + r.val) (i 2).val : ℝ) : EReal)

/-- The array of the key gradients of the heads. -/
def dkArr : (⟨S8x16384x128, .bf16⟩ : BufTy).Contents (Elt Ideal) := fun i =>
  ((∑ n ∈ Finset.range 32, ∑ x : Fin 512, headG QT OT LS DL KR VR (i 0).val n (i 1).val x.val * QT n ((i 0).val * 128 + (i 2).val) x.val : ℝ) : EReal)

/-- The array of the value gradients of the heads. -/
def dvArr : (⟨S8x16384x128, .bf16⟩ : BufTy).Contents (Elt Ideal) := fun i =>
  ((∑ n ∈ Finset.range 32, ∑ x : Fin 512, headP QT LS KR (i 0).val n (i 1).val x.val * OT n ((i 0).val * 128 + (i 2).val) x.val : ℝ) : EReal)

include hq ho hl hd hk hv ht in
theorem dq_arr : (dats m 0 c).arrAt 7 cfg0.N = dqArr QT OT LS DL KR VR KT := by
  refine (dats m 0 c).arrAt_eq_of_covers 7 _ (by decide +kernel) fun t hf y => ?_
  have h7 : t.val % 8 = 7 := (flush0_7 t).1 hf
  have hN : t.val < 64 := t.isLt
  blk_simp
  rw [after7]
  have b1 : (y 1).val < 64 := (y 1).isLt
  have e := accQ_real m c QT OT LS DL KR VR KT hq ho hl hd hk hv ht 7 (by omega) (t.val / 8) (by show t.val / 8 * 8 + 7 < 64; omega) y
  have et : ∀ (a b : ℕ) (ha : a < cfg0.N) (hb : b < cfg0.N), a = b → accQ m c a ha = accQ m c b hb := fun a b ha hb h => by subst h; rfl
  refine (congrFun (et _ _ t.isLt (by show t.val / 8 * 8 + 7 < 64; omega) (by omega)) y).trans (e.trans ?_)
  unfold dqArr
  blk_simp [index_7]
  have f1 : (t.val / 8 * 64 + (y 1).val) / 64 = t.val / 8 := by omega
  have f2 : (t.val / 8 * 64 + (y 1).val) % 64 = (y 1).val := by omega
  rw [f1, f2]

include hq ho hl hd hk hv in
theorem dk_arr : (dats m 0 c).arrAt 8 cfg0.N = dkArr QT OT LS DL KR VR := by
  refine (dats m 0 c).arrAt_eq_of_covers 8 _ (by decide +kernel) fun t hf y => ?_
  have hN : t.val < 64 := t.isLt
  blk_simp
  rw [after8]
  have b0 : (y 0).val < 1 := (y 0).isLt
  have e := outK_real (headOf QT (t.val / 8)) (headOf OT (t.val / 8)) (LS (t.val / 8)) (DL (t.val / 8))
    (fun r l => KR (t.val % 8 * 2048 + r) l) (fun r l => VR (t.val % 8 * 2048 + r) l)
    (blk0_real m c QT hq t) (blk1_real m c OT ho t) (blk2_real m c LS hl t) (blk3_real m c DL hd t) (blk4_real m c KR hk t) (blk5_real m c VR hv t) y
  refine e.trans ?_
  unfold dkArr
  blk_simp [index_8]
  rfl

include hq ho hl hk in
theorem dv_arr : (dats m 0 c).arrAt 9 cfg0.N = dvArr QT OT LS KR := by
  refine (dats m 0 c).arrAt_eq_of_covers 9 _ (by decide +kernel) fun t hf y => ?_
  have hN : t.val < 64 := t.isLt
  blk_simp
  rw [after9]
  have b0 : (y 0).val < 1 := (y 0).isLt
  have e := outV_real (headOf QT (t.val / 8)) (headOf OT (t.val / 8)) (LS (t.val / 8))
    (fun r l => KR (t.val % 8 * 2048 + r) l)
    (blk0_real m c QT hq t) (blk1_real m c OT ho t) (blk2_real m c LS hl t) (blk4_real m c KR hk t) y
  refine e.trans ?_
  unfold dvArr
  blk_simp [index_9]
  rfl

end Cert.KernelIdeal.Hand

end
-- ==== Proof.Ideal.HostPre.lean ====
/- The host operations before the call, each a function of the arguments, and their elements. -/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.KernelIdeal.Pre

open Cert.KernelIdeal Cert.KernelIdeal.Gen Idealize.ShloMosaic Idealize.ShloMosaic.TcCoe Idealize.SL.Sem Idealize.ShloMosaic.StableHlo

variable {F : FTy → Type} [FloatOps F]

/-- The dimensions of the product of scores. -/
abbrev scoreDims : DotDims S16384x2x64 S16384x2x4x64 S2x16384x16384x4 :=
  dot_S16384x2x64_S16384x2x4x64_S2x16384x16384x4_2_3_0_02_1_1

/-- The dimensions of the product of values with probabilities. -/
abbrev mixDims : DotDims S16384x2x64 S2x4x16384x16384 S2x64x4x16384 :=
  dot_S16384x2x64_S2x4x16384x16384_S2x64x4x16384_0_3_2_12_1_0

-- %cst, constant
def val_main_cst : (⟨S_, .f32⟩ : BufTy).Contents (Elt F) :=
  constant S_ .f32 0x40000000#32
theorem val_main_cst_apply (i : S_.Idx) :
    val_main_cst (F := F) i = FloatOps.ofBits .f32 0x40000000#32 := rfl

-- %0, log
def val_main_v0 : (⟨S_, .f32⟩ : BufTy).Contents (Elt F) :=
  Host.log (val_main_cst (F := F))
theorem val_main_v0_apply (i : S_.Idx) :
    val_main_v0 (F := F) i = FloatOps.hostUnary .log (val_main_cst (F := F) i) := rfl

-- %1, reshape
def val_main_v1 (x0 : (⟨S16384x8x64, .f32⟩ : BufTy).Contents (Elt F)) : (⟨S16384x2x4x64, .f32⟩ : BufTy).Contents (Elt F) :=
  shapeCast _ (x0) shapeCasts_S16384x8x64_S16384x2x4x64
set_option backward.proofsInPublic true in
abbrev idx_main_v1 (i : S16384x2x4x64.Idx) : S16384x8x64.Idx := fun a => match a with
  | ⟨0, _⟩ => ⟨((((i 0).val * 2 + (i 1).val) * 4 + (i 2).val) * 64 + (i 3).val) / 512, by have h0 : (i 0).val < 16384 := (i 0).isLt; have h1 : (i 1).val < 2 := (i 1).isLt; have h2 : (i 2).val < 4 := (i 2).isLt; have h3 : (i 3).val < 64 := (i 3).isLt; show ((((i 0).val * 2 + (i 1).val) * 4 + (i 2).val) * 64 + (i 3).val) / 512 < 16384; omega⟩
  | ⟨1, _⟩ => ⟨((((i 0).val * 2 + (i 1).val) * 4 + (i 2).val) * 64 + (i 3).val) / 64 % 8, by have h0 : (i 0).val < 16384 := (i 0).isLt; have h1 : (i 1).val < 2 := (i 1).isLt; have h2 : (i 2).val < 4 := (i 2).isLt; have h3 : (i 3).val < 64 := (i 3).isLt; show ((((i 0).val * 2 + (i 1).val) * 4 + (i 2).val) * 64 + (i 3).val) / 64 % 8 < 8; omega⟩
  | ⟨2, _⟩ => ⟨((((i 0).val * 2 + (i 1).val) * 4 + (i 2).val) * 64 + (i 3).val) % 64, by have h0 : (i 0).val < 16384 := (i 0).isLt; have h1 : (i 1).val < 2 := (i 1).isLt; have h2 : (i 2).val < 4 := (i 2).isLt; have h3 : (i 3).val < 64 := (i 3).isLt; show ((((i 0).val * 2 + (i 1).val) * 4 + (i 2).val) * 64 + (i 3).val) % 64 < 64; omega⟩
theorem val_main_v1_apply (x0 : (⟨S16384x8x64, .f32⟩ : BufTy).Contents (Elt F)) (i : S16384x2x4x64.Idx) :
    val_main_v1 (F := F) x0 i = x0 (idx_main_v1 i) := by
  unfold val_main_v1
  exact shapeCast_apply x0 shapeCasts_S16384x8x64_S16384x2x4x64 i (idx_main_v1 i)
    (by rewrite [Shape.rowMajor_val_three, Shape.rowMajor_val_four]; have h0 : (i 0).val < 16384 := (i 0).isLt; have h1 : (i 1).val < 2 := (i 1).isLt; have h2 : (i 2).val < 4 := (i 2).isLt; have h3 : (i 3).val < 64 := (i 3).isLt; show (((((i 0).val * 2 + (i 1).val) * 4 + (i 2).val) * 64 + (i 3).val) / 512 * 8 + ((((i 0).val * 2 + (i 1).val) * 4 + (i 2).val) * 64 + (i 3).val) / 64 % 8) * 64 + ((((i 0).val * 2 + (i 1).val) * 4 + (i 2).val) * 64 + (i 3).val) % 64 = (((i 0).val * 2 + (i 1).val) * 4 + (i 2).val) * 64 + (i 3).val; omega)

-- %2, dot_general
def val_main_v2 (x0 : (⟨S16384x8x64, .f32⟩ : BufTy).Contents (Elt F)) (x1 : (⟨S16384x2x64, .f32⟩ : BufTy).Contents (Elt F)) : (⟨S2x16384x16384x4, .f32⟩ : BufTy).Contents (Elt F) :=
  Host.dotGeneral dot_S16384x2x64_S16384x2x4x64_S2x16384x16384x4_2_3_0_02_1_1 none (x1) (val_main_v1 (F := F) x0)
theorem lhs_main_v2_0 (i : S2x16384x16384x4.Idx) (q : scoreDims.contr.Idx) :
    (scoreDims.lhsIdx i q 0).val = (i 1).val := by
  unfold DotDims.lhsIdx
  rw [dif_neg (show ¬(0 : Fin S16384x2x64.rank) ∈ scoreDims.lhsBatch by decide), dif_pos (show (0 : Fin S16384x2x64.rank) ∈ scoreDims.lhsNonContracting by decide)]
  rfl
theorem lhs_main_v2_1 (i : S2x16384x16384x4.Idx) (q : scoreDims.contr.Idx) :
    (scoreDims.lhsIdx i q 1).val = (i 0).val := by
  unfold DotDims.lhsIdx
  rw [dif_pos (show (1 : Fin S16384x2x64.rank) ∈ scoreDims.lhsBatch by decide)]
  rfl
theorem lhs_main_v2_2 (i : S2x16384x16384x4.Idx) (q : scoreDims.contr.Idx) :
    (scoreDims.lhsIdx i q 2).val = (q ⟨0, by decide⟩).val :=
  scoreDims.lhsIdx_val_of_single rfl i q
theorem rhs_main_v2_0 (i : S2x16384x16384x4.Idx) (q : scoreDims.contr.Idx) :
    (scoreDims.rhsIdx i q 0).val = (i 2).val := by
  unfold DotDims.rhsIdx
  rw [dif_neg (show ¬(0 : Fin S16384x2x4x64.rank) ∈ scoreDims.rhsBatch by decide), dif_pos (show (0 : Fin S16384x2x4x64.rank) ∈ scoreDims.rhsNonContracting by decide)]
  rfl
theorem rhs_main_v2_1 (i : S2x16384x16384x4.Idx) (q : scoreDims.contr.Idx) :
    (scoreDims.rhsIdx i q 1).val = (i 0).val := by
  unfold DotDims.rhsIdx
  rw [dif_pos (show (1 : Fin S16384x2x4x64.rank) ∈ scoreDims.rhsBatch by decide)]
  rfl
theorem rhs_main_v2_2 (i : S2x16384x16384x4.Idx) (q : scoreDims.contr.Idx) :
    (scoreDims.rhsIdx i q 2).val = (i 3).val := by
  unfold DotDims.rhsIdx
  rw [dif_neg (show ¬(2 : Fin S16384x2x4x64.rank) ∈ scoreDims.rhsBatch by decide), dif_pos (show (2 : Fin S16384x2x4x64.rank) ∈ scoreDims.rhsNonContracting by decide)]
  rfl
theorem rhs_main_v2_3 (i : S2x16384x16384x4.Idx) (q : scoreDims.contr.Idx) :
    (scoreDims.rhsIdx i q 3).val = (q ⟨0, by decide⟩).val :=
  scoreDims.rhsIdx_val_of_single rfl i q
abbrev lidx_main_v2 (i : S2x16384x16384x4.Idx) (k : Fin 64) : S16384x2x64.Idx := fun a => match a with
  | ⟨0, _⟩ => ⟨(i 1).val, (i 1).isLt⟩
  | ⟨1, _⟩ => ⟨(i 0).val, (i 0).isLt⟩
  | ⟨2, _⟩ => ⟨k.val, k.isLt⟩
abbrev ridx_main_v2 (i : S2x16384x16384x4.Idx) (k : Fin 64) : S16384x2x4x64.Idx := fun a => match a with
  | ⟨0, _⟩ => ⟨(i 2).val, (i 2).isLt⟩
  | ⟨1, _⟩ => ⟨(i 0).val, (i 0).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v2_apply (x0 : (⟨S16384x8x64, .f32⟩ : BufTy).Contents (Elt Ideal)) (x1 : (⟨S16384x2x64, .f32⟩ : BufTy).Contents (Elt Ideal)) (i : S2x16384x16384x4.Idx) :
    val_main_v2 (F := Ideal) x0 x1 i = ∑ k : Fin 64, x1 (lidx_main_v2 i k) * (val_main_v1 (F := Ideal) x0) (ridx_main_v2 i k) := by
  unfold val_main_v2
  generalize val_main_v1 (F := Ideal) x0 = y0
  simp only [Host.dotGeneral]
  rw [Ideal.dotGeneral_apply, ← Equiv.sum_comp (ValueIdx.contrEquiv1 scoreDims 64 rfl rfl).symm]
  refine Finset.sum_congr rfl fun k _ => ?_
  have hk := ValueIdx.contrEquiv1_symm_val scoreDims 64 rfl rfl k
  have el : scoreDims.lhsIdx i ((ValueIdx.contrEquiv1 scoreDims 64 rfl rfl).symm k) = lidx_main_v2 i k := funext fun a => Fin.ext (by
    match a with
    | ⟨0, _⟩ => exact lhs_main_v2_0 _ _
    | ⟨1, _⟩ => exact lhs_main_v2_1 _ _
    | ⟨2, _⟩ => exact (lhs_main_v2_2 _ _).trans hk)
  have er : scoreDims.rhsIdx i ((ValueIdx.contrEquiv1 scoreDims 64 rfl rfl).symm k) = ridx_main_v2 i k := funext fun a => Fin.ext (by
    match a with
    | ⟨0, _⟩ => exact rhs_main_v2_0 _ _
    | ⟨1, _⟩ => exact rhs_main_v2_1 _ _
    | ⟨2, _⟩ => exact rhs_main_v2_2 _ _
    | ⟨3, _⟩ => exact (rhs_main_v2_3 _ _).trans hk)
  rw [el, er]

-- %3, transpose
def val_main_v3 (x0 : (⟨S16384x8x64, .f32⟩ : BufTy).Contents (Elt F)) (x1 : (⟨S16384x2x64, .f32⟩ : BufTy).Contents (Elt F)) : (⟨S2x4x16384x16384, .f32⟩ : BufTy).Contents (Elt F) :=
  transpose S2x4x16384x16384 [0, 3, 2, 1] (val_main_v2 (F := F) x0 x1) transposes_S2x16384x16384x4_S2x4x16384x16384_0_3_2_1
abbrev idx_main_v3 (i : S2x4x16384x16384.Idx) : S2x16384x16384x4.Idx := fun a => match a with
  | ⟨0, _⟩ => ⟨(i 0).val, (i 0).isLt⟩
  | ⟨1, _⟩ => ⟨(i 3).val, (i 3).isLt⟩
  | ⟨2, _⟩ => ⟨(i 2).val, (i 2).isLt⟩
  | ⟨3, _⟩ => ⟨(i 1).val, (i 1).isLt⟩
theorem val_main_v3_apply (x0 : (⟨S16384x8x64, .f32⟩ : BufTy).Contents (Elt F)) (x1 : (⟨S16384x2x64, .f32⟩ : BufTy).Contents (Elt F)) (i : S2x4x16384x16384.Idx) :
    val_main_v3 (F := F) x0 x1 i = val_main_v2 (F := F) x0 x1 (idx_main_v3 i) := by
  unfold val_main_v3
  generalize val_main_v2 (F := F) x0 x1 = y
  exact transpose_apply [0, 3, 2, 1] y transposes_S2x16384x16384x4_S2x4x16384x16384_0_3_2_1 i (idx_main_v3 i) (fun b => match b with
    | ⟨0, _⟩ => rfl
    | ⟨1, _⟩ => rfl
    | ⟨2, _⟩ => rfl
    | ⟨3, _⟩ => rfl)

-- %cst_0, constant
def val_main_cst_0 : (⟨S_, .f32⟩ : BufTy).Contents (Elt F) :=
  constant S_ .f32 0x3E000000#32
theorem val_main_cst_0_apply (i : S_.Idx) :
    val_main_cst_0 (F := F) i = FloatOps.ofBits .f32 0x3E000000#32 := rfl

-- %4, broadcast_in_dim
def val_main_v4 : (⟨S2x4x16384x16384, .f32⟩ : BufTy).Contents (Elt F) :=
  broadcastInDim S2x4x16384x16384 ![] bcast_S_S2x4x16384x16384 (val_main_cst_0 (F := F))
abbrev idx_main_v4 (i : S2x4x16384x16384.Idx) : S_.Idx := fun a => a.elim0
theorem val_main_v4_apply (i : S2x4x16384x16384.Idx) :
    val_main_v4 (F := F) i = val_main_cst_0 (F := F) (idx_main_v4 i) := by
  unfold val_main_v4
  generalize val_main_cst_0 (F := F) = y
  exact broadcastInDim_apply _ bcast_S_S2x4x16384x16384 y i (idx_main_v4 i) (fun a => a.elim0)

-- %5, multiply
def val_main_v5 (x0 : (⟨S16384x8x64, .f32⟩ : BufTy).Contents (Elt F)) (x1 : (⟨S16384x2x64, .f32⟩ : BufTy).Contents (Elt F)) : (⟨S2x4x16384x16384, .f32⟩ : BufTy).Contents (Elt F) :=
  mulf (val_main_v3 (F := F) x0 x1) (val_main_v4 (F := F))
theorem val_main_v5_apply (x0 : (⟨S16384x8x64, .f32⟩ : BufTy).Contents (Elt F)) (x1 : (⟨S16384x2x64, .f32⟩ : BufTy).Contents (Elt F)) (i : S2x4x16384x16384.Idx) :
    val_main_v5 (F := F) x0 x1 i = FloatOps.mulf (val_main_v3 (F := F) x0 x1 i) (val_main_v4 (F := F) i) := rfl

-- %cst_1, constant
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %6, reduce(%5
def val_main_v6 (x0 : (⟨S16384x8x64, .f32⟩ : BufTy).Contents (Elt F)) (x1 : (⟨S16384x2x64, .f32⟩ : BufTy).Contents (Elt F)) : (⟨S2x4x16384, .f32⟩ : BufTy).Contents (Elt F) :=
  Host.reduce FloatOps.maximumf (val_main_v5 (F := F) x0 x1) (val_main_cst_1 (F := F)) reducesTo_S2x4x16384x16384_S2x4x16384_d3 h_S_

-- %cst_2, constant
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- %7, broadcast_in_dim
def val_main_v7 : (⟨S2x4x16384, .f32⟩ : BufTy).Contents (Elt F) :=
  broadcastInDim S2x4x16384 ![] bcast_S_S2x4x16384 (val_main_cst_2 (F := F))
abbrev idx_main_v7 (i : S2x4x16384.Idx) : S_.Idx := fun a => a.elim0
theorem val_main_v7_apply (i : S2x4x16384.Idx) :
    val_main_v7 (F := F) i = val_main_cst_2 (F := F) (idx_main_v7 i) := by
  unfold val_main_v7
  generalize val_main_cst_2 (F := F) = y
  exact broadcastInDim_apply _ bcast_S_S2x4x16384 y i (idx_main_v7 i) (fun a => a.elim0)

-- %8, maximum
def val_main_v8 (x0 : (⟨S16384x8x64, .f32⟩ : BufTy).Contents (Elt F)) (x1 : (⟨S16384x2x64, .f32⟩ : BufTy).Contents (Elt F)) : (⟨S2x4x16384, .f32⟩ : BufTy).Contents (Elt F) :=
  maximumf (val_main_v7 (F := F)) (val_main_v6 (F := F) x0 x1)
theorem val_main_v8_apply (x0 : (⟨S16384x8x64, .f32⟩ : BufTy).Contents (Elt F)) (x1 : (⟨S16384x2x64, .f32⟩ : BufTy).Contents (Elt F)) (i : S2x4x16384.Idx) :
    val_main_v8 (F := F) x0 x1 i = FloatOps.maximumf (val_main_v7 (F := F) i) (val_main_v6 (F := F) x0 x1 i) := rfl

-- %9, broadcast_in_dim
def val_main_v9 (x0 : (⟨S16384x8x64, .f32⟩ : BufTy).Contents (Elt F)) (x1 : (⟨S16384x2x64, .f32⟩ : BufTy).Contents (Elt F)) : (⟨S2x4x16384x1, .f32⟩ : BufTy).Contents (Elt F) :=
  broadcastInDim S2x4x16384x1 ![0, 1, 2] bcast_S2x4x16384_S2x4x16384x1_0_1_2 (val_main_v8 (F := F) x0 x1)
abbrev idx_main_v9 (i : S2x4x16384x1.Idx) : S2x4x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v9_apply (x0 : (⟨S16384x8x64, .f32⟩ : BufTy).Contents (Elt F)) (x1 : (⟨S16384x2x64, .f32⟩ : BufTy).Contents (Elt F)) (i : S2x4x16384x1.Idx) :
    val_main_v9 (F := F) x0 x1 i = val_main_v8 (F := F) x0 x1 (idx_main_v9 i) := by
  unfold val_main_v9
  generalize val_main_v8 (F := F) x0 x1 = y
  exact broadcastInDim_apply _ bcast_S2x4x16384_S2x4x16384x1_0_1_2 y i (idx_main_v9 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)])

-- %10, broadcast_in_dim
def val_main_v10 (x0 : (⟨S16384x8x64, .f32⟩ : BufTy).Contents (Elt F)) (x1 : (⟨S16384x2x64, .f32⟩ : BufTy).Contents (Elt F)) : (⟨S2x4x16384x16384, .f32⟩ : BufTy).Contents (Elt F) :=
  broadcastInDim S2x4x16384x16384 ![0, 1, 2, 3] bcast_S2x4x16384x1_S2x4x16384x16384_0_1_2_3 (val_main_v9 (F := F) x0 x1)
abbrev idx_main_v10 (i : S2x4x16384x16384.Idx) : S2x4x16384x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v10_apply (x0 : (⟨S16384x8x64, .f32⟩ : BufTy).Contents (Elt F)) (x1 : (⟨S16384x2x64, .f32⟩ : BufTy).Contents (Elt F)) (i : S2x4x16384x16384.Idx) :
    val_main_v10 (F := F) x0 x1 i = val_main_v9 (F := F) x0 x1 (idx_main_v10 i) := by
  unfold val_main_v10
  generalize val_main_v9 (F := F) x0 x1 = y
  exact broadcastInDim_apply _ bcast_S2x4x16384x1_S2x4x16384x16384_0_1_2_3 y i (idx_main_v10 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)]
    | ⟨3, _⟩ => by show 0 = if (1 : Nat) = 1 then 0 else (i 3).val; rw [if_pos rfl])

-- %11, subtract
def val_main_v11 (x0 : (⟨S16384x8x64, .f32⟩ : BufTy).Contents (Elt F)) (x1 : (⟨S16384x2x64, .f32⟩ : BufTy).Contents (Elt F)) : (⟨S2x4x16384x16384, .f32⟩ : BufTy).Contents (Elt F) :=
  subf (val_main_v5 (F := F) x0 x1) (val_main_v10 (F := F) x0 x1)
theorem val_main_v11_apply (x0 : (⟨S16384x8x64, .f32⟩ : BufTy).Contents (Elt F)) (x1 : (⟨S16384x2x64, .f32⟩ : BufTy).Contents (Elt F)) (i : S2x4x16384x16384.Idx) :
    val_main_v11 (F := F) x0 x1 i = FloatOps.subf (val_main_v5 (F := F) x0 x1 i) (val_main_v10 (F := F) x0 x1 i) := rfl

-- %12, exponential
def val_main_v12 (x0 : (⟨S16384x8x64, .f32⟩ : BufTy).Contents (Elt F)) (x1 : (⟨S16384x2x64, .f32⟩ : BufTy).Contents (Elt F)) : (⟨S2x4x16384x16384, .f32⟩ : BufTy).Contents (Elt F) :=
  Host.exp (val_main_v11 (F := F) x0 x1)
theorem val_main_v12_apply (x0 : (⟨S16384x8x64, .f32⟩ : BufTy).Contents (Elt F)) (x1 : (⟨S16384x2x64, .f32⟩ : BufTy).Contents (Elt F)) (i : S2x4x16384x16384.Idx) :
    val_main_v12 (F := F) x0 x1 i = FloatOps.hostUnary .exp (val_main_v11 (F := F) x0 x1 i) := rfl

-- %cst_3, constant
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %13, reduce(%12
def val_main_v13 (x0 : (⟨S16384x8x64, .f32⟩ : BufTy).Contents (Elt F)) (x1 : (⟨S16384x2x64, .f32⟩ : BufTy).Contents (Elt F)) : (⟨S2x4x16384, .f32⟩ : BufTy).Contents (Elt F) :=
  Host.reduceAdd (val_main_v12 (F := F) x0 x1) (val_main_cst_3 (F := F)) reducesTo_S2x4x16384x16384_S2x4x16384_d3 h_S_
abbrev idx_main_v13 (i : S2x4x16384.Idx) (k : Fin 16384) : S2x4x16384x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v13_apply (x0 : (⟨S16384x8x64, .f32⟩ : BufTy).Contents (Elt Ideal)) (x1 : (⟨S16384x2x64, .f32⟩ : BufTy).Contents (Elt Ideal)) (i : S2x4x16384.Idx) :
    val_main_v13 (F := Ideal) x0 x1 i = (val_main_cst_3 (F := Ideal)) (Shape.Idx.first h_S_) + ∑ k : Fin 16384, (val_main_v12 (F := Ideal) x0 x1) (idx_main_v13 i k) := by
  unfold val_main_v13
  generalize val_main_v12 (F := Ideal) x0 x1 = y0
  simp only [Host.reduceAdd, Ideal.hostReduceAdd_def]
  rw [Ideal.hostReduceAdd_single reducesTo_S2x4x16384x16384_S2x4x16384_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %14, broadcast_in_dim
def val_main_v14 (x0 : (⟨S16384x8x64, .f32⟩ : BufTy).Contents (Elt F)) (x1 : (⟨S16384x2x64, .f32⟩ : BufTy).Contents (Elt F)) : (⟨S2x4x16384x1, .f32⟩ : BufTy).Contents (Elt F) :=
  broadcastInDim S2x4x16384x1 ![0, 1, 2] bcast_S2x4x16384_S2x4x16384x1_0_1_2 (val_main_v13 (F := F) x0 x1)
abbrev idx_main_v14 (i : S2x4x16384x1.Idx) : S2x4x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v14_apply (x0 : (⟨S16384x8x64, .f32⟩ : BufTy).Contents (Elt F)) (x1 : (⟨S16384x2x64, .f32⟩ : BufTy).Contents (Elt F)) (i : S2x4x16384x1.Idx) :
    val_main_v14 (F := F) x0 x1 i = val_main_v13 (F := F) x0 x1 (idx_main_v14 i) := by
  unfold val_main_v14
  generalize val_main_v13 (F := F) x0 x1 = y
  exact broadcastInDim_apply _ bcast_S2x4x16384_S2x4x16384x1_0_1_2 y i (idx_main_v14 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)])

-- %15, broadcast_in_dim
def val_main_v15 (x0 : (⟨S16384x8x64, .f32⟩ : BufTy).Contents (Elt F)) (x1 : (⟨S16384x2x64, .f32⟩ : BufTy).Contents (Elt F)) : (⟨S2x4x16384x16384, .f32⟩ : BufTy).Contents (Elt F) :=
  broadcastInDim S2x4x16384x16384 ![0, 1, 2, 3] bcast_S2x4x16384x1_S2x4x16384x16384_0_1_2_3 (val_main_v14 (F := F) x0 x1)
abbrev idx_main_v15 (i : S2x4x16384x16384.Idx) : S2x4x16384x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v15_apply (x0 : (⟨S16384x8x64, .f32⟩ : BufTy).Contents (Elt F)) (x1 : (⟨S16384x2x64, .f32⟩ : BufTy).Contents (Elt F)) (i : S2x4x16384x16384.Idx) :
    val_main_v15 (F := F) x0 x1 i = val_main_v14 (F := F) x0 x1 (idx_main_v15 i) := by
  unfold val_main_v15
  generalize val_main_v14 (F := F) x0 x1 = y
  exact broadcastInDim_apply _ bcast_S2x4x16384x1_S2x4x16384x16384_0_1_2_3 y i (idx_main_v15 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)]
    | ⟨3, _⟩ => by show 0 = if (1 : Nat) = 1 then 0 else (i 3).val; rw [if_pos rfl])

-- %16, divide
def val_main_v16 (x0 : (⟨S16384x8x64, .f32⟩ : BufTy).Contents (Elt F)) (x1 : (⟨S16384x2x64, .f32⟩ : BufTy).Contents (Elt F)) : (⟨S2x4x16384x16384, .f32⟩ : BufTy).Contents (Elt F) :=
  Host.divf (val_main_v12 (F := F) x0 x1) (val_main_v15 (F := F) x0 x1)
theorem val_main_v16_apply (x0 : (⟨S16384x8x64, .f32⟩ : BufTy).Contents (Elt F)) (x1 : (⟨S16384x2x64, .f32⟩ : BufTy).Contents (Elt F)) (i : S2x4x16384x16384.Idx) :
    val_main_v16 (F := F) x0 x1 i = FloatOps.hostDivf (val_main_v12 (F := F) x0 x1 i) (val_main_v15 (F := F) x0 x1 i) := rfl

-- %17, dot_general
def val_main_v17 (x0 : (⟨S16384x8x64, .f32⟩ : BufTy).Contents (Elt F)) (x1 x2 : (⟨S16384x2x64, .f32⟩ : BufTy).Contents (Elt F)) : (⟨S2x64x4x16384, .f32⟩ : BufTy).Contents (Elt F) :=
  Host.dotGeneral dot_S16384x2x64_S2x4x16384x16384_S2x64x4x16384_0_3_2_12_1_0 none (x2) (val_main_v16 (F := F) x0 x1)
theorem lhs_main_v17_0 (i : S2x64x4x16384.Idx) (q : mixDims.contr.Idx) :
    (mixDims.lhsIdx i q 0).val = (q ⟨0, by decide⟩).val :=
  mixDims.lhsIdx_val_of_single rfl i q
theorem lhs_main_v17_1 (i : S2x64x4x16384.Idx) (q : mixDims.contr.Idx) :
    (mixDims.lhsIdx i q 1).val = (i 0).val := by
  unfold DotDims.lhsIdx
  rw [dif_pos (show (1 : Fin S16384x2x64.rank) ∈ mixDims.lhsBatch by decide)]
  rfl
theorem lhs_main_v17_2 (i : S2x64x4x16384.Idx) (q : mixDims.contr.Idx) :
    (mixDims.lhsIdx i q 2).val = (i 1).val := by
  unfold DotDims.lhsIdx
  rw [dif_neg (show ¬(2 : Fin S16384x2x64.rank) ∈ mixDims.lhsBatch by decide), dif_pos (show (2 : Fin S16384x2x64.rank) ∈ mixDims.lhsNonContracting by decide)]
  rfl
theorem rhs_main_v17_0 (i : S2x64x4x16384.Idx) (q : mixDims.contr.Idx) :
    (mixDims.rhsIdx i q 0).val = (i 0).val := by
  unfold DotDims.rhsIdx
  rw [dif_pos (show (0 : Fin S2x4x16384x16384.rank) ∈ mixDims.rhsBatch by decide)]
  rfl
theorem rhs_main_v17_1 (i : S2x64x4x16384.Idx) (q : mixDims.contr.Idx) :
    (mixDims.rhsIdx i q 1).val = (i 2).val := by
  unfold DotDims.rhsIdx
  rw [dif_neg (show ¬(1 : Fin S2x4x16384x16384.rank) ∈ mixDims.rhsBatch by decide), dif_pos (show (1 : Fin S2x4x16384x16384.rank) ∈ mixDims.rhsNonContracting by decide)]
  rfl
theorem rhs_main_v17_2 (i : S2x64x4x16384.Idx) (q : mixDims.contr.Idx) :
    (mixDims.rhsIdx i q 2).val = (i 3).val := by
  unfold DotDims.rhsIdx
  rw [dif_neg (show ¬(2 : Fin S2x4x16384x16384.rank) ∈ mixDims.rhsBatch by decide), dif_pos (show (2 : Fin S2x4x16384x16384.rank) ∈ mixDims.rhsNonContracting by decide)]
  rfl
theorem rhs_main_v17_3 (i : S2x64x4x16384.Idx) (q : mixDims.contr.Idx) :
    (mixDims.rhsIdx i q 3).val = (q ⟨0, by decide⟩).val :=
  mixDims.rhsIdx_val_of_single rfl i q
abbrev lidx_main_v17 (i : S2x64x4x16384.Idx) (k : Fin 16384) : S16384x2x64.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v17 (i : S2x64x4x16384.Idx) (k : Fin 16384) : S2x4x16384x16384.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v17_apply (x0 : (⟨S16384x8x64, .f32⟩ : BufTy).Contents (Elt Ideal)) (x1 x2 : (⟨S16384x2x64, .f32⟩ : BufTy).Contents (Elt Ideal)) (i : S2x64x4x16384.Idx) :
    val_main_v17 (F := Ideal) x0 x1 x2 i = ∑ k : Fin 16384, x2 (lidx_main_v17 i k) * (val_main_v16 (F := Ideal) x0 x1) (ridx_main_v17 i k) := by
  unfold val_main_v17
  generalize val_main_v16 (F := Ideal) x0 x1 = y0
  simp only [Host.dotGeneral]
  rw [Ideal.dotGeneral_apply, ← Equiv.sum_comp (ValueIdx.contrEquiv1 mixDims 16384 rfl rfl).symm]
  refine Finset.sum_congr rfl fun k _ => ?_
  have hk := ValueIdx.contrEquiv1_symm_val mixDims 16384 rfl rfl k
  have el : mixDims.lhsIdx i ((ValueIdx.contrEquiv1 mixDims 16384 rfl rfl).symm k) = lidx_main_v17 i k := funext fun a => Fin.ext (by
    match a with
    | ⟨0, _⟩ => exact (lhs_main_v17_0 _ _).trans hk
    | ⟨1, _⟩ => exact lhs_main_v17_1 _ _
    | ⟨2, _⟩ => exact lhs_main_v17_2 _ _)
  have er : mixDims.rhsIdx i ((ValueIdx.contrEquiv1 mixDims 16384 rfl rfl).symm k) = ridx_main_v17 i k := funext fun a => Fin.ext (by
    match a with
    | ⟨0, _⟩ => exact rhs_main_v17_0 _ _
    | ⟨1, _⟩ => exact rhs_main_v17_1 _ _
    | ⟨2, _⟩ => exact rhs_main_v17_2 _ _
    | ⟨3, _⟩ => exact (rhs_main_v17_3 _ _).trans hk)
  rw [el, er]

-- %18, transpose
def val_main_v18 (x0 : (⟨S16384x8x64, .f32⟩ : BufTy).Contents (Elt F)) (x1 x2 : (⟨S16384x2x64, .f32⟩ : BufTy).Contents (Elt F)) : (⟨S16384x2x4x64, .f32⟩ : BufTy).Contents (Elt F) :=
  transpose S16384x2x4x64 [3, 0, 2, 1] (val_main_v17 (F := F) x0 x1 x2) transposes_S2x64x4x16384_S16384x2x4x64_3_0_2_1
abbrev idx_main_v18 (i : S16384x2x4x64.Idx) : S2x64x4x16384.Idx := fun a => match a with
  | ⟨0, _⟩ => ⟨(i 1).val, (i 1).isLt⟩
  | ⟨1, _⟩ => ⟨(i 3).val, (i 3).isLt⟩
  | ⟨2, _⟩ => ⟨(i 2).val, (i 2).isLt⟩
  | ⟨3, _⟩ => ⟨(i 0).val, (i 0).isLt⟩
theorem val_main_v18_apply (x0 : (⟨S16384x8x64, .f32⟩ : BufTy).Contents (Elt F)) (x1 x2 : (⟨S16384x2x64, .f32⟩ : BufTy).Contents (Elt F)) (i : S16384x2x4x64.Idx) :
    val_main_v18 (F := F) x0 x1 x2 i = val_main_v17 (F := F) x0 x1 x2 (idx_main_v18 i) := by
  unfold val_main_v18
  generalize val_main_v17 (F := F) x0 x1 x2 = y
  exact transpose_apply [3, 0, 2, 1] y transposes_S2x64x4x16384_S16384x2x4x64_3_0_2_1 i (idx_main_v18 i) (fun b => match b with
    | ⟨0, _⟩ => rfl
    | ⟨1, _⟩ => rfl
    | ⟨2, _⟩ => rfl
    | ⟨3, _⟩ => rfl)

-- %19, reshape
def val_main_v19 (x0 : (⟨S16384x8x64, .f32⟩ : BufTy).Contents (Elt F)) (x1 x2 : (⟨S16384x2x64, .f32⟩ : BufTy).Contents (Elt F)) : (⟨S16384x512, .f32⟩ : BufTy).Contents (Elt F) :=
  shapeCast _ (val_main_v18 (F := F) x0 x1 x2) shapeCasts_S16384x2x4x64_S16384x512
set_option backward.proofsInPublic true in
abbrev idx_main_v19 (i : S16384x512.Idx) : S16384x2x4x64.Idx := fun a => match a with
  | ⟨0, _⟩ => ⟨((i 0).val * 512 + (i 1).val) / 512, by have h0 : (i 0).val < 16384 := (i 0).isLt; have h1 : (i 1).val < 512 := (i 1).isLt; show ((i 0).val * 512 + (i 1).val) / 512 < 16384; omega⟩
  | ⟨1, _⟩ => ⟨((i 0).val * 512 + (i 1).val) / 256 % 2, by have h0 : (i 0).val < 16384 := (i 0).isLt; have h1 : (i 1).val < 512 := (i 1).isLt; show ((i 0).val * 512 + (i 1).val) / 256 % 2 < 2; omega⟩
  | ⟨2, _⟩ => ⟨((i 0).val * 512 + (i 1).val) / 64 % 4, by have h0 : (i 0).val < 16384 := (i 0).isLt; have h1 : (i 1).val < 512 := (i 1).isLt; show ((i 0).val * 512 + (i 1).val) / 64 % 4 < 4; omega⟩
  | ⟨3, _⟩ => ⟨((i 0).val * 512 + (i 1).val) % 64, by have h0 : (i 0).val < 16384 := (i 0).isLt; have h1 : (i 1).val < 512 := (i 1).isLt; show ((i 0).val * 512 + (i 1).val) % 64 < 64; omega⟩
theorem val_main_v19_apply (x0 : (⟨S16384x8x64, .f32⟩ : BufTy).Contents (Elt F)) (x1 x2 : (⟨S16384x2x64, .f32⟩ : BufTy).Contents (Elt F)) (i : S16384x512.Idx) :
    val_main_v19 (F := F) x0 x1 x2 i = val_main_v18 (F := F) x0 x1 x2 (idx_main_v19 i) := by
  unfold val_main_v19
  generalize val_main_v18 (F := F) x0 x1 x2 = y
  exact shapeCast_apply y shapeCasts_S16384x2x4x64_S16384x512 i (idx_main_v19 i)
    (by rewrite [Shape.rowMajor_val_four, Shape.rowMajor_val_two]; have h0 : (i 0).val < 16384 := (i 0).isLt; have h1 : (i 1).val < 512 := (i 1).isLt; show ((((i 0).val * 512 + (i 1).val) / 512 * 2 + ((i 0).val * 512 + (i 1).val) / 256 % 2) * 4 + ((i 0).val * 512 + (i 1).val) / 64 % 4) * 64 + ((i 0).val * 512 + (i 1).val) % 64 = (i 0).val * 512 + (i 1).val; omega)

-- %cst_4, constant
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %20, reduce(%5
def val_main_v20 (x0 : (⟨S16384x8x64, .f32⟩ : BufTy).Contents (Elt F)) (x1 : (⟨S16384x2x64, .f32⟩ : BufTy).Contents (Elt F)) : (⟨S2x4x16384, .f32⟩ : BufTy).Contents (Elt F) :=
  Host.reduce FloatOps.maximumf (val_main_v5 (F := F) x0 x1) (val_main_cst_4 (F := F)) reducesTo_S2x4x16384x16384_S2x4x16384_d3 h_S_

-- %21, broadcast_in_dim
def val_main_v21 (x0 : (⟨S16384x8x64, .f32⟩ : BufTy).Contents (Elt F)) (x1 : (⟨S16384x2x64, .f32⟩ : BufTy).Contents (Elt F)) : (⟨S2x4x16384x1, .f32⟩ : BufTy).Contents (Elt F) :=
  broadcastInDim S2x4x16384x1 ![0, 1, 2] bcast_S2x4x16384_S2x4x16384x1_0_1_2 (val_main_v20 (F := F) x0 x1)
abbrev idx_main_v21 (i : S2x4x16384x1.Idx) : S2x4x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v21_apply (x0 : (⟨S16384x8x64, .f32⟩ : BufTy).Contents (Elt F)) (x1 : (⟨S16384x2x64, .f32⟩ : BufTy).Contents (Elt F)) (i : S2x4x16384x1.Idx) :
    val_main_v21 (F := F) x0 x1 i = val_main_v20 (F := F) x0 x1 (idx_main_v21 i) := by
  unfold val_main_v21
  generalize val_main_v20 (F := F) x0 x1 = y
  exact broadcastInDim_apply _ bcast_S2x4x16384_S2x4x16384x1_0_1_2 y i (idx_main_v21 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)])

-- %22, broadcast_in_dim
def val_main_v22 (x0 : (⟨S16384x8x64, .f32⟩ : BufTy).Contents (Elt F)) (x1 : (⟨S16384x2x64, .f32⟩ : BufTy).Contents (Elt F)) : (⟨S2x4x16384x16384, .f32⟩ : BufTy).Contents (Elt F) :=
  broadcastInDim S2x4x16384x16384 ![0, 1, 2, 3] bcast_S2x4x16384x1_S2x4x16384x16384_0_1_2_3 (val_main_v21 (F := F) x0 x1)
abbrev idx_main_v22 (i : S2x4x16384x16384.Idx) : S2x4x16384x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v22_apply (x0 : (⟨S16384x8x64, .f32⟩ : BufTy).Contents (Elt F)) (x1 : (⟨S16384x2x64, .f32⟩ : BufTy).Contents (Elt F)) (i : S2x4x16384x16384.Idx) :
    val_main_v22 (F := F) x0 x1 i = val_main_v21 (F := F) x0 x1 (idx_main_v22 i) := by
  unfold val_main_v22
  generalize val_main_v21 (F := F) x0 x1 = y
  exact broadcastInDim_apply _ bcast_S2x4x16384x1_S2x4x16384x16384_0_1_2_3 y i (idx_main_v22 i) (fun a => match a with
    | ⟨0, _⟩ => by show (i 0).val = if (2 : Nat) = 1 then 0 else (i 0).val; rw [if_neg (by decide)]
    | ⟨1, _⟩ => by show (i 1).val = if (4 : Nat) = 1 then 0 else (i 1).val; rw [if_neg (by decide)]
    | ⟨2, _⟩ => by show (i 2).val = if (16384 : Nat) = 1 then 0 else (i 2).val; rw [if_neg (by decide)]
    | ⟨3, _⟩ => by show 0 = if (1 : Nat) = 1 then 0 else (i 3).val; rw [if_pos rfl])

-- %23, subtract
def val_main_v23 (x0 : (⟨S16384x8x64, .f32⟩ : BufTy).Contents (Elt F)) (x1 : (⟨S16384x2x64, .f32⟩ : BufTy).Contents (Elt F)) : (⟨S2x4x16384x16384, .f32⟩ : BufTy).Contents (Elt F) :=
  subf (val_main_v5 (F := F) x0 x1) (val_main_v22 (F := F) x0 x1)
theorem val_main_v23_apply (x0 : (⟨S16384x8x64, .f32⟩ : BufTy).Contents (Elt F)) (x1 : (⟨S16384x2x64, .f32⟩ : BufTy).Contents (Elt F)) (i : S2x4x16384x16384.Idx) :
    val_main_v23 (F := F) x0 x1 i = FloatOps.subf (val_main_v5 (F := F) x0 x1 i) (val_main_v22 (F := F) x0 x1 i) := rfl

-- %24, exponential
def val_main_v24 (x0 : (⟨S16384x8x64, .f32⟩ : BufTy).Contents (Elt F)) (x1 : (⟨S16384x2x64, .f32⟩ : BufTy).Contents (Elt F)) : (⟨S2x4x16384x16384, .f32⟩ : BufTy).Contents (Elt F) :=
  Host.exp (val_main_v23 (F := F) x0 x1)
theorem val_main_v24_apply (x0 : (⟨S16384x8x64, .f32⟩ : BufTy).Contents (Elt F)) (x1 : (⟨S16384x2x64, .f32⟩ : BufTy).Contents (Elt F)) (i : S2x4x16384x16384.Idx) :
    val_main_v24 (F := F) x0 x1 i = FloatOps.hostUnary .exp (val_main_v23 (F := F) x0 x1 i) := rfl

-- %cst_5, constant
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %25, reduce(%24
def val_main_v25 (x0 : (⟨S16384x8x64, .f32⟩ : BufTy).Contents (Elt F)) (x1 : (⟨S16384x2x64, .f32⟩ : BufTy).Contents (Elt F)) : (⟨S2x4x16384, .f32⟩ : BufTy).Contents (Elt F) :=
  Host.reduceAdd (val_main_v24 (F := F) x0 x1) (val_main_cst_5 (F := F)) reducesTo_S2x4x16384x16384_S2x4x16384_d3 h_S_
abbrev idx_main_v25 (i : S2x4x16384.Idx) (k : Fin 16384) : S2x4x16384x16384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v25_apply (x0 : (⟨S16384x8x64, .f32⟩ : BufTy).Contents (Elt Ideal)) (x1 : (⟨S16384x2x64, .f32⟩ : BufTy).Contents (Elt Ideal)) (i : S2x4x16384.Idx) :
    val_main_v25 (F := Ideal) x0 x1 i = (val_main_cst_5 (F := Ideal)) (Shape.Idx.first h_S_) + ∑ k : Fin 16384, (val_main_v24 (F := Ideal) x0 x1) (idx_main_v25 i k) := by
  unfold val_main_v25
  generalize val_main_v24 (F := Ideal) x0 x1 = y0
  simp only [Host.reduceAdd, Ideal.hostReduceAdd_def]
  rw [Ideal.hostReduceAdd_single reducesTo_S2x4x16384x16384_S2x4x16384_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %26, log
def val_main_v26 (x0 : (⟨S16384x8x64, .f32⟩ : BufTy).Contents (Elt F)) (x1 : (⟨S16384x2x64, .f32⟩ : BufTy).Contents (Elt F)) : (⟨S2x4x16384, .f32⟩ : BufTy).Contents (Elt F) :=
  Host.log (val_main_v25 (F := F) x0 x1)
theorem val_main_v26_apply (x0 : (⟨S16384x8x64, .f32⟩ : BufTy).Contents (Elt F)) (x1 : (⟨S16384x2x64, .f32⟩ : BufTy).Contents (Elt F)) (i : S2x4x16384.Idx) :
    val_main_v26 (F := F) x0 x1 i = FloatOps.hostUnary .log (val_main_v25 (F := F) x0 x1 i) := rfl

-- %27, add
def val_main_v27 (x0 : (⟨S16384x8x64, .f32⟩ : BufTy).Contents (Elt F)) (x1 : (⟨S16384x2x64, .f32⟩ : BufTy).Contents (Elt F)) : (⟨S2x4x16384, .f32⟩ : BufTy).Contents (Elt F) :=
  addf (val_main_v20 (F := F) x0 x1) (val_main_v26 (F := F) x0 x1)
theorem val_main_v27_apply (x0 : (⟨S16384x8x64, .f32⟩ : BufTy).Contents (Elt F)) (x1 : (⟨S16384x2x64, .f32⟩ : BufTy).Contents (Elt F)) (i : S2x4x16384.Idx) :
    val_main_v27 (F := F) x0 x1 i = FloatOps.addf (val_main_v20 (F := F) x0 x1 i) (val_main_v26 (F := F) x0 x1 i) := rfl

-- %28, broadcast_in_dim
def val_main_v28 : (⟨S2x4x16384, .f32⟩ : BufTy).Contents (Elt F) :=
  broadcastInDim S2x4x16384 ![] bcast_S_S2x4x16384 (val_main_v0 (F := F))
abbrev idx_main_v28 (i : S2x4x16384.Idx) : S_.Idx := fun a => a.elim0
theorem val_main_v28_apply (i : S2x4x16384.Idx) :
    val_main_v28 (F := F) i = val_main_v0 (F := F) (idx_main_v28 i) := by
  unfold val_main_v28
  generalize val_main_v0 (F := F) = y
  exact broadcastInDim_apply _ bcast_S_S2x4x16384 y i (idx_main_v28 i) (fun a => a.elim0)

-- %29, divide
def val_main_v29 (x0 : (⟨S16384x8x64, .f32⟩ : BufTy).Contents (Elt F)) (x1 : (⟨S16384x2x64, .f32⟩ : BufTy).Contents (Elt F)) : (⟨S2x4x16384, .f32⟩ : BufTy).Contents (Elt F) :=
  Host.divf (val_main_v27 (F := F) x0 x1) (val_main_v28 (F := F))
theorem val_main_v29_apply (x0 : (⟨S16384x8x64, .f32⟩ : BufTy).Contents (Elt F)) (x1 : (⟨S16384x2x64, .f32⟩ : BufTy).Contents (Elt F)) (i : S2x4x16384.Idx) :
    val_main_v29 (F := F) x0 x1 i = FloatOps.hostDivf (val_main_v27 (F := F) x0 x1 i) (val_main_v28 (F := F) i) := rfl

-- %30, reshape
def val_main_v30 (x0 : (⟨S16384x8x64, .f32⟩ : BufTy).Contents (Elt F)) (x1 : (⟨S16384x2x64, .f32⟩ : BufTy).Contents (Elt F)) : (⟨S8x32x1x512, .f32⟩ : BufTy).Contents (Elt F) :=
  shapeCast _ (val_main_v29 (F := F) x0 x1) shapeCasts_S2x4x16384_S8x32x1x512
set_option backward.proofsInPublic true in
abbrev idx_main_v30 (i : S8x32x1x512.Idx) : S2x4x16384.Idx := fun a => match a with
  | ⟨0, _⟩ => ⟨((((i 0).val * 32 + (i 1).val) * 1 + (i 2).val) * 512 + (i 3).val) / 65536, by have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) / 65536 < 2; omega⟩
  | ⟨1, _⟩ => ⟨((((i 0).val * 32 + (i 1).val) * 1 + (i 2).val) * 512 + (i 3).val) / 16384 % 4, by have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) / 16384 % 4 < 4; omega⟩
  | ⟨2, _⟩ => ⟨((((i 0).val * 32 + (i 1).val) * 1 + (i 2).val) * 512 + (i 3).val) % 16384, by have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) % 16384 < 16384; omega⟩
theorem val_main_v30_apply (x0 : (⟨S16384x8x64, .f32⟩ : BufTy).Contents (Elt F)) (x1 : (⟨S16384x2x64, .f32⟩ : BufTy).Contents (Elt F)) (i : S8x32x1x512.Idx) :
    val_main_v30 (F := F) x0 x1 i = val_main_v29 (F := F) x0 x1 (idx_main_v30 i) := by
  unfold val_main_v30
  generalize val_main_v29 (F := F) x0 x1 = y
  exact shapeCast_apply y shapeCasts_S2x4x16384_S8x32x1x512 i (idx_main_v30 i)
    (by rewrite [Shape.rowMajor_val_three, Shape.rowMajor_val_four]; have h0 : (i 0).val < 8 := (i 0).isLt; have h1 : (i 1).val < 32 := (i 1).isLt; have h2 : (i 2).val < 1 := (i 2).isLt; have h3 : (i 3).val < 512 := (i 3).isLt; show (((((i 0).val * 32 + (i 1).val) * 1 + (i 2).val) * 512 + (i 3).val) / 65536 * 4 + ((((i 0).val * 32 + (i 1).val) * 1 + (i 2).val) * 512 + (i 3).val) / 16384 % 4) * 16384 + ((((i 0).val * 32 + (i 1).val) * 1 + (i 2).val) * 512 + (i 3).val) % 16384 = (((i 0).val * 32 + (i 1).val) * 1 + (i 2).val) * 512 + (i 3).val; omega)

-- %31, multiply
def val_main_v31 (x0 : (⟨S16384x8x64, .f32⟩ : BufTy).Contents (Elt F)) (x1 x2 : (⟨S16384x2x64, .f32⟩ : BufTy).Contents (Elt F)) (x3 : (⟨S16384x512, .f32⟩ : BufTy).Contents (Elt F)) : (⟨S16384x512, .f32⟩ : BufTy).Contents (Elt F) :=
  mulf (x3) (val_main_v19 (F := F) x0 x1 x2)
theorem val_main_v31_apply (x0 : (⟨S16384x8x64, .f32⟩ : BufTy).Contents (Elt F)) (x1 x2 : (⟨S16384x2x64, .f32⟩ : BufTy).Contents (Elt F)) (x3 : (⟨S16384x512, .f32⟩ : BufTy).Contents (Elt F)) (i : S16384x512.Idx) :
    val_main_v31 (F := F) x0 x1 x2 x3 i = FloatOps.mulf (x3 i) (val_main_v19 (F := F) x0 x1 x2 i) := rfl

-- %32, reshape
def val_main_v32 (x0 : (⟨S16384x8x64, .f32⟩ : BufTy).Contents (Elt F)) (x1 x2 : (⟨S16384x2x64, .f32⟩ : BufTy).Contents (Elt F)) (x3 : (⟨S16384x512, .f32⟩ : BufTy).Contents (Elt F)) : (⟨S16384x8x64, .f32⟩ : BufTy).Contents (Elt F) :=
  shapeCast _ (val_main_v31 (F := F) x0 x1 x2 x3) shapeCasts_S16384x512_S16384x8x64
set_option backward.proofsInPublic true in
abbrev idx_main_v32 (i : S16384x8x64.Idx) : S16384x512.Idx := fun a => match a with
  | ⟨0, _⟩ => ⟨(((i 0).val * 8 + (i 1).val) * 64 + (i 2).val) / 512, by have h0 : (i 0).val < 16384 := (i 0).isLt; have h1 : (i 1).val < 8 := (i 1).isLt; have h2 : (i 2).val < 64 := (i 2).isLt; show (((i 0).val * 8 + (i 1).val) * 64 + (i 2).val) / 512 < 16384; omega⟩
  | ⟨1, _⟩ => ⟨(((i 0).val * 8 + (i 1).val) * 64 + (i 2).val) % 512, by have h0 : (i 0).val < 16384 := (i 0).isLt; have h1 : (i 1).val < 8 := (i 1).isLt; have h2 : (i 2).val < 64 := (i 2).isLt; show (((i 0).val * 8 + (i 1).val) * 64 + (i 2).val) % 512 < 512; omega⟩
theorem val_main_v32_apply (x0 : (⟨S16384x8x64, .f32⟩ : BufTy).Contents (Elt F)) (x1 x2 : (⟨S16384x2x64, .f32⟩ : BufTy).Contents (Elt F)) (x3 : (⟨S16384x512, .f32⟩ : BufTy).Contents (Elt F)) (i : S16384x8x64.Idx) :
    val_main_v32 (F := F) x0 x1 x2 x3 i = val_main_v31 (F := F) x0 x1 x2 x3 (idx_main_v32 i) := by
  unfold val_main_v32
  generalize val_main_v31 (F := F) x0 x1 x2 x3 = y
  exact shapeCast_apply y shapeCasts_S16384x512_S16384x8x64 i (idx_main_v32 i)
    (by rewrite [Shape.rowMajor_val_two, Shape.rowMajor_val_three]; have h0 : (i 0).val < 16384 := (i 0).isLt; have h1 : (i 1).val < 8 := (i 1).isLt; have h2 : (i 2).val < 64 := (i 2).isLt; show (((i 0).val * 8 + (i 1).val) * 64 + (i 2).val) / 512 * 512 + (((i 0).val * 8 + (i 1).val) * 64 + (i 2).val) % 512 = ((i 0).val * 8 + (i 1).val) * 64 + (i 2).val; omega)

-- %cst_6, constant
def val_main_cst_6 : (⟨S_, .f32⟩ : BufTy).Contents (Elt F) :=
  constant S_ .f32 0x00000000#32
theorem val_main_cst_6_apply (i : S_.Idx) :
    val_main_cst_6 (F := F) i = FloatOps.ofBits .f32 0x00000000#32 := rfl

-- %33, reduce(%32
def val_main_v33 (x0 : (⟨S16384x8x64, .f32⟩ : BufTy).Contents (Elt F)) (x1 x2 : (⟨S16384x2x64, .f32⟩ : BufTy).Contents (Elt F)) (x3 : (⟨S16384x512, .f32⟩ : BufTy).Contents (Elt F)) : (⟨S16384x8, .f32⟩ : BufTy).Contents (Elt F) :=
  Host.reduceAdd (val_main_v32 (F := F) x0 x1 x2 x3) (val_main_cst_6 (F := F)) reducesTo_S16384x8x64_S16384x8_d2 h_S_
abbrev idx_main_v33 (i : S16384x8.Idx) (k : Fin 64) : S16384x8x64.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v33_apply (x0 : (⟨S16384x8x64, .f32⟩ : BufTy).Contents (Elt Ideal)) (x1 x2 : (⟨S16384x2x64, .f32⟩ : BufTy).Contents (Elt Ideal)) (x3 : (⟨S16384x512, .f32⟩ : BufTy).Contents (Elt Ideal)) (i : S16384x8.Idx) :
    val_main_v33 (F := Ideal) x0 x1 x2 x3 i = (val_main_cst_6 (F := Ideal)) (Shape.Idx.first h_S_) + ∑ k : Fin 64, (val_main_v32 (F := Ideal) x0 x1 x2 x3) (idx_main_v33 i k) := by
  unfold val_main_v33
  generalize val_main_v32 (F := Ideal) x0 x1 x2 x3 = y0
  simp only [Host.reduceAdd, Ideal.hostReduceAdd_def]
  rw [Ideal.hostReduceAdd_single reducesTo_S16384x8x64_S16384x8_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %34, transpose
def val_main_v34 (x0 : (⟨S16384x8x64, .f32⟩ : BufTy).Contents (Elt F)) (x1 x2 : (⟨S16384x2x64, .f32⟩ : BufTy).Contents (Elt F)) (x3 : (⟨S16384x512, .f32⟩ : BufTy).Contents (Elt F)) : (⟨S8x16384, .f32⟩ : BufTy).Contents (Elt F) :=
  transpose S8x16384 [1, 0] (val_main_v33 (F := F) x0 x1 x2 x3) transposes_S16384x8_S8x16384_1_0
abbrev idx_main_v34 (i : S8x16384.Idx) : S16384x8.Idx := fun a => match a with
  | ⟨0, _⟩ => ⟨(i 1).val, (i 1).isLt⟩
  | ⟨1, _⟩ => ⟨(i 0).val, (i 0).isLt⟩
theorem val_main_v34_apply (x0 : (⟨S16384x8x64, .f32⟩ : BufTy).Contents (Elt F)) (x1 x2 : (⟨S16384x2x64, .f32⟩ : BufTy).Contents (Elt F)) (x3 : (⟨S16384x512, .f32⟩ : BufTy).Contents (Elt F)) (i : S8x16384.Idx) :
    val_main_v34 (F := F) x0 x1 x2 x3 i = val_main_v33 (F := F) x0 x1 x2 x3 (idx_main_v34 i) := by
  unfold val_main_v34
  generalize val_main_v33 (F := F) x0 x1 x2 x3 = y
  exact transpose_apply [1, 0] y transposes_S16384x8_S8x16384_1_0 i (idx_main_v34 i) (fun b => match b with
    | ⟨0, _⟩ => rfl
    | ⟨1, _⟩ => rfl)

-- %35, reshape
def val_main_v35 (x0 : (⟨S16384x8x64, .f32⟩ : BufTy).Contents (Elt F)) (x1 x2 : (⟨S16384x2x64, .f32⟩ : BufTy).Contents (Elt F)) (x3 : (⟨S16384x512, .f32⟩ : BufTy).Contents (Elt F)) : (⟨S8x32x1x512, .f32⟩ : BufTy).Contents (Elt F) :=
  shapeCast _ (val_main_v34 (F := F) x0 x1 x2 x3) shapeCasts_S8x16384_S8x32x1x512
set_option backward.proofsInPublic true in
abbrev idx_main_v35 (i : S8x32x1x512.Idx) : S8x16384.Idx := fun a => match a with
  | ⟨0, _⟩ => ⟨((((i 0).val * 32 + (i 1).val) * 1 + (i 2).val) * 512 + (i 3).val) / 16384, by have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) / 16384 < 8; omega⟩
  | ⟨1, _⟩ => ⟨((((i 0).val * 32 + (i 1).val) * 1 + (i 2).val) * 512 + (i 3).val) % 16384, by have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) % 16384 < 16384; omega⟩
theorem val_main_v35_apply (x0 : (⟨S16384x8x64, .f32⟩ : BufTy).Contents (Elt F)) (x1 x2 : (⟨S16384x2x64, .f32⟩ : BufTy).Contents (Elt F)) (x3 : (⟨S16384x512, .f32⟩ : BufTy).Contents (Elt F)) (i : S8x32x1x512.Idx) :
    val_main_v35 (F := F) x0 x1 x2 x3 i = val_main_v34 (F := F) x0 x1 x2 x3 (idx_main_v35 i) := by
  unfold val_main_v35
  generalize val_main_v34 (F := F) x0 x1 x2 x3 = y
  exact shapeCast_apply y shapeCasts_S8x16384_S8x32x1x512 i (idx_main_v35 i)
    (by rewrite [Shape.rowMajor_val_two, Shape.rowMajor_val_four]; have h0 : (i 0).val < 8 := (i 0).isLt; have h1 : (i 1).val < 32 := (i 1).isLt; have h2 : (i 2).val < 1 := (i 2).isLt; have h3 : (i 3).val < 512 := (i 3).isLt; show ((((i 0).val * 32 + (i 1).val) * 1 + (i 2).val) * 512 + (i 3).val) / 16384 * 16384 + ((((i 0).val * 32 + (i 1).val) * 1 + (i 2).val) * 512 + (i 3).val) % 16384 = (((i 0).val * 32 + (i 1).val) * 1 + (i 2).val) * 512 + (i 3).val; omega)

-- %cst_7, constant
def val_main_cst_7 : (⟨S_, .f32⟩ : BufTy).Contents (Elt F) :=
  constant S_ .f32 0x3E000000#32
theorem val_main_cst_7_apply (i : S_.Idx) :
    val_main_cst_7 (F := F) i = FloatOps.ofBits .f32 0x3E000000#32 := rfl

-- %36, divide
def val_main_v36 : (⟨S_, .f32⟩ : BufTy).Contents (Elt F) :=
  Host.divf (val_main_cst_7 (F := F)) (val_main_v0 (F := F))
theorem val_main_v36_apply (i : S_.Idx) :
    val_main_v36 (F := F) i = FloatOps.hostDivf (val_main_cst_7 (F := F) i) (val_main_v0 (F := F) i) := rfl

-- %37, broadcast_in_dim
def val_main_v37 : (⟨S16384x8x64, .f32⟩ : BufTy).Contents (Elt F) :=
  broadcastInDim S16384x8x64 ![] bcast_S_S16384x8x64 (val_main_v36 (F := F))
abbrev idx_main_v37 (i : S16384x8x64.Idx) : S_.Idx := fun a => a.elim0
theorem val_main_v37_apply (i : S16384x8x64.Idx) :
    val_main_v37 (F := F) i = val_main_v36 (F := F) (idx_main_v37 i) := by
  unfold val_main_v37
  generalize val_main_v36 (F := F) = y
  exact broadcastInDim_apply _ bcast_S_S16384x8x64 y i (idx_main_v37 i) (fun a => a.elim0)

-- %38, multiply
def val_main_v38 (x0 : (⟨S16384x8x64, .f32⟩ : BufTy).Contents (Elt F)) : (⟨S16384x8x64, .f32⟩ : BufTy).Contents (Elt F) :=
  mulf (x0) (val_main_v37 (F := F))
theorem val_main_v38_apply (x0 : (⟨S16384x8x64, .f32⟩ : BufTy).Contents (Elt F)) (i : S16384x8x64.Idx) :
    val_main_v38 (F := F) x0 i = FloatOps.mulf (x0 i) (val_main_v37 (F := F) i) := rfl

-- %39, reshape
def val_main_v39 (x0 : (⟨S16384x8x64, .f32⟩ : BufTy).Contents (Elt F)) : (⟨S32x512x8x64, .f32⟩ : BufTy).Contents (Elt F) :=
  shapeCast _ (val_main_v38 (F := F) x0) shapeCasts_S16384x8x64_S32x512x8x64
set_option backward.proofsInPublic true in
abbrev idx_main_v39 (i : S32x512x8x64.Idx) : S16384x8x64.Idx := fun a => match a with
  | ⟨0, _⟩ => ⟨((((i 0).val * 512 + (i 1).val) * 8 + (i 2).val) * 64 + (i 3).val) / 512, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) / 512 < 16384; omega⟩
  | ⟨1, _⟩ => ⟨((((i 0).val * 512 + (i 1).val) * 8 + (i 2).val) * 64 + (i 3).val) / 64 % 8, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) / 64 % 8 < 8; omega⟩
  | ⟨2, _⟩ => ⟨((((i 0).val * 512 + (i 1).val) * 8 + (i 2).val) * 64 + (i 3).val) % 64, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) % 64 < 64; omega⟩
theorem val_main_v39_apply (x0 : (⟨S16384x8x64, .f32⟩ : BufTy).Contents (Elt F)) (i : S32x512x8x64.Idx) :
    val_main_v39 (F := F) x0 i = val_main_v38 (F := F) x0 (idx_main_v39 i) := by
  unfold val_main_v39
  generalize val_main_v38 (F := F) x0 = y
  exact shapeCast_apply y shapeCasts_S16384x8x64_S32x512x8x64 i (idx_main_v39 i)
    (by rewrite [Shape.rowMajor_val_three, Shape.rowMajor_val_four]; have h0 : (i 0).val < 32 := (i 0).isLt; have h1 : (i 1).val < 512 := (i 1).isLt; have h2 : (i 2).val < 8 := (i 2).isLt; have h3 : (i 3).val < 64 := (i 3).isLt; show (((((i 0).val * 512 + (i 1).val) * 8 + (i 2).val) * 64 + (i 3).val) / 512 * 8 + ((((i 0).val * 512 + (i 1).val) * 8 + (i 2).val) * 64 + (i 3).val) / 64 % 8) * 64 + ((((i 0).val * 512 + (i 1).val) * 8 + (i 2).val) * 64 + (i 3).val) % 64 = (((i 0).val * 512 + (i 1).val) * 8 + (i 2).val) * 64 + (i 3).val; omega)

-- %40, transpose
def val_main_v40 (x0 : (⟨S16384x8x64, .f32⟩ : BufTy).Contents (Elt F)) : (⟨S32x8x64x512, .f32⟩ : BufTy).Contents (Elt F) :=
  transpose S32x8x64x512 [0, 2, 3, 1] (val_main_v39 (F := F) x0) transposes_S32x512x8x64_S32x8x64x512_0_2_3_1
abbrev idx_main_v40 (i : S32x8x64x512.Idx) : S32x512x8x64.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v40_apply (x0 : (⟨S16384x8x64, .f32⟩ : BufTy).Contents (Elt F)) (i : S32x8x64x512.Idx) :
    val_main_v40 (F := F) x0 i = val_main_v39 (F := F) x0 (idx_main_v40 i) := by
  unfold val_main_v40
  generalize val_main_v39 (F := F) x0 = y
  exact transpose_apply [0, 2, 3, 1] y transposes_S32x512x8x64_S32x8x64x512_0_2_3_1 i (idx_main_v40 i) (fun b => match b with
    | ⟨0, _⟩ => rfl
    | ⟨1, _⟩ => rfl
    | ⟨2, _⟩ => rfl
    | ⟨3, _⟩ => rfl)

-- %cst_8, constant
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %41, broadcast_in_dim
def val_main_v41 : (⟨S32x4x64x512, .f32⟩ : BufTy).Contents (Elt F) :=
  broadcastInDim S32x4x64x512 ![] bcast_S_S32x4x64x512 (val_main_cst_8 (F := F))
abbrev idx_main_v41 (i : S32x4x64x512.Idx) : S_.Idx := fun a => a.elim0
theorem val_main_v41_apply (i : S32x4x64x512.Idx) :
    val_main_v41 (F := F) i = val_main_cst_8 (F := F) (idx_main_v41 i) := by
  unfold val_main_v41
  generalize val_main_cst_8 (F := F) = y
  exact broadcastInDim_apply _ bcast_S_S32x4x64x512 y i (idx_main_v41 i) (fun a => a.elim0)

-- %42, slice
def val_main_v42 (x0 : (⟨S16384x8x64, .f32⟩ : BufTy).Contents (Elt F)) : (⟨S32x4x64x512, .f32⟩ : BufTy).Contents (Elt F) :=
  extractStridedSlice S32x4x64x512 ![0, 0, 0, 0] (val_main_v40 (F := F) x0) slices_S32x8x64x512_S32x4x64x512_0_0_0_0
set_option backward.proofsInPublic true in
abbrev idx_main_v42 (i : S32x4x64x512.Idx) : S32x8x64x512.Idx := fun a => match a with
  | ⟨0, _⟩ => ⟨(i 0).val, (i 0).isLt⟩
  | ⟨1, _⟩ => ⟨(i 1).val, by have h1 : (i 1).val < 4 := (i 1).isLt; show (i 1).val < 8; omega⟩
  | ⟨2, _⟩ => ⟨(i 2).val, (i 2).isLt⟩
  | ⟨3, _⟩ => ⟨(i 3).val, (i 3).isLt⟩
theorem val_main_v42_apply (x0 : (⟨S16384x8x64, .f32⟩ : BufTy).Contents (Elt F)) (i : S32x4x64x512.Idx) :
    val_main_v42 (F := F) x0 i = val_main_v40 (F := F) x0 (idx_main_v42 i) := by
  unfold val_main_v42
  generalize val_main_v40 (F := F) x0 = y
  exact extractStridedSlice_apply ![0, 0, 0, 0] y slices_S32x8x64x512_S32x4x64x512_0_0_0_0 i (idx_main_v42 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %43, concatenate
def val_main_v43 (x0 : (⟨S16384x8x64, .f32⟩ : BufTy).Contents (Elt F)) : (⟨S32x4x128x512, .f32⟩ : BufTy).Contents (Elt F) :=
  concatenate S32x4x128x512 2 [⟨S32x4x64x512, (val_main_v42 (F := F) x0)⟩, ⟨S32x4x64x512, (val_main_v41 (F := F))⟩] concatenates_S32x4x64x512_S32x4x64x512_S32x4x128x512_d2

-- %44, slice
def val_main_v44 (x0 : (⟨S16384x8x64, .f32⟩ : BufTy).Contents (Elt F)) : (⟨S32x4x64x512, .f32⟩ : BufTy).Contents (Elt F) :=
  extractStridedSlice S32x4x64x512 ![0, 4, 0, 0] (val_main_v40 (F := F) x0) slices_S32x8x64x512_S32x4x64x512_0_4_0_0
set_option backward.proofsInPublic true in
abbrev idx_main_v44 (i : S32x4x64x512.Idx) : S32x8x64x512.Idx := fun a => match a with
  | ⟨0, _⟩ => ⟨(i 0).val, (i 0).isLt⟩
  | ⟨1, _⟩ => ⟨4 + (i 1).val, by have h1 : (i 1).val < 4 := (i 1).isLt; show 4 + (i 1).val < 8; omega⟩
  | ⟨2, _⟩ => ⟨(i 2).val, (i 2).isLt⟩
  | ⟨3, _⟩ => ⟨(i 3).val, (i 3).isLt⟩
theorem val_main_v44_apply (x0 : (⟨S16384x8x64, .f32⟩ : BufTy).Contents (Elt F)) (i : S32x4x64x512.Idx) :
    val_main_v44 (F := F) x0 i = val_main_v40 (F := F) x0 (idx_main_v44 i) := by
  unfold val_main_v44
  generalize val_main_v40 (F := F) x0 = y
  exact extractStridedSlice_apply ![0, 4, 0, 0] y slices_S32x8x64x512_S32x4x64x512_0_4_0_0 i (idx_main_v44 i) (fun a => match a with
    | ⟨0, _⟩ => by show (i 0).val = 0 + (i 0).val; omega
    | ⟨1, _⟩ => by show 4 + (i 1).val = 4 + (i 1).val; omega
    | ⟨2, _⟩ => by show (i 2).val = 0 + (i 2).val; omega
    | ⟨3, _⟩ => by show (i 3).val = 0 + (i 3).val; omega)

-- %45, concatenate
def val_main_v45 (x0 : (⟨S16384x8x64, .f32⟩ : BufTy).Contents (Elt F)) : (⟨S32x4x128x512, .f32⟩ : BufTy).Contents (Elt F) :=
  concatenate S32x4x128x512 2 [⟨S32x4x64x512, (val_main_v41 (F := F))⟩, ⟨S32x4x64x512, (val_main_v44 (F := F) x0)⟩] concatenates_S32x4x64x512_S32x4x64x512_S32x4x128x512_d2

-- %46, concatenate
def val_main_v46 (x0 : (⟨S16384x8x64, .f32⟩ : BufTy).Contents (Elt F)) : (⟨S32x8x128x512, .f32⟩ : BufTy).Contents (Elt F) :=
  concatenate S32x8x128x512 1 [⟨S32x4x128x512, (val_main_v43 (F := F) x0)⟩, ⟨S32x4x128x512, (val_main_v45 (F := F) x0)⟩] concatenates_S32x4x128x512_S32x4x128x512_S32x8x128x512_d1

-- %47, reshape
def val_main_v47 (x0 : (⟨S16384x8x64, .f32⟩ : BufTy).Contents (Elt F)) : (⟨S32x1024x512, .f32⟩ : BufTy).Contents (Elt F) :=
  shapeCast _ (val_main_v46 (F := F) x0) shapeCasts_S32x8x128x512_S32x1024x512
set_option backward.proofsInPublic true in
abbrev idx_main_v47 (i : S32x1024x512.Idx) : S32x8x128x512.Idx := fun a => match a with
  | ⟨0, _⟩ => ⟨(((i 0).val * 1024 + (i 1).val) * 512 + (i 2).val) / 524288, by have h0 : (i 0).val < 32 := (i 0).isLt; have h1 : (i 1).val < 1024 := (i 1).isLt; have h2 : (i 2).val < 512 := (i 2).isLt; show (((i 0).val * 1024 + (i 1).val) * 512 + (i 2).val) / 524288 < 32; omega⟩
  | ⟨1, _⟩ => ⟨(((i 0).val * 1024 + (i 1).val) * 512 + (i 2).val) / 65536 % 8, by have h0 : (i 0).val < 32 := (i 0).isLt; have h1 : (i 1).val < 1024 := (i 1).isLt; have h2 : (i 2).val < 512 := (i 2).isLt; show (((i 0).val * 1024 + (i 1).val) * 512 + (i 2).val) / 65536 % 8 < 8; omega⟩
  | ⟨2, _⟩ => ⟨(((i 0).val * 1024 + (i 1).val) * 512 + (i 2).val) / 512 % 128, by have h0 : (i 0).val < 32 := (i 0).isLt; have h1 : (i 1).val < 1024 := (i 1).isLt; have h2 : (i 2).val < 512 := (i 2).isLt; show (((i 0).val * 1024 + (i 1).val) * 512 + (i 2).val) / 512 % 128 < 128; omega⟩
  | ⟨3, _⟩ => ⟨(((i 0).val * 1024 + (i 1).val) * 512 + (i 2).val) % 512, by have h0 : (i 0).val < 32 := (i 0).isLt; have h1 : (i 1).val < 1024 := (i 1).isLt; have h2 : (i 2).val < 512 := (i 2).isLt; show (((i 0).val * 1024 + (i 1).val) * 512 + (i 2).val) % 512 < 512; omega⟩
theorem val_main_v47_apply (x0 : (⟨S16384x8x64, .f32⟩ : BufTy).Contents (Elt F)) (i : S32x1024x512.Idx) :
    val_main_v47 (F := F) x0 i = val_main_v46 (F := F) x0 (idx_main_v47 i) := by
  unfold val_main_v47
  generalize val_main_v46 (F := F) x0 = y
  exact shapeCast_apply y shapeCasts_S32x8x128x512_S32x1024x512 i (idx_main_v47 i)
    (by rewrite [Shape.rowMajor_val_four, Shape.rowMajor_val_three]; have h0 : (i 0).val < 32 := (i 0).isLt; have h1 : (i 1).val < 1024 := (i 1).isLt; have h2 : (i 2).val < 512 := (i 2).isLt; show (((((i 0).val * 1024 + (i 1).val) * 512 + (i 2).val) / 524288 * 8 + (((i 0).val * 1024 + (i 1).val) * 512 + (i 2).val) / 65536 % 8) * 128 + (((i 0).val * 1024 + (i 1).val) * 512 + (i 2).val) / 512 % 128) * 512 + (((i 0).val * 1024 + (i 1).val) * 512 + (i 2).val) % 512 = ((i 0).val * 1024 + (i 1).val) * 512 + (i 2).val; omega)

-- %48, convert
def val_main_v48 (x0 : (⟨S16384x8x64, .f32⟩ : BufTy).Contents (Elt F)) : (⟨S32x1024x512, .bf16⟩ : BufTy).Contents (Elt F) :=
  truncf .bf16 (val_main_v47 (F := F) x0) bitsLt_bf16_f32
theorem val_main_v48_apply (x0 : (⟨S16384x8x64, .f32⟩ : BufTy).Contents (Elt F)) (i : S32x1024x512.Idx) :
    val_main_v48 (F := F) x0 i = FloatOps.truncf .bf16 bitsLt_bf16_f32 (val_main_v47 (F := F) x0 i) := rfl

-- %49, reshape
def val_main_v49 (x3 : (⟨S16384x512, .f32⟩ : BufTy).Contents (Elt F)) : (⟨S16384x8x64, .f32⟩ : BufTy).Contents (Elt F) :=
  shapeCast _ (x3) shapeCasts_S16384x512_S16384x8x64
set_option backward.proofsInPublic true in
abbrev idx_main_v49 (i : S16384x8x64.Idx) : S16384x512.Idx := fun a => match a with
  | ⟨0, _⟩ => ⟨(((i 0).val * 8 + (i 1).val) * 64 + (i 2).val) / 512, by have h0 : (i 0).val < 16384 := (i 0).isLt; have h1 : (i 1).val < 8 := (i 1).isLt; have h2 : (i 2).val < 64 := (i 2).isLt; show (((i 0).val * 8 + (i 1).val) * 64 + (i 2).val) / 512 < 16384; omega⟩
  | ⟨1, _⟩ => ⟨(((i 0).val * 8 + (i 1).val) * 64 + (i 2).val) % 512, by have h0 : (i 0).val < 16384 := (i 0).isLt; have h1 : (i 1).val < 8 := (i 1).isLt; have h2 : (i 2).val < 64 := (i 2).isLt; show (((i 0).val * 8 + (i 1).val) * 64 + (i 2).val) % 512 < 512; omega⟩
theorem val_main_v49_apply (x3 : (⟨S16384x512, .f32⟩ : BufTy).Contents (Elt F)) (i : S16384x8x64.Idx) :
    val_main_v49 (F := F) x3 i = x3 (idx_main_v49 i) := by
  unfold val_main_v49
  exact shapeCast_apply x3 shapeCasts_S16384x512_S16384x8x64 i (idx_main_v49 i)
    (by rewrite [Shape.rowMajor_val_two, Shape.rowMajor_val_three]; have h0 : (i 0).val < 16384 := (i 0).isLt; have h1 : (i 1).val < 8 := (i 1).isLt; have h2 : (i 2).val < 64 := (i 2).isLt; show (((i 0).val * 8 + (i 1).val) * 64 + (i 2).val) / 512 * 512 + (((i 0).val * 8 + (i 1).val) * 64 + (i 2).val) % 512 = ((i 0).val * 8 + (i 1).val) * 64 + (i 2).val; omega)

-- %50, reshape
def val_main_v50 (x3 : (⟨S16384x512, .f32⟩ : BufTy).Contents (Elt F)) : (⟨S32x512x8x64, .f32⟩ : BufTy).Contents (Elt F) :=
  shapeCast _ (val_main_v49 (F := F) x3) shapeCasts_S16384x8x64_S32x512x8x64
set_option backward.proofsInPublic true in
abbrev idx_main_v50 (i : S32x512x8x64.Idx) : S16384x8x64.Idx := fun a => match a with
  | ⟨0, _⟩ => ⟨((((i 0).val * 512 + (i 1).val) * 8 + (i 2).val) * 64 + (i 3).val) / 512, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) / 512 < 16384; omega⟩
  | ⟨1, _⟩ => ⟨((((i 0).val * 512 + (i 1).val) * 8 + (i 2).val) * 64 + (i 3).val) / 64 % 8, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) / 64 % 8 < 8; omega⟩
  | ⟨2, _⟩ => ⟨((((i 0).val * 512 + (i 1).val) * 8 + (i 2).val) * 64 + (i 3).val) % 64, by have h0 : (i 0).val < 32 := (i 0).isLt; have h1 : (i 1).val < 512 := (i 1).isLt; have h2 : (i 2).val < 8 := (i 2).isLt; have h3 : (i 3).val < 64 := (i 3).isLt; show ((((i 0).val * 512 + (i 1).val) * 8 + (i 2).val) * 64 + (i 3).val) % 64 < 64; omega⟩
theorem val_main_v50_apply (x3 : (⟨S16384x512, .f32⟩ : BufTy).Contents (Elt F)) (i : S32x512x8x64.Idx) :
    val_main_v50 (F := F) x3 i = val_main_v49 (F := F) x3 (idx_main_v50 i) := by
  unfold val_main_v50
  generalize val_main_v49 (F := F) x3 = y
  exact shapeCast_apply y shapeCasts_S16384x8x64_S32x512x8x64 i (idx_main_v50 i)
    (by rewrite [Shape.rowMajor_val_three, Shape.rowMajor_val_four]; have h0 : (i 0).val < 32 := (i 0).isLt; have h1 : (i 1).val < 512 := (i 1).isLt; have h2 : (i 2).val < 8 := (i 2).isLt; have h3 : (i 3).val < 64 := (i 3).isLt; show (((((i 0).val * 512 + (i 1).val) * 8 + (i 2).val) * 64 + (i 3).val) / 512 * 8 + ((((i 0).val * 512 + (i 1).val) * 8 + (i 2).val) * 64 + (i 3).val) / 64 % 8) * 64 + ((((i 0).val * 512 + (i 1).val) * 8 + (i 2).val) * 64 + (i 3).val) % 64 = (((i 0).val * 512 + (i 1).val) * 8 + (i 2).val) * 64 + (i 3).val; omega)

-- %51, transpose
def val_main_v51 (x3 : (⟨S16384x512, .f32⟩ : BufTy).Contents (Elt F)) : (⟨S32x8x64x512, .f32⟩ : BufTy).Contents (Elt F) :=
  transpose S32x8x64x512 [0, 2, 3, 1] (val_main_v50 (F := F) x3) transposes_S32x512x8x64_S32x8x64x512_0_2_3_1
abbrev idx_main_v51 (i : S32x8x64x512.Idx) : S32x512x8x64.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨(i 2).val, (i 2).isLt⟩
theorem val_main_v51_apply (x3 : (⟨S16384x512, .f32⟩ : BufTy).Contents (Elt F)) (i : S32x8x64x512.Idx) :
    val_main_v51 (F := F) x3 i = val_main_v50 (F := F) x3 (idx_main_v51 i) := by
  unfold val_main_v51
  generalize val_main_v50 (F := F) x3 = y
  exact transpose_apply [0, 2, 3, 1] y transposes_S32x512x8x64_S32x8x64x512_0_2_3_1 i (idx_main_v51 i) (fun b => match b with
    | ⟨0, _⟩ => rfl
    | ⟨1, _⟩ => rfl
    | ⟨2, _⟩ => rfl
    | ⟨3, _⟩ => rfl)

-- %cst_9, constant
def val_main_cst_9 : (⟨S_, .f32⟩ : BufTy).Contents (Elt F) :=
  constant S_ .f32 0x00000000#32
theorem val_main_cst_9_apply (i : S_.Idx) :
    val_main_cst_9 (F := F) i = FloatOps.ofBits .f32 0x00000000#32 := rfl

-- %52, broadcast_in_dim
def val_main_v52 : (⟨S32x4x64x512, .f32⟩ : BufTy).Contents (Elt F) :=
  broadcastInDim S32x4x64x512 ![] bcast_S_S32x4x64x512 (val_main_cst_9 (F := F))
abbrev idx_main_v52 (i : S32x4x64x512.Idx) : S_.Idx := fun a => a.elim0
theorem val_main_v52_apply (i : S32x4x64x512.Idx) :
    val_main_v52 (F := F) i = val_main_cst_9 (F := F) (idx_main_v52 i) := by
  unfold val_main_v52
  generalize val_main_cst_9 (F := F) = y
  exact broadcastInDim_apply _ bcast_S_S32x4x64x512 y i (idx_main_v52 i) (fun a => a.elim0)

-- %53, slice
def val_main_v53 (x3 : (⟨S16384x512, .f32⟩ : BufTy).Contents (Elt F)) : (⟨S32x4x64x512, .f32⟩ : BufTy).Contents (Elt F) :=
  extractStridedSlice S32x4x64x512 ![0, 0, 0, 0] (val_main_v51 (F := F) x3) slices_S32x8x64x512_S32x4x64x512_0_0_0_0
set_option backward.proofsInPublic true in
abbrev idx_main_v53 (i : S32x4x64x512.Idx) : S32x8x64x512.Idx := fun a => match a with
  | ⟨0, _⟩ => ⟨(i 0).val, (i 0).isLt⟩
  | ⟨1, _⟩ => ⟨(i 1).val, by have h1 : (i 1).val < 4 := (i 1).isLt; show (i 1).val < 8; omega⟩
  | ⟨2, _⟩ => ⟨(i 2).val, (i 2).isLt⟩
  | ⟨3, _⟩ => ⟨(i 3).val, (i 3).isLt⟩
theorem val_main_v53_apply (x3 : (⟨S16384x512, .f32⟩ : BufTy).Contents (Elt F)) (i : S32x4x64x512.Idx) :
    val_main_v53 (F := F) x3 i = val_main_v51 (F := F) x3 (idx_main_v53 i) := by
  unfold val_main_v53
  generalize val_main_v51 (F := F) x3 = y
  exact extractStridedSlice_apply ![0, 0, 0, 0] y slices_S32x8x64x512_S32x4x64x512_0_0_0_0 i (idx_main_v53 i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

-- %54, concatenate
def val_main_v54 (x3 : (⟨S16384x512, .f32⟩ : BufTy).Contents (Elt F)) : (⟨S32x4x128x512, .f32⟩ : BufTy).Contents (Elt F) :=
  concatenate S32x4x128x512 2 [⟨S32x4x64x512, (val_main_v53 (F := F) x3)⟩, ⟨S32x4x64x512, (val_main_v52 (F := F))⟩] concatenates_S32x4x64x512_S32x4x64x512_S32x4x128x512_d2

-- %55, slice
def val_main_v55 (x3 : (⟨S16384x512, .f32⟩ : BufTy).Contents (Elt F)) : (⟨S32x4x64x512, .f32⟩ : BufTy).Contents (Elt F) :=
  extractStridedSlice S32x4x64x512 ![0, 4, 0, 0] (val_main_v51 (F := F) x3) slices_S32x8x64x512_S32x4x64x512_0_4_0_0
set_option backward.proofsInPublic true in
abbrev idx_main_v55 (i : S32x4x64x512.Idx) : S32x8x64x512.Idx := fun a => match a with
  | ⟨0, _⟩ => ⟨(i 0).val, (i 0).isLt⟩
  | ⟨1, _⟩ => ⟨4 + (i 1).val, by have h1 : (i 1).val < 4 := (i 1).isLt; show 4 + (i 1).val < 8; omega⟩
  | ⟨2, _⟩ => ⟨(i 2).val, (i 2).isLt⟩
  | ⟨3, _⟩ => ⟨(i 3).val, (i 3).isLt⟩
theorem val_main_v55_apply (x3 : (⟨S16384x512, .f32⟩ : BufTy).Contents (Elt F)) (i : S32x4x64x512.Idx) :
    val_main_v55 (F := F) x3 i = val_main_v51 (F := F) x3 (idx_main_v55 i) := by
  unfold val_main_v55
  generalize val_main_v51 (F := F) x3 = y
  exact extractStridedSlice_apply ![0, 4, 0, 0] y slices_S32x8x64x512_S32x4x64x512_0_4_0_0 i (idx_main_v55 i) (fun a => match a with
    | ⟨0, _⟩ => by show (i 0).val = 0 + (i 0).val; omega
    | ⟨1, _⟩ => by show 4 + (i 1).val = 4 + (i 1).val; omega
    | ⟨2, _⟩ => by show (i 2).val = 0 + (i 2).val; omega
    | ⟨3, _⟩ => by show (i 3).val = 0 + (i 3).val; omega)

-- %56, concatenate
def val_main_v56 (x3 : (⟨S16384x512, .f32⟩ : BufTy).Contents (Elt F)) : (⟨S32x4x128x512, .f32⟩ : BufTy).Contents (Elt F) :=
  concatenate S32x4x128x512 2 [⟨S32x4x64x512, (val_main_v52 (F := F))⟩, ⟨S32x4x64x512, (val_main_v55 (F := F) x3)⟩] concatenates_S32x4x64x512_S32x4x64x512_S32x4x128x512_d2

-- %57, concatenate
def val_main_v57 (x3 : (⟨S16384x512, .f32⟩ : BufTy).Contents (Elt F)) : (⟨S32x8x128x512, .f32⟩ : BufTy).Contents (Elt F) :=
  concatenate S32x8x128x512 1 [⟨S32x4x128x512, (val_main_v54 (F := F) x3)⟩, ⟨S32x4x128x512, (val_main_v56 (F := F) x3)⟩] concatenates_S32x4x128x512_S32x4x128x512_S32x8x128x512_d1

-- %58, reshape
def val_main_v58 (x3 : (⟨S16384x512, .f32⟩ : BufTy).Contents (Elt F)) : (⟨S32x1024x512, .f32⟩ : BufTy).Contents (Elt F) :=
  shapeCast _ (val_main_v57 (F := F) x3) shapeCasts_S32x8x128x512_S32x1024x512
set_option backward.proofsInPublic true in
abbrev idx_main_v58 (i : S32x1024x512.Idx) : S32x8x128x512.Idx := fun a => match a with
  | ⟨0, _⟩ => ⟨(((i 0).val * 1024 + (i 1).val) * 512 + (i 2).val) / 524288, by have h0 : (i 0).val < 32 := (i 0).isLt; have h1 : (i 1).val < 1024 := (i 1).isLt; have h2 : (i 2).val < 512 := (i 2).isLt; show (((i 0).val * 1024 + (i 1).val) * 512 + (i 2).val) / 524288 < 32; omega⟩
  | ⟨1, _⟩ => ⟨(((i 0).val * 1024 + (i 1).val) * 512 + (i 2).val) / 65536 % 8, by have h0 : (i 0).val < 32 := (i 0).isLt; have h1 : (i 1).val < 1024 := (i 1).isLt; have h2 : (i 2).val < 512 := (i 2).isLt; show (((i 0).val * 1024 + (i 1).val) * 512 + (i 2).val) / 65536 % 8 < 8; omega⟩
  | ⟨2, _⟩ => ⟨(((i 0).val * 1024 + (i 1).val) * 512 + (i 2).val) / 512 % 128, by have h0 : (i 0).val < 32 := (i 0).isLt; have h1 : (i 1).val < 1024 := (i 1).isLt; have h2 : (i 2).val < 512 := (i 2).isLt; show (((i 0).val * 1024 + (i 1).val) * 512 + (i 2).val) / 512 % 128 < 128; omega⟩
  | ⟨3, _⟩ => ⟨(((i 0).val * 1024 + (i 1).val) * 512 + (i 2).val) % 512, by have h0 : (i 0).val < 32 := (i 0).isLt; have h1 : (i 1).val < 1024 := (i 1).isLt; have h2 : (i 2).val < 512 := (i 2).isLt; show (((i 0).val * 1024 + (i 1).val) * 512 + (i 2).val) % 512 < 512; omega⟩
theorem val_main_v58_apply (x3 : (⟨S16384x512, .f32⟩ : BufTy).Contents (Elt F)) (i : S32x1024x512.Idx) :
    val_main_v58 (F := F) x3 i = val_main_v57 (F := F) x3 (idx_main_v58 i) := by
  unfold val_main_v58
  generalize val_main_v57 (F := F) x3 = y
  exact shapeCast_apply y shapeCasts_S32x8x128x512_S32x1024x512 i (idx_main_v58 i)
    (by rewrite [Shape.rowMajor_val_four, Shape.rowMajor_val_three]; have h0 : (i 0).val < 32 := (i 0).isLt; have h1 : (i 1).val < 1024 := (i 1).isLt; have h2 : (i 2).val < 512 := (i 2).isLt; show (((((i 0).val * 1024 + (i 1).val) * 512 + (i 2).val) / 524288 * 8 + (((i 0).val * 1024 + (i 1).val) * 512 + (i 2).val) / 65536 % 8) * 128 + (((i 0).val * 1024 + (i 1).val) * 512 + (i 2).val) / 512 % 128) * 512 + (((i 0).val * 1024 + (i 1).val) * 512 + (i 2).val) % 512 = ((i 0).val * 1024 + (i 1).val) * 512 + (i 2).val; omega)

-- %59, convert
def val_main_v59 (x3 : (⟨S16384x512, .f32⟩ : BufTy).Contents (Elt F)) : (⟨S32x1024x512, .bf16⟩ : BufTy).Contents (Elt F) :=
  truncf .bf16 (val_main_v58 (F := F) x3) bitsLt_bf16_f32
theorem val_main_v59_apply (x3 : (⟨S16384x512, .f32⟩ : BufTy).Contents (Elt F)) (i : S32x1024x512.Idx) :
    val_main_v59 (F := F) x3 i = FloatOps.truncf .bf16 bitsLt_bf16_f32 (val_main_v58 (F := F) x3 i) := rfl

-- %60, reshape
def val_main_v60 (x1 : (⟨S16384x2x64, .f32⟩ : BufTy).Contents (Elt F)) : (⟨S16384x128, .f32⟩ : BufTy).Contents (Elt F) :=
  shapeCast _ (x1) shapeCasts_S16384x2x64_S16384x128
set_option backward.proofsInPublic true in
abbrev idx_main_v60 (i : S16384x128.Idx) : S16384x2x64.Idx := fun a => match a with
  | ⟨0, _⟩ => ⟨((i 0).val * 128 + (i 1).val) / 128, by have h0 : (i 0).val < 16384 := (i 0).isLt; have h1 : (i 1).val < 128 := (i 1).isLt; show ((i 0).val * 128 + (i 1).val) / 128 < 16384; omega⟩
  | ⟨1, _⟩ => ⟨((i 0).val * 128 + (i 1).val) / 64 % 2, by have h0 : (i 0).val < 16384 := (i 0).isLt; have h1 : (i 1).val < 128 := (i 1).isLt; show ((i 0).val * 128 + (i 1).val) / 64 % 2 < 2; omega⟩
  | ⟨2, _⟩ => ⟨((i 0).val * 128 + (i 1).val) % 64, by have h0 : (i 0).val < 16384 := (i 0).isLt; have h1 : (i 1).val < 128 := (i 1).isLt; show ((i 0).val * 128 + (i 1).val) % 64 < 64; omega⟩
theorem val_main_v60_apply (x1 : (⟨S16384x2x64, .f32⟩ : BufTy).Contents (Elt F)) (i : S16384x128.Idx) :
    val_main_v60 (F := F) x1 i = x1 (idx_main_v60 i) := by
  unfold val_main_v60
  exact shapeCast_apply x1 shapeCasts_S16384x2x64_S16384x128 i (idx_main_v60 i)
    (by rewrite [Shape.rowMajor_val_three, Shape.rowMajor_val_two]; have h0 : (i 0).val < 16384 := (i 0).isLt; have h1 : (i 1).val < 128 := (i 1).isLt; show (((i 0).val * 128 + (i 1).val) / 128 * 2 + ((i 0).val * 128 + (i 1).val) / 64 % 2) * 64 + ((i 0).val * 128 + (i 1).val) % 64 = (i 0).val * 128 + (i 1).val; omega)

-- %61, convert
def val_main_v61 (x1 : (⟨S16384x2x64, .f32⟩ : BufTy).Contents (Elt F)) : (⟨S16384x128, .bf16⟩ : BufTy).Contents (Elt F) :=
  truncf .bf16 (val_main_v60 (F := F) x1) bitsLt_bf16_f32
theorem val_main_v61_apply (x1 : (⟨S16384x2x64, .f32⟩ : BufTy).Contents (Elt F)) (i : S16384x128.Idx) :
    val_main_v61 (F := F) x1 i = FloatOps.truncf .bf16 bitsLt_bf16_f32 (val_main_v60 (F := F) x1 i) := rfl

-- %62, reshape
def val_main_v62 (x2 : (⟨S16384x2x64, .f32⟩ : BufTy).Contents (Elt F)) : (⟨S16384x128, .f32⟩ : BufTy).Contents (Elt F) :=
  shapeCast _ (x2) shapeCasts_S16384x2x64_S16384x128
set_option backward.proofsInPublic true in
abbrev idx_main_v62 (i : S16384x128.Idx) : S16384x2x64.Idx := fun a => match a with
  | ⟨0, _⟩ => ⟨((i 0).val * 128 + (i 1).val) / 128, by have h0 : (i 0).val < 16384 := (i 0).isLt; have h1 : (i 1).val < 128 := (i 1).isLt; show ((i 0).val * 128 + (i 1).val) / 128 < 16384; omega⟩
  | ⟨1, _⟩ => ⟨((i 0).val * 128 + (i 1).val) / 64 % 2, by have h0 : (i 0).val < 16384 := (i 0).isLt; have h1 : (i 1).val < 128 := (i 1).isLt; show ((i 0).val * 128 + (i 1).val) / 64 % 2 < 2; omega⟩
  | ⟨2, _⟩ => ⟨((i 0).val * 128 + (i 1).val) % 64, by have h0 : (i 0).val < 16384 := (i 0).isLt; have h1 : (i 1).val < 128 := (i 1).isLt; show ((i 0).val * 128 + (i 1).val) % 64 < 64; omega⟩
theorem val_main_v62_apply (x2 : (⟨S16384x2x64, .f32⟩ : BufTy).Contents (Elt F)) (i : S16384x128.Idx) :
    val_main_v62 (F := F) x2 i = x2 (idx_main_v62 i) := by
  unfold val_main_v62
  exact shapeCast_apply x2 shapeCasts_S16384x2x64_S16384x128 i (idx_main_v62 i)
    (by rewrite [Shape.rowMajor_val_three, Shape.rowMajor_val_two]; have h0 : (i 0).val < 16384 := (i 0).isLt; have h1 : (i 1).val < 128 := (i 1).isLt; show (((i 0).val * 128 + (i 1).val) / 128 * 2 + ((i 0).val * 128 + (i 1).val) / 64 % 2) * 64 + ((i 0).val * 128 + (i 1).val) % 64 = (i 0).val * 128 + (i 1).val; omega)

-- %63, convert
def val_main_v63 (x2 : (⟨S16384x2x64, .f32⟩ : BufTy).Contents (Elt F)) : (⟨S16384x128, .bf16⟩ : BufTy).Contents (Elt F) :=
  truncf .bf16 (val_main_v62 (F := F) x2) bitsLt_bf16_f32
theorem val_main_v63_apply (x2 : (⟨S16384x2x64, .f32⟩ : BufTy).Contents (Elt F)) (i : S16384x128.Idx) :
    val_main_v63 (F := F) x2 i = FloatOps.truncf .bf16 bitsLt_bf16_f32 (val_main_v62 (F := F) x2 i) := rfl

-- %64, reshape
def val_main_v64 (x1 : (⟨S16384x2x64, .f32⟩ : BufTy).Contents (Elt F)) : (⟨S32x512x128, .bf16⟩ : BufTy).Contents (Elt F) :=
  shapeCast _ (val_main_v61 (F := F) x1) shapeCasts_S16384x128_S32x512x128
set_option backward.proofsInPublic true in
abbrev idx_main_v64 (i : S32x512x128.Idx) : S16384x128.Idx := fun a => match a with
  | ⟨0, _⟩ => ⟨(((i 0).val * 512 + (i 1).val) * 128 + (i 2).val) / 128, by have h0 : (i 0).val < 32 := (i 0).isLt; have h1 : (i 1).val < 512 := (i 1).isLt; have h2 : (i 2).val < 128 := (i 2).isLt; show (((i 0).val * 512 + (i 1).val) * 128 + (i 2).val) / 128 < 16384; omega⟩
  | ⟨1, _⟩ => ⟨(((i 0).val * 512 + (i 1).val) * 128 + (i 2).val) % 128, by have h0 : (i 0).val < 32 := (i 0).isLt; have h1 : (i 1).val < 512 := (i 1).isLt; have h2 : (i 2).val < 128 := (i 2).isLt; show (((i 0).val * 512 + (i 1).val) * 128 + (i 2).val) % 128 < 128; omega⟩
theorem val_main_v64_apply (x1 : (⟨S16384x2x64, .f32⟩ : BufTy).Contents (Elt F)) (i : S32x512x128.Idx) :
    val_main_v64 (F := F) x1 i = val_main_v61 (F := F) x1 (idx_main_v64 i) := by
  unfold val_main_v64
  generalize val_main_v61 (F := F) x1 = y
  exact shapeCast_apply y shapeCasts_S16384x128_S32x512x128 i (idx_main_v64 i)
    (by rewrite [Shape.rowMajor_val_two, Shape.rowMajor_val_three]; have h0 : (i 0).val < 32 := (i 0).isLt; have h1 : (i 1).val < 512 := (i 1).isLt; have h2 : (i 2).val < 128 := (i 2).isLt; show (((i 0).val * 512 + (i 1).val) * 128 + (i 2).val) / 128 * 128 + (((i 0).val * 512 + (i 1).val) * 128 + (i 2).val) % 128 = ((i 0).val * 512 + (i 1).val) * 128 + (i 2).val; omega)

-- %65, transpose
def val_main_v65 (x1 : (⟨S16384x2x64, .f32⟩ : BufTy).Contents (Elt F)) : (⟨S32x128x512, .bf16⟩ : BufTy).Contents (Elt F) :=
  transpose S32x128x512 [0, 2, 1] (val_main_v64 (F := F) x1) transposes_S32x512x128_S32x128x512_0_2_1
abbrev idx_main_v65 (i : S32x128x512.Idx) : S32x512x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v65_apply (x1 : (⟨S16384x2x64, .f32⟩ : BufTy).Contents (Elt F)) (i : S32x128x512.Idx) :
    val_main_v65 (F := F) x1 i = val_main_v64 (F := F) x1 (idx_main_v65 i) := by
  unfold val_main_v65
  generalize val_main_v64 (F := F) x1 = y
  exact transpose_apply [0, 2, 1] y transposes_S32x512x128_S32x128x512_0_2_1 i (idx_main_v65 i) (fun b => match b with
    | ⟨0, _⟩ => rfl
    | ⟨1, _⟩ => rfl
    | ⟨2, _⟩ => rfl)

end Cert.KernelIdeal.Pre

end
-- ==== Proof.Ideal.HostVal.lean ====
/- The arrays that the call reads, at finite arguments: entries of the arguments, the rows' log-sum-exp in base 2 and the
   rows' sums of probability times cotangent. -/
module

public import proofs.«01_k».proof.Proof.Ideal.HostPre
public import proofs.«01_k».proof.Proof.Ideal.Math

@[expose] public section

set_option maxRecDepth 8192

noncomputable section

namespace Cert.KernelIdeal.Pre

open Cert.KernelIdeal Cert.KernelIdeal.Gen Idealize.ShloMosaic Cert.Attn

/-! ## Positions -/

theorem pos_tile {a b x : ℕ} (hb : b < 1024) (hx : x < 512) : ((a * 1024 + b) * 512 + x) / 524288 = a := by omega
theorem pos_col {a b x : ℕ} (hx : x < 512) : ((a * 1024 + b) * 512 + x) % 512 = x := by omega
theorem pos_head {a b x : ℕ} (hb : b < 1024) (hx : x < 512) : ((a * 1024 + b) * 512 + x) / 65536 % 8 = b / 128 := by omega
theorem pos_lane {a b x : ℕ} (hx : x < 512) : ((a * 1024 + b) * 512 + x) / 512 % 128 = b % 128 := by
  rw [show ((a * 1024 + b) * 512 + x) / 512 = a * 1024 + b by omega]; omega
theorem pos_row {r h d : ℕ} (hh : h < 8) (hd : d < 64) : ((r * 8 + h) * 64 + d) / 512 = r := by omega
theorem pos_mid {r h d : ℕ} (hh : h < 8) (hd : d < 64) : ((r * 8 + h) * 64 + d) / 64 % 8 = h := by omega
theorem pos_low {r h d : ℕ} (hd : d < 64) : ((r * 8 + h) * 64 + d) % 64 = d := by omega
theorem pos_pair {r h d : ℕ} (hh : h < 8) (hd : d < 64) : ((r * 8 + h) * 64 + d) % 512 = h * 64 + d := by omega
theorem pos_seq {h t z x : ℕ} (ht : t < 32) (hz : z < 1) (hx : x < 512) : (((h * 32 + t) * 1 + z) * 512 + x) % 16384 = t * 512 + x := by omega
theorem pos_top {h t z x : ℕ} (ht : t < 32) (hz : z < 1) (hx : x < 512) : (((h * 32 + t) * 1 + z) * 512 + x) / 16384 = h := by omega

/-! ## Each head in its group's half of the lanes -/

section

variable (y : (⟨S32x8x64x512, .f32⟩ : BufTy).Contents (Elt Ideal)) (z : (⟨S32x4x64x512, .f32⟩ : BufTy).Contents (Elt Ideal))

/-- The first four heads above zeros, the last four below zeros. -/
def tilesOf : (⟨S32x8x128x512, .f32⟩ : BufTy).Contents (Elt Ideal) :=
  concatenate S32x8x128x512 1 [
    ⟨S32x4x128x512, concatenate S32x4x128x512 2 [⟨S32x4x64x512, extractStridedSlice S32x4x64x512 ![0, 0, 0, 0] y slices_S32x8x64x512_S32x4x64x512_0_0_0_0⟩, ⟨S32x4x64x512, z⟩] concatenates_S32x4x64x512_S32x4x64x512_S32x4x128x512_d2⟩,
    ⟨S32x4x128x512, concatenate S32x4x128x512 2 [⟨S32x4x64x512, z⟩, ⟨S32x4x64x512, extractStridedSlice S32x4x64x512 ![0, 4, 0, 0] y slices_S32x8x64x512_S32x4x64x512_0_4_0_0⟩] concatenates_S32x4x64x512_S32x4x64x512_S32x4x128x512_d2⟩]
    concatenates_S32x4x128x512_S32x4x128x512_S32x8x128x512_d1

abbrev tileIdx (j : S32x8x128x512.Idx) : S32x8x64x512.Idx := fun a => match a with
  | ⟨0, _⟩ => ⟨(j 0).val, (j 0).isLt⟩
  | ⟨1, _⟩ => ⟨(j 1).val, (j 1).isLt⟩
  | ⟨2, _⟩ => ⟨(j 2).val % 64, Nat.mod_lt _ (by decide)⟩
  | ⟨3, _⟩ => ⟨(j 3).val, (j 3).isLt⟩

abbrev halfIdx (j : S32x8x128x512.Idx) : S32x4x128x512.Idx := fun a => match a with
  | ⟨0, _⟩ => ⟨(j 0).val, (j 0).isLt⟩
  | ⟨1, _⟩ => ⟨(j 1).val % 4, Nat.mod_lt _ (by decide)⟩
  | ⟨2, _⟩ => ⟨(j 2).val, (j 2).isLt⟩
  | ⟨3, _⟩ => ⟨(j 3).val, (j 3).isLt⟩

abbrev quarterIdx (j : S32x8x128x512.Idx) : S32x4x64x512.Idx := fun a => match a with
  | ⟨0, _⟩ => ⟨(j 0).val, (j 0).isLt⟩
  | ⟨1, _⟩ => ⟨(j 1).val % 4, Nat.mod_lt _ (by decide)⟩
  | ⟨2, _⟩ => ⟨(j 2).val % 64, Nat.mod_lt _ (by decide)⟩
  | ⟨3, _⟩ => ⟨(j 3).val, (j 3).isLt⟩

/-- A lane of a head's own group holds the head's coordinate, a lane of the other group zero. -/
theorem tilesOf_apply (hz : ∀ i, z i = 0) (j : S32x8x128x512.Idx) :
    tilesOf y z j = if (j 2).val / 64 = (j 1).val / 4 then y (tileIdx j) else 0 := by
  have b1 : (j 1).val < 8 := (j 1).isLt
  have b2 : (j 2).val < 128 := (j 2).isLt
  unfold tilesOf
  by_cases h1 : (j 1).val < 4
  · rw [concatenate_pair_apply_left (s₁ := S32x4x128x512) (s₂ := S32x4x128x512) 1 _ _ _ j rfl (halfIdx j) (fun b => match b with
      | ⟨0, _⟩ => rfl
      | ⟨1, _⟩ => by show (j 1).val % 4 = (j 1).val; omega
      | ⟨2, _⟩ => rfl
      | ⟨3, _⟩ => rfl)]
    by_cases h2 : (j 2).val < 64
    · rw [concatenate_pair_apply_left (s₁ := S32x4x64x512) (s₂ := S32x4x64x512) 2 _ _ _ (halfIdx j) rfl (quarterIdx j) (fun b => match b with
        | ⟨0, _⟩ => rfl
        | ⟨1, _⟩ => rfl
        | ⟨2, _⟩ => by show (j 2).val % 64 = (j 2).val; omega
        | ⟨3, _⟩ => rfl),
        extractStridedSlice_apply ![0, 0, 0, 0] y _ (quarterIdx j) (tileIdx j) (fun a => match a with
        | ⟨0, _⟩ => by show (j 0).val = 0 + (j 0).val; omega
        | ⟨1, _⟩ => by show (j 1).val = 0 + (j 1).val % 4; omega
        | ⟨2, _⟩ => by show (j 2).val % 64 = 0 + (j 2).val % 64; omega
        | ⟨3, _⟩ => by show (j 3).val = 0 + (j 3).val; omega), if_pos (by omega)]
    · rw [concatenate_pair_apply_right (s₁ := S32x4x64x512) (s₂ := S32x4x64x512) 2 _ _ _ (halfIdx j) rfl rfl (quarterIdx j) (fun b hb => match b with
        | ⟨0, _⟩ => rfl
        | ⟨1, _⟩ => rfl
        | ⟨2, _⟩ => absurd rfl hb
        | ⟨3, _⟩ => rfl) (by show (j 2).val % 64 + 64 = (j 2).val; omega), hz, if_neg (by omega)]
  · rw [concatenate_pair_apply_right (s₁ := S32x4x128x512) (s₂ := S32x4x128x512) 1 _ _ _ j rfl rfl (halfIdx j) (fun b hb => match b with
      | ⟨0, _⟩ => rfl
      | ⟨1, _⟩ => absurd rfl hb
      | ⟨2, _⟩ => rfl
      | ⟨3, _⟩ => rfl) (by show (j 1).val % 4 + 4 = (j 1).val; omega)]
    by_cases h2 : (j 2).val < 64
    · rw [concatenate_pair_apply_left (s₁ := S32x4x64x512) (s₂ := S32x4x64x512) 2 _ _ _ (halfIdx j) rfl (quarterIdx j) (fun b => match b with
        | ⟨0, _⟩ => rfl
        | ⟨1, _⟩ => rfl
        | ⟨2, _⟩ => by show (j 2).val % 64 = (j 2).val; omega
        | ⟨3, _⟩ => rfl), hz, if_neg (by omega)]
    · rw [concatenate_pair_apply_right (s₁ := S32x4x64x512) (s₂ := S32x4x64x512) 2 _ _ _ (halfIdx j) rfl rfl (quarterIdx j) (fun b hb => match b with
        | ⟨0, _⟩ => rfl
        | ⟨1, _⟩ => rfl
        | ⟨2, _⟩ => absurd rfl hb
        | ⟨3, _⟩ => rfl) (by show (j 2).val % 64 + 64 = (j 2).val; omega),
        extractStridedSlice_apply ![0, 4, 0, 0] y _ (quarterIdx j) (tileIdx j) (fun a => match a with
        | ⟨0, _⟩ => by show (j 0).val = 0 + (j 0).val; omega
        | ⟨1, _⟩ => by show (j 1).val = 4 + (j 1).val % 4; omega
        | ⟨2, _⟩ => by show (j 2).val % 64 = 0 + (j 2).val % 64; omega
        | ⟨3, _⟩ => by show (j 3).val = 0 + (j 3).val; omega), if_pos (by omega)]

end

/-! ## The arrays at finite arguments -/

variable (q k v : ℕ → ℕ → ℕ → ℝ) (o : ℕ → ℕ → ℝ)
variable {x0 : (⟨S16384x8x64, .f32⟩ : BufTy).Contents (Elt Ideal)} {x1 x2 : (⟨S16384x2x64, .f32⟩ : BufTy).Contents (Elt Ideal)}
  {x3 : (⟨S16384x512, .f32⟩ : BufTy).Contents (Elt Ideal)}
variable (h0 : ∀ i, x0 i = ((q (i 0).val (i 1).val (i 2).val : ℝ) : EReal)) (h1 : ∀ i, x1 i = ((k (i 0).val (i 1).val (i 2).val : ℝ) : EReal))
  (h2 : ∀ i, x2 i = ((v (i 0).val (i 1).val (i 2).val : ℝ) : EReal)) (h3 : ∀ i, x3 i = ((o (i 0).val (i 1).val : ℝ) : EReal))

/-- A sum begun at zero. -/
theorem add_zero_bits (x : EReal) : Ideal.ofBits .f32 0x00000000#32 + x = x := by rw [bits_zero, EReal.coe_zero, zero_add]

theorem log_two_ne : Real.log 2 ≠ 0 := (Real.log_pos (by norm_num)).ne'

/-- The host's logarithm of two. -/
theorem v0_real (i : S_.Idx) : val_main_v0 (F := Ideal) i = ((Real.log 2 : ℝ) : EReal) := by
  rw [val_main_v0_apply, val_main_cst_apply]
  show Ideal.log (Ideal.ofBits .f32 0x40000000#32) = _
  rw [bits_two, log_real (by norm_num)]

include h0 in
/-- The queries by group and head. -/
theorem v1_real (i : S16384x2x4x64.Idx) :
    val_main_v1 (F := Ideal) x0 i = ((q (i 0).val ((i 1).val * 4 + (i 2).val) (i 3).val : ℝ) : EReal) := by
  rw [val_main_v1_apply, h0]
  have b0 : (i 0).val < 16384 := (i 0).isLt
  have b1 : (i 1).val < 2 := (i 1).isLt
  have b2 : (i 2).val < 4 := (i 2).isLt
  have b3 : (i 3).val < 64 := (i 3).isLt
  show ((q (((((i 0).val * 2 + (i 1).val) * 4 + (i 2).val) * 64 + (i 3).val) / 512) (((((i 0).val * 2 + (i 1).val) * 4 + (i 2).val) * 64 + (i 3).val) / 64 % 8)
    (((((i 0).val * 2 + (i 1).val) * 4 + (i 2).val) * 64 + (i 3).val) % 64) : ℝ) : EReal) = _
  congr 2 <;> omega

include h0 h1 in
/-- The scaled scores. -/
theorem v5_real (i : S2x4x16384x16384.Idx) :
    val_main_v5 (F := Ideal) x0 x1 i = ((sc q k (i 0).val ((i 0).val * 4 + (i 1).val) (i 2).val (i 3).val : ℝ) : EReal) := by
  rw [val_main_v5_apply, val_main_v3_apply, val_main_v2_apply, val_main_v4_apply, val_main_cst_0_apply]
  simp only [v1_real q h0, h1, sum_mul_coe]
  refine (congrArg _ bits_eighth).trans ?_
  exact (EReal.coe_mul _ _).symm

include h0 h1 in
/-- The row maxima are reals. -/
theorem v20_real : ∃ M : S2x4x16384.Idx → ℝ, ∀ i, val_main_v20 (F := Ideal) x0 x1 i = ((M i : ℝ) : EReal) := by
  have h : ∀ i, ∃ r : ℝ, val_main_v20 (F := Ideal) x0 x1 i = ((r : ℝ) : EReal) := fun i =>
    reduce_max_real (s := S2x4x16384x16384) (t := S2x4x16384) (a := 3) (val_main_v5 (F := Ideal) x0 x1) (fun i => ⟨_, v5_real q k h0 h1 i⟩)
      (val_main_cst_4 (F := Ideal)) (fun i => bits_bot) reducesTo_S2x4x16384x16384_S2x4x16384_d3 (by decide) h_S_ (by decide) i
  exact ⟨fun i => (h i).choose, fun i => (h i).choose_spec⟩

include h0 h1 in
/-- So are the maxima that the probabilities subtract. -/
theorem v8_real : ∃ M : S2x4x16384.Idx → ℝ, ∀ i, val_main_v8 (F := Ideal) x0 x1 i = ((M i : ℝ) : EReal) := by
  obtain ⟨M, hM⟩ := v20_real q k h0 h1
  refine ⟨M, fun i => ?_⟩
  rw [val_main_v8_apply, val_main_v7_apply, val_main_cst_2_apply]
  have hr' : val_main_v6 (F := Ideal) x0 x1 i = ((M i : ℝ) : EReal) := hM i
  rw [hr']
  show max (Ideal.ofBits .f32 0xFF800000#32) ((M i : ℝ) : EReal) = _
  rw [bits_bot]; exact max_eq_right bot_le

section

variable {M : S2x4x16384.Idx → ℝ} (hM : ∀ i, val_main_v8 (F := Ideal) x0 x1 i = ((M i : ℝ) : EReal))

/-- The row of a score. -/
abbrev rowOf (i : S2x4x16384x16384.Idx) : S2x4x16384.Idx := idx_main_v9 (idx_main_v10 i)

include h0 h1 hM in
theorem v12_real (i : S2x4x16384x16384.Idx) : val_main_v12 (F := Ideal) x0 x1 i
    = ((Real.exp (sc q k (i 0).val ((i 0).val * 4 + (i 1).val) (i 2).val (i 3).val - M (rowOf i)) : ℝ) : EReal) := by
  rw [val_main_v12_apply, val_main_v11_apply, val_main_v10_apply, val_main_v9_apply, hM, v5_real q k h0 h1]
  show Ideal.exp (((_ : ℝ) : EReal) - ((_ : ℝ) : EReal)) = _
  rw [← EReal.coe_sub, Ideal.exp_coe]

include h0 h1 hM in
theorem v13_real (i : S2x4x16384.Idx) : val_main_v13 (F := Ideal) x0 x1 i
    = ((denM q k (M i) (i 0).val ((i 0).val * 4 + (i 1).val) (i 2).val : ℝ) : EReal) := by
  have er : ∀ t, rowOf (idx_main_v13 i t) = i := fun t => funext fun a => match a with | ⟨0, _⟩ => rfl | ⟨1, _⟩ => rfl | ⟨2, _⟩ => rfl
  rw [val_main_v13_apply, val_main_cst_3_apply]
  simp only [v12_real q k h0 h1 hM, er, sum_coe]
  exact add_zero_bits _

include h0 h1 hM in
theorem v16_realM (i : S2x4x16384x16384.Idx) : val_main_v16 (F := Ideal) x0 x1 i
    = ((prob q k (i 0).val ((i 0).val * 4 + (i 1).val) (i 2).val (i 3).val : ℝ) : EReal) := by
  rw [val_main_v16_apply, v12_real q k h0 h1 hM, val_main_v15_apply, val_main_v14_apply, v13_real q k h0 h1 hM]
  refine (div_real _ (denM_pos q k _ _ _ _).ne').trans ?_
  exact congrArg _ (prob_shift q k _ _ _ _ _)

end

include h0 h1 in
/-- The probabilities. -/
theorem v16_real (i : S2x4x16384x16384.Idx) : val_main_v16 (F := Ideal) x0 x1 i
    = ((prob q k (i 0).val ((i 0).val * 4 + (i 1).val) (i 2).val (i 3).val : ℝ) : EReal) := by
  obtain ⟨M, hM⟩ := v8_real q k h0 h1
  exact v16_realM q k h0 h1 hM i

include h0 h1 in
/-- The rows' log-sum-exp in base 2, of some shift of the row. -/
theorem v30_real : ∃ M : S8x32x1x512.Idx → ℝ, ∀ i, val_main_v30 (F := Ideal) x0 x1 i
    = (((M i + Real.log (denM q k (M i) ((i 0).val / 4) (i 0).val ((i 1).val * 512 + (i 3).val))) / Real.log 2 : ℝ) : EReal) := by
  obtain ⟨M, hM⟩ := v20_real q k h0 h1
  refine ⟨fun i => M (idx_main_v30 i), fun i => ?_⟩
  have e24 : ∀ u : S2x4x16384x16384.Idx, val_main_v24 (F := Ideal) x0 x1 u
      = ((Real.exp (sc q k (u 0).val ((u 0).val * 4 + (u 1).val) (u 2).val (u 3).val - M (idx_main_v21 (idx_main_v22 u))) : ℝ) : EReal) := fun u => by
    rw [val_main_v24_apply, val_main_v23_apply, val_main_v22_apply, val_main_v21_apply, hM, v5_real q k h0 h1]
    show Ideal.exp (((_ : ℝ) : EReal) - ((_ : ℝ) : EReal)) = _
    rw [← EReal.coe_sub, Ideal.exp_coe]
  have e25 : ∀ u : S2x4x16384.Idx, val_main_v25 (F := Ideal) x0 x1 u
      = ((denM q k (M u) (u 0).val ((u 0).val * 4 + (u 1).val) (u 2).val : ℝ) : EReal) := fun u => by
    have er : ∀ t, idx_main_v21 (idx_main_v22 (idx_main_v25 u t)) = u := fun t => funext fun a => match a with | ⟨0, _⟩ => rfl | ⟨1, _⟩ => rfl | ⟨2, _⟩ => rfl
    rw [val_main_v25_apply, val_main_cst_5_apply]
    simp only [e24, er, sum_coe]
    exact add_zero_bits _
  rw [val_main_v30_apply, val_main_v29_apply, val_main_v27_apply, val_main_v26_apply, val_main_v28_apply, v0_real, e25, hM]
  show Ideal.div (((_ : ℝ) : EReal) + Ideal.log ((_ : ℝ) : EReal)) ((_ : ℝ) : EReal) = _
  rw [log_real (denM_pos q k _ _ _ _), ← EReal.coe_add, div_real _ log_two_ne]
  have b0 : (i 0).val < 8 := (i 0).isLt
  have b1 : (i 1).val < 32 := (i 1).isLt
  have b2 : (i 2).val < 1 := (i 2).isLt
  have b3 : (i 3).val < 512 := (i 3).isLt
  have e0 : (idx_main_v30 i 0).val = (i 0).val / 4 := by
    show ((((i 0).val * 32 + (i 1).val) * 1 + (i 2).val) * 512 + (i 3).val) / 65536 = _; omega
  have e1 : (idx_main_v30 i 1).val = (i 0).val % 4 := by
    show ((((i 0).val * 32 + (i 1).val) * 1 + (i 2).val) * 512 + (i 3).val) / 16384 % 4 = _; omega
  have e2 : (idx_main_v30 i 2).val = (i 1).val * 512 + (i 3).val := by
    show ((((i 0).val * 32 + (i 1).val) * 1 + (i 2).val) * 512 + (i 3).val) % 16384 = _; omega
  rw [e0, e1, e2, show (i 0).val / 4 * 4 + (i 0).val % 4 = (i 0).val by omega]

include h0 h1 h2 h3 in
/-- The rows' sums of probability times cotangent, by way of the attention's output. -/
theorem v35_real (i : S8x32x1x512.Idx) : val_main_v35 (F := Ideal) x0 x1 x2 x3 i
    = ((row q k v o ((i 0).val / 4) (i 0).val ((i 1).val * 512 + (i 3).val) : ℝ) : EReal) := by
  have b0 : (i 0).val < 8 := (i 0).isLt
  have b1 : (i 1).val < 32 := (i 1).isLt
  have b2 : (i 2).val < 1 := (i 2).isLt
  have b3 : (i 3).val < 512 := (i 3).isLt
  have e19 : ∀ u : S16384x512.Idx, val_main_v19 (F := Ideal) x0 x1 x2 u
      = ((∑ j : Fin 16384, v j.val ((u 1).val / 256) ((u 1).val % 64) * prob q k ((u 1).val / 256) ((u 1).val / 64) (u 0).val j.val : ℝ) : EReal) := fun u => by
    have c0 : (u 0).val < 16384 := (u 0).isLt
    have c1 : (u 1).val < 512 := (u 1).isLt
    rw [val_main_v19_apply, val_main_v18_apply, val_main_v17_apply]
    simp only [v16_real q k h0 h1, h2, sum_mul_coe]
    refine congrArg (fun r : ℝ => (r : EReal)) (Finset.sum_congr rfl fun t _ => ?_)
    show v t.val (((u 0).val * 512 + (u 1).val) / 256 % 2) (((u 0).val * 512 + (u 1).val) % 64)
      * prob q k (((u 0).val * 512 + (u 1).val) / 256 % 2) (((u 0).val * 512 + (u 1).val) / 256 % 2 * 4 + ((u 0).val * 512 + (u 1).val) / 64 % 4)
        (((u 0).val * 512 + (u 1).val) / 512) t.val = _
    generalize (u 0).val = a at *
    generalize (u 1).val = b at *
    have f1 : (a * 512 + b) / 256 % 2 = b / 256 := by omega
    have f2 : (a * 512 + b) % 64 = b % 64 := by omega
    have f3 : (a * 512 + b) / 512 = a := by omega
    have f4 : (a * 512 + b) / 64 % 4 = b / 64 % 4 := by omega
    have f5 : b / 256 * 4 + b / 64 % 4 = b / 64 := by omega
    rw [f1, f2, f3, f4, f5]
  rw [val_main_v35_apply, val_main_v34_apply, val_main_v33_apply, val_main_cst_6_apply]
  refine (add_zero_bits _).trans ?_
  have e : ∀ d : Fin 64, val_main_v32 (F := Ideal) x0 x1 x2 x3 (idx_main_v33 (idx_main_v34 (idx_main_v35 i)) d)
      = ((∑ j : Fin 16384, o ((i 1).val * 512 + (i 3).val) ((i 0).val * 64 + d.val) * (v j.val ((i 0).val / 4) d.val
          * prob q k ((i 0).val / 4) (i 0).val ((i 1).val * 512 + (i 3).val) j.val) : ℝ) : EReal) := fun d => by
    have bd := d.isLt
    rw [val_main_v32_apply, val_main_v31_apply, e19, h3]
    refine (EReal.coe_mul _ _).symm.trans (congrArg (fun r : ℝ => (r : EReal)) ?_)
    rw [Finset.mul_sum]
    have g0 : (idx_main_v32 (idx_main_v33 (idx_main_v34 (idx_main_v35 i)) d) 0).val = (i 1).val * 512 + (i 3).val := by
      show ((((((i 0).val * 32 + (i 1).val) * 1 + (i 2).val) * 512 + (i 3).val) % 16384 * 8 + ((((i 0).val * 32 + (i 1).val) * 1 + (i 2).val) * 512 + (i 3).val) / 16384) * 64 + d.val) / 512 = _
      rw [pos_top b1 b2 b3, pos_seq b1 b2 b3, pos_row b0 bd]
    have g1 : (idx_main_v32 (idx_main_v33 (idx_main_v34 (idx_main_v35 i)) d) 1).val = (i 0).val * 64 + d.val := by
      show ((((((i 0).val * 32 + (i 1).val) * 1 + (i 2).val) * 512 + (i 3).val) % 16384 * 8 + ((((i 0).val * 32 + (i 1).val) * 1 + (i 2).val) * 512 + (i 3).val) / 16384) * 64 + d.val) % 512 = _
      rw [pos_top b1 b2 b3, pos_pair b0 bd]
    rw [g0, g1, show ((i 0).val * 64 + d.val) / 256 = (i 0).val / 4 by omega, show ((i 0).val * 64 + d.val) % 64 = d.val by omega,
      show ((i 0).val * 64 + d.val) / 64 = (i 0).val by omega]
  simp only [e, sum_coe]
  refine congrArg (fun r : ℝ => (r : EReal)) ?_
  unfold row dprob
  rw [Finset.sum_comm]
  refine Finset.sum_congr rfl fun j _ => ?_
  rw [Finset.mul_sum]
  exact Finset.sum_congr rfl fun d _ => by ring

/-- The query tiles' entries: a lane of a head's own group holds the scaled query in base 2, a lane of the other group zero. -/
def qT (a b x : ℕ) : ℝ := if b % 128 / 64 = b / 128 / 4 then q (a * 512 + x) (b / 128) (b % 64) * (1 / 8 / Real.log 2) else 0

/-- The cotangent tiles' entries. -/
def oT (a b x : ℕ) : ℝ := if b % 128 / 64 = b / 128 / 4 then o (a * 512 + x) (b / 128 * 64 + b % 64) else 0

include h0 in
/-- The query tiles. -/
theorem v48_real (i : S32x1024x512.Idx) : val_main_v48 (F := Ideal) x0 i = ((qT q (i 0).val (i 1).val (i 2).val : ℝ) : EReal) := by
  have b0 : (i 0).val < 32 := (i 0).isLt
  have b1 : (i 1).val < 1024 := (i 1).isLt
  have b2 : (i 2).val < 512 := (i 2).isLt
  have e : val_main_v48 (F := Ideal) x0 i = tilesOf (val_main_v40 (F := Ideal) x0) (val_main_v41 (F := Ideal)) (idx_main_v47 i) := val_main_v47_apply x0 i
  rw [e, tilesOf_apply _ (val_main_v41 (F := Ideal)) (fun u => bits_zero)]
  have g1 : (idx_main_v47 i 1).val = (i 1).val / 128 := by
    show (((i 0).val * 1024 + (i 1).val) * 512 + (i 2).val) / 65536 % 8 = _; omega
  have g2 : (idx_main_v47 i 2).val = (i 1).val % 128 := by
    show (((i 0).val * 1024 + (i 1).val) * 512 + (i 2).val) / 512 % 128 = _; omega
  rw [g1, g2]
  unfold qT
  by_cases h : (i 1).val % 128 / 64 = (i 1).val / 128 / 4
  · rw [if_pos h, if_pos h, val_main_v40_apply, val_main_v39_apply, val_main_v38_apply, val_main_v37_apply, val_main_v36_apply, val_main_cst_7_apply, v0_real, h0]
    show ((_ : ℝ) : EReal) * Ideal.div (Ideal.ofBits .f32 0x3E000000#32) ((_ : ℝ) : EReal) = _
    rw [bits_eighth, div_real _ log_two_ne, ← EReal.coe_mul]
    refine congrArg (fun r : ℝ => ((r * (1 / 8 / Real.log 2) : ℝ) : EReal)) ?_
    have bh : (i 1).val / 128 < 8 := by omega
    have bd : (((i 0).val * 1024 + (i 1).val) * 512 + (i 2).val) / 512 % 128 % 64 < 64 := Nat.mod_lt _ (by decide)
    have bd' : (i 1).val % 128 % 64 < 64 := Nat.mod_lt _ (by decide)
    have g3 : (idx_main_v39 (idx_main_v40 (tileIdx (idx_main_v47 i))) 0).val = (i 0).val * 512 + (i 2).val := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) / 512 = _
      rw [pos_tile b1 b2, pos_col b2, pos_head b1 b2, pos_row bh bd]
    have g4 : (idx_main_v39 (idx_main_v40 (tileIdx (idx_main_v47 i))) 1).val = (i 1).val / 128 := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) / 64 % 8 = _
      rw [pos_head b1 b2, pos_mid bh bd]
    have g5 : (idx_main_v39 (idx_main_v40 (tileIdx (idx_main_v47 i))) 2).val = (i 1).val % 64 := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) % 64 = _
      rw [pos_lane b2, pos_low bd']
      omega
    show q (idx_main_v39 (idx_main_v40 (tileIdx (idx_main_v47 i))) 0).val (idx_main_v39 (idx_main_v40 (tileIdx (idx_main_v47 i))) 1).val
      (idx_main_v39 (idx_main_v40 (tileIdx (idx_main_v47 i))) 2).val = _
    rw [g3, g4, g5]
  · rw [if_neg h, if_neg h, EReal.coe_zero]

include h3 in
/-- The cotangent tiles. -/
theorem v59_real (i : S32x1024x512.Idx) : val_main_v59 (F := Ideal) x3 i = ((oT o (i 0).val (i 1).val (i 2).val : ℝ) : EReal) := by
  have b0 : (i 0).val < 32 := (i 0).isLt
  have b1 : (i 1).val < 1024 := (i 1).isLt
  have b2 : (i 2).val < 512 := (i 2).isLt
  have e : val_main_v59 (F := Ideal) x3 i = tilesOf (val_main_v51 (F := Ideal) x3) (val_main_v52 (F := Ideal)) (idx_main_v58 i) := val_main_v58_apply x3 i
  rw [e, tilesOf_apply _ (val_main_v52 (F := Ideal)) (fun u => bits_zero)]
  have g1 : (idx_main_v58 i 1).val = (i 1).val / 128 := by
    show (((i 0).val * 1024 + (i 1).val) * 512 + (i 2).val) / 65536 % 8 = _; omega
  have g2 : (idx_main_v58 i 2).val = (i 1).val % 128 := by
    show (((i 0).val * 1024 + (i 1).val) * 512 + (i 2).val) / 512 % 128 = _; omega
  rw [g1, g2]
  unfold oT
  by_cases h : (i 1).val % 128 / 64 = (i 1).val / 128 / 4
  · rw [if_pos h, if_pos h, val_main_v51_apply, val_main_v50_apply, val_main_v49_apply, h3]
    refine congrArg (fun r : ℝ => (r : EReal)) ?_
    have bh : (i 1).val / 128 < 8 := by omega
    have bd : (((i 0).val * 1024 + (i 1).val) * 512 + (i 2).val) / 512 % 128 % 64 < 64 := Nat.mod_lt _ (by decide)
    have bd' : (i 1).val % 128 % 64 < 64 := Nat.mod_lt _ (by decide)
    have g3 : (idx_main_v50 (idx_main_v51 (tileIdx (idx_main_v58 i))) 0).val = (i 0).val * 512 + (i 2).val := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) / 512 = _
      rw [pos_tile b1 b2, pos_col b2, pos_head b1 b2, pos_row bh bd]
    have g4 : (idx_main_v50 (idx_main_v51 (tileIdx (idx_main_v58 i))) 1).val = (i 1).val / 128 := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) / 64 % 8 = _
      rw [pos_head b1 b2, pos_mid bh bd]
    have g5 : (idx_main_v50 (idx_main_v51 (tileIdx (idx_main_v58 i))) 2).val = (i 1).val % 64 := by
      show ((((((i 0).val * 1024 + (i 1).val) * 512 + (i 2).val) / 524288 * 512 + (((i 0).val * 1024 + (i 1).val) * 512 + (i 2).val) % 512) * 8 + (((i 0).val * 1024 + (i 1).val) * 512 + (i 2).val) / 65536 % 8) * 64 + (((i 0).val * 1024 + (i 1).val) * 512 + (i 2).val) / 512 % 128 % 64) % 64 = _
      rw [pos_lane b2, pos_low bd']
      omega
    generalize idx_main_v50 (idx_main_v51 (tileIdx (idx_main_v58 i))) = u at *
    show o ((((u 0).val * 8 + (u 1).val) * 64 + (u 2).val) / 512) ((((u 0).val * 8 + (u 1).val) * 64 + (u 2).val) % 512) = _
    have bd'' : (i 1).val % 64 < 64 := Nat.mod_lt _ (by decide)
    rw [g3, g4, g5, pos_row bh bd'', pos_pair bh bd'']
  · rw [if_neg h, if_neg h, EReal.coe_zero]

include h1 in
/-- The keys as rows. -/
theorem v61_real (i : S16384x128.Idx) : val_main_v61 (F := Ideal) x1 i = ((k (i 0).val ((i 1).val / 64) ((i 1).val % 64) : ℝ) : EReal) := by
  have b0 : (i 0).val < 16384 := (i 0).isLt
  have b1 : (i 1).val < 128 := (i 1).isLt
  have e : val_main_v61 (F := Ideal) x1 i = x1 (idx_main_v60 i) := val_main_v60_apply x1 i
  rw [e, h1]
  show ((k (((i 0).val * 128 + (i 1).val) / 128) (((i 0).val * 128 + (i 1).val) / 64 % 2) (((i 0).val * 128 + (i 1).val) % 64) : ℝ) : EReal) = _
  congr 2 <;> omega

include h2 in
/-- The values as rows. -/
theorem v63_real (i : S16384x128.Idx) : val_main_v63 (F := Ideal) x2 i = ((v (i 0).val ((i 1).val / 64) ((i 1).val % 64) : ℝ) : EReal) :=
  v61_real v h2 i

include h1 in
/-- The keys' tiles. -/
theorem v65_real (i : S32x128x512.Idx) : val_main_v65 (F := Ideal) x1 i
    = ((k ((i 0).val * 512 + (i 2).val) ((i 1).val / 64) ((i 1).val % 64) : ℝ) : EReal) := by
  have b0 : (i 0).val < 32 := (i 0).isLt
  have b1 : (i 1).val < 128 := (i 1).isLt
  have b2 : (i 2).val < 512 := (i 2).isLt
  rw [val_main_v65_apply, val_main_v64_apply, v61_real k h1]
  show ((k ((((i 0).val * 512 + (i 2).val) * 128 + (i 1).val) / 128) ((((i 0).val * 512 + (i 2).val) * 128 + (i 1).val) % 128 / 64)
    ((((i 0).val * 512 + (i 2).val) * 128 + (i 1).val) % 128 % 64) : ℝ) : EReal) = _
  congr 2 <;> omega

end Cert.KernelIdeal.Pre

end
-- ==== Proof.Ideal.Grad.lean ====
/- The call's result arrays, with the host's arrays before the call put in, are the gradients of attention. -/
module

public import proofs.«01_k».proof.Proof.Ideal.Arr
public import proofs.«01_k».proof.Proof.Ideal.HostVal

@[expose] public section

noncomputable section

namespace Cert.KernelIdeal.Hand

open Cert.KernelIdeal Cert.KernelIdeal.Gen Idealize.ShloMosaic Cert.Attn Cert.KernelIdeal.Pre

/-! ## Sums over pairs -/

/-- A sum over `a * b` indices, taken in `a` runs of `b`. -/
theorem sum_pairs {M : Type} [AddCommMonoid M] (a b : ℕ) (f : ℕ → M) : ∑ l : Fin (a * b), f l.val = ∑ u ∈ Finset.range a, ∑ v : Fin b, f (u * b + v.val) := by
  rw [Fin.sum_univ_eq_sum_range (fun l => f l)]
  induction a with
  | zero => simp
  | succ a ih => rw [Nat.succ_mul, Finset.sum_range_add, ih, Finset.sum_range_succ, Fin.sum_univ_eq_sum_range (fun v => f (a * b + v))]

/-- A sum over `a * b` indices that keeps one run of `b`. -/
theorem sum_pick (a b g : ℕ) (hg : g < a) (f : ℕ → ℝ) :
    ∑ l : Fin (a * b), (if l.val / b = g then f l.val else 0) = ∑ v : Fin b, f (g * b + v.val) := by
  rw [sum_pairs a b (fun l => if l / b = g then f l else 0), Finset.sum_eq_single g]
  · refine Finset.sum_congr rfl fun v _ => if_pos ?_
    have := v.isLt
    rw [Nat.mul_comm, Nat.mul_add_div (by omega), Nat.div_eq_of_lt this, Nat.add_zero]
  · intro u _ hu
    refine Finset.sum_eq_zero fun v _ => if_neg ?_
    have := v.isLt
    rwa [Nat.mul_comm, Nat.mul_add_div (by omega), Nat.div_eq_of_lt this, Nat.add_zero]
  · intro h; exact absurd (Finset.mem_range.mpr hg) h

/-! ## The blocks' terms are attention's -/

variable (q k v : ℕ → ℕ → ℕ → ℝ) (o : ℕ → ℕ → ℝ) (LS : ℕ → ℕ → ℕ → ℝ)

/-- The rows of the key (and value) array, a lane being a group's column. -/
def rowsOf (k : ℕ → ℕ → ℕ → ℝ) (r l : ℕ) : ℝ := k r (l / 64) (l % 64)

/-- The tiles of the key array, transposed. -/
def tilesOf (k : ℕ → ℕ → ℕ → ℝ) (a l x : ℕ) : ℝ := k (a * 512 + x) (l / 64) (l % 64)

/-- The rows' sums of probability times cotangent, by head and tile. -/
def rowOf (h n x : ℕ) : ℝ := row q k v o (h / 4) h (n * 512 + x)

theorem qT_head (n h l x : ℕ) (hl : l < 128) :
    qT q n (h * 128 + l) x = if l / 64 = h / 4 then q (n * 512 + x) h (l % 64) * (1 / 8 / Real.log 2) else 0 := by
  unfold qT
  rw [show (h * 128 + l) % 128 = l by omega, show (h * 128 + l) / 128 = h by omega, show (h * 128 + l) % 64 = l % 64 by omega]

theorem oT_head (n h l x : ℕ) (hl : l < 128) :
    oT o n (h * 128 + l) x = if l / 64 = h / 4 then o (n * 512 + x) (h * 64 + l % 64) else 0 := by
  unfold oT
  rw [show (h * 128 + l) % 128 = l by omega, show (h * 128 + l) / 128 = h by omega, show (h * 128 + l) % 64 = l % 64 by omega]

/-- The product of a key's row and a query's column is the score in base 2. -/
theorem score_eq (n h r x : ℕ) (hh : h < 8) : tileS (headOf (qT q) h) (rowsOf k) n r x = sc q k (h / 4) h (n * 512 + x) r / Real.log 2 := by
  have e : ∀ c : Fin 128, rowsOf k r c.val * headOf (qT q) h n c.val x
      = if c.val / 64 = h / 4 then k r (c.val / 64) (c.val % 64) * q (n * 512 + x) h (c.val % 64) * (1 / 8 / Real.log 2) else 0 := fun c => by
    unfold headOf rowsOf
    rw [qT_head q n h c.val x c.isLt]
    split <;> ring
  unfold tileS
  rw [Finset.sum_congr rfl fun c _ => e c]
  refine (sum_pick 2 64 (h / 4) (by omega) (fun l => k r (l / 64) (l % 64) * q (n * 512 + x) h (l % 64) * (1 / 8 / Real.log 2))).trans ?_
  unfold sc
  rw [← Finset.sum_mul, mul_div_assoc]
  congr 1
  refine Finset.sum_congr rfl fun d _ => ?_
  have := d.isLt
  rw [show (h / 4 * 64 + d.val) / 64 = h / 4 by omega, show (h / 4 * 64 + d.val) % 64 = d.val by omega]

/-- The product of a value's row and a cotangent's column is the probability's cotangent. -/
theorem dprob_eq (n h r x : ℕ) (hh : h < 8) : tileS (headOf (oT o) h) (rowsOf v) n r x = dprob v o (h / 4) h (n * 512 + x) r := by
  have e : ∀ c : Fin 128, rowsOf v r c.val * headOf (oT o) h n c.val x
      = if c.val / 64 = h / 4 then o (n * 512 + x) (h * 64 + c.val % 64) * v r (c.val / 64) (c.val % 64) else 0 := fun c => by
    unfold headOf rowsOf
    rw [oT_head o n h c.val x c.isLt]
    split <;> ring
  unfold tileS
  rw [Finset.sum_congr rfl fun c _ => e c]
  refine (sum_pick 2 64 (h / 4) (by omega) (fun l => o (n * 512 + x) (h * 64 + l % 64) * v r (l / 64) (l % 64))).trans ?_
  unfold dprob
  refine Finset.sum_congr rfl fun d _ => ?_
  have := d.isLt
  rw [show (h / 4 * 64 + d.val) / 64 = h / 4 by omega, show (h / 4 * 64 + d.val) % 64 = d.val by omega]

variable (hLS : ∀ h n x, h < 8 → n < 32 → x < 512 → ∃ M : ℝ, LS h n x = (M + Real.log (denM q k M (h / 4) h (n * 512 + x))) / Real.log 2)

include hLS in
theorem headP_eq (h n r x : ℕ) (hh : h < 8) (hn : n < 32) (hx : x < 512) :
    headP (qT q) LS (rowsOf k) h n r x = prob q k (h / 4) h (n * 512 + x) r := by
  obtain ⟨M, hM⟩ := hLS h n x hh hn hx
  unfold headP tileP
  rw [score_eq q k n h r x hh, hM]
  exact prob_base_two q k M (h / 4) h (n * 512 + x) r

include hLS in
theorem headG_eq (h n r x : ℕ) (hh : h < 8) (hn : n < 32) (hx : x < 512) :
    headG (qT q) (oT o) LS (rowOf q k v o) (rowsOf k) (rowsOf v) h n r x = dsc q k v o (h / 4) h (n * 512 + x) r := by
  have e := headP_eq q k LS hLS h n r x hh hn hx
  unfold headP at e
  unfold headG tileG
  rw [e, dprob_eq v o n h r x hh]
  rfl

/-! ## The sums over the grid are the gradients -/

include hLS in
theorem sum_gradQ (i c : ℕ) (hi : i < 16384) (hc : c < 512) :
    (∑ b ∈ Finset.range 8, ∑ r : Fin 2048, tilesOf k (b * 4 + r.val / 512) (c / 64 / 4 * 64 + c % 64) (r.val % 512)
      * headG (qT q) (oT o) LS (rowOf q k v o) (rowsOf k) (rowsOf v) (c / 64) (i / 512) (b * 2048 + r.val) (i % 512)) * (1 / 8)
    = gradQ q k v o i c := by
  unfold gradQ
  refine Eq.trans ?_ (sum_pairs 8 2048 (fun j => dsc q k v o (c / 256) (c / 64) i j * (1 / 8) * k j (c / 256) (c % 64))).symm
  rw [Finset.sum_mul]
  refine Finset.sum_congr rfl fun b _ => ?_
  rw [Finset.sum_mul]
  refine Finset.sum_congr rfl fun r _ => ?_
  rw [headG_eq q k v o LS hLS _ _ _ _ (by omega) (by omega) (by omega)]
  unfold tilesOf
  have hr := r.isLt
  rw [show (b * 4 + r.val / 512) * 512 + r.val % 512 = b * 2048 + r.val by omega, show i / 512 * 512 + i % 512 = i by omega,
    show (c / 64 / 4 * 64 + c % 64) / 64 = c / 256 by omega, show (c / 64 / 4 * 64 + c % 64) % 64 = c % 64 by omega, show c / 64 / 4 = c / 256 by omega]
  ring

include hLS in
theorem sum_gradK (j c : ℕ) (hc : c < 128) :
    (∑ h : Fin 8, ∑ n ∈ Finset.range 32, ∑ x : Fin 512,
      headG (qT q) (oT o) LS (rowOf q k v o) (rowsOf k) (rowsOf v) h.val n j x.val * qT q n (h.val * 128 + c) x.val) * Real.log 2
    = gradK q k v o j c := by
  have hl : Real.log 2 ≠ 0 := (Real.log_pos (by norm_num)).ne'
  have e : ∀ h : Fin 8, (∑ n ∈ Finset.range 32, ∑ x : Fin 512,
      headG (qT q) (oT o) LS (rowOf q k v o) (rowsOf k) (rowsOf v) h.val n j x.val * qT q n (h.val * 128 + c) x.val) * Real.log 2
      = if h.val / 4 = c / 64 then ∑ i : Fin 16384, dsc q k v o (h.val / 4) h.val i.val j * (1 / 8) * q i.val h.val (c % 64) else 0 := fun h => by
    rw [Finset.sum_mul]
    by_cases hg : h.val / 4 = c / 64
    · rw [if_pos hg]
      refine Eq.trans ?_ (sum_pairs 32 512 (fun i => dsc q k v o (h.val / 4) h.val i j * (1 / 8) * q i h.val (c % 64))).symm
      refine Finset.sum_congr rfl fun n hn => ?_
      rw [Finset.sum_mul]
      refine Finset.sum_congr rfl fun x _ => ?_
      rw [headG_eq q k v o LS hLS _ _ _ _ h.isLt (Finset.mem_range.mp hn) x.isLt, qT_head q n h.val c x.val hc, if_pos hg.symm]
      field_simp
    · rw [if_neg hg]
      refine Finset.sum_eq_zero fun n _ => ?_
      rw [Finset.sum_eq_zero, zero_mul]
      intro x _
      rw [qT_head q n h.val c x.val hc, if_neg (fun t => hg t.symm), mul_zero]
  rw [Finset.sum_mul, Finset.sum_congr rfl fun h _ => e h]
  refine (sum_pick 2 4 (c / 64) (by omega) (fun h => ∑ i : Fin 16384, dsc q k v o (h / 4) h i.val j * (1 / 8) * q i.val h (c % 64))).trans ?_
  unfold gradK
  refine Finset.sum_congr rfl fun r _ => ?_
  have := r.isLt
  rw [show (c / 64 * 4 + r.val) / 4 = c / 64 by omega]

include hLS in
theorem sum_gradV (j c : ℕ) (hc : c < 128) :
    ∑ h : Fin 8, ∑ n ∈ Finset.range 32, ∑ x : Fin 512, headP (qT q) LS (rowsOf k) h.val n j x.val * oT o n (h.val * 128 + c) x.val
    = gradV q k o j c := by
  have e : ∀ h : Fin 8, ∑ n ∈ Finset.range 32, ∑ x : Fin 512, headP (qT q) LS (rowsOf k) h.val n j x.val * oT o n (h.val * 128 + c) x.val
      = if h.val / 4 = c / 64 then ∑ i : Fin 16384, prob q k (h.val / 4) h.val i.val j * o i.val (h.val * 64 + c % 64) else 0 := fun h => by
    by_cases hg : h.val / 4 = c / 64
    · rw [if_pos hg]
      refine Eq.trans ?_ (sum_pairs 32 512 (fun i => prob q k (h.val / 4) h.val i j * o i (h.val * 64 + c % 64))).symm
      refine Finset.sum_congr rfl fun n hn => Finset.sum_congr rfl fun x _ => ?_
      rw [headP_eq q k LS hLS _ _ _ _ h.isLt (Finset.mem_range.mp hn) x.isLt, oT_head o n h.val c x.val hc, if_pos hg.symm]
    · rw [if_neg hg]
      refine Finset.sum_eq_zero fun n _ => Finset.sum_eq_zero fun x _ => ?_
      rw [oT_head o n h.val c x.val hc, if_neg (fun t => hg t.symm), mul_zero]
  rw [Finset.sum_congr rfl fun h _ => e h]
  refine (sum_pick 2 4 (c / 64) (by omega) (fun h => ∑ i : Fin 16384, prob q k (h / 4) h i.val j * o i.val (h * 64 + c % 64))).trans ?_
  unfold gradV
  refine Finset.sum_congr rfl fun r _ => ?_
  have := r.isLt
  rw [show (c / 64 * 4 + r.val) / 4 = c / 64 by omega]

end Cert.KernelIdeal.Hand

end
-- ==== Proof.Ideal.HostPost.lean ====
/- The host operations after the call, each a function of the call's results, and their elements. -/
module

public import proofs.«01_k».proof.Proof.Gen.KernelIdeal
public import Idealize.ShloMosaic.Lib.Pipeline.Value
public import Idealize.ShloMosaic.Lib.ValueIdx
public import Idealize.ShloMosaic.PureOps.Ideal.Laws

@[expose] public section

noncomputable section

namespace Cert.KernelIdeal.Post

open Cert.KernelIdeal Cert.KernelIdeal.Gen Idealize.ShloMosaic Idealize.ShloMosaic.TcCoe Idealize.SL.Sem Idealize.ShloMosaic.StableHlo

variable {F : FTy → Type} [FloatOps F]

-- %cst, constant
def val_main_cst : (⟨S_, .f32⟩ : BufTy).Contents (Elt F) :=
  constant S_ .f32 0x40000000#32
theorem val_main_cst_apply (i : S_.Idx) :
    val_main_cst (F := F) i = FloatOps.ofBits .f32 0x40000000#32 := rfl

-- %0, log
def val_main_v0 : (⟨S_, .f32⟩ : BufTy).Contents (Elt F) :=
  Host.log (val_main_cst (F := F))
theorem val_main_v0_apply (i : S_.Idx) :
    val_main_v0 (F := F) i = FloatOps.hostUnary .log (val_main_cst (F := F) i) := rfl

-- %1, transpose
def val_main_v1 (x0 : (⟨S32x512x512, .f32⟩ : BufTy).Contents (Elt F)) : (⟨S32x512x512, .f32⟩ : BufTy).Contents (Elt F) :=
  transpose S32x512x512 [0, 2, 1] (x0) transposes_S32x512x512_S32x512x512_0_2_1
abbrev idx_main_v1 (i : S32x512x512.Idx) : S32x512x512.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v1_apply (x0 : (⟨S32x512x512, .f32⟩ : BufTy).Contents (Elt F)) (i : S32x512x512.Idx) :
    val_main_v1 (F := F) x0 i = x0 (idx_main_v1 i) := by
  unfold val_main_v1
  exact transpose_apply [0, 2, 1] x0 transposes_S32x512x512_S32x512x512_0_2_1 i (idx_main_v1 i) (fun b => match b with
    | ⟨0, _⟩ => rfl
    | ⟨1, _⟩ => rfl
    | ⟨2, _⟩ => rfl)

-- %2, reshape
def val_main_v2 (x0 : (⟨S32x512x512, .f32⟩ : BufTy).Contents (Elt F)) : (⟨S16384x512, .f32⟩ : BufTy).Contents (Elt F) :=
  shapeCast _ (val_main_v1 (F := F) x0) shapeCasts_S32x512x512_S16384x512
set_option backward.proofsInPublic true in
abbrev idx_main_v2 (i : S16384x512.Idx) : S32x512x512.Idx := fun a => match a with
  | ⟨0, _⟩ => ⟨((i 0).val * 512 + (i 1).val) / 262144, by have h0 : (i 0).val < 16384 := (i 0).isLt; have h1 : (i 1).val < 512 := (i 1).isLt; show ((i 0).val * 512 + (i 1).val) / 262144 < 32; omega⟩
  | ⟨1, _⟩ => ⟨((i 0).val * 512 + (i 1).val) / 512 % 512, by have h0 : (i 0).val < 16384 := (i 0).isLt; have h1 : (i 1).val < 512 := (i 1).isLt; show ((i 0).val * 512 + (i 1).val) / 512 % 512 < 512; omega⟩
  | ⟨2, _⟩ => ⟨((i 0).val * 512 + (i 1).val) % 512, by have h0 : (i 0).val < 16384 := (i 0).isLt; have h1 : (i 1).val < 512 := (i 1).isLt; show ((i 0).val * 512 + (i 1).val) % 512 < 512; omega⟩
theorem val_main_v2_apply (x0 : (⟨S32x512x512, .f32⟩ : BufTy).Contents (Elt F)) (i : S16384x512.Idx) :
    val_main_v2 (F := F) x0 i = val_main_v1 (F := F) x0 (idx_main_v2 i) := by
  unfold val_main_v2
  generalize val_main_v1 (F := F) x0 = y
  exact shapeCast_apply y shapeCasts_S32x512x512_S16384x512 i (idx_main_v2 i)
    (by rewrite [Shape.rowMajor_val_three, Shape.rowMajor_val_two]; have h0 : (i 0).val < 16384 := (i 0).isLt; have h1 : (i 1).val < 512 := (i 1).isLt; show (((i 0).val * 512 + (i 1).val) / 262144 * 512 + ((i 0).val * 512 + (i 1).val) / 512 % 512) * 512 + ((i 0).val * 512 + (i 1).val) % 512 = (i 0).val * 512 + (i 1).val; omega)

-- %cst_0, constant
def val_main_cst_0 : (⟨S_, .f32⟩ : BufTy).Contents (Elt F) :=
  constant S_ .f32 0x3E000000#32
theorem val_main_cst_0_apply (i : S_.Idx) :
    val_main_cst_0 (F := F) i = FloatOps.ofBits .f32 0x3E000000#32 := rfl

-- %3, broadcast_in_dim
def val_main_v3 : (⟨S16384x512, .f32⟩ : BufTy).Contents (Elt F) :=
  broadcastInDim S16384x512 ![] bcast_S_S16384x512 (val_main_cst_0 (F := F))
abbrev idx_main_v3 (i : S16384x512.Idx) : S_.Idx := fun a => a.elim0
theorem val_main_v3_apply (i : S16384x512.Idx) :
    val_main_v3 (F := F) i = val_main_cst_0 (F := F) (idx_main_v3 i) := by
  unfold val_main_v3
  generalize val_main_cst_0 (F := F) = y
  exact broadcastInDim_apply _ bcast_S_S16384x512 y i (idx_main_v3 i) (fun a => a.elim0)

-- %4, multiply
def val_main_v4 (x0 : (⟨S32x512x512, .f32⟩ : BufTy).Contents (Elt F)) : (⟨S16384x512, .f32⟩ : BufTy).Contents (Elt F) :=
  mulf (val_main_v2 (F := F) x0) (val_main_v3 (F := F))
theorem val_main_v4_apply (x0 : (⟨S32x512x512, .f32⟩ : BufTy).Contents (Elt F)) (i : S16384x512.Idx) :
    val_main_v4 (F := F) x0 i = FloatOps.mulf (val_main_v2 (F := F) x0 i) (val_main_v3 (F := F) i) := rfl

-- %5, convert
def val_main_v5 (x1 : (⟨S8x16384x128, .bf16⟩ : BufTy).Contents (Elt F)) : (⟨S8x16384x128, .f32⟩ : BufTy).Contents (Elt F) :=
  extf .f32 (x1) bitsLt_bf16_f32
theorem val_main_v5_apply (x1 : (⟨S8x16384x128, .bf16⟩ : BufTy).Contents (Elt F)) (i : S8x16384x128.Idx) :
    val_main_v5 (F := F) x1 i = FloatOps.extf .f32 bitsLt_bf16_f32 (x1 i) := rfl

-- %cst_1, constant
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %6, reduce(%5
def val_main_v6 (x1 : (⟨S8x16384x128, .bf16⟩ : BufTy).Contents (Elt F)) : (⟨S16384x128, .f32⟩ : BufTy).Contents (Elt F) :=
  Host.reduceAdd (val_main_v5 (F := F) x1) (val_main_cst_1 (F := F)) reducesTo_S8x16384x128_S16384x128_d0 h_S_
abbrev idx_main_v6 (i : S16384x128.Idx) (k : Fin 8) : S8x16384x128.Idx := fun a => match a with
  | ⟨0, _⟩ => ⟨k.val, k.isLt⟩
  | ⟨1, _⟩ => ⟨(i 0).val, (i 0).isLt⟩
  | ⟨2, _⟩ => ⟨(i 1).val, (i 1).isLt⟩
/-- Stated at `F := Ideal`, where the host's float sum is this sum; at a bit-exact instance it is an opaque function of its operand. -/
theorem val_main_v6_apply (x1 : (⟨S8x16384x128, .bf16⟩ : BufTy).Contents (Elt Ideal)) (i : S16384x128.Idx) :
    val_main_v6 (F := Ideal) x1 i = (val_main_cst_1 (F := Ideal)) (Shape.Idx.first h_S_) + ∑ k : Fin 8, (val_main_v5 (F := Ideal) x1) (idx_main_v6 i k) := by
  unfold val_main_v6
  generalize val_main_v5 (F := Ideal) x1 = y0
  simp only [Host.reduceAdd, Ideal.hostReduceAdd_def]
  rw [Ideal.hostReduceAdd_single reducesTo_S8x16384x128_S16384x128_d0 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %7, broadcast_in_dim
def val_main_v7 : (⟨S16384x128, .f32⟩ : BufTy).Contents (Elt F) :=
  broadcastInDim S16384x128 ![] bcast_S_S16384x128 (val_main_v0 (F := F))
abbrev idx_main_v7 (i : S16384x128.Idx) : S_.Idx := fun a => a.elim0
theorem val_main_v7_apply (i : S16384x128.Idx) :
    val_main_v7 (F := F) i = val_main_v0 (F := F) (idx_main_v7 i) := by
  unfold val_main_v7
  generalize val_main_v0 (F := F) = y
  exact broadcastInDim_apply _ bcast_S_S16384x128 y i (idx_main_v7 i) (fun a => a.elim0)

-- %8, multiply
def val_main_v8 (x1 : (⟨S8x16384x128, .bf16⟩ : BufTy).Contents (Elt F)) : (⟨S16384x128, .f32⟩ : BufTy).Contents (Elt F) :=
  mulf (val_main_v6 (F := F) x1) (val_main_v7 (F := F))
theorem val_main_v8_apply (x1 : (⟨S8x16384x128, .bf16⟩ : BufTy).Contents (Elt F)) (i : S16384x128.Idx) :
    val_main_v8 (F := F) x1 i = FloatOps.mulf (val_main_v6 (F := F) x1 i) (val_main_v7 (F := F) i) := rfl

-- %9, convert
def val_main_v9 (x2 : (⟨S8x16384x128, .bf16⟩ : BufTy).Contents (Elt F)) : (⟨S8x16384x128, .f32⟩ : BufTy).Contents (Elt F) :=
  extf .f32 (x2) bitsLt_bf16_f32
theorem val_main_v9_apply (x2 : (⟨S8x16384x128, .bf16⟩ : BufTy).Contents (Elt F)) (i : S8x16384x128.Idx) :
    val_main_v9 (F := F) x2 i = FloatOps.extf .f32 bitsLt_bf16_f32 (x2 i) := rfl

-- %cst_2, constant
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %10, reduce(%9
def val_main_v10 (x2 : (⟨S8x16384x128, .bf16⟩ : BufTy).Contents (Elt F)) : (⟨S16384x128, .f32⟩ : BufTy).Contents (Elt F) :=
  Host.reduceAdd (val_main_v9 (F := F) x2) (val_main_cst_2 (F := F)) reducesTo_S8x16384x128_S16384x128_d0 h_S_
abbrev idx_main_v10 (i : S16384x128.Idx) (k : Fin 8) : S8x16384x128.Idx := fun a => match a with
  | ⟨0, _⟩ => ⟨k.val, k.isLt⟩
  | ⟨1, _⟩ => ⟨(i 0).val, (i 0).isLt⟩
  | ⟨2, _⟩ => ⟨(i 1).val, (i 1).isLt⟩
/-- Stated at `F := Ideal`, where the host's float sum is this sum; at a bit-exact instance it is an opaque function of its operand. -/
theorem val_main_v10_apply (x2 : (⟨S8x16384x128, .bf16⟩ : BufTy).Contents (Elt Ideal)) (i : S16384x128.Idx) :
    val_main_v10 (F := Ideal) x2 i = (val_main_cst_2 (F := Ideal)) (Shape.Idx.first h_S_) + ∑ k : Fin 8, (val_main_v9 (F := Ideal) x2) (idx_main_v10 i k) := by
  unfold val_main_v10
  generalize val_main_v9 (F := Ideal) x2 = y0
  simp only [Host.reduceAdd, Ideal.hostReduceAdd_def]
  rw [Ideal.hostReduceAdd_single reducesTo_S8x16384x128_S16384x128_d0 (by decide)]
  refine congrArg (_ + ·) (Finset.sum_congr rfl fun k _ => ?_)
  exact congrArg y0 (funext fun a => Fin.ext (by match a with | ⟨0, _⟩ => rfl | ⟨1, _⟩ => rfl | ⟨2, _⟩ => rfl))

end Cert.KernelIdeal.Post

end
-- ==== Proof.Ideal.HostRun.lean ====
/- What the buffers of the host operations before the call hold, as functions of the arguments. -/
module

public import proofs.«01_k».proof.Proof.Ideal.HostPre
public import proofs.«01_k».proof.Proof.Ideal.Run
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The queries' tiles. -/
theorem V_q_ct (c : Dev nD) : V m c main_v48 = Pre.val_main_v48 (m ((c.tc : Thread nD τ).loc main_arg0)) := by
  unfold V V0
  simp only [List.flatten_cons, List.flatten_nil, List.append_nil]
  after_results_simp <;> rfl

/-- The output cotangent's tiles. -/
theorem V_do_ct (c : Dev nD) : V m c main_v59 = Pre.val_main_v59 (m ((c.tc : Thread nD τ).loc main_arg3)) := by
  unfold V V0
  simp only [List.flatten_cons, List.flatten_nil, List.append_nil]
  after_results_simp <;> rfl

/-- The rows' log-sum-exp, in base 2. -/
theorem V_lse (c : Dev nD) : V m c main_v30 = Pre.val_main_v30 (m ((c.tc : Thread nD τ).loc main_arg0)) (m ((c.tc : Thread nD τ).loc main_arg1)) := by
  unfold V V0
  simp only [List.flatten_cons, List.flatten_nil, List.append_nil]
  after_results_simp <;> rfl

/-- The rows' product of cotangent and output. -/
theorem V_delta (c : Dev nD) : V m c main_v35 = Pre.val_main_v35 (m ((c.tc : Thread nD τ).loc main_arg0)) (m ((c.tc : Thread nD τ).loc main_arg1)) (m ((c.tc : Thread nD τ).loc main_arg2)) (m ((c.tc : Thread nD τ).loc main_arg3)) := by
  unfold V V0
  simp only [List.flatten_cons, List.flatten_nil, List.append_nil]
  after_results_simp <;> rfl

/-- The keys as rows. -/
theorem V_k_rows (c : Dev nD) : V m c main_v61 = Pre.val_main_v61 (m ((c.tc : Thread nD τ).loc main_arg1)) := by
  unfold V V0
  simp only [List.flatten_cons, List.flatten_nil, List.append_nil]
  after_results_simp <;> rfl

/-- The values as rows. -/
theorem V_v_rows (c : Dev nD) : V m c main_v63 = Pre.val_main_v63 (m ((c.tc : Thread nD τ).loc main_arg2)) := by
  unfold V V0
  simp only [List.flatten_cons, List.flatten_nil, List.append_nil]
  after_results_simp <;> rfl

/-- The keys' tiles. -/
theorem V_k_ct (c : Dev nD) : V m c main_v65 = Pre.val_main_v65 (m ((c.tc : Thread nD τ).loc main_arg1)) := by
  unfold V V0
  simp only [List.flatten_cons, List.flatten_nil, List.append_nil]
  after_results_simp <;> rfl

/-- The logarithm of two. -/
theorem V_ln2 (c : Dev nD) : V m c main_v0 = Pre.val_main_v0  := by
  unfold V V0
  simp only [List.flatten_cons, List.flatten_nil, List.append_nil]
  after_results_simp <;> rfl

end Cert.KernelIdeal.Hand

end
-- ==== Proof.Ideal.HostTail.lean ====
/- What the host operations after the call leave, as functions of the call's results. -/
module

public import proofs.«01_k».proof.Proof.Ideal.HostPost
public import proofs.«01_k».proof.Proof.Ideal.HostRun
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The windows' arrays are different buffers. -/
theorem arr_inj : Function.Injective (Pipeline.arrRef spec0) := by decide

/-- The first result. -/
theorem W_dq (c : Dev nD) : Pipeline.afterTail₀ cfgs (dats m) 0 (V0 m) [hostOps1] c main_v70 = Post.val_main_v4 ((dats m 0 c).arrAt 7 cfg0.N) := by
  unfold Pipeline.afterTail₀
  simp only [List.flatten_cons, List.flatten_nil, List.append_nil]
  have h := Pipeline.withArrays_arr spec0 arr_inj c (V0 m c) (fun w => (dats m 0 c).arrAt w cfg0.N) 7
  after_results_simp
  exact congrArg (fun x => Post.val_main_v4 (F := F) x) h

/-- The second result. -/
theorem W_dk (c : Dev nD) : Pipeline.afterTail₀ cfgs (dats m) 0 (V0 m) [hostOps1] c main_v74 = Post.val_main_v8 ((dats m 0 c).arrAt 8 cfg0.N) := by
  unfold Pipeline.afterTail₀
  simp only [List.flatten_cons, List.flatten_nil, List.append_nil]
  have h := Pipeline.withArrays_arr spec0 arr_inj c (V0 m c) (fun w => (dats m 0 c).arrAt w cfg0.N) 8
  have h0 : Pipeline.withArrays spec0 c (V0 m c) (fun w => (dats m 0 c).arrAt w cfg0.N) (Proc.devRef .tc main_v0) = Post.val_main_v0 (F := F) :=
    (Pipeline.withArrays_of_ne _ c (V0 m c) _ main_v0 (by exact (by decide : ∀ w, Pipeline.arrRef spec0 w ≠ main_v0))).trans (V_ln2 m c)
  after_results_simp
  exact congrArg₂ (fun (x : (⟨S8x16384x128, .bf16⟩ : BufTy).Contents (Elt F)) (y : (⟨S_, .f32⟩ : BufTy).Contents (Elt F)) =>
    mulf (Post.val_main_v6 x) (broadcastInDim S16384x128 ![] bcast_S_S16384x128 y)) h h0

/-- The third result. -/
theorem W_dv (c : Dev nD) : Pipeline.afterTail₀ cfgs (dats m) 0 (V0 m) [hostOps1] c main_v76 = Post.val_main_v10 ((dats m 0 c).arrAt 9 cfg0.N) := by
  unfold Pipeline.afterTail₀
  simp only [List.flatten_cons, List.flatten_nil, List.append_nil]
  have h := Pipeline.withArrays_arr spec0 arr_inj c (V0 m c) (fun w => (dats m 0 c).arrAt w cfg0.N) 9
  after_results_simp
  exact congrArg (fun x => Post.val_main_v10 (F := F) x) h

variable (ρ : Dev nD → PrngReg)

/-- Every run ends with the results that the host operations compute of the call's final arrays, and the arguments unchanged. -/
theorem run_results : θ_run defs (onTc (τ := τ) (main (F := F))) ⟨m, fun _ => 0, ρ⟩ (fun r => ∀ c : Dev nD,
      r.2.mem ((c.tc : Thread nD τ).loc main_v70) = Post.val_main_v4 ((dats m 0 c).arrAt 7 cfg0.N)
      ∧ r.2.mem ((c.tc : Thread nD τ).loc main_v74) = Post.val_main_v8 ((dats m 0 c).arrAt 8 cfg0.N)
      ∧ r.2.mem ((c.tc : Thread nD τ).loc main_v76) = Post.val_main_v10 ((dats m 0 c).arrAt 9 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h.1 c).2 main_v70 (Pipeline.mem_restRefs_of main_v70 (by decide) (by decide))).trans (W_dq m c),
    ((h.1 c).2 main_v74 (Pipeline.mem_restRefs_of main_v74 (by decide) (by decide))).trans (W_dk m c),
    ((h.1 c).2 main_v76 (Pipeline.mem_restRefs_of main_v76 (by decide) (by decide))).trans (W_dv m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c)⟩) (run_main m ρ)

end Cert.KernelIdeal.Hand

end
-- ==== Proof.Ideal.Ref.lean ====
/- The reference's results at finite arguments: the gradients of grouped-query softmax attention, as real functions. -/
module

public import proofs.«01_k».proof.Proof.Gen.ReferenceIdeal.Read
public import proofs.«01_k».proof.Proof.Ideal.Math
public import Idealize.ShloMosaic.Lib.TwoAxisContraction

@[expose] public section

set_option maxRecDepth 8192

noncomputable section

namespace Cert.ReferenceIdeal.Hand

open Cert.ReferenceIdeal Cert.ReferenceIdeal.Gen Cert.ReferenceIdeal.Read Idealize.ShloMosaic Cert.Attn

/-- The dimensions of the value gradient's product. -/
abbrev valueDims : DotDims S2x64x4x16384 S2x4x16384x16384 S2x64x16384 :=
  dot_S2x64x4x16384_S2x4x16384x16384_S2x64x16384_23_12_1_3_0_0

/-- The dimensions of the key gradient's product. -/
abbrev keyDims : DotDims S2x16384x16384x4 S16384x2x4x64 S2x16384x64 :=
  dot_S2x16384x16384x4_S16384x2x4x64_S2x16384x64_23_02_1_3_0_1

theorem lhs_v39_0 (i : S2x64x16384.Idx) (t : valueDims.contr.Idx) :
    (valueDims.lhsIdx i t 0).val = (i 0).val := by
  unfold DotDims.lhsIdx
  rw [dif_pos (show (0 : Fin S2x64x4x16384.rank) ∈ valueDims.lhsBatch by decide)]
  rfl
theorem lhs_v39_1 (i : S2x64x16384.Idx) (t : valueDims.contr.Idx) :
    (valueDims.lhsIdx i t 1).val = (i 1).val := by
  unfold DotDims.lhsIdx
  rw [dif_neg (show ¬(1 : Fin S2x64x4x16384.rank) ∈ valueDims.lhsBatch by decide), dif_pos (show (1 : Fin S2x64x4x16384.rank) ∈ valueDims.lhsNonContracting by decide)]
  rfl
theorem lhs_v39_2 (i : S2x64x16384.Idx) (t : valueDims.contr.Idx) :
    (valueDims.lhsIdx i t 2).val = (t ⟨0, by decide⟩).val := by
  unfold DotDims.lhsIdx
  rw [dif_neg (show ¬(2 : Fin S2x64x4x16384.rank) ∈ valueDims.lhsBatch by decide), dif_neg (show ¬(2 : Fin S2x64x4x16384.rank) ∈ valueDims.lhsNonContracting by decide)]
  rfl
theorem lhs_v39_3 (i : S2x64x16384.Idx) (t : valueDims.contr.Idx) :
    (valueDims.lhsIdx i t 3).val = (t ⟨1, by decide⟩).val := by
  unfold DotDims.lhsIdx
  rw [dif_neg (show ¬(3 : Fin S2x64x4x16384.rank) ∈ valueDims.lhsBatch by decide), dif_neg (show ¬(3 : Fin S2x64x4x16384.rank) ∈ valueDims.lhsNonContracting by decide)]
  rfl
theorem rhs_v39_0 (i : S2x64x16384.Idx) (t : valueDims.contr.Idx) :
    (valueDims.rhsIdx i t 0).val = (i 0).val := by
  unfold DotDims.rhsIdx
  rw [dif_pos (show (0 : Fin S2x4x16384x16384.rank) ∈ valueDims.rhsBatch by decide)]
  rfl
theorem rhs_v39_1 (i : S2x64x16384.Idx) (t : valueDims.contr.Idx) :
    (valueDims.rhsIdx i t 1).val = (t ⟨0, by decide⟩).val := by
  unfold DotDims.rhsIdx
  rw [dif_neg (show ¬(1 : Fin S2x4x16384x16384.rank) ∈ valueDims.rhsBatch by decide), dif_neg (show ¬(1 : Fin S2x4x16384x16384.rank) ∈ valueDims.rhsNonContracting by decide)]
  rfl
theorem rhs_v39_2 (i : S2x64x16384.Idx) (t : valueDims.contr.Idx) :
    (valueDims.rhsIdx i t 2).val = (t ⟨1, by decide⟩).val := by
  unfold DotDims.rhsIdx
  rw [dif_neg (show ¬(2 : Fin S2x4x16384x16384.rank) ∈ valueDims.rhsBatch by decide), dif_neg (show ¬(2 : Fin S2x4x16384x16384.rank) ∈ valueDims.rhsNonContracting by decide)]
  rfl
theorem rhs_v39_3 (i : S2x64x16384.Idx) (t : valueDims.contr.Idx) :
    (valueDims.rhsIdx i t 3).val = (i 2).val := by
  unfold DotDims.rhsIdx
  rw [dif_neg (show ¬(3 : Fin S2x4x16384x16384.rank) ∈ valueDims.rhsBatch by decide), dif_pos (show (3 : Fin S2x4x16384x16384.rank) ∈ valueDims.rhsNonContracting by decide)]
  rfl
abbrev lidx_v39 (i : S2x64x16384.Idx) (a : Fin 4) (b : Fin 16384) : S2x64x4x16384.Idx := fun x => match x with
  | ⟨0, _⟩ => ⟨(i 0).val, (i 0).isLt⟩
  | ⟨1, _⟩ => ⟨(i 1).val, (i 1).isLt⟩
  | ⟨2, _⟩ => ⟨(a).val, (a).isLt⟩
  | ⟨3, _⟩ => ⟨(b).val, (b).isLt⟩
abbrev ridx_v39 (i : S2x64x16384.Idx) (a : Fin 4) (b : Fin 16384) : S2x4x16384x16384.Idx := fun x => match x with
  | ⟨0, _⟩ => ⟨(i 0).val, (i 0).isLt⟩
  | ⟨1, _⟩ => ⟨(a).val, (a).isLt⟩
  | ⟨2, _⟩ => ⟨(b).val, (b).isLt⟩
  | ⟨3, _⟩ => ⟨(i 2).val, (i 2).isLt⟩
/-- A product summed over two axes, at an index. -/
theorem v39_apply (x0 : (⟨S16384x8x64, .f32⟩ : BufTy).Contents (Elt Ideal)) (x1 : (⟨S16384x2x64, .f32⟩ : BufTy).Contents (Elt Ideal)) (x3 : (⟨S16384x512, .f32⟩ : BufTy).Contents (Elt Ideal)) (i : S2x64x16384.Idx) :
    val_main_v39 (F := Ideal) x0 x1 x3 i = ∑ a : Fin 4, ∑ b : Fin 16384, (val_main_v37 (F := Ideal) x3) (lidx_v39 i a b) * (val_main_v29 (F := Ideal) x0 x1) (ridx_v39 i a b) := by
  unfold val_main_v39
  generalize val_main_v37 (F := Ideal) x3 = y0
  generalize val_main_v29 (F := Ideal) x0 x1 = y1
  simp only [Host.dotGeneral]
  rw [Ideal.dotGeneral_apply, ValueIdx.sum_contr2 valueDims 4 16384 rfl rfl rfl]
  refine Finset.sum_congr rfl fun a _ => Finset.sum_congr rfl fun b _ => ?_
  have ha := ValueIdx.contrEquiv2_symm_val0 valueDims 4 16384 rfl rfl rfl (a, b)
  have hb := ValueIdx.contrEquiv2_symm_val1 valueDims 4 16384 rfl rfl rfl (a, b)
  have el : valueDims.lhsIdx i ((ValueIdx.contrEquiv2 valueDims 4 16384 rfl rfl rfl).symm (a, b)) = lidx_v39 i a b := funext fun x => Fin.ext (by
    match x with
    | ⟨0, _⟩ => exact (lhs_v39_0 _ _)
    | ⟨1, _⟩ => exact (lhs_v39_1 _ _)
    | ⟨2, _⟩ => exact (lhs_v39_2 _ _).trans ha
    | ⟨3, _⟩ => exact (lhs_v39_3 _ _).trans hb)
  have er : valueDims.rhsIdx i ((ValueIdx.contrEquiv2 valueDims 4 16384 rfl rfl rfl).symm (a, b)) = ridx_v39 i a b := funext fun x => Fin.ext (by
    match x with
    | ⟨0, _⟩ => exact (rhs_v39_0 _ _)
    | ⟨1, _⟩ => exact (rhs_v39_1 _ _).trans ha
    | ⟨2, _⟩ => exact (rhs_v39_2 _ _).trans hb
    | ⟨3, _⟩ => exact (rhs_v39_3 _ _))
  rw [el, er]

theorem lhs_v58_0 (i : S2x16384x64.Idx) (t : keyDims.contr.Idx) :
    (keyDims.lhsIdx i t 0).val = (i 0).val := by
  unfold DotDims.lhsIdx
  rw [dif_pos (show (0 : Fin S2x16384x16384x4.rank) ∈ keyDims.lhsBatch by decide)]
  rfl
theorem lhs_v58_1 (i : S2x16384x64.Idx) (t : keyDims.contr.Idx) :
    (keyDims.lhsIdx i t 1).val = (i 1).val := by
  unfold DotDims.lhsIdx
  rw [dif_neg (show ¬(1 : Fin S2x16384x16384x4.rank) ∈ keyDims.lhsBatch by decide), dif_pos (show (1 : Fin S2x16384x16384x4.rank) ∈ keyDims.lhsNonContracting by decide)]
  rfl
theorem lhs_v58_2 (i : S2x16384x64.Idx) (t : keyDims.contr.Idx) :
    (keyDims.lhsIdx i t 2).val = (t ⟨0, by decide⟩).val := by
  unfold DotDims.lhsIdx
  rw [dif_neg (show ¬(2 : Fin S2x16384x16384x4.rank) ∈ keyDims.lhsBatch by decide), dif_neg (show ¬(2 : Fin S2x16384x16384x4.rank) ∈ keyDims.lhsNonContracting by decide)]
  rfl
theorem lhs_v58_3 (i : S2x16384x64.Idx) (t : keyDims.contr.Idx) :
    (keyDims.lhsIdx i t 3).val = (t ⟨1, by decide⟩).val := by
  unfold DotDims.lhsIdx
  rw [dif_neg (show ¬(3 : Fin S2x16384x16384x4.rank) ∈ keyDims.lhsBatch by decide), dif_neg (show ¬(3 : Fin S2x16384x16384x4.rank) ∈ keyDims.lhsNonContracting by decide)]
  rfl
theorem rhs_v58_0 (i : S2x16384x64.Idx) (t : keyDims.contr.Idx) :
    (keyDims.rhsIdx i t 0).val = (t ⟨0, by decide⟩).val := by
  unfold DotDims.rhsIdx
  rw [dif_neg (show ¬(0 : Fin S16384x2x4x64.rank) ∈ keyDims.rhsBatch by decide), dif_neg (show ¬(0 : Fin S16384x2x4x64.rank) ∈ keyDims.rhsNonContracting by decide)]
  rfl
theorem rhs_v58_1 (i : S2x16384x64.Idx) (t : keyDims.contr.Idx) :
    (keyDims.rhsIdx i t 1).val = (i 0).val := by
  unfold DotDims.rhsIdx
  rw [dif_pos (show (1 : Fin S16384x2x4x64.rank) ∈ keyDims.rhsBatch by decide)]
  rfl
theorem rhs_v58_2 (i : S2x16384x64.Idx) (t : keyDims.contr.Idx) :
    (keyDims.rhsIdx i t 2).val = (t ⟨1, by decide⟩).val := by
  unfold DotDims.rhsIdx
  rw [dif_neg (show ¬(2 : Fin S16384x2x4x64.rank) ∈ keyDims.rhsBatch by decide), dif_neg (show ¬(2 : Fin S16384x2x4x64.rank) ∈ keyDims.rhsNonContracting by decide)]
  rfl
theorem rhs_v58_3 (i : S2x16384x64.Idx) (t : keyDims.contr.Idx) :
    (keyDims.rhsIdx i t 3).val = (i 2).val := by
  unfold DotDims.rhsIdx
  rw [dif_neg (show ¬(3 : Fin S16384x2x4x64.rank) ∈ keyDims.rhsBatch by decide), dif_pos (show (3 : Fin S16384x2x4x64.rank) ∈ keyDims.rhsNonContracting by decide)]
  rfl
abbrev lidx_v58 (i : S2x16384x64.Idx) (a : Fin 16384) (b : Fin 4) : S2x16384x16384x4.Idx := fun x => match x with
  | ⟨0, _⟩ => ⟨(i 0).val, (i 0).isLt⟩
  | ⟨1, _⟩ => ⟨(i 1).val, (i 1).isLt⟩
  | ⟨2, _⟩ => ⟨(a).val, (a).isLt⟩
  | ⟨3, _⟩ => ⟨(b).val, (b).isLt⟩
abbrev ridx_v58 (i : S2x16384x64.Idx) (a : Fin 16384) (b : Fin 4) : S16384x2x4x64.Idx := fun x => match x with
  | ⟨0, _⟩ => ⟨(a).val, (a).isLt⟩
  | ⟨1, _⟩ => ⟨(i 0).val, (i 0).isLt⟩
  | ⟨2, _⟩ => ⟨(b).val, (b).isLt⟩
  | ⟨3, _⟩ => ⟨(i 2).val, (i 2).isLt⟩
/-- A product summed over two axes, at an index. -/
theorem v58_apply (x0 : (⟨S16384x8x64, .f32⟩ : BufTy).Contents (Elt Ideal)) (x1 x2 : (⟨S16384x2x64, .f32⟩ : BufTy).Contents (Elt Ideal)) (x3 : (⟨S16384x512, .f32⟩ : BufTy).Contents (Elt Ideal)) (i : S2x16384x64.Idx) :
    val_main_v58 (F := Ideal) x0 x1 x2 x3 i = ∑ a : Fin 16384, ∑ b : Fin 4, (val_main_v55 (F := Ideal) x0 x1 x2 x3) (lidx_v58 i a b) * (val_main_v0 (F := Ideal) x0) (ridx_v58 i a b) := by
  unfold val_main_v58
  generalize val_main_v55 (F := Ideal) x0 x1 x2 x3 = y0
  generalize val_main_v0 (F := Ideal) x0 = y1
  simp only [Host.dotGeneral]
  rw [Ideal.dotGeneral_apply, ValueIdx.sum_contr2 keyDims 16384 4 rfl rfl rfl]
  refine Finset.sum_congr rfl fun a _ => Finset.sum_congr rfl fun b _ => ?_
  have ha := ValueIdx.contrEquiv2_symm_val0 keyDims 16384 4 rfl rfl rfl (a, b)
  have hb := ValueIdx.contrEquiv2_symm_val1 keyDims 16384 4 rfl rfl rfl (a, b)
  have el : keyDims.lhsIdx i ((ValueIdx.contrEquiv2 keyDims 16384 4 rfl rfl rfl).symm (a, b)) = lidx_v58 i a b := funext fun x => Fin.ext (by
    match x with
    | ⟨0, _⟩ => exact (lhs_v58_0 _ _)
    | ⟨1, _⟩ => exact (lhs_v58_1 _ _)
    | ⟨2, _⟩ => exact (lhs_v58_2 _ _).trans ha
    | ⟨3, _⟩ => exact (lhs_v58_3 _ _).trans hb)
  have er : keyDims.rhsIdx i ((ValueIdx.contrEquiv2 keyDims 16384 4 rfl rfl rfl).symm (a, b)) = ridx_v58 i a b := funext fun x => Fin.ext (by
    match x with
    | ⟨0, _⟩ => exact (rhs_v58_0 _ _).trans ha
    | ⟨1, _⟩ => exact (rhs_v58_1 _ _)
    | ⟨2, _⟩ => exact (rhs_v58_2 _ _).trans hb
    | ⟨3, _⟩ => exact (rhs_v58_3 _ _))
  rw [el, er]

variable (q k v : ℕ → ℕ → ℕ → ℝ) (o : ℕ → ℕ → ℝ)
variable {x0 : (⟨S16384x8x64, .f32⟩ : BufTy).Contents (Elt Ideal)} {x1 x2 : (⟨S16384x2x64, .f32⟩ : BufTy).Contents (Elt Ideal)}
  {x3 : (⟨S16384x512, .f32⟩ : BufTy).Contents (Elt Ideal)}
variable (h0 : ∀ i, x0 i = ((q (i 0).val (i 1).val (i 2).val : ℝ) : EReal)) (h1 : ∀ i, x1 i = ((k (i 0).val (i 1).val (i 2).val : ℝ) : EReal))
  (h2 : ∀ i, x2 i = ((v (i 0).val (i 1).val (i 2).val : ℝ) : EReal)) (h3 : ∀ i, x3 i = ((o (i 0).val (i 1).val : ℝ) : EReal))

/-- A sum begun at zero. -/
theorem add_zero_bits (x : EReal) : Ideal.ofBits .f32 0x00000000#32 + x = x := by rw [bits_zero, EReal.coe_zero, zero_add]

include h0 in
/-- The queries by group and head. -/
theorem v0_real (i : S16384x2x4x64.Idx) :
    val_main_v0 (F := Ideal) x0 i = ((q (i 0).val ((i 1).val * 4 + (i 2).val) (i 3).val : ℝ) : EReal) := by
  rw [val_main_v0_apply, h0]
  have b0 : (i 0).val < 16384 := (i 0).isLt
  have b1 : (i 1).val < 2 := (i 1).isLt
  have b2 : (i 2).val < 4 := (i 2).isLt
  have b3 : (i 3).val < 64 := (i 3).isLt
  show ((q (((((i 0).val * 2 + (i 1).val) * 4 + (i 2).val) * 64 + (i 3).val) / 512) (((((i 0).val * 2 + (i 1).val) * 4 + (i 2).val) * 64 + (i 3).val) / 64 % 8)
    (((((i 0).val * 2 + (i 1).val) * 4 + (i 2).val) * 64 + (i 3).val) % 64) : ℝ) : EReal) = _
  congr 2 <;> omega

include h0 h1 in
/-- The scaled scores. -/
theorem v4_real (i : S2x4x16384x16384.Idx) :
    val_main_v4 (F := Ideal) x0 x1 i = ((sc q k (i 0).val ((i 0).val * 4 + (i 1).val) (i 2).val (i 3).val : ℝ) : EReal) := by
  rw [val_main_v4_apply, val_main_v2_apply, val_main_v1_apply, val_main_v3_apply, val_main_cst_apply]
  simp only [v0_real q h0, h1, sum_mul_coe]
  refine (congrArg _ bits_eighth).trans ?_
  exact (EReal.coe_mul _ _).symm

include h0 h1 in
/-- The row maxima that the reference subtracts are reals. -/
theorem v12_real : ∃ M : S2x4x16384.Idx → ℝ, ∀ i, val_main_v12 (F := Ideal) x0 x1 i = ((M i : ℝ) : EReal) := by
  have h : ∀ i, ∃ r : ℝ, val_main_v12 (F := Ideal) x0 x1 i = ((r : ℝ) : EReal) := fun i => by
    obtain ⟨r, hr⟩ := reduce_max_real (s := S2x4x16384x16384) (t := S2x4x16384) (a := 3) (val_main_v4 (F := Ideal) x0 x1) (fun i => ⟨_, v4_real q k h0 h1 i⟩)
      (val_main_cst_0 (F := Ideal)) (fun i => bits_bot) reducesTo_S2x4x16384x16384_S2x4x16384_d3 (by decide) h_S_ (by decide) i
    refine ⟨r, ?_⟩
    rw [val_main_v12_apply, val_main_v11_apply, val_main_cst_2_apply]
    have hr' : val_main_v5 (F := Ideal) x0 x1 i = (r : EReal) := hr
    rw [hr']
    show max (Ideal.ofBits .f32 0xFF800000#32) (r : EReal) = _
    rw [bits_bot]; exact max_eq_right bot_le
  exact ⟨fun i => (h i).choose, fun i => (h i).choose_spec⟩

variable {M : S2x4x16384.Idx → ℝ} (hM : ∀ i, val_main_v12 (F := Ideal) x0 x1 i = ((M i : ℝ) : EReal))

/-- The row of a score. -/
abbrev rowOf (i : S2x4x16384x16384.Idx) : S2x4x16384.Idx := idx_main_v22 (idx_main_v23 i)

theorem rowOf_26 (i : S2x4x16384.Idx) (t : Fin 16384) : rowOf (idx_main_v26 i t) = i :=
  funext fun a => match a with | ⟨0, _⟩ => rfl | ⟨1, _⟩ => rfl | ⟨2, _⟩ => rfl

include h0 h1 hM in
/-- The exponentials of the shifted scores. -/
theorem v25_real (i : S2x4x16384x16384.Idx) : val_main_v25 (F := Ideal) x0 x1 i
    = ((Real.exp (sc q k (i 0).val ((i 0).val * 4 + (i 1).val) (i 2).val (i 3).val - M (rowOf i)) : ℝ) : EReal) := by
  rw [val_main_v25_apply, val_main_v24_apply, val_main_v23_apply, val_main_v22_apply, hM, v4_real q k h0 h1]
  show Ideal.exp (((_ : ℝ) : EReal) - ((_ : ℝ) : EReal)) = _
  rw [← EReal.coe_sub, Ideal.exp_coe]

include h0 h1 hM in
/-- The rows' sums of exponentials. -/
theorem v26_real (i : S2x4x16384.Idx) : val_main_v26 (F := Ideal) x0 x1 i
    = ((denM q k (M i) (i 0).val ((i 0).val * 4 + (i 1).val) (i 2).val : ℝ) : EReal) := by
  rw [val_main_v26_apply, val_main_cst_8_apply]
  simp only [v25_real q k h0 h1 hM, rowOf_26, sum_coe]
  exact add_zero_bits _

include h0 h1 hM in
/-- The rows' sums, along the row. -/
theorem v28_real (i : S2x4x16384x16384.Idx) : val_main_v28 (F := Ideal) x0 x1 i
    = ((denM q k (M (rowOf i)) (i 0).val ((i 0).val * 4 + (i 1).val) (i 2).val : ℝ) : EReal) := by
  rw [val_main_v28_apply, val_main_v27_apply, v26_real q k h0 h1 hM]

include h0 h1 hM in
/-- The probabilities. -/
theorem v29_real (i : S2x4x16384x16384.Idx) : val_main_v29 (F := Ideal) x0 x1 i
    = ((prob q k (i 0).val ((i 0).val * 4 + (i 1).val) (i 2).val (i 3).val : ℝ) : EReal) := by
  rw [val_main_v29_apply, v25_real q k h0 h1 hM, v28_real q k h0 h1 hM]
  refine (div_real _ (denM_pos q k _ _ _ _).ne').trans ?_
  rw [prob_shift]

include h3 in
/-- The output's cotangent by group and head. -/
theorem v37_real (i : S2x64x4x16384.Idx) :
    val_main_v37 (F := Ideal) x3 i = ((o (i 3).val (((i 0).val * 4 + (i 2).val) * 64 + (i 1).val) : ℝ) : EReal) := by
  rw [val_main_v37_apply, val_main_v36_apply, h3]
  have b0 : (i 0).val < 2 := (i 0).isLt
  have b1 : (i 1).val < 64 := (i 1).isLt
  have b2 : (i 2).val < 4 := (i 2).isLt
  have b3 : (i 3).val < 16384 := (i 3).isLt
  show ((o (((((i 3).val * 2 + (i 0).val) * 4 + (i 2).val) * 64 + (i 1).val) / 512) (((((i 3).val * 2 + (i 0).val) * 4 + (i 2).val) * 64 + (i 1).val) % 512) : ℝ) : EReal) = _
  congr 2 <;> omega

include h2 h3 in
/-- The probabilities' cotangents. -/
theorem v38_real (i : S2x4x16384x16384.Idx) : val_main_v38 (F := Ideal) x2 x3 i
    = ((dprob v o (i 0).val ((i 0).val * 4 + (i 1).val) (i 2).val (i 3).val : ℝ) : EReal) := by
  rw [val_main_v38_apply]
  simp only [v37_real o h3, h2, sum_mul_coe]
  rfl

include h0 h1 h2 h3 hM in
/-- The scores' cotangents, before the scaling. -/
theorem v52_real (i : S2x4x16384x16384.Idx) : val_main_v52 (F := Ideal) x0 x1 x2 x3 i
    = ((dsc q k v o (i 0).val ((i 0).val * 4 + (i 1).val) (i 2).val (i 3).val : ℝ) : EReal) := by
  have hL := (denM_pos q k (M (rowOf i)) (i 0).val ((i 0).val * 4 + (i 1).val) (i 2).val).ne'
  have e44 : ∀ u : S2x4x16384.Idx, val_main_v44 (F := Ideal) x0 x1 x2 x3 u = ((∑ t : Fin 16384,
      dprob v o (u 0).val ((u 0).val * 4 + (u 1).val) (u 2).val t.val
        * (1 / (denM q k (M u) (u 0).val ((u 0).val * 4 + (u 1).val) (u 2).val * denM q k (M u) (u 0).val ((u 0).val * 4 + (u 1).val) (u 2).val))
        * Real.exp (sc q k (u 0).val ((u 0).val * 4 + (u 1).val) (u 2).val t.val - M u) : ℝ) : EReal) := fun u => by
    rw [val_main_v44_apply, val_main_cst_10_apply]
    refine (add_zero_bits _).trans ?_
    rw [← sum_coe]
    refine Finset.sum_congr rfl fun t _ => ?_
    rw [val_main_v43_apply, val_main_v42_apply, val_main_v41_apply, val_main_v32_apply, val_main_v31_apply, val_main_v30_apply, val_main_cst_9_apply,
      val_main_v27_apply, v26_real q k h0 h1 hM, v25_real q k h0 h1 hM, v38_real v o h2 h3]
    have er : rowOf (idx_main_v44 u t) = u := funext fun a => match a with | ⟨0, _⟩ => rfl | ⟨1, _⟩ => rfl | ⟨2, _⟩ => rfl
    have er' : idx_main_v27 (idx_main_v41 (idx_main_v44 u t)) = u := funext fun a => match a with | ⟨0, _⟩ => rfl | ⟨1, _⟩ => rfl | ⟨2, _⟩ => rfl
    rw [er, er']
    have hu := (denM_pos q k (M u) (u 0).val ((u 0).val * 4 + (u 1).val) (u 2).val).ne'
    show ((_ : ℝ) : EReal) * Ideal.div (Ideal.ofBits .f32 0x3F800000#32) (((_ : ℝ) : EReal) * ((_ : ℝ) : EReal)) * ((_ : ℝ) : EReal) = _
    rw [bits_one, ← EReal.coe_mul, div_real _ (mul_ne_zero hu hu), ← EReal.coe_mul, ← EReal.coe_mul]
  rw [val_main_v52_apply, val_main_v51_apply, val_main_v48_apply, val_main_v47_apply, val_main_v27_apply, val_main_v50_apply, val_main_v49_apply,
    val_main_cst_11_apply, v25_real q k h0 h1 hM, v38_real v o h2 h3, v26_real q k h0 h1 hM]
  simp only [Fin.sum_univ_one, Finset.univ_unique, Finset.sum_singleton]
  rw [val_main_v46_apply, val_main_v45_apply, e44]
  have er : idx_main_v27 (idx_main_v47 i) = rowOf i := funext fun a => match a with | ⟨0, _⟩ => rfl | ⟨1, _⟩ => rfl | ⟨2, _⟩ => rfl
  have b0 : (i 0).val < 2 := (i 0).isLt
  have b1 : (i 1).val < 4 := (i 1).isLt
  have b2 : (i 2).val < 16384 := (i 2).isLt
  have eu : idx_main_v45 (idx_main_v49 (idx_main_v50 i) default) = rowOf i := funext fun a => Fin.ext (by
    match a with
    | ⟨0, _⟩ => show ((((i 0).val * 4 + (i 1).val) * 16384 + (i 2).val) * 1 + 0) / 65536 = (i 0).val; omega
    | ⟨1, _⟩ => show ((((i 0).val * 4 + (i 1).val) * 16384 + (i 2).val) * 1 + 0) / 16384 % 4 = (i 1).val; omega
    | ⟨2, _⟩ => show ((((i 0).val * 4 + (i 1).val) * 16384 + (i 2).val) * 1 + 0) % 16384 = (i 2).val; omega)
  rw [er, eu]
  show (Ideal.div ((_ : ℝ) : EReal) ((_ : ℝ) : EReal) + (Ideal.ofBits .f32 0x00000000#32 + -((_ : ℝ) : EReal))) * ((_ : ℝ) : EReal) = _
  rw [bits_zero, EReal.coe_zero, zero_add, div_real _ hL, ← EReal.coe_neg, ← EReal.coe_add, ← EReal.coe_mul]
  congr 1
  refine (quotient_rule (fun t : Fin 16384 => Real.exp (sc q k (i 0).val ((i 0).val * 4 + (i 1).val) (i 2).val t.val - M (rowOf i)))
    (fun t : Fin 16384 => dprob v o (i 0).val ((i 0).val * 4 + (i 1).val) (i 2).val t.val) _ hL (i 3)).trans ?_
  simp only [prob_shift]
  rfl

include h0 h1 h2 h3 in
/-- The scores' cotangents, scaled, in the transposed layout. -/
theorem v55_real (i : S2x16384x16384x4.Idx) : val_main_v55 (F := Ideal) x0 x1 x2 x3 i
    = ((dsc q k v o (i 0).val ((i 0).val * 4 + (i 3).val) (i 2).val (i 1).val * (1 / 8) : ℝ) : EReal) := by
  obtain ⟨M, hM⟩ := v12_real q k h0 h1
  rw [val_main_v55_apply, val_main_v54_apply, val_main_v53_apply, val_main_cst_12_apply, v52_real q k v o h0 h1 h2 h3 hM]
  refine (congrArg _ bits_eighth).trans ?_
  exact (EReal.coe_mul _ _).symm

include h0 h1 h2 h3 in
/-- The reference's first result is the queries' gradient. -/
theorem v61_real (i : S16384x512.Idx) : val_main_v61 (F := Ideal) x0 x1 x2 x3 i = ((gradQ q k v o (i 0).val (i 1).val : ℝ) : EReal) := by
  rw [val_main_v61_apply, val_main_v60_apply, val_main_v57_apply, val_main_v56_apply]
  simp only [v55_real q k v o h0 h1 h2 h3, h1, sum_mul_coe]
  have b0 : (i 0).val < 16384 := (i 0).isLt
  have b1 : (i 1).val < 512 := (i 1).isLt
  unfold gradQ
  refine congrArg (fun r : ℝ => (r : EReal)) (Finset.sum_congr rfl fun t _ => ?_)
  show dsc q k v o (((((i 0).val * 512 + (i 1).val) / 512 * 8 + ((i 0).val * 512 + (i 1).val) / 64 % 8) * 64 + ((i 0).val * 512 + (i 1).val) % 64) / 256 % 2)
      (((((i 0).val * 512 + (i 1).val) / 512 * 8 + ((i 0).val * 512 + (i 1).val) / 64 % 8) * 64 + ((i 0).val * 512 + (i 1).val) % 64) / 256 % 2 * 4
        + ((((i 0).val * 512 + (i 1).val) / 512 * 8 + ((i 0).val * 512 + (i 1).val) / 64 % 8) * 64 + ((i 0).val * 512 + (i 1).val) % 64) / 64 % 4)
      (((((i 0).val * 512 + (i 1).val) / 512 * 8 + ((i 0).val * 512 + (i 1).val) / 64 % 8) * 64 + ((i 0).val * 512 + (i 1).val) % 64) / 512) t.val * (1 / 8)
    * k t.val (((((i 0).val * 512 + (i 1).val) / 512 * 8 + ((i 0).val * 512 + (i 1).val) / 64 % 8) * 64 + ((i 0).val * 512 + (i 1).val) % 64) / 256 % 2)
      (((((i 0).val * 512 + (i 1).val) / 512 * 8 + ((i 0).val * 512 + (i 1).val) / 64 % 8) * 64 + ((i 0).val * 512 + (i 1).val) % 64) % 64) = _
  generalize (i 0).val = a at *
  generalize (i 1).val = b at *
  have e1 : (a * 512 + b) / 512 = a := by omega
  have e2 : (a * 512 + b) / 64 % 8 = b / 64 := by omega
  have e3 : (a * 512 + b) % 64 = b % 64 := by omega
  rw [e1, e2, e3]
  have e4 : ((a * 8 + b / 64) * 64 + b % 64) / 256 % 2 = b / 256 := by omega
  have e5 : ((a * 8 + b / 64) * 64 + b % 64) / 64 % 4 = b / 64 % 4 := by omega
  have e6 : ((a * 8 + b / 64) * 64 + b % 64) / 512 = a := by omega
  have e7 : ((a * 8 + b / 64) * 64 + b % 64) % 64 = b % 64 := by omega
  have e8 : b / 256 * 4 + b / 64 % 4 = b / 64 := by omega
  rw [e4, e5, e6, e7, e8]

include h0 h1 h2 h3 in
/-- The reference's second result is the keys' gradient. -/
theorem v62_real (i : S16384x128.Idx) : val_main_v62 (F := Ideal) x0 x1 x2 x3 i = ((gradK q k v o (i 0).val (i 1).val : ℝ) : EReal) := by
  rw [val_main_v62_apply, val_main_v59_apply, v58_apply]
  simp only [v55_real q k v o h0 h1 h2 h3, v0_real q h0, sum_mul_coe, sum_coe]
  have b0 : (i 0).val < 16384 := (i 0).isLt
  have b1 : (i 1).val < 128 := (i 1).isLt
  unfold gradK
  rw [Finset.sum_comm]
  refine congrArg (fun r : ℝ => (r : EReal)) (Finset.sum_congr rfl fun r _ => Finset.sum_congr rfl fun t _ => ?_)
  show dsc q k v o (((i 0).val * 128 + (i 1).val) / 64 % 2) (((i 0).val * 128 + (i 1).val) / 64 % 2 * 4 + r.val) t.val (((i 0).val * 128 + (i 1).val) / 128) * (1 / 8)
    * q t.val (((i 0).val * 128 + (i 1).val) / 64 % 2 * 4 + r.val) (((i 0).val * 128 + (i 1).val) % 64) = _
  generalize (i 0).val = a at *
  generalize (i 1).val = b at *
  have e1 : (a * 128 + b) / 128 = a := by omega
  have e2 : (a * 128 + b) / 64 % 2 = b / 64 := by omega
  have e3 : (a * 128 + b) % 64 = b % 64 := by omega
  rw [e1, e2, e3]

include h0 h1 h3 in
/-- The reference's third result is the values' gradient. -/
theorem v63_real (i : S16384x128.Idx) : val_main_v63 (F := Ideal) x0 x1 x3 i = ((gradV q k o (i 0).val (i 1).val : ℝ) : EReal) := by
  obtain ⟨M, hM⟩ := v12_real q k h0 h1
  rw [val_main_v63_apply, val_main_v40_apply, v39_apply]
  simp only [v37_real o h3, v29_real q k h0 h1 hM, sum_mul_coe, sum_coe]
  have b0 : (i 0).val < 16384 := (i 0).isLt
  have b1 : (i 1).val < 128 := (i 1).isLt
  unfold gradV
  refine congrArg (fun r : ℝ => (r : EReal)) (Finset.sum_congr rfl fun r _ => Finset.sum_congr rfl fun t _ => ?_)
  rw [mul_comm]
  show prob q k (((i 0).val * 128 + (i 1).val) / 64 % 2) (((i 0).val * 128 + (i 1).val) / 64 % 2 * 4 + r.val) t.val (((i 0).val * 128 + (i 1).val) / 128)
    * o t.val ((((i 0).val * 128 + (i 1).val) / 64 % 2 * 4 + r.val) * 64 + ((i 0).val * 128 + (i 1).val) % 64) = _
  generalize (i 0).val = a at *
  generalize (i 1).val = b at *
  have e1 : (a * 128 + b) / 128 = a := by omega
  have e2 : (a * 128 + b) / 64 % 2 = b / 64 := by omega
  have e3 : (a * 128 + b) % 64 = b % 64 := by omega
  rw [e1, e2, e3]

end Cert.ReferenceIdeal.Hand

end
-- ==== Proof.Ideal.Value.lean ====
/- At finite arguments the program's results are the reference's. -/
module

public import proofs.«01_k».proof.Proof.Ideal.Grad
public import proofs.«01_k».proof.Proof.Ideal.HostPost
public import proofs.«01_k».proof.Proof.Ideal.HostTail
public import proofs.«01_k».proof.Proof.Ideal.HostRun
public import proofs.«01_k».proof.Proof.Ideal.Ref

@[expose] public section

noncomputable section

namespace Cert.KernelIdeal.Hand

open Cert.KernelIdeal Cert.KernelIdeal.Gen Idealize.ShloMosaic Idealize.ShloMosaic.TcCoe Idealize.ShloMosaic.Pipeline Cert.Attn Cert.KernelIdeal.Pre

/-! ## Finite arrays as real functions -/

/-- An array of rank two whose entries are all reals is a real function of its coordinates. -/
theorem real_two {n0 n1 : ℕ} (x : (⟨2, ![n0, n1]⟩ : Shape).Idx → EReal) (hx : ∀ i, ∃ r : ℝ, x i = (r : EReal)) :
    ∃ q : ℕ → ℕ → ℝ, ∀ i, x i = ((q (i 0).val (i 1).val : ℝ) : EReal) := by
  classical
  choose r hr using hx
  refine ⟨fun a b => if h : ∃ i : (⟨2, ![n0, n1]⟩ : Shape).Idx, (i 0).val = a ∧ (i 1).val = b then r h.choose else 0, fun i => ?_⟩
  have h : ∃ j : (⟨2, ![n0, n1]⟩ : Shape).Idx, (j 0).val = (i 0).val ∧ (j 1).val = (i 1).val := ⟨i, rfl, rfl⟩
  have e : h.choose = i := funext fun a => Fin.ext (match a with
    | ⟨0, _⟩ => h.choose_spec.1
    | ⟨1, _⟩ => h.choose_spec.2)
  rw [hr i]
  show _ = ((dite _ _ _ : ℝ) : EReal)
  rw [dif_pos h, e]

/-- An array of rank three whose entries are all reals is a real function of its coordinates. -/
theorem real_three {n0 n1 n2 : ℕ} (x : (⟨3, ![n0, n1, n2]⟩ : Shape).Idx → EReal) (hx : ∀ i, ∃ r : ℝ, x i = (r : EReal)) :
    ∃ q : ℕ → ℕ → ℕ → ℝ, ∀ i, x i = ((q (i 0).val (i 1).val (i 2).val : ℝ) : EReal) := by
  classical
  choose r hr using hx
  refine ⟨fun a b c => if h : ∃ i : (⟨3, ![n0, n1, n2]⟩ : Shape).Idx, (i 0).val = a ∧ (i 1).val = b ∧ (i 2).val = c then r h.choose else 0, fun i => ?_⟩
  have h : ∃ j : (⟨3, ![n0, n1, n2]⟩ : Shape).Idx, (j 0).val = (i 0).val ∧ (j 1).val = (i 1).val ∧ (j 2).val = (i 2).val := ⟨i, rfl, rfl, rfl⟩
  have e : h.choose = i := funext fun a => Fin.ext (match a with
    | ⟨0, _⟩ => h.choose_spec.1
    | ⟨1, _⟩ => h.choose_spec.2.1
    | ⟨2, _⟩ => h.choose_spec.2.2)
  rw [hr i]
  show _ = ((dite _ _ _ : ℝ) : EReal)
  rw [dif_pos h, e]

/-- A value whose absolute value is below plus infinity is a real. -/
theorem real_of_finite (x : Ideal .f32) (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [bits_top] at h'
  unfold Ideal.cmp at h'
  have hlt : max (x : EReal) (-(x : EReal)) < ⊤ := by
    by_contra hn
    simp [hn] at h'
  rw [max_lt_iff] at hlt
  refine ⟨(x : EReal).toReal, (EReal.coe_toReal hlt.1.ne ?_).symm⟩
  intro hb
  have := hlt.2
  rw [hb] at this
  simp at this

/-- The index of a head's, a tile's and a lane's row. -/
abbrev rowIdx (h n x : ℕ) (b : h < 8 ∧ n < 32 ∧ x < 512) : S8x32x1x512.Idx := fun a => match a with
  | ⟨0, _⟩ => ⟨h, b.1⟩
  | ⟨1, _⟩ => ⟨n, b.2.1⟩
  | ⟨2, _⟩ => ⟨0, Nat.one_pos⟩
  | ⟨3, _⟩ => ⟨x, b.2.2⟩

/-- The host's log-sum-exp array as a real function of head, tile and lane. -/
theorem lse_real (q k : ℕ → ℕ → ℕ → ℝ) {x0 : (⟨S16384x8x64, .f32⟩ : BufTy).Contents (Elt Ideal)} {x1 : (⟨S16384x2x64, .f32⟩ : BufTy).Contents (Elt Ideal)}
    (h0 : ∀ i, x0 i = ((q (i 0).val (i 1).val (i 2).val : ℝ) : EReal)) (h1 : ∀ i, x1 i = ((k (i 0).val (i 1).val (i 2).val : ℝ) : EReal)) :
    ∃ LS : ℕ → ℕ → ℕ → ℝ, (∀ i : S8x32x1x512.Idx, Pre.val_main_v30 (F := Ideal) x0 x1 i = ((LS (i 0).val (i 1).val (i 3).val : ℝ) : EReal))
      ∧ ∀ h n x, h < 8 → n < 32 → x < 512 → ∃ M : ℝ, LS h n x = (M + Real.log (denM q k M (h / 4) h (n * 512 + x))) / Real.log 2 := by
  obtain ⟨M, hM⟩ := v30_real q k h0 h1
  refine ⟨fun h n x => if b : h < 8 ∧ n < 32 ∧ x < 512 then
      (M (rowIdx h n x b) + Real.log (denM q k (M (rowIdx h n x b)) (h / 4) h (n * 512 + x))) / Real.log 2 else 0,
    fun i => ?_, fun h n x hh hn hx => ⟨M (rowIdx h n x ⟨hh, hn, hx⟩), dif_pos ⟨hh, hn, hx⟩⟩⟩
  have b0 : (i 0).val < 8 := (i 0).isLt
  have b1 : (i 1).val < 32 := (i 1).isLt
  have b2 : (i 2).val < 1 := (i 2).isLt
  have b3 : (i 3).val < 512 := (i 3).isLt
  rw [hM i]
  show _ = ((dite _ _ _ : ℝ) : EReal)
  rw [dif_pos ⟨b0, b1, b3⟩]
  have e : rowIdx (i 0).val (i 1).val (i 3).val ⟨b0, b1, b3⟩ = i := funext fun a => Fin.ext (match a with
    | ⟨0, _⟩ => rfl
    | ⟨1, _⟩ => rfl
    | ⟨2, _⟩ => (show 0 = (i 2).val by omega)
    | ⟨3, _⟩ => rfl)
  rw [e]

/-! ## The results -/

theorem two_log (i : S_.Idx) : Post.val_main_v0 (F := Ideal) i = ((Real.log 2 : ℝ) : EReal) := by
  rw [Post.val_main_v0_apply, Post.val_main_cst_apply]
  show Ideal.log (Ideal.ofBits .f32 0x40000000#32) = _
  rw [bits_two, log_real (by norm_num)]

variable (m : (ℓ : Loc nD τ sig) → Buf (Elt Ideal) ℓ) (c : Dev nD)

/-- The three results at finite arguments: the reference's. -/
theorem results_eq
    (x0 : (⟨S16384x8x64, .f32⟩ : BufTy).Contents (Elt Ideal)) (x1 x2 : (⟨S16384x2x64, .f32⟩ : BufTy).Contents (Elt Ideal))
    (x3 : (⟨S16384x512, .f32⟩ : BufTy).Contents (Elt Ideal))
    (e0 : m ((c.tc : Thread nD τ).loc main_arg0) = x0) (e1 : m ((c.tc : Thread nD τ).loc main_arg1) = x1)
    (e2 : m ((c.tc : Thread nD τ).loc main_arg2) = x2) (e3 : m ((c.tc : Thread nD τ).loc main_arg3) = x3)
    (f0 : ∀ i, ∃ r : ℝ, x0 i = (r : EReal)) (f1 : ∀ i, ∃ r : ℝ, x1 i = (r : EReal))
    (f2 : ∀ i, ∃ r : ℝ, x2 i = (r : EReal)) (f3 : ∀ i, ∃ r : ℝ, x3 i = (r : EReal)) :
    Post.val_main_v4 ((dats m 0 c).arrAt 7 cfg0.N) = Cert.ReferenceIdeal.Read.val_main_v61 (F := Ideal) x0 x1 x2 x3
    ∧ Post.val_main_v8 ((dats m 0 c).arrAt 8 cfg0.N) = Cert.ReferenceIdeal.Read.val_main_v62 (F := Ideal) x0 x1 x2 x3
    ∧ Post.val_main_v10 ((dats m 0 c).arrAt 9 cfg0.N) = Cert.ReferenceIdeal.Read.val_main_v63 (F := Ideal) x0 x1 x3 := by
  obtain ⟨q, h0⟩ := real_three x0 f0
  obtain ⟨k, h1⟩ := real_three x1 f1
  obtain ⟨v, h2⟩ := real_three x2 f2
  obtain ⟨o, h3⟩ := real_two x3 f3
  obtain ⟨LS, hl, hLS⟩ := lse_real q k h0 h1
  have gq := fun i => (congrFun (V_q_ct m c) i).trans ((congrFun (congrArg Pre.val_main_v48 e0) i).trans (v48_real q h0 i))
  have go := fun i => (congrFun (V_do_ct m c) i).trans ((congrFun (congrArg Pre.val_main_v59 e3) i).trans (v59_real o h3 i))
  have gl := fun i => (congrFun (V_lse m c) i).trans ((congrFun (congrArg₂ Pre.val_main_v30 e0 e1) i).trans (hl i))
  have gd : ∀ i, (V m c main_v35 : (⟨S8x32x1x512, .f32⟩ : BufTy).Contents (Elt Ideal)) i
      = ((rowOf q k v o (i 0).val (i 1).val (i 3).val : ℝ) : EReal) := fun i => by
    refine (congrFun (V_delta m c) i).trans ?_
    rw [e0, e1, e2, e3]
    exact v35_real q k v o h0 h1 h2 h3 i
  have gk : ∀ i, (V m c main_v61 : (⟨S16384x128, .bf16⟩ : BufTy).Contents (Elt Ideal)) i = ((rowsOf k (i 0).val (i 1).val : ℝ) : EReal) :=
    fun i => (congrFun (V_k_rows m c) i).trans ((congrFun (congrArg Pre.val_main_v61 e1) i).trans (v61_real k h1 i))
  have gv : ∀ i, (V m c main_v63 : (⟨S16384x128, .bf16⟩ : BufTy).Contents (Elt Ideal)) i = ((rowsOf v (i 0).val (i 1).val : ℝ) : EReal) :=
    fun i => (congrFun (V_v_rows m c) i).trans ((congrFun (congrArg Pre.val_main_v63 e2) i).trans (v63_real v h2 i))
  have gt : ∀ i, (V m c main_v65 : (⟨S32x128x512, .bf16⟩ : BufTy).Contents (Elt Ideal)) i = ((Hand.tilesOf k (i 0).val (i 1).val (i 2).val : ℝ) : EReal) :=
    fun i => (congrFun (V_k_ct m c) i).trans ((congrFun (congrArg Pre.val_main_v65 e1) i).trans (v65_real k h1 i))
  refine ⟨?_, ?_, ?_⟩
  · rw [dq_arr m c (qT q) (oT o) LS (rowOf q k v o) (rowsOf k) (rowsOf v) (Hand.tilesOf k) gq go gl gd gk gv gt]
    funext i
    have b0 : (i 0).val < 16384 := (i 0).isLt
    have b1 : (i 1).val < 512 := (i 1).isLt
    rw [Cert.ReferenceIdeal.Hand.v61_real q k v o h0 h1 h2 h3 i, ← sum_gradQ q k v o LS hLS (i 0).val (i 1).val b0 b1,
      Post.val_main_v4_apply, Post.val_main_v2_apply, Post.val_main_v1_apply, Post.val_main_v3_apply, Post.val_main_cst_0_apply, EReal.coe_mul]
    refine congrArg₂ (fun a b : EReal => a * b) ?_ bits_eighth
    unfold dqArr
    refine congrArg (fun r : ℝ => (r : EReal)) ?_
    show (∑ b ∈ Finset.range 8, ∑ r : Fin 2048, Hand.tilesOf k (b * 4 + r.val / 512)
        (((i 0).val * 512 + (i 1).val) % 512 / 64 / 4 * 64 + ((i 0).val * 512 + (i 1).val) % 512 % 64) (r.val % 512)
      * headG (qT q) (oT o) LS (rowOf q k v o) (rowsOf k) (rowsOf v) (((i 0).val * 512 + (i 1).val) % 512 / 64)
        (((i 0).val * 512 + (i 1).val) / 262144) (b * 2048 + r.val) (((i 0).val * 512 + (i 1).val) / 512 % 512)) = _
    rw [show ((i 0).val * 512 + (i 1).val) % 512 = (i 1).val by omega, show ((i 0).val * 512 + (i 1).val) / 262144 = (i 0).val / 512 by omega,
      show ((i 0).val * 512 + (i 1).val) / 512 % 512 = (i 0).val % 512 by omega]
  · rw [dk_arr m c (qT q) (oT o) LS (rowOf q k v o) (rowsOf k) (rowsOf v) gq go gl gd gk gv]
    funext i
    have b1 : (i 1).val < 128 := (i 1).isLt
    rw [Cert.ReferenceIdeal.Hand.v62_real q k v o h0 h1 h2 h3 i, ← sum_gradK q k v o LS hLS (i 0).val (i 1).val b1,
      Post.val_main_v8_apply, Post.val_main_v6_apply, Post.val_main_v7_apply, two_log, EReal.coe_mul]
    refine congrArg (fun a : EReal => a * ((Real.log 2 : ℝ) : EReal)) ?_
    rw [Post.val_main_cst_1_apply]
    refine Eq.trans ?_ (sum_coe Finset.univ _)
    refine (congrArg (fun a : EReal => a + _) (bits_zero.trans EReal.coe_zero)).trans ((zero_add _).trans ?_)
    exact Finset.sum_congr rfl fun h _ => rfl
  · rw [dv_arr m c (qT q) (oT o) LS (rowsOf k) gq go gl gk]
    funext i
    have b1 : (i 1).val < 128 := (i 1).isLt
    rw [Cert.ReferenceIdeal.Hand.v63_real q k o h0 h1 h3 i, ← sum_gradV q k o LS hLS (i 0).val (i 1).val b1,
      Post.val_main_v10_apply, Post.val_main_cst_2_apply]
    refine Eq.trans ?_ (sum_coe Finset.univ _)
    refine (congrArg (fun a : EReal => a + _) (bits_zero.trans EReal.coe_zero)).trans ((zero_add _).trans ?_)
    exact Finset.sum_congr rfl fun h _ => rfl

end Cert.KernelIdeal.Hand

end
-- ==== Proof.Runs.lean ====
/- Products of blocks over their rows, and what is kept over a run of points. -/
module

public import proofs.«01_k».proof.Proof.Ideal.Grad
public import Idealize.ShloMosaic.Lib.ValueIdx
public import Idealize.ShloMosaic.PureOps.Ideal.Laws

@[expose] public section

noncomputable section

namespace Cert.MlpMath

open Idealize.ShloMosaic

variable {M K N : ℕ} (A B : ℕ → ℕ → EReal)

theorem no_offsets : (![0, 0] : Fin 2 → ℕ) = fun _ => 0 := by funext a; fin_cases a <;> rfl

section Product

variable (d : DotDims ⟨2, ![K, M]⟩ ⟨2, ![K, N]⟩ ⟨2, ![M, N]⟩) (hlc : d.lhsContracting = [0]) (hrc : d.rhsContracting = [0])
  (hln : d.lhsNonContracting = [1]) (hrn : d.rhsNonContracting = [1]) (hlb : d.lhsBatch = []) (hrb : d.rhsBatch = [])

include hln hlb in
theorem lhs_column (i : (⟨2, ![M, N]⟩ : Shape).Idx) (t : d.contr.Idx) : (d.lhsIdx i t 1).val = (i 0).val := by
  obtain ⟨lc, rc, ln, rn, lb, rb, wf⟩ := d
  dsimp only at hln hlb
  subst hln hlb
  unfold DotDims.lhsIdx
  rw [dif_neg (by simp), dif_pos (by simp)]
  rfl

include hln hrn hlb hrb in
theorem rhs_column (i : (⟨2, ![M, N]⟩ : Shape).Idx) (t : d.contr.Idx) : (d.rhsIdx i t 1).val = (i 1).val := by
  obtain ⟨lc, rc, ln, rn, lb, rb, wf⟩ := d
  dsimp only at hln hrn hlb hrb
  subst hln hrn hlb hrb
  unfold DotDims.rhsIdx
  rw [dif_neg (by simp), dif_pos (by simp)]
  rfl

include hlc hrc hln hrn hlb hrb in
/-- A product of a transposed block with a block, into zeros: the sum over the rows. -/
theorem product_l (hr : d.contr.rank = 1) (hs : d.contr.size ⟨0, by omega⟩ = K) (x : FVec Ideal ⟨2, ![K, M]⟩ .bf16) (y : FVec Ideal ⟨2, ![K, N]⟩ .bf16)
    (hx : ∀ i, x i = A (i 0).val (i 1).val) (hy : ∀ i, y i = B (i 0).val (i 1).val) (i : (⟨2, ![M, N]⟩ : Shape).Idx) :
    matmul (F := Ideal) d none x y (constant ⟨2, ![M, N]⟩ .f32 0x00000000#32) i = ∑ l : Fin K, A l.val (i 0).val * B l.val (i 1).val := by
  refine (Ideal.matmul_constant_zero_apply d none x y i).trans ?_
  rw [← Equiv.sum_comp (ValueIdx.contrEquiv1 d K hr hs).symm]
  refine Finset.sum_congr rfl fun t _ => ?_
  have ht := ValueIdx.contrEquiv1_symm_val d K hr hs t
  rw [hx, hy, lhs_column d hln hlb, rhs_column d hln hrn hlb hrb, (d.lhsIdx_val_of_single hlc i _).trans ht, (d.rhsIdx_val_of_single hrc i _).trans ht]

end Product

/-- What is kept after a point, where a run's first point sets it and a later one adds to it: the parts of the run so far. -/
theorem run_sum (R L : ℕ) (hR : 0 < R) (g : ∀ n, n < L → EReal) (p : ℕ → ℕ → EReal) (hp : ∀ n, ¬(n + 1) % R = 0 → p (n + 1) = p n)
    (hA : ∀ n (hn : n < L), n % R = 0 → g n hn = p n 0)
    (hB : ∀ n (hn : n + 1 < L), ¬(n + 1) % R = 0 → g (n + 1) hn = g n (Nat.lt_of_succ_lt hn) + p (n + 1) ((n + 1) % R)) (n : ℕ) (hn : n < L) :
    g n hn = ∑ b ∈ Finset.range (n % R + 1), p n b := by
  induction n with
  | zero => rw [hA 0 hn (Nat.zero_mod R), Nat.zero_mod, Finset.sum_range_one]
  | succ n ih =>
    by_cases h : (n + 1) % R = 0
    · rw [hA _ hn h, h, Finset.sum_range_one]
    · have hm : (n + 1) % R = n % R + 1 := by
        have e : n + 1 = n % R + 1 + R * (n / R) := by have := Nat.mod_add_div n R; omega
        have hr := Nat.mod_lt n hR
        rw [e, Nat.add_mul_mod_self_left] at h ⊢
        rcases Nat.lt_or_ge (n % R + 1) R with s | s
        · exact Nat.mod_eq_of_lt s
        · exact absurd (by rw [show n % R + 1 = R by omega, Nat.mod_self]) h
      rw [hB n hn h, ih, hp n h, hm, Finset.sum_range_succ _ (n % R + 1)]

/-- The gradient: two arrays multiplied over all the rows. -/
def grad (a b : ℕ) : EReal := ∑ s : Fin 16384, A s.val a * B s.val b

/-- The product of the `j`-th blocks of `n` rows, at one entry. -/
def part (n a b j : ℕ) : EReal := ∑ l : Fin n, A (j * n + l.val) a * B (j * n + l.val) b

theorem grad_parts (r n : ℕ) (h : r * n = 16384) (a b : ℕ) : grad A B a b = ∑ j ∈ Finset.range r, part A B n a b j := by
  unfold grad
  rw [← h]
  exact Cert.KernelIdeal.Hand.sum_pairs r n (fun s => A s a * B s b)

end Cert.MlpMath

end
-- ==== Proof.Win.Arr.lean ====
/- What the call of the input weights' gradient leaves: blocks of the two inputs multiplied over their rows, added
   up in a buffer that is kept between the points. -/
module

public import proofs.«01_k».proof.Proof.Gen.WinIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WinIdeal.Hand

open Cert.WinIdeal Cert.WinIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S2048x512 .bf16) (h3 : a3.IsWhole)
  (a4 : Memref sig .tc .vmem S2048x2432 .bf16) (h4 : a4.IsWhole) (a5 : Memref sig .tc .vmem S512x2432 .f32) (h5 : a5.IsWhole)
  (a6 : Memref sig .tc .vmem S512x2432 .f32) (h6 : a6.IsWhole)
  (x0 : Vec F S2048x512 .bf16) (x1 : Vec F S2048x2432 .bf16) (xs : Vec F S512x2432 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S512x2432) no_offsets]
  simp only [View.readAt_eq_ld, h3.read_unread, h4.read_unread, View.ld_unit_zero (S := S2048x512) no_offsets, View.ld_unit_zero (S := S2048x2432) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S512x2432) no_offsets]
  simp only [View.readAt_eq_ld, h3.read_unread, h4.read_unread, h6.read_unread, View.ld_unit_zero (S := S2048x512) no_offsets, View.ld_unit_zero (S := S2048x2432) no_offsets, View.ld_unit_zero (S := S512x2432) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S512x2432) no_offsets]
  simp only [View.readAt_eq_ld, h3.read_unread, h4.read_unread, h6.read_unread, View.ld_unit_zero (S := S2048x512) no_offsets, View.ld_unit_zero (S := S2048x2432) no_offsets, View.ld_unit_zero (S := S512x2432) no_offsets]

/-- A buffer just written whole reads back as the value written. -/
theorem read_back (w : Vec F S512x2432 .f32) :
    a6.view.readCov [(⟨Rect.unit (s := S512x2432) ![0, 0] S512x2432.size inb_S512x2432_S512x2432_0_0, w⟩ : View.Piece (Elt F) S512x2432 .f32)]
      (Rect.unit (s := S512x2432) ![0, 0] S512x2432.size inb_S512x2432_S512x2432_0_0).toLoadRect = w := by
  unfold View.readCov
  rw [View.readAt_eq_ld, View.read_writes_full, View.ld_unit_zero (S := S512x2432) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S512x2432) no_offsets]
  refine (read_back a6 _).trans ?_
  simp only [View.readAt_eq_ld, h3.read_unread, h4.read_unread, h6.read_unread, View.ld_unit_zero (S := S2048x512) no_offsets, View.ld_unit_zero (S := S2048x2432) no_offsets, View.ld_unit_zero (S := S512x2432) no_offsets]

end Pieces

/-! ## The product of two blocks -/

section Product

variable (x : FVec Ideal S2048x512 .bf16) (y : FVec Ideal S2048x2432 .bf16) (z : FVec Ideal S512x2432 .f32) (A B : ℕ → ℕ → EReal)
  (hx : ∀ i, x i = A (i 0).val (i 1).val) (hy : ∀ i, y i = B (i 0).val (i 1).val)

include hx hy in
theorem pay1_at (i : S512x2432.Idx) : k0_pay1 (F := Ideal) x y i = ∑ l : Fin 2048, A l.val (i 0).val * B l.val (i 1).val := by
  unfold k0_pay1
  rw [shapeCast_self, shapeCast_self]
  exact product_l A B dot_S2048x512_S2048x2432_S512x2432_0_0_1_1_n_n rfl rfl rfl rfl rfl rfl rfl rfl x y hx hy i

include hx hy in
theorem pay2_at (i : S512x2432.Idx) : k0_pay2 (F := Ideal) x y i = ∑ l : Fin 2048, A l.val (i 0).val * B l.val (i 1).val := by
  unfold k0_pay2
  rw [shapeCast_self]
  exact pay1_at x y A B hx hy i

include hx hy in
theorem pay3_at (i : S512x2432.Idx) : k0_pay3 (F := Ideal) x y z i = z i + ∑ l : Fin 2048, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 8, t.val / 16] := (by decide +kernel : ∀ t : Fin grid0.N, _)
theorem index0_1 : ∀ t : Fin cfg0.N, win0_1.index t = ![t.val % 8, t.val / 8 % 2] := (by decide +kernel : ∀ t : Fin grid0.N, _)
theorem index0_2 : ∀ t : Fin cfg0.N, win0_2.index t = ![t.val / 16, t.val / 8 % 2] := (by decide +kernel : ∀ t : Fin grid0.N, _)
theorem last_point : ∀ t : Fin cfg0.N, (cfg0.win 2).flush t = true → t.val % 8 = 8 - 1 := (by decide +kernel : ∀ t : Fin grid0.N, _)

variable (m : (ℓ : Loc nD τ sig) → Buf (Elt Ideal) ℓ) (c : Dev nD) (A B : ℕ → ℕ → EReal)
variable (ha : ∀ i, (V m c main_v13 : (⟨S16384x1024, .bf16⟩ : BufTy).Contents (Elt Ideal)) i = A (i 0).val (i 1).val)
variable (hb : ∀ i, (V m c main_v14 : (⟨S16384x4864, .bf16⟩ : BufTy).Contents (Elt Ideal)) i = B (i 0).val (i 1).val)

include ha in
theorem blk_0 (t : Fin cfg0.N) (i : S2048x512.Idx) :
    (iblk m c 0 t : Vec Ideal S2048x512 .bf16) i = A (t.val % 8 * 2048 + (i 0).val) (t.val / 16 * 512 + (i 1).val) := by
  blk_simp [iblk]
  refine (ha _).trans ?_
  blk_simp [index0_0]

include hb in
theorem blk_1 (t : Fin cfg0.N) (i : S2048x2432.Idx) :
    (iblk m c 1 t : Vec Ideal S2048x2432 .bf16) i = B (t.val % 8 * 2048 + (i 0).val) (t.val / 8 % 2 * 2432 + (i 1).val) := by
  blk_simp [iblk]
  refine (hb _).trans ?_
  blk_simp [index0_1]

include ha hb in
/-- What is kept after a point: the products of its run so far. -/
theorem kept_at (n : ℕ) (hn : n < cfg0.N) (i : S512x2432.Idx) :
    (outsAt0 m c n hn).2 i = ∑ b ∈ Finset.range (n % 8 + 1), part A B 2048 (n / 16 * 512 + (i 0).val) (n / 8 % 2 * 2432 + (i 1).val) b := by
  refine run_sum 8 cfg0.N (by decide) (fun n hn => (outsAt0 m c n hn).2 i) (fun n => part A B 2048 (n / 16 * 512 + (i 0).val) (n / 8 % 2 * 2432 + (i 1).val)) (fun n h => ?_)
    (fun n hn h0 => ?_) (fun n hn h0 => ?_) n hn
  · dsimp only
    rw [show (n + 1) / 16 * 512 = n / 16 * 512 by omega, show (n + 1) / 8 % 2 * 2432 = n / 8 % 2 * 2432 by omega]
  · have hN : n < 32 := hn
    dsimp only
    rw [outsAt0_A m c ⟨n, hn⟩ h0 (by show ¬1 ≤ n % 8; omega) (by show ¬n % 8 = 7; omega)]
    dsimp only
    rw [kept_A c _ _ _ _ _ _ _ _ _ (iblk m c 0 ⟨n, hn⟩) (iblk m c 1 ⟨n, hn⟩)]
    refine (pay2_at _ _ (fun a b => A (n % 8 * 2048 + a) (n / 16 * 512 + b)) (fun a b => B (n % 8 * 2048 + a) (n / 8 % 2 * 2432 + b)) (blk_0 m c A ha ⟨n, hn⟩) (blk_1 m c B hb ⟨n, hn⟩) i).trans ?_
    dsimp only
    rw [h0]
    rfl
  · have hN : n + 1 < 32 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by show 1 ≤ (n + 1) % 8; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ (n + 1) % 8; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 8 * 2048 + a) ((n + 1) / 16 * 512 + b)) (fun a b => B ((n + 1) % 8 * 2048 + a) ((n + 1) / 8 % 2 * 2432 + b)) (blk_0 m c A ha ⟨n + 1, hn⟩) (blk_1 m c B hb ⟨n + 1, hn⟩) i

/-- The array of the gradient. -/
def gradArr : (⟨S1024x4864, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 32 := t.isLt
  have hl := last_point t hf
  have h0 : ¬t.val % 8 = 0 := by omega
  have h1 : 1 ≤ t.val % 8 := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 8 2048 rfl _ _).symm.trans ?_
  unfold gradArr
  blk_simp [index0_2]

end Cert.WinIdeal.Hand

end
-- ==== Proof.Fn.lean ====
/- Arrays of extended reals as functions of natural numbers. -/
module

public import Idealize.ShloMosaic.PureOps.Ideal.Laws

@[expose] public section

noncomputable section

namespace Cert.MlpMath

open Idealize.ShloMosaic

/-- A one-axis array as a function of its coordinate. -/
theorem fn_one {n : ℕ} (x : (⟨1, ![n]⟩ : Shape).Idx → EReal) : ∃ g : ℕ → EReal, ∀ i, x i = g (i 0).val := by
  classical
  refine ⟨fun a => if h : ∃ i : (⟨1, ![n]⟩ : Shape).Idx, (i 0).val = a then x h.choose else 0, fun i => ?_⟩
  have h : ∃ j : (⟨1, ![n]⟩ : Shape).Idx, (j 0).val = (i 0).val := ⟨i, rfl⟩
  have e : h.choose = i := funext fun a => Fin.ext (match a with
    | ⟨0, _⟩ => h.choose_spec)
  show _ = dite _ _ _
  rw [dif_pos h, e]

/-- A two-axis array as a function of its coordinates. -/
theorem fn_two {n0 n1 : ℕ} (x : (⟨2, ![n0, n1]⟩ : Shape).Idx → EReal) : ∃ g : ℕ → ℕ → EReal, ∀ i, x i = g (i 0).val (i 1).val := by
  classical
  refine ⟨fun a b => if h : ∃ i : (⟨2, ![n0, n1]⟩ : Shape).Idx, (i 0).val = a ∧ (i 1).val = b then x h.choose else 0, fun i => ?_⟩
  have h : ∃ j : (⟨2, ![n0, n1]⟩ : Shape).Idx, (j 0).val = (i 0).val ∧ (j 1).val = (i 1).val := ⟨i, rfl, rfl⟩
  have e : h.choose = i := funext fun a => Fin.ext (match a with
    | ⟨0, _⟩ => h.choose_spec.1
    | ⟨1, _⟩ => h.choose_spec.2)
  show _ = dite _ _ _
  rw [dif_pos h, e]

end Cert.MlpMath

end
-- ==== Proof.Win.Value.lean ====
/- The input weights' gradient is the reference's. -/
module

public import proofs.«01_k».proof.Proof.Win.Arr
public import proofs.«01_k».proof.Proof.Fn
public import proofs.«01_k».proof.Proof.Gen.WinReferenceIdeal.Read
public import Idealize.ShloMosaic.Lib.StableHlo.Run

@[expose] public section

set_option maxRecDepth 16384

noncomputable section

namespace Cert.WinIdeal.Hand

open Cert.WinIdeal Cert.WinIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v13 : S16384x1024.Idx → EReal) = Cert.WinReferenceIdeal.Read.val_main_v13 (F := Ideal) (m ((c : Thread nD τ).loc main_arg0)) (m ((c : Thread nD τ).loc main_arg1)) := by
  show StableHlo.after hostOps0 _ _ = _
  after_results_simp <;> rfl

/-- The cotangent. -/
theorem V_ct : (V m c main_v14 : S16384x4864.Idx → EReal) = m ((c : Thread nD τ).loc main_arg2) := by
  show StableHlo.after hostOps0 _ _ = _
  after_results_simp <;> rfl

/-- The result: the reference's. -/
theorem result_eq (x0 : (⟨S16384x1024, .f32⟩ : BufTy).Contents (Elt Ideal)) (x1 : (⟨S1024, .f32⟩ : BufTy).Contents (Elt Ideal)) (x2 : (⟨S16384x4864, .f32⟩ : BufTy).Contents (Elt Ideal))
    (e0 : m ((c : Thread nD τ).loc main_arg0) = x0) (e1 : m ((c : Thread nD τ).loc main_arg1) = x1) (e2 : m ((c : Thread nD τ).loc main_arg2) = x2) :
    (dats m 0 c).arrAt 2 cfg0.N = Cert.WinReferenceIdeal.Read.val_main_v16 (F := Ideal) x0 x1 x2 := by
  obtain ⟨A, ha⟩ := fn_two (Cert.WinReferenceIdeal.Read.val_main_v13 (F := Ideal) x0 x1)
  obtain ⟨B, hb⟩ := fn_two x2
  have ga : ∀ i : S16384x1024.Idx, (V m c main_v13 : S16384x1024.Idx → EReal) i = A (i 0).val (i 1).val :=
    fun i => (congrFun (V_rows m c) i).trans ((congrFun (congrArg₂ (Cert.WinReferenceIdeal.Read.val_main_v13 (F := Ideal)) e0 e1) i).trans (ha i))
  have gb : ∀ i : S16384x4864.Idx, (V m c main_v14 : S16384x4864.Idx → EReal) i = B (i 0).val (i 1).val :=
    fun i => (congrFun (V_ct m c) i).trans ((congrFun e2 i).trans (hb i))
  rw [grad_arr m c A B ga gb]
  funext i
  rw [Cert.WinReferenceIdeal.Read.val_main_v16_apply, Cert.WinReferenceIdeal.Read.val_main_v15_apply]
  show grad A B (i 0).val (i 1).val = _
  unfold grad
  refine Finset.sum_congr rfl fun s _ => ?_
  rw [hb, ha]
  exact mul_comm _ _

end Cert.WinIdeal.Hand

end
-- ==== Proof.Wup.Arr.lean ====
/- What the call of the upward weights' gradient leaves: blocks of the two inputs multiplied over their rows, added
   up in a buffer that is kept between the points. -/
module

public import proofs.«01_k».proof.Proof.Gen.WupIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WupIdeal.Hand

open Cert.WupIdeal Cert.WupIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .f32) (h5 : a5.IsWhole)
  (a6 : Memref sig .tc .vmem S1024x1024 .f32) (h6 : a6.IsWhole)
  (x0 : Vec F S4096x1024 .bf16) (x1 : Vec F S4096x1024 .bf16) (xs : Vec F S1024x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) no_offsets]
  simp only [View.readAt_eq_ld, h3.read_unread, h4.read_unread, View.ld_unit_zero (S := S4096x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S1024x1024) no_offsets]
  simp only [View.readAt_eq_ld, h3.read_unread, h4.read_unread, h6.read_unread, View.ld_unit_zero (S := S4096x1024) no_offsets, View.ld_unit_zero (S := S1024x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S1024x1024) no_offsets]
  simp only [View.readAt_eq_ld, h3.read_unread, h4.read_unread, h6.read_unread, View.ld_unit_zero (S := S4096x1024) no_offsets, View.ld_unit_zero (S := S1024x1024) no_offsets]

/-- A buffer just written whole reads back as the value written. -/
theorem read_back (w : Vec F S1024x1024 .f32) :
    a6.view.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w := by
  unfold View.readCov
  rw [View.readAt_eq_ld, View.read_writes_full, View.ld_unit_zero (S := S1024x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S1024x1024) no_offsets]
  refine (read_back a6 _).trans ?_
  simp only [View.readAt_eq_ld, h3.read_unread, h4.read_unread, h6.read_unread, View.ld_unit_zero (S := S4096x1024) no_offsets, View.ld_unit_zero (S := S1024x1024) no_offsets]

end Pieces

/-! ## The product of two blocks -/

section Product

variable (x : FVec Ideal S4096x1024 .bf16) (y : FVec Ideal S4096x1024 .bf16) (z : FVec Ideal S1024x1024 .f32) (A B : ℕ → ℕ → EReal)
  (hx : ∀ i, x i = A (i 0).val (i 1).val) (hy : ∀ i, y i = B (i 0).val (i 1).val)

include hx hy in
theorem pay1_at (i : S1024x1024.Idx) : k0_pay1 (F := Ideal) x y i = ∑ l : Fin 4096, A l.val (i 0).val * B l.val (i 1).val := by
  unfold k0_pay1
  rw [shapeCast_self, shapeCast_self]
  exact product_l A B dot_S4096x1024_S4096x1024_S1024x1024_0_0_1_1_n_n rfl rfl rfl rfl rfl rfl rfl rfl x y hx hy i

include hx hy in
theorem pay2_at (i : S1024x1024.Idx) : k0_pay2 (F := Ideal) x y i = ∑ l : Fin 4096, A l.val (i 0).val * B l.val (i 1).val := by
  unfold k0_pay2
  rw [shapeCast_self]
  exact pay1_at x y A B hx hy i

include hx hy in
theorem pay3_at (i : S1024x1024.Idx) : k0_pay3 (F := Ideal) x y z i = z i + ∑ l : Fin 4096, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 4, 0] := (by decide +kernel : ∀ t : Fin grid0.N, _)
theorem index0_1 : ∀ t : Fin cfg0.N, win0_1.index t = ![t.val % 4, t.val / 4] := (by decide +kernel : ∀ t : Fin grid0.N, _)
theorem index0_2 : ∀ t : Fin cfg0.N, win0_2.index t = ![0, t.val / 4] := (by decide +kernel : ∀ t : Fin grid0.N, _)
theorem last_point : ∀ t : Fin cfg0.N, (cfg0.win 2).flush t = true → t.val % 4 = 4 - 1 := (by decide +kernel : ∀ t : Fin grid0.N, _)

variable (m : (ℓ : Loc nD τ sig) → Buf (Elt Ideal) ℓ) (c : Dev nD) (A B : ℕ → ℕ → EReal)
variable (ha : ∀ i, (V m c main_v13 : (⟨S16384x1024, .bf16⟩ : BufTy).Contents (Elt Ideal)) i = A (i 0).val (i 1).val)
variable (hb : ∀ i, (V m c main_v14 : (⟨S16384x4096, .bf16⟩ : BufTy).Contents (Elt Ideal)) i = B (i 0).val (i 1).val)

include ha in
theorem blk_0 (t : Fin cfg0.N) (i : S4096x1024.Idx) :
    (iblk m c 0 t : Vec Ideal S4096x1024 .bf16) i = A (t.val % 4 * 4096 + (i 0).val) (0 * 1024 + (i 1).val) := by
  blk_simp [iblk]
  refine (ha _).trans ?_
  blk_simp [index0_0]

include hb in
theorem blk_1 (t : Fin cfg0.N) (i : S4096x1024.Idx) :
    (iblk m c 1 t : Vec Ideal S4096x1024 .bf16) i = B (t.val % 4 * 4096 + (i 0).val) (t.val / 4 * 1024 + (i 1).val) := by
  blk_simp [iblk]
  refine (hb _).trans ?_
  blk_simp [index0_1]

include ha hb in
/-- What is kept after a point: the products of its run so far. -/
theorem kept_at (n : ℕ) (hn : n < cfg0.N) (i : S1024x1024.Idx) :
    (outsAt0 m c n hn).2 i = ∑ b ∈ Finset.range (n % 4 + 1), part A B 4096 (0 * 1024 + (i 0).val) (n / 4 * 1024 + (i 1).val) b := by
  refine run_sum 4 cfg0.N (by decide) (fun n hn => (outsAt0 m c n hn).2 i) (fun n => part A B 4096 (0 * 1024 + (i 0).val) (n / 4 * 1024 + (i 1).val)) (fun n h => ?_)
    (fun n hn h0 => ?_) (fun n hn h0 => ?_) n hn
  · dsimp only
    rw [show (n + 1) / 4 * 1024 = n / 4 * 1024 by omega]
  · have hN : n < 16 := hn
    dsimp only
    rw [outsAt0_A m c ⟨n, hn⟩ h0 (by show ¬1 ≤ n % 4; omega) (by show ¬n % 4 = 3; omega)]
    dsimp only
    rw [kept_A c _ _ _ _ _ _ _ _ _ (iblk m c 0 ⟨n, hn⟩) (iblk m c 1 ⟨n, hn⟩)]
    refine (pay2_at _ _ (fun a b => A (n % 4 * 4096 + a) (0 * 1024 + b)) (fun a b => B (n % 4 * 4096 + a) (n / 4 * 1024 + b)) (blk_0 m c A ha ⟨n, hn⟩) (blk_1 m c B hb ⟨n, hn⟩) i).trans ?_
    dsimp only
    rw [h0]
    rfl
  · have hN : n + 1 < 16 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 4 = 3
      · rw [outsAt0_C m c ⟨n + 1, hn⟩ h0 (by show 1 ≤ (n + 1) % 4; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ (n + 1) % 4; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 4 * 4096 + a) (0 * 1024 + b)) (fun a b => B ((n + 1) % 4 * 4096 + a) ((n + 1) / 4 * 1024 + b)) (blk_0 m c A ha ⟨n + 1, hn⟩) (blk_1 m c B hb ⟨n + 1, hn⟩) i

/-- The array of the gradient. -/
def gradArr : (⟨S1024x4096, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 16 := t.isLt
  have hl := last_point t hf
  have h0 : ¬t.val % 4 = 0 := by omega
  have h1 : 1 ≤ t.val % 4 := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 4 4096 rfl _ _).symm.trans ?_
  unfold gradArr
  blk_simp [index0_2]

end Cert.WupIdeal.Hand

end
-- ==== Proof.Wup.Value.lean ====
/- The upward weights' gradient is the reference's. -/
module

public import proofs.«01_k».proof.Proof.Wup.Arr
public import proofs.«01_k».proof.Proof.Fn
public import proofs.«01_k».proof.Proof.Gen.WupReferenceIdeal.Read
public import Idealize.ShloMosaic.Lib.StableHlo.Run

@[expose] public section

set_option maxRecDepth 16384

noncomputable section

namespace Cert.WupIdeal.Hand

open Cert.WupIdeal Cert.WupIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v13 : S16384x1024.Idx → EReal) = Cert.WupReferenceIdeal.Read.val_main_v13 (F := Ideal) (m ((c : Thread nD τ).loc main_arg0)) (m ((c : Thread nD τ).loc main_arg1)) := by
  show StableHlo.after hostOps0 _ _ = _
  after_results_simp <;> rfl

/-- The cotangent. -/
theorem V_ct : (V m c main_v14 : S16384x4096.Idx → EReal) = m ((c : Thread nD τ).loc main_arg2) := by
  show StableHlo.after hostOps0 _ _ = _
  after_results_simp <;> rfl

/-- The result: the reference's. -/
theorem result_eq (x0 : (⟨S16384x1024, .f32⟩ : BufTy).Contents (Elt Ideal)) (x1 : (⟨S1024, .f32⟩ : BufTy).Contents (Elt Ideal)) (x2 : (⟨S16384x4096, .f32⟩ : BufTy).Contents (Elt Ideal))
    (e0 : m ((c : Thread nD τ).loc main_arg0) = x0) (e1 : m ((c : Thread nD τ).loc main_arg1) = x1) (e2 : m ((c : Thread nD τ).loc main_arg2) = x2) :
    (dats m 0 c).arrAt 2 cfg0.N = Cert.WupReferenceIdeal.Read.val_main_v16 (F := Ideal) x0 x1 x2 := by
  obtain ⟨A, ha⟩ := fn_two (Cert.WupReferenceIdeal.Read.val_main_v13 (F := Ideal) x0 x1)
  obtain ⟨B, hb⟩ := fn_two x2
  have ga : ∀ i : S16384x1024.Idx, (V m c main_v13 : S16384x1024.Idx → EReal) i = A (i 0).val (i 1).val :=
    fun i => (congrFun (V_rows m c) i).trans ((congrFun (congrArg₂ (Cert.WupReferenceIdeal.Read.val_main_v13 (F := Ideal)) e0 e1) i).trans (ha i))
  have gb : ∀ i : S16384x4096.Idx, (V m c main_v14 : S16384x4096.Idx → EReal) i = B (i 0).val (i 1).val :=
    fun i => (congrFun (V_ct m c) i).trans ((congrFun e2 i).trans (hb i))
  rw [grad_arr m c A B ga gb]
  funext i
  rw [Cert.WupReferenceIdeal.Read.val_main_v16_apply, Cert.WupReferenceIdeal.Read.val_main_v15_apply]
  show grad A B (i 0).val (i 1).val = _
  unfold grad
  refine Finset.sum_congr rfl fun s _ => ?_
  rw [hb, ha]
  exact mul_comm _ _

end Cert.WupIdeal.Hand

end
-- ==== Proof.Wdown.Arr.lean ====
/- What the call of the downward weights' gradient leaves: blocks of the two inputs multiplied over their rows, added
   up in a buffer that is kept between the points. -/
module

public import proofs.«01_k».proof.Proof.Gen.WdownIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WdownIdeal.Hand

open Cert.WdownIdeal Cert.WdownIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .f32) (h5 : a5.IsWhole)
  (a6 : Memref sig .tc .vmem S1024x1024 .f32) (h6 : a6.IsWhole)
  (x0 : Vec F S4096x1024 .bf16) (x1 : Vec F S4096x1024 .bf16) (xs : Vec F S1024x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) no_offsets]
  simp only [View.readAt_eq_ld, h3.read_unread, h4.read_unread, View.ld_unit_zero (S := S4096x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S1024x1024) no_offsets]
  simp only [View.readAt_eq_ld, h3.read_unread, h4.read_unread, h6.read_unread, View.ld_unit_zero (S := S4096x1024) no_offsets, View.ld_unit_zero (S := S1024x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S1024x1024) no_offsets]
  simp only [View.readAt_eq_ld, h3.read_unread, h4.read_unread, h6.read_unread, View.ld_unit_zero (S := S4096x1024) no_offsets, View.ld_unit_zero (S := S1024x1024) no_offsets]

/-- A buffer just written whole reads back as the value written. -/
theorem read_back (w : Vec F S1024x1024 .f32) :
    a6.view.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w := by
  unfold View.readCov
  rw [View.readAt_eq_ld, View.read_writes_full, View.ld_unit_zero (S := S1024x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S1024x1024) no_offsets]
  refine (read_back a6 _).trans ?_
  simp only [View.readAt_eq_ld, h3.read_unread, h4.read_unread, h6.read_unread, View.ld_unit_zero (S := S4096x1024) no_offsets, View.ld_unit_zero (S := S1024x1024) no_offsets]

end Pieces

/-! ## The product of two blocks -/

section Product

variable (x : FVec Ideal S4096x1024 .bf16) (y : FVec Ideal S4096x1024 .bf16) (z : FVec Ideal S1024x1024 .f32) (A B : ℕ → ℕ → EReal)
  (hx : ∀ i, x i = A (i 0).val (i 1).val) (hy : ∀ i, y i = B (i 0).val (i 1).val)

include hx hy in
theorem pay1_at (i : S1024x1024.Idx) : k0_pay1 (F := Ideal) x y i = ∑ l : Fin 4096, A l.val (i 0).val * B l.val (i 1).val := by
  unfold k0_pay1
  rw [shapeCast_self, shapeCast_self]
  exact product_l A B dot_S4096x1024_S4096x1024_S1024x1024_0_0_1_1_n_n rfl rfl rfl rfl rfl rfl rfl rfl x y hx hy i

include hx hy in
theorem pay2_at (i : S1024x1024.Idx) : k0_pay2 (F := Ideal) x y i = ∑ l : Fin 4096, A l.val (i 0).val * B l.val (i 1).val := by
  unfold k0_pay2
  rw [shapeCast_self]
  exact pay1_at x y A B hx hy i

include hx hy in
theorem pay3_at (i : S1024x1024.Idx) : k0_pay3 (F := Ideal) x y z i = z i + ∑ l : Fin 4096, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 4, t.val / 4] := (by decide +kernel : ∀ t : Fin grid0.N, _)
theorem index0_1 : ∀ t : Fin cfg0.N, win0_1.index t = ![t.val % 4, 0] := (by decide +kernel : ∀ t : Fin grid0.N, _)
theorem index0_2 : ∀ t : Fin cfg0.N, win0_2.index t = ![t.val / 4, 0] := (by decide +kernel : ∀ t : Fin grid0.N, _)
theorem last_point : ∀ t : Fin cfg0.N, (cfg0.win 2).flush t = true → t.val % 4 = 4 - 1 := (by decide +kernel : ∀ t : Fin grid0.N, _)

variable (m : (ℓ : Loc nD τ sig) → Buf (Elt Ideal) ℓ) (c : Dev nD) (A B : ℕ → ℕ → EReal)
variable (ha : ∀ i, (V m c main_v0 : (⟨S16384x4096, .bf16⟩ : BufTy).Contents (Elt Ideal)) i = A (i 0).val (i 1).val)
variable (hb : ∀ i, (V m c main_v1 : (⟨S16384x1024, .bf16⟩ : BufTy).Contents (Elt Ideal)) i = B (i 0).val (i 1).val)

include ha in
theorem blk_0 (t : Fin cfg0.N) (i : S4096x1024.Idx) :
    (iblk m c 0 t : Vec Ideal S4096x1024 .bf16) i = A (t.val % 4 * 4096 + (i 0).val) (t.val / 4 * 1024 + (i 1).val) := by
  blk_simp [iblk]
  refine (ha _).trans ?_
  blk_simp [index0_0]

include hb in
theorem blk_1 (t : Fin cfg0.N) (i : S4096x1024.Idx) :
    (iblk m c 1 t : Vec Ideal S4096x1024 .bf16) i = B (t.val % 4 * 4096 + (i 0).val) (0 * 1024 + (i 1).val) := by
  blk_simp [iblk]
  refine (hb _).trans ?_
  blk_simp [index0_1]

include ha hb in
/-- What is kept after a point: the products of its run so far. -/
theorem kept_at (n : ℕ) (hn : n < cfg0.N) (i : S1024x1024.Idx) :
    (outsAt0 m c n hn).2 i = ∑ b ∈ Finset.range (n % 4 + 1), part A B 4096 (n / 4 * 1024 + (i 0).val) (0 * 1024 + (i 1).val) b := by
  refine run_sum 4 cfg0.N (by decide) (fun n hn => (outsAt0 m c n hn).2 i) (fun n => part A B 4096 (n / 4 * 1024 + (i 0).val) (0 * 1024 + (i 1).val)) (fun n h => ?_)
    (fun n hn h0 => ?_) (fun n hn h0 => ?_) n hn
  · dsimp only
    rw [show (n + 1) / 4 * 1024 = n / 4 * 1024 by omega]
  · have hN : n < 16 := hn
    dsimp only
    rw [outsAt0_A m c ⟨n, hn⟩ h0 (by show ¬1 ≤ n % 4; omega) (by show ¬n % 4 = 3; omega)]
    dsimp only
    rw [kept_A c _ _ _ _ _ _ _ _ _ (iblk m c 0 ⟨n, hn⟩) (iblk m c 1 ⟨n, hn⟩)]
    refine (pay2_at _ _ (fun a b => A (n % 4 * 4096 + a) (n / 4 * 1024 + b)) (fun a b => B (n % 4 * 4096 + a) (0 * 1024 + b)) (blk_0 m c A ha ⟨n, hn⟩) (blk_1 m c B hb ⟨n, hn⟩) i).trans ?_
    dsimp only
    rw [h0]
    rfl
  · have hN : n + 1 < 16 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 4 = 3
      · rw [outsAt0_C m c ⟨n + 1, hn⟩ h0 (by show 1 ≤ (n + 1) % 4; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ (n + 1) % 4; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 4 * 4096 + a) ((n + 1) / 4 * 1024 + b)) (fun a b => B ((n + 1) % 4 * 4096 + a) (0 * 1024 + b)) (blk_0 m c A ha ⟨n + 1, hn⟩) (blk_1 m c B hb ⟨n + 1, hn⟩) i

/-- The array of the gradient. -/
def gradArr : (⟨S4096x1024, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 16 := t.isLt
  have hl := last_point t hf
  have h0 : ¬t.val % 4 = 0 := by omega
  have h1 : 1 ≤ t.val % 4 := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 4 4096 rfl _ _).symm.trans ?_
  unfold gradArr
  blk_simp [index0_2]

end Cert.WdownIdeal.Hand

end
-- ==== Proof.Wdown.Value.lean ====
/- The downward weights' gradient is the reference's. -/
module

public import proofs.«01_k».proof.Proof.Wdown.Arr
public import proofs.«01_k».proof.Proof.Fn
public import proofs.«01_k».proof.Proof.Gen.WdownReferenceIdeal.Read
public import Idealize.ShloMosaic.Lib.StableHlo.Run

@[expose] public section

set_option maxRecDepth 16384

noncomputable section

namespace Cert.WdownIdeal.Hand

open Cert.WdownIdeal Cert.WdownIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v0 : S16384x4096.Idx → EReal) = m ((c : Thread nD τ).loc main_arg0) := by
  show StableHlo.after hostOps0 _ _ = _
  after_results_simp <;> rfl

/-- The cotangent. -/
theorem V_ct : (V m c main_v1 : S16384x1024.Idx → EReal) = m ((c : Thread nD τ).loc main_arg1) := by
  show StableHlo.after hostOps0 _ _ = _
  after_results_simp <;> rfl

/-- The result: the reference's. -/
theorem result_eq (x0 : (⟨S16384x4096, .f32⟩ : BufTy).Contents (Elt Ideal)) (x1 : (⟨S16384x1024, .f32⟩ : BufTy).Contents (Elt Ideal))
    (e0 : m ((c : Thread nD τ).loc main_arg0) = x0) (e1 : m ((c : Thread nD τ).loc main_arg1) = x1) :
    (dats m 0 c).arrAt 2 cfg0.N = Cert.WdownReferenceIdeal.Read.val_main_v3 (F := Ideal) x0 x1 := by
  obtain ⟨A, ha⟩ := fn_two (x0)
  obtain ⟨B, hb⟩ := fn_two x1
  have ga : ∀ i : S16384x4096.Idx, (V m c main_v0 : S16384x4096.Idx → EReal) i = A (i 0).val (i 1).val :=
    fun i => (congrFun (V_rows m c) i).trans ((congrFun e0 i).trans (ha i))
  have gb : ∀ i : S16384x1024.Idx, (V m c main_v1 : S16384x1024.Idx → EReal) i = B (i 0).val (i 1).val :=
    fun i => (congrFun (V_ct m c) i).trans ((congrFun e1 i).trans (hb i))
  rw [grad_arr m c A B ga gb]
  funext i
  rw [Cert.WdownReferenceIdeal.Read.val_main_v3_apply, Cert.WdownReferenceIdeal.Read.val_main_v2_apply]
  show grad A B (i 0).val (i 1).val = _
  unfold grad
  refine Finset.sum_congr rfl fun s _ => ?_
  rw [hb, ha]
  exact mul_comm _ _

end Cert.WdownIdeal.Hand

end
-- ==== Proof.Mlp.Math.lean ====
/- The gradient of a squared-ReLU feed-forward block behind a root-mean-square norm, as functions of natural-number coordinates over the extended reals. -/
module

public import proofs.«01_k».proof.Proof.Ideal.Math

@[expose] public section

noncomputable section

namespace Cert.MlpMath

open Idealize.ShloMosaic

/-- The norm's small constant. -/
def eps : ℝ := 8796093 / 8796093022208

theorem eps_pos : 0 < eps := by unfold eps; norm_num

theorem bits_eps : Ideal.ofBits .f32 0x358637BD#32 = ((eps : ℝ) : EReal) := by
  simp [Ideal.ofBits, Ideal.ieee, -EReal.coe_mul, eps]; norm_num

theorem bits_width : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- The root of a square of something not negative. -/
theorem sqrt_sq (u : EReal) (h : 0 ≤ u) : Ideal.sqrt (u * u) = u := by
  induction u with
  | bot => exact absurd h (by simp)
  | top => rw [EReal.top_mul_top]; rfl
  | coe r =>
    have hr : 0 ≤ r := EReal.coe_nonneg.mp h
    rw [← EReal.coe_mul, Ideal.sqrt_coe, if_neg (not_lt.mpr (mul_self_nonneg r)), Real.sqrt_mul_self hr]

theorem sq_nonneg' (u : EReal) : 0 ≤ u * u := by
  induction u with
  | bot => rw [EReal.bot_mul_bot]; exact le_top
  | top => rw [EReal.top_mul_top]; exact le_top
  | coe r => rw [← EReal.coe_mul]; exact EReal.coe_nonneg.mpr (mul_self_nonneg r)

/-- A factor that is a positive real goes over a sum. -/
theorem mul_sum_real {ι : Type} (s : Finset ι) (f : ι → EReal) (r : ℝ) (h : 0 < r) : ∑ l ∈ s, (r : EReal) * f l = (r : EReal) * ∑ l ∈ s, f l := by
  classical
  induction s using Finset.induction_on with
  | empty => rw [Finset.sum_empty, Finset.sum_empty, mul_zero]
  | insert a s ha ih =>
    rw [Finset.sum_insert ha, Finset.sum_insert ha, ih,
      EReal.left_distrib_of_nonneg_of_ne_top (EReal.coe_nonneg.mpr h.le) (EReal.coe_ne_top r)]

/-- Two negative halves. -/
theorem two_halves (p : ℝ) (h : 0 < p) (b : EReal) : ((-(p / 2) : ℝ) : EReal) * b + ((-(p / 2) : ℝ) : EReal) * b = -((p : EReal) * b) := by
  have h2 : -(p / 2) < 0 := by linarith
  induction b with
  | bot => rw [EReal.coe_mul_bot_of_neg h2, EReal.coe_mul_bot_of_pos h, EReal.neg_bot, EReal.top_add_top]
  | top => rw [EReal.coe_mul_top_of_neg h2, EReal.coe_mul_top_of_pos h, EReal.neg_top, EReal.bot_add]
  | coe r =>
    rw [← EReal.coe_mul, ← EReal.coe_mul, ← EReal.coe_add, ← EReal.coe_neg]
    exact congrArg (fun r : ℝ => (r : EReal)) (by ring)

variable (X : ℕ → ℕ → EReal) (G : ℕ → EReal) (U D Y : ℕ → ℕ → EReal)

/-- A row's mean square, shifted by the small constant. -/
def ms (i : ℕ) : EReal := Ideal.div (∑ k : Fin 1024, X i k.val * X i k.val) ((1024 : ℝ) : EReal) + ((eps : ℝ) : EReal)

/-- It is infinite or a positive real. -/
theorem ms_cases (i : ℕ) : ms X i = ⊤ ∨ ∃ r : ℝ, 0 < r ∧ ms X i = ((r : ℝ) : EReal) := by
  have hs : (0 : EReal) ≤ Ideal.div (∑ k : Fin 1024, X i k.val * X i k.val) ((1024 : ℝ) : EReal) := by
    rw [Ideal.div_coe (by norm_num)]
    exact EReal.mul_nonneg (Finset.sum_nonneg fun _ _ => sq_nonneg' _) (EReal.coe_nonneg.mpr (by norm_num))
  unfold ms
  generalize Ideal.div (∑ k : Fin 1024, X i k.val * X i k.val) ((1024 : ℝ) : EReal) = a at hs
  induction a with
  | bot => exact absurd hs (by simp)
  | top => exact Or.inl (EReal.top_add_coe _)
  | coe r => exact Or.inr ⟨r + eps, add_pos_of_nonneg_of_pos (EReal.coe_nonneg.mp hs) eps_pos, (EReal.coe_add _ _).symm⟩

/-- Its reciprocal root. -/
def rs (i : ℕ) : EReal := Ideal.rsqrt (ms X i)

/-- The normed row without its gain. -/
def xn (i k : ℕ) : EReal := X i k * rs X i

/-- The normed row. -/
def hm (i k : ℕ) : EReal := xn X i k * G k

/-- The row's gradient by the norm's closed form, from the normed row's cotangent. -/
def normDx (H Y : ℕ → ℕ → EReal) (i k : ℕ) : EReal :=
  Y i k + rs X i * (H i k * G k - xn X i k * Ideal.div (∑ l : Fin 1024, H i l.val * G l.val * xn X i l.val) ((1024 : ℝ) : EReal))

/-- The gain's gradient, from the normed rows' cotangent. -/
def normGain (H : ℕ → ℕ → EReal) (k : ℕ) : EReal := ∑ i : Fin 16384, H i.val k * xn X i.val k

/-- The mean term of the row's gradient by the chain rule through the reciprocal root. -/
def normTerm (H : ℕ → ℕ → EReal) (i : ℕ) : EReal :=
  Ideal.div ((∑ l : Fin 1024, X i l.val * (H i l.val * G l.val)) * (((-(1 / 2) : ℝ) : EReal) * Ideal.div (rs X i) (ms X i))) ((1024 : ℝ) : EReal)

/-- The row's gradient by the chain rule through the reciprocal root. -/
theorem norm_chain (H Y : ℕ → ℕ → EReal) (i k : ℕ) :
    (Y i k + H i k * G k * rs X i + X i k * normTerm X G H i) + normTerm X G H i * X i k = normDx X G H Y i k := by
  unfold normDx normTerm
  generalize H i k * G k = g
  have h : ∑ l : Fin 1024, H i l.val * G l.val * xn X i l.val = ∑ l : Fin 1024, rs X i * (X i l.val * (H i l.val * G l.val)) :=
    Finset.sum_congr rfl fun l _ => by unfold xn; rw [mul_comm, mul_comm (X i l.val) (rs X i), mul_assoc]
  rw [h]
  unfold xn
  generalize hf : (fun l : Fin 1024 => X i l.val * (H i l.val * G l.val)) = f
  have hf' : ∀ l : Fin 1024, X i l.val * (H i l.val * G l.val) = f l := fun l => congrFun hf l
  simp only [hf']
  rcases ms_cases X i with e | ⟨r, hr, e⟩
  · have e0 : rs X i = 0 := by unfold rs; rw [e]; rfl
    have ed : Ideal.div (0 : EReal) ⊤ = 0 := by unfold Ideal.div; rw [if_neg (by simp), zero_mul]
    rw [e0, e, ed, mul_zero, mul_zero, mul_zero, Ideal.div_coe (by norm_num), zero_mul, mul_zero, zero_mul, zero_mul, add_zero, add_zero, add_zero]
  · have hq : 0 < (Real.sqrt r)⁻¹ := inv_pos.mpr (Real.sqrt_pos.mpr hr)
    have e0 : rs X i = (((Real.sqrt r)⁻¹ : ℝ) : EReal) := by unfold rs; rw [e]; exact rsqrt_real hr
    rw [e0, e, mul_sum_real _ _ _ hq]
    generalize ∑ l : Fin 1024, f l = S
    generalize X i k = x
    generalize Y i k = y
    generalize hqq : (Real.sqrt r)⁻¹ = q at hq
    have hp : 0 < q * q * q / 1024 := by positivity
    have hd : q / r = q * q * q := by
      rw [← hqq, mul_assoc, ← mul_inv, Real.mul_self_sqrt hr.le, div_eq_mul_inv]
    have t1 : Ideal.div (S * (((-(1 / 2) : ℝ) : EReal) * Ideal.div (q : EReal) (r : EReal))) ((1024 : ℝ) : EReal)
        = ((-(q * q * q / 1024 / 2) : ℝ) : EReal) * S := by
      rw [Cert.Attn.div_real _ hr.ne', Ideal.div_coe (by norm_num), ← EReal.coe_mul, mul_assoc, ← EReal.coe_mul, mul_comm, hd]
      exact congrArg (fun r : ℝ => (r : EReal) * S) (by ring)
    have t2 : x * (q : EReal) * Ideal.div ((q : EReal) * S) ((1024 : ℝ) : EReal) = ((q * q / 1024 : ℝ) : EReal) * (x * S) := by
      rw [Ideal.div_coe (by norm_num), show ((q * q / 1024 : ℝ) : EReal) = (q : EReal) * ((q : EReal) * ((1 / 1024 : ℝ) : EReal)) by
        rw [← EReal.coe_mul, ← EReal.coe_mul]; exact congrArg (fun r : ℝ => (r : EReal)) (by ring)]
      ac_rfl
    rw [t1, t2, sub_eq_add_neg, EReal.left_distrib_of_nonneg_of_ne_top (EReal.coe_nonneg.mpr hq.le) (EReal.coe_ne_top q), mul_neg, ← mul_assoc (q : EReal),
      ← EReal.coe_mul, show q * (q * q / 1024) = q * q * q / 1024 by ring, ← two_halves _ hp, mul_comm x (_ * S), mul_assoc _ S x, mul_comm S x,
      mul_comm (q : EReal) g, add_assoc, add_assoc]

/-- The upward product. -/
def up (i f : ℕ) : EReal := ∑ k : Fin 1024, hm X G i k.val * U k.val f

/-- The squared ReLU. -/
def act (i f : ℕ) : EReal := max (up X G U i f) 0 * max (up X G U i f) 0

/-- The activation's cotangent. -/
def dact (i f : ℕ) : EReal := ∑ k : Fin 1024, Y i k.val * D f k.val

/-- The upward product's cotangent. -/
def du (i f : ℕ) : EReal := dact D Y i f * (((2 : ℝ) : EReal) * max (up X G U i f) 0)

theorem du_sqrt (i f : ℕ) : dact D Y i f * (((2 : ℝ) : EReal) * Ideal.sqrt (act X G U i f)) = du X G U D Y i f := by
  unfold du act
  rw [sqrt_sq _ (le_max_right _ _)]

theorem du_nonpos (i f : ℕ) (h : ¬ 0 < up X G U i f) : (0 : EReal) = du X G U D Y i f := by
  unfold du
  rw [max_eq_right (not_lt.mp h), mul_zero, mul_zero]

/-- The normed row's cotangent. -/
def dh (i k : ℕ) : EReal := ∑ f : Fin 4096, du X G U D Y i f.val * U k f.val

/-- The row's gradient by the norm's closed form. -/
def dx (i k : ℕ) : EReal :=
  Y i k + rs X i * (dh X G U D Y i k * G k
    - xn X i k * Ideal.div (∑ l : Fin 1024, dh X G U D Y i l.val * G l.val * xn X i l.val) ((1024 : ℝ) : EReal))

/-- The gain's gradient. -/
def dgain (k : ℕ) : EReal := ∑ i : Fin 16384, dh X G U D Y i.val k * xn X i.val k

/-- The mean term of the row's gradient by the chain rule through the reciprocal root. -/
def chainTerm (i : ℕ) : EReal :=
  Ideal.div ((∑ l : Fin 1024, X i l.val * (dh X G U D Y i l.val * G l.val)) * (((-(1 / 2) : ℝ) : EReal) * Ideal.div (rs X i) (ms X i)))
    ((1024 : ℝ) : EReal)

/-- The row's gradient by the chain rule through the reciprocal root. -/
theorem dx_chain (i k : ℕ) :
    (Y i k + dh X G U D Y i k * G k * rs X i + X i k * chainTerm X G U D Y i) + chainTerm X G U D Y i * X i k = dx X G U D Y i k :=
  norm_chain X G (dh X G U D Y) Y i k

end Cert.MlpMath

end
-- ==== Proof.Rows.lean ====
/- Blocks of rows at an index: products, sums of rows, columns and rows spread over a block, and the norm of a block's rows. -/
module

public import proofs.«01_k».proof.Proof.Mlp.Math
public import proofs.«01_k».proof.Proof.Ideal.Math
public import Idealize.ShloMosaic.Lib.Pipeline.Value
public import Idealize.ShloMosaic.Lib.MatmulPlain

@[expose] public section

noncomputable section

namespace Cert.MlpMath

open Idealize.ShloMosaic Idealize.ShloMosaic.ValueIdx Cert.Attn

variable {M K N R : ℕ} (A B : ℕ → ℕ → EReal)

/-- A product of blocks into zeros. -/
theorem product (x : FVec Ideal ⟨2, ![M, K]⟩ .bf16) (y : FVec Ideal ⟨2, ![K, N]⟩ .bf16)
    (hx : ∀ i, x i = A (i 0).val (i 1).val) (hy : ∀ i, y i = B (i 0).val (i 1).val) (i : (⟨2, ![M, N]⟩ : Shape).Idx) :
    matmul (F := Ideal) (DotDims.plain M K N) none x y (constant ⟨2, ![M, N]⟩ .f32 0x00000000#32) i
      = ∑ k : Fin K, A (i 0).val k.val * B k.val (i 1).val := by
  obtain ⟨a, b, rfl⟩ : ∃ a b, i = ix2 a b := ⟨_, _, eq_ix2 i⟩
  refine (Ideal.matmul_plain_apply none x y _ a b).trans ?_
  refine ((congrArg (· + _) Ideal.ofBits_zero_f32).trans (zero_add _)).trans ?_
  exact Finset.sum_congr rfl fun k _ => congrArg₂ (fun a b : EReal => a * b) (hx _) (hy _)

/-- A product of a block with a transposed block into zeros. -/
theorem product_t (x : FVec Ideal ⟨2, ![M, K]⟩ .bf16) (y : FVec Ideal ⟨2, ![N, K]⟩ .bf16)
    (hx : ∀ i, x i = A (i 0).val (i 1).val) (hy : ∀ i, y i = B (i 0).val (i 1).val) (i : (⟨2, ![M, N]⟩ : Shape).Idx) :
    matmul (F := Ideal) (DotDims.transposedRhs M K N) none x y (constant ⟨2, ![M, N]⟩ .f32 0x00000000#32) i
      = ∑ k : Fin K, A (i 0).val k.val * B (i 1).val k.val := by
  obtain ⟨a, b, rfl⟩ : ∃ a b, i = ix2 a b := ⟨_, _, eq_ix2 i⟩
  refine (Ideal.matmul_transposedRhs_apply none x y _ a b).trans ?_
  refine ((congrArg (· + _) Ideal.ofBits_zero_f32).trans (zero_add _)).trans ?_
  exact Finset.sum_congr rfl fun k _ => congrArg₂ (fun a b : EReal => a * b) (hx _) (hy _)

/-- A row's sum, kept as a column. -/
theorem rows_sum (x : FVec Ideal ⟨2, ![R, 1024]⟩ .f32) (hx : ∀ i, x i = A (i 0).val (i 1).val)
    (hr : (⟨2, ![R, 1024]⟩ : Shape).Reduces [1] ⟨1, ![R]⟩) (hc : (⟨1, ![R]⟩ : Shape).ShapeCasts ⟨2, ![R, 1]⟩) (i : (⟨2, ![R, 1]⟩ : Shape).Idx) :
    shapeCast ⟨2, ![R, 1]⟩ (multiReduction .add [1] ⟨1, ![R]⟩ x 0x00000000#32 hr (.inl rfl) rfl) hc i
      = ∑ l : Fin 1024, A (i 0).val l.val := by
  have b1 : (i 1).val < 1 := (i 1).isLt
  refine (shapeCast_apply _ _ i (fun a => match a with | ⟨0, _⟩ => ⟨(i 0).val, (i 0).isLt⟩ : (⟨1, ![R]⟩ : Shape).Idx) ?_).trans ?_
  · rewrite [Shape.rowMajor_val_one, Shape.rowMajor_val_two]
    show (i 0).val = (i 0).val * 1 + (i 1).val
    omega
  · refine (Ideal.multiReduction_add_single x _ _ _ _ _).trans ?_
    exact Finset.sum_congr rfl fun l _ => hx _

/-- A column spread over the lanes. -/
theorem column_spread (h1 : R ≠ 1) (x : FVec Ideal ⟨2, ![R, 1]⟩ .f32) (g : ℕ → EReal) (hx : ∀ i, x i = g (i 0).val)
    (hb : (⟨2, ![R, 1]⟩ : Shape).Broadcasts ⟨2, ![R, 1024]⟩) (i : (⟨2, ![R, 1024]⟩ : Shape).Idx) :
    broadcastTo ⟨2, ![R, 1024]⟩ x hb i = g (i 0).val :=
  (broadcastTo_apply x hb i (fun a => match a with
    | ⟨0, _⟩ => ⟨(i 0).val, (i 0).isLt⟩
    | ⟨1, _⟩ => ⟨0, Nat.one_pos⟩) (fun a => match a with
    | ⟨0, _⟩ => (if_neg h1).symm
    | ⟨1, _⟩ => rfl)).trans (hx _)

/-- A row spread over the rows. -/
theorem row_spread (x : FVec Ideal ⟨2, ![1, 1024]⟩ .f32) (g : ℕ → EReal) (hx : ∀ i, x i = g (i 1).val)
    (hb : (⟨2, ![1, 1024]⟩ : Shape).Broadcasts ⟨2, ![R, 1024]⟩) (i : (⟨2, ![R, 1024]⟩ : Shape).Idx) :
    broadcastTo ⟨2, ![R, 1024]⟩ x hb i = g (i 1).val :=
  (broadcastTo_apply x hb i (fun a => match a with
    | ⟨0, _⟩ => ⟨0, Nat.one_pos⟩
    | ⟨1, _⟩ => ⟨(i 1).val, (i 1).isLt⟩) (fun a => match a with
    | ⟨0, _⟩ => rfl
    | ⟨1, _⟩ => rfl)).trans (hx _)

/-- The rows' reciprocal roots, as the calls compute them. -/
def roots (x : FVec Ideal ⟨2, ![R, 1024]⟩ .f32) (hr : (⟨2, ![R, 1024]⟩ : Shape).Reduces [1] ⟨1, ![R]⟩)
    (hc : (⟨1, ![R]⟩ : Shape).ShapeCasts ⟨2, ![R, 1]⟩) : FVec Ideal ⟨2, ![R, 1]⟩ .f32 :=
  rsqrt (addf (divf (shapeCast ⟨2, ![R, 1]⟩ (multiReduction .add [1] ⟨1, ![R]⟩ (mulf (F := Ideal) x x) 0x00000000#32 hr (.inl rfl) rfl) hc)
    (broadcast ⟨2, ![R, 1]⟩ (Scalar.ofBits (F := Ideal) .f32 0x44800000#32))) (broadcast ⟨2, ![R, 1]⟩ (Scalar.ofBits (F := Ideal) .f32 0x358637BD#32)))

theorem roots_at (x : FVec Ideal ⟨2, ![R, 1024]⟩ .f32) (hx : ∀ i, x i = A (i 0).val (i 1).val)
    (hr : (⟨2, ![R, 1024]⟩ : Shape).Reduces [1] ⟨1, ![R]⟩) (hc : (⟨1, ![R]⟩ : Shape).ShapeCasts ⟨2, ![R, 1]⟩) (i : (⟨2, ![R, 1]⟩ : Shape).Idx) :
    roots x hr hc i = rs A (i 0).val := by
  have e := rows_sum (fun a l => A a l * A a l) (mulf (F := Ideal) x x) (fun j => congrArg₂ (fun a b : EReal => a * b) (hx j) (hx j)) hr hc i
  unfold roots
  show Ideal.rsqrt (Ideal.div (shapeCast ⟨2, ![R, 1]⟩ (multiReduction .add [1] ⟨1, ![R]⟩ (mulf (F := Ideal) x x) 0x00000000#32 hr (.inl rfl) rfl) hc i)
    (Ideal.ofBits .f32 0x44800000#32) + Ideal.ofBits .f32 0x358637BD#32) = _
  rw [e, bits_width, bits_eps]
  rfl

/-- The rows normed, with their gain, as the calls compute them. -/
theorem normed_at (h1 : R ≠ 1) (x : FVec Ideal ⟨2, ![R, 1024]⟩ .f32) (hx : ∀ i, x i = A (i 0).val (i 1).val)
    (g : FVec Ideal ⟨2, ![1, 1024]⟩ .f32) (G : ℕ → EReal) (hg : ∀ i, g i = G (i 1).val)
    (hr : (⟨2, ![R, 1024]⟩ : Shape).Reduces [1] ⟨1, ![R]⟩) (hc : (⟨1, ![R]⟩ : Shape).ShapeCasts ⟨2, ![R, 1]⟩)
    (hb : (⟨2, ![R, 1]⟩ : Shape).Broadcasts ⟨2, ![R, 1024]⟩) (hb' : (⟨2, ![1, 1024]⟩ : Shape).Broadcasts ⟨2, ![R, 1024]⟩)
    (i : (⟨2, ![R, 1024]⟩ : Shape).Idx) :
    mulf (F := Ideal) (mulf (F := Ideal) x (broadcastTo ⟨2, ![R, 1024]⟩ (roots x hr hc) hb)) (broadcastTo ⟨2, ![R, 1024]⟩ g hb') i
      = hm A G (i 0).val (i 1).val := by
  show x i * broadcastTo ⟨2, ![R, 1024]⟩ (roots x hr hc) hb i * broadcastTo ⟨2, ![R, 1024]⟩ g hb' i = _
  rw [hx, column_spread h1 _ (rs A) (roots_at A x hx hr hc), row_spread g G hg]
  rfl

/-- Rows plus a product. -/
def plus (n : ℕ) (X A D : ℕ → ℕ → EReal) (i k : ℕ) : EReal := X i k + ∑ f : Fin n, A i f.val * D f.val k

end Cert.MlpMath

end
-- ==== Proof.Down.Arr.lean ====
/- The arrays that the MLP's downward call leaves: the residual after the MLP, and its normed rows. -/
module

public import proofs.«01_k».proof.Proof.Gen.DownIdeal.Value
public import proofs.«01_k».proof.Proof.Rows
public import Idealize.ShloMosaic.Lib.Pipeline.ValueKit.Geometry

@[expose] public section

set_option maxRecDepth 16384

noncomputable section

namespace Cert.DownIdeal.Hand

open Cert.DownIdeal Cert.DownIdeal.Gen Idealize.ShloMosaic Idealize.ShloMosaic.TcCoe Idealize.ShloMosaic.Pipeline Cert.Attn Cert.MlpMath

theorem zero_offsets : (![0, 0] : Fin 2 → ℕ) = fun _ => 0 := by funext a; fin_cases a <;> rfl

/-- The residual after the MLP. -/
abbrev after (X A D : ℕ → ℕ → EReal) : ℕ → ℕ → EReal := plus 4096 X A D

/-! ## What a point stores -/

section Blocks

variable (X A D : ℕ → ℕ → EReal) (G : ℕ → EReal)
  (x0 : Vec Ideal S512x4096 .bf16) (x1 : Vec Ideal S4096x1024 .bf16) (x2 : Vec Ideal S512x1024 .f32) (x3 : Vec Ideal S1x1024 .f32)
  (h0 : ∀ i, x0 i = A (i 0).val (i 1).val) (h1 : ∀ i, x1 i = D (i 0).val (i 1).val)
  (h2 : ∀ i, x2 i = X (i 0).val (i 1).val) (h3 : ∀ i, x3 i = G (i 1).val)

include h0 h1 h2 in
/-- The block of the residual. -/
theorem sum_block (i : S512x1024.Idx) : k0_pay1 x0 x1 x2 i = after X A D (i 0).val (i 1).val := by
  unfold k0_pay1
  rw [shapeCast_self, shapeCast_self]
  exact congrArg₂ (fun a b : EReal => a + b) (h2 i) (product A D x0 x1 h0 h1 i :)

include h0 h1 h2 h3 in
/-- The block of the normed rows. -/
theorem norm_block (i : S512x1024.Idx) : k0_pay2 x0 x1 x2 x3 i = hm (after X A D) G (i 0).val (i 1).val := by
  unfold k0_pay2
  rw [shapeCast_self]
  exact normed_at (after X A D) (by decide) _ (sum_block X A D x0 x1 x2 h0 h1 h2) x3 G h3 reduces_S512x1024_S512 shapeCasts_S512_S512x1
    broadcasts_S512x1_S512x1024 broadcasts_S1x1024_S512x1024 i

end Blocks

/-! ## The arrays -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)

variable (m : (ℓ : Loc nD τ sig) → Buf (Elt Ideal) ℓ) (c : Dev nD)
variable (X A D : ℕ → ℕ → EReal) (G : ℕ → EReal)
variable (hx : ∀ i, (V m c main_arg0 : (⟨S16384x1024, .f32⟩ : BufTy).Contents (Elt Ideal)) i = X (i 0).val (i 1).val)
variable (ha : ∀ i, (V m c main_v1 : (⟨S16384x4096, .bf16⟩ : BufTy).Contents (Elt Ideal)) i = A (i 0).val (i 1).val)
variable (hd : ∀ i, (V m c main_v2 : (⟨S4096x1024, .bf16⟩ : BufTy).Contents (Elt Ideal)) i = D (i 0).val (i 1).val)
variable (hg : ∀ i, (V m c main_v0 : (⟨S1x1024, .f32⟩ : BufTy).Contents (Elt Ideal)) i = G (i 1).val)

include ha in
theorem blk_0 (t : Fin cfg0.N) (i : S512x4096.Idx) :
    (iblk m c 0 t : Vec Ideal S512x4096 .bf16) i = A (t.val * 512 + (i 0).val) (i 1).val := by
  blk_simp [iblk]
  refine (ha _).trans ?_
  blk_simp [index0_0]

include hd in
theorem blk_1 (t : Fin cfg0.N) (i : S4096x1024.Idx) : (iblk m c 1 t : Vec Ideal S4096x1024 .bf16) i = D (i 0).val (i 1).val := by
  blk_simp [iblk]
  refine (hd _).trans ?_
  blk_simp [index0_1]

include hx in
theorem blk_2 (t : Fin cfg0.N) (i : S512x1024.Idx) :
    (iblk m c 2 t : Vec Ideal S512x1024 .f32) i = X (t.val * 512 + (i 0).val) (i 1).val := by
  blk_simp [iblk]
  refine (hx _).trans ?_
  blk_simp [index0_2]

include hg in
theorem blk_3 (t : Fin cfg0.N) (i : S1x1024.Idx) : (iblk m c 3 t : Vec Ideal S1x1024 .f32) i = G (i 1).val := by
  blk_simp [iblk]
  refine (hg _).trans ?_
  blk_simp [index0_3]

/-- The residual after the MLP, as an array. -/
def sumArr : (⟨S16384x1024, .f32⟩ : BufTy).Contents (Elt Ideal) := fun i => after X A D (i 0).val (i 1).val

/-- Its normed rows, as an array. -/
def normArr : (⟨S16384x1024, .bf16⟩ : BufTy).Contents (Elt Ideal) := fun i => hm (after X A D) G (i 0).val (i 1).val

include hx ha hd in
theorem sum_arr : (dats m 0 c).arrAt 4 cfg0.N = sumArr X A D := by
  refine (dats m 0 c).arrAt_eq_of_covers 4 _ (by decide +kernel) fun t hf y => ?_
  have hN : t.val < 32 := t.isLt
  blk_simp
  rw [after0_4]
  unfold out0_4
  rw [View.canon_unit_zero (S := S512x1024) zero_offsets, View.ld_unit_zero (S := S512x4096) zero_offsets,
    View.ld_unit_zero (S := S4096x1024) zero_offsets, View.ld_unit_zero (S := S512x1024) zero_offsets]
  refine (sum_block (fun a k => X (t.val * 512 + a) k) (fun a f => A (t.val * 512 + a) f) D _ _ _
    (blk_0 m c A ha t) (blk_1 m c D hd t) (blk_2 m c X hx t) y).trans ?_
  unfold sumArr
  blk_simp [index0_4]
  rfl

include hx ha hd hg in
theorem norm_arr : (dats m 0 c).arrAt 5 cfg0.N = normArr X A D G := by
  refine (dats m 0 c).arrAt_eq_of_covers 5 _ (by decide +kernel) fun t hf y => ?_
  have hN : t.val < 32 := t.isLt
  blk_simp
  rw [after0_5]
  unfold out0_5
  rw [View.canon_unit_zero (S := S512x1024) zero_offsets, View.ld_unit_zero (S := S512x4096) zero_offsets,
    View.ld_unit_zero (S := S4096x1024) zero_offsets, View.ld_unit_zero (S := S512x1024) zero_offsets,
    View.ld_unit_zero (S := S1x1024) zero_offsets]
  refine (norm_block (fun a k => X (t.val * 512 + a) k) (fun a f => A (t.val * 512 + a) f) D G _ _ _ _
    (blk_0 m c A ha t) (blk_1 m c D hd t) (blk_2 m c X hx t) (blk_3 m c G hg t) y).trans ?_
  unfold normArr
  blk_simp [index0_5]
  rfl

end Cert.DownIdeal.Hand

end
-- ==== Proof.Down.Value.lean ====
/- The MLP's downward call's two results are the reference's. -/
module

public import proofs.«01_k».proof.Proof.Down.Arr
public import proofs.«01_k».proof.Proof.Fn
public import proofs.«01_k».proof.Proof.Gen.DownReferenceIdeal.Read
public import Idealize.ShloMosaic.Lib.StableHlo.Run

@[expose] public section

set_option maxRecDepth 16384

noncomputable section

namespace Cert.DownReferenceIdeal.Hand

open Cert.DownReferenceIdeal Cert.DownReferenceIdeal.Gen Cert.DownReferenceIdeal.Read Idealize.ShloMosaic Cert.Attn Cert.MlpMath
open Cert.DownIdeal.Hand (after)

variable (X A D : ℕ → ℕ → EReal) (G : ℕ → EReal)
variable {x0 : (⟨S16384x1024, .f32⟩ : BufTy).Contents (Elt Ideal)} {x1 : (⟨S16384x4096, .f32⟩ : BufTy).Contents (Elt Ideal)}
  {x2 : (⟨S4096x1024, .f32⟩ : BufTy).Contents (Elt Ideal)} {x3 : (⟨S1024, .f32⟩ : BufTy).Contents (Elt Ideal)}
variable (h0 : ∀ i, x0 i = X (i 0).val (i 1).val) (h1 : ∀ i, x1 i = A (i 0).val (i 1).val)
  (h2 : ∀ i, x2 i = D (i 0).val (i 1).val) (h3 : ∀ i, x3 i = G (i 0).val)

include h0 h1 h2 in
/-- The reference's residual. -/
theorem v1_at (i : S16384x1024.Idx) : val_main_v1 (F := Ideal) x0 x1 x2 i = after X A D (i 0).val (i 1).val := by
  rw [val_main_v1_apply, val_main_v0_apply, h0]
  simp only [h1, h2]
  rfl

include h0 h1 h2 in
/-- The rows' reciprocal roots. -/
theorem v9_at (i : S16384x1.Idx) : val_main_v9 (F := Ideal) x0 x1 x2 i = rs (after X A D) (i 0).val := by
  have e1 : val_main_v3 (F := Ideal) x0 x1 x2 (idx_main_v4 i) = (∑ k : Fin 1024, after X A D (i 0).val k.val * after X A D (i 0).val k.val) := by
    rw [val_main_v3_apply, val_main_cst_apply]
    simp only [val_main_v2_apply, v1_at X A D h0 h1 h2]
    refine Eq.trans ?_ ((congrArg (· + _) Ideal.ofBits_zero_f32).trans (zero_add _))
    rfl
  rw [val_main_v9_apply, val_main_v8_apply, val_main_v6_apply, val_main_v4_apply, e1, val_main_v5_apply, val_main_cst_0_apply, val_main_v7_apply, val_main_cst_1_apply]
  show Ideal.rsqrt (Ideal.div (∑ k : Fin 1024, after X A D (i 0).val k.val * after X A D (i 0).val k.val) (Ideal.ofBits .f32 0x44800000#32) + Ideal.ofBits .f32 0x358637BD#32) = _
  rw [bits_width, bits_eps]
  rfl

include h0 h1 h2 h3 in
/-- The reference's normed rows. -/
theorem v15_at (i : S16384x1024.Idx) : val_main_v15 (F := Ideal) x0 x1 x2 x3 i = hm (after X A D) G (i 0).val (i 1).val := by
  rw [val_main_v15_apply, val_main_v14_apply, val_main_v11_apply, val_main_v10_apply, v9_at X A D h0 h1 h2, v1_at X A D h0 h1 h2,
    val_main_v13_apply, val_main_v12_apply, h3]
  rfl

end Cert.DownReferenceIdeal.Hand

namespace Cert.DownIdeal.Hand

open Cert.DownIdeal Cert.DownIdeal.Gen Idealize.ShloMosaic Idealize.ShloMosaic.TcCoe Idealize.ShloMosaic.StableHlo Cert.MlpMath

variable (m : (ℓ : Loc nD τ sig) → Buf (Elt Ideal) ℓ) (c : Dev nD)

theorem V_act : (V m c main_v1 : S16384x4096.Idx → EReal) = m ((c : Thread nD τ).loc main_arg1) := by
  show StableHlo.after hostOps0 _ _ = _
  after_results_simp <;> rfl

theorem V_down : (V m c main_v2 : S4096x1024.Idx → EReal) = m ((c : Thread nD τ).loc main_arg2) := by
  show StableHlo.after hostOps0 _ _ = _
  after_results_simp <;> rfl

/-- The gain as a row. -/
theorem V_gain : (V m c main_v0 : S1x1024.Idx → EReal)
    = broadcastInDim S1x1024 ![1] bcast_S1024_S1x1024_1 (m ((c : Thread nD τ).loc main_arg3) : S1024.Idx → EReal) := by
  show StableHlo.after hostOps0 _ _ = _
  after_results_simp <;> rfl

/-- The two results: the reference's. -/
theorem results_eq
    (x0 : (⟨S16384x1024, .f32⟩ : BufTy).Contents (Elt Ideal)) (x1 : (⟨S16384x4096, .f32⟩ : BufTy).Contents (Elt Ideal))
    (x2 : (⟨S4096x1024, .f32⟩ : BufTy).Contents (Elt Ideal)) (x3 : (⟨S1024, .f32⟩ : BufTy).Contents (Elt Ideal))
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    (dats m 0 c).arrAt 4 cfg0.N = Cert.DownReferenceIdeal.Read.val_main_v1 (F := Ideal) x0 x1 x2
    ∧ (dats m 0 c).arrAt 5 cfg0.N = Cert.DownReferenceIdeal.Read.val_main_v15 (F := Ideal) x0 x1 x2 x3 := by
  obtain ⟨X, h0⟩ := fn_two x0
  obtain ⟨A, h1⟩ := fn_two x1
  obtain ⟨D, h2⟩ := fn_two x2
  obtain ⟨G, h3⟩ := fn_one x3
  have g0 : ∀ i : S16384x1024.Idx, (V m c main_arg0 : S16384x1024.Idx → EReal) i = X (i 0).val (i 1).val :=
    fun i => (congrFun (V_main_arg0 m c) i).trans ((congrFun e0 i).trans (h0 i))
  have g1 : ∀ i : S16384x4096.Idx, (V m c main_v1 : S16384x4096.Idx → EReal) i = A (i 0).val (i 1).val :=
    fun i => (congrFun (V_act m c) i).trans ((congrFun e1 i).trans (h1 i))
  have g2 : ∀ i : S4096x1024.Idx, (V m c main_v2 : S4096x1024.Idx → EReal) i = D (i 0).val (i 1).val :=
    fun i => (congrFun (V_down m c) i).trans ((congrFun e2 i).trans (h2 i))
  have g3 : ∀ i : S1x1024.Idx, (V m c main_v0 : S1x1024.Idx → EReal) i = G (i 1).val :=
    fun i => (congrFun (V_gain m c) i).trans ((congrFun e3 _).trans (h3 _))
  exact ⟨(sum_arr m c X A D g0 g1 g2).trans (funext fun i => (Cert.DownReferenceIdeal.Hand.v1_at X A D h0 h1 h2 i).symm),
    (norm_arr m c X A D G g0 g1 g2 g3).trans (funext fun i => (Cert.DownReferenceIdeal.Hand.v15_at X A D G h0 h1 h2 h3 i).symm)⟩

end Cert.DownIdeal.Hand

end
-- ==== Proof.Oproj.Arr.lean ====
/- The arrays that the output projection leaves: the residual before the MLP, and its normed rows. -/
module

public import proofs.«01_k».proof.Proof.Gen.OprojIdeal.Value
public import proofs.«01_k».proof.Proof.Rows
public import Idealize.ShloMosaic.Lib.Pipeline.ValueKit.Geometry

@[expose] public section

set_option maxRecDepth 16384

noncomputable section

namespace Cert.OprojIdeal.Hand

open Cert.OprojIdeal Cert.OprojIdeal.Gen Idealize.ShloMosaic Idealize.ShloMosaic.TcCoe Idealize.ShloMosaic.Pipeline Cert.Attn Cert.MlpMath

theorem zero_offsets : (![0, 0] : Fin 2 → ℕ) = fun _ => 0 := by funext a; fin_cases a <;> rfl

/-- The residual before the MLP. -/
abbrev after (X A D : ℕ → ℕ → EReal) : ℕ → ℕ → EReal := plus 1024 X A D

/-! ## What a point stores -/

section Blocks

variable (X A D : ℕ → ℕ → EReal) (G : ℕ → EReal)
  (x0 : Vec Ideal S1024x1024 .bf16) (x1 : Vec Ideal S1024x1024 .bf16) (x2 : Vec Ideal S1024x1024 .f32) (x3 : Vec Ideal S1x1024 .f32)
  (h0 : ∀ i, x0 i = A (i 0).val (i 1).val) (h1 : ∀ i, x1 i = D (i 0).val (i 1).val)
  (h2 : ∀ i, x2 i = X (i 0).val (i 1).val) (h3 : ∀ i, x3 i = G (i 1).val)

include h0 h1 h2 in
/-- The block of the residual. -/
theorem sum_block (i : S1024x1024.Idx) : k0_pay1 x0 x1 x2 i = after X A D (i 0).val (i 1).val := by
  unfold k0_pay1
  rw [shapeCast_self, shapeCast_self]
  exact congrArg₂ (fun a b : EReal => a + b) (h2 i) (product A D x0 x1 h0 h1 i :)

include h0 h1 h2 h3 in
/-- The block of the normed rows. -/
theorem norm_block (i : S1024x1024.Idx) : k0_pay2 x0 x1 x2 x3 i = hm (after X A D) G (i 0).val (i 1).val := by
  unfold k0_pay2
  rw [shapeCast_self]
  exact normed_at (after X A D) (by decide) _ (sum_block X A D x0 x1 x2 h0 h1 h2) x3 G h3 reduces_S1024x1024_S1024 shapeCasts_S1024_S1024x1
    broadcasts_S1024x1_S1024x1024 broadcasts_S1x1024_S1024x1024 i

end Blocks

/-! ## The arrays -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)

variable (m : (ℓ : Loc nD τ sig) → Buf (Elt Ideal) ℓ) (c : Dev nD)
variable (X A D : ℕ → ℕ → EReal) (G : ℕ → EReal)
variable (hx : ∀ i, (V m c main_arg0 : (⟨S16384x1024, .f32⟩ : BufTy).Contents (Elt Ideal)) i = X (i 0).val (i 1).val)
variable (ha : ∀ i, (V m c main_v1 : (⟨S16384x1024, .bf16⟩ : BufTy).Contents (Elt Ideal)) i = A (i 0).val (i 1).val)
variable (hd : ∀ i, (V m c main_v2 : (⟨S1024x1024, .bf16⟩ : BufTy).Contents (Elt Ideal)) i = D (i 0).val (i 1).val)
variable (hg : ∀ i, (V m c main_v0 : (⟨S1x1024, .f32⟩ : BufTy).Contents (Elt Ideal)) i = G (i 1).val)

include ha in
theorem blk_0 (t : Fin cfg0.N) (i : S1024x1024.Idx) :
    (iblk m c 0 t : Vec Ideal S1024x1024 .bf16) i = A (t.val * 1024 + (i 0).val) (i 1).val := by
  blk_simp [iblk]
  refine (ha _).trans ?_
  blk_simp [index0_0]

include hd in
theorem blk_1 (t : Fin cfg0.N) (i : S1024x1024.Idx) : (iblk m c 1 t : Vec Ideal S1024x1024 .bf16) i = D (i 0).val (i 1).val := by
  blk_simp [iblk]
  refine (hd _).trans ?_
  blk_simp [index0_1]

include hx in
theorem blk_2 (t : Fin cfg0.N) (i : S1024x1024.Idx) :
    (iblk m c 2 t : Vec Ideal S1024x1024 .f32) i = X (t.val * 1024 + (i 0).val) (i 1).val := by
  blk_simp [iblk]
  refine (hx _).trans ?_
  blk_simp [index0_2]

include hg in
theorem blk_3 (t : Fin cfg0.N) (i : S1x1024.Idx) : (iblk m c 3 t : Vec Ideal S1x1024 .f32) i = G (i 1).val := by
  blk_simp [iblk]
  refine (hg _).trans ?_
  blk_simp [index0_3]

/-- The residual before the MLP, as an array. -/
def sumArr : (⟨S16384x1024, .f32⟩ : BufTy).Contents (Elt Ideal) := fun i => after X A D (i 0).val (i 1).val

/-- Its normed rows, as an array. -/
def normArr : (⟨S16384x1024, .bf16⟩ : BufTy).Contents (Elt Ideal) := fun i => hm (after X A D) G (i 0).val (i 1).val

include hx ha hd in
theorem sum_arr : (dats m 0 c).arrAt 4 cfg0.N = sumArr X A D := by
  refine (dats m 0 c).arrAt_eq_of_covers 4 _ (by decide +kernel) fun t hf y => ?_
  have hN : t.val < 16 := t.isLt
  blk_simp
  rw [after0_4]
  unfold out0_4
  rw [View.canon_unit_zero (S := S1024x1024) zero_offsets, View.ld_unit_zero (S := S1024x1024) zero_offsets,
    View.ld_unit_zero (S := S1024x1024) zero_offsets, View.ld_unit_zero (S := S1024x1024) zero_offsets]
  refine (sum_block (fun a k => X (t.val * 1024 + a) k) (fun a f => A (t.val * 1024 + a) f) D _ _ _
    (blk_0 m c A ha t) (blk_1 m c D hd t) (blk_2 m c X hx t) y).trans ?_
  unfold sumArr
  blk_simp [index0_4]
  rfl

include hx ha hd hg in
theorem norm_arr : (dats m 0 c).arrAt 5 cfg0.N = normArr X A D G := by
  refine (dats m 0 c).arrAt_eq_of_covers 5 _ (by decide +kernel) fun t hf y => ?_
  have hN : t.val < 16 := t.isLt
  blk_simp
  rw [after0_5]
  unfold out0_5
  rw [View.canon_unit_zero (S := S1024x1024) zero_offsets, View.ld_unit_zero (S := S1024x1024) zero_offsets,
    View.ld_unit_zero (S := S1024x1024) zero_offsets, View.ld_unit_zero (S := S1024x1024) zero_offsets,
    View.ld_unit_zero (S := S1x1024) zero_offsets]
  refine (norm_block (fun a k => X (t.val * 1024 + a) k) (fun a f => A (t.val * 1024 + a) f) D G _ _ _ _
    (blk_0 m c A ha t) (blk_1 m c D hd t) (blk_2 m c X hx t) (blk_3 m c G hg t) y).trans ?_
  unfold normArr
  blk_simp [index0_5]
  rfl

end Cert.OprojIdeal.Hand

end
-- ==== Proof.Oproj.Value.lean ====
/- The output projection's two results are the reference's. -/
module

public import proofs.«01_k».proof.Proof.Oproj.Arr
public import proofs.«01_k».proof.Proof.Fn
public import proofs.«01_k».proof.Proof.Gen.OprojReferenceIdeal.Read
public import Idealize.ShloMosaic.Lib.StableHlo.Run

@[expose] public section

set_option maxRecDepth 16384

noncomputable section

namespace Cert.OprojReferenceIdeal.Hand

open Cert.OprojReferenceIdeal Cert.OprojReferenceIdeal.Gen Cert.OprojReferenceIdeal.Read Idealize.ShloMosaic Cert.Attn Cert.MlpMath
open Cert.OprojIdeal.Hand (after)

variable (X A D : ℕ → ℕ → EReal) (G : ℕ → EReal)
variable {x0 : (⟨S16384x1024, .f32⟩ : BufTy).Contents (Elt Ideal)} {x1 : (⟨S16384x1024, .f32⟩ : BufTy).Contents (Elt Ideal)}
  {x2 : (⟨S1024x1024, .f32⟩ : BufTy).Contents (Elt Ideal)} {x3 : (⟨S1024, .f32⟩ : BufTy).Contents (Elt Ideal)}
variable (h0 : ∀ i, x0 i = X (i 0).val (i 1).val) (h1 : ∀ i, x1 i = A (i 0).val (i 1).val)
  (h2 : ∀ i, x2 i = D (i 0).val (i 1).val) (h3 : ∀ i, x3 i = G (i 0).val)

include h0 h1 h2 in
/-- The reference's residual. -/
theorem v1_at (i : S16384x1024.Idx) : val_main_v1 (F := Ideal) x0 x1 x2 i = after X A D (i 0).val (i 1).val := by
  rw [val_main_v1_apply, val_main_v0_apply, h0]
  simp only [h1, h2]
  rfl

include h0 h1 h2 in
/-- The rows' reciprocal roots. -/
theorem v9_at (i : S16384x1.Idx) : val_main_v9 (F := Ideal) x0 x1 x2 i = rs (after X A D) (i 0).val := by
  have e1 : val_main_v3 (F := Ideal) x0 x1 x2 (idx_main_v4 i) = (∑ k : Fin 1024, after X A D (i 0).val k.val * after X A D (i 0).val k.val) := by
    rw [val_main_v3_apply, val_main_cst_apply]
    simp only [val_main_v2_apply, v1_at X A D h0 h1 h2]
    refine Eq.trans ?_ ((congrArg (· + _) Ideal.ofBits_zero_f32).trans (zero_add _))
    rfl
  rw [val_main_v9_apply, val_main_v8_apply, val_main_v6_apply, val_main_v4_apply, e1, val_main_v5_apply, val_main_cst_0_apply, val_main_v7_apply, val_main_cst_1_apply]
  show Ideal.rsqrt (Ideal.div (∑ k : Fin 1024, after X A D (i 0).val k.val * after X A D (i 0).val k.val) (Ideal.ofBits .f32 0x44800000#32) + Ideal.ofBits .f32 0x358637BD#32) = _
  rw [bits_width, bits_eps]
  rfl

include h0 h1 h2 h3 in
/-- The reference's normed rows. -/
theorem v15_at (i : S16384x1024.Idx) : val_main_v15 (F := Ideal) x0 x1 x2 x3 i = hm (after X A D) G (i 0).val (i 1).val := by
  rw [val_main_v15_apply, val_main_v14_apply, val_main_v11_apply, val_main_v10_apply, v9_at X A D h0 h1 h2, v1_at X A D h0 h1 h2,
    val_main_v13_apply, val_main_v12_apply, h3]
  rfl

end Cert.OprojReferenceIdeal.Hand

namespace Cert.OprojIdeal.Hand

open Cert.OprojIdeal Cert.OprojIdeal.Gen Idealize.ShloMosaic Idealize.ShloMosaic.TcCoe Idealize.ShloMosaic.StableHlo Cert.MlpMath

variable (m : (ℓ : Loc nD τ sig) → Buf (Elt Ideal) ℓ) (c : Dev nD)

theorem V_rows : (V m c main_v1 : S16384x1024.Idx → EReal) = m ((c : Thread nD τ).loc main_arg1) := by
  show StableHlo.after hostOps0 _ _ = _
  after_results_simp <;> rfl

theorem V_out : (V m c main_v2 : S1024x1024.Idx → EReal) = m ((c : Thread nD τ).loc main_arg2) := by
  show StableHlo.after hostOps0 _ _ = _
  after_results_simp <;> rfl

/-- The gain as a row. -/
theorem V_gain : (V m c main_v0 : S1x1024.Idx → EReal)
    = broadcastInDim S1x1024 ![1] bcast_S1024_S1x1024_1 (m ((c : Thread nD τ).loc main_arg3) : S1024.Idx → EReal) := by
  show StableHlo.after hostOps0 _ _ = _
  after_results_simp <;> rfl

/-- The two results: the reference's. -/
theorem results_eq
    (x0 : (⟨S16384x1024, .f32⟩ : BufTy).Contents (Elt Ideal)) (x1 : (⟨S16384x1024, .f32⟩ : BufTy).Contents (Elt Ideal))
    (x2 : (⟨S1024x1024, .f32⟩ : BufTy).Contents (Elt Ideal)) (x3 : (⟨S1024, .f32⟩ : BufTy).Contents (Elt Ideal))
    (e0 : m ((c : Thread nD τ).loc main_arg0) = x0) (e1 : m ((c : Thread nD τ).loc main_arg1) = x1)
    (e2 : m ((c : Thread nD τ).loc main_arg2) = x2) (e3 : m ((c : Thread nD τ).loc main_arg3) = x3) :
    (dats m 0 c).arrAt 4 cfg0.N = Cert.OprojReferenceIdeal.Read.val_main_v1 (F := Ideal) x0 x1 x2
    ∧ (dats m 0 c).arrAt 5 cfg0.N = Cert.OprojReferenceIdeal.Read.val_main_v15 (F := Ideal) x0 x1 x2 x3 := by
  obtain ⟨X, h0⟩ := fn_two x0
  obtain ⟨A, h1⟩ := fn_two x1
  obtain ⟨D, h2⟩ := fn_two x2
  obtain ⟨G, h3⟩ := fn_one x3
  have g0 : ∀ i : S16384x1024.Idx, (V m c main_arg0 : S16384x1024.Idx → EReal) i = X (i 0).val (i 1).val :=
    fun i => (congrFun (V_main_arg0 m c) i).trans ((congrFun e0 i).trans (h0 i))
  have g1 : ∀ i : S16384x1024.Idx, (V m c main_v1 : S16384x1024.Idx → EReal) i = A (i 0).val (i 1).val :=
    fun i => (congrFun (V_rows m c) i).trans ((congrFun e1 i).trans (h1 i))
  have g2 : ∀ i : S1024x1024.Idx, (V m c main_v2 : S1024x1024.Idx → EReal) i = D (i 0).val (i 1).val :=
    fun i => (congrFun (V_out m c) i).trans ((congrFun e2 i).trans (h2 i))
  have g3 : ∀ i : S1x1024.Idx, (V m c main_v0 : S1x1024.Idx → EReal) i = G (i 1).val :=
    fun i => (congrFun (V_gain m c) i).trans ((congrFun e3 _).trans (h3 _))
  exact ⟨(sum_arr m c X A D g0 g1 g2).trans (funext fun i => (Cert.OprojReferenceIdeal.Hand.v1_at X A D h0 h1 h2 i).symm),
    (norm_arr m c X A D G g0 g1 g2 g3).trans (funext fun i => (Cert.OprojReferenceIdeal.Hand.v15_at X A D G h0 h1 h2 h3 i).symm)⟩

end Cert.OprojIdeal.Hand

end
-- ==== Proof.Dattn.Value.lean ====
/- The gradient of the attention's rows, as its product with the transposed output weights leaves it, is the reference's. -/
module

public import proofs.«01_k».proof.Proof.Gen.DattnIdeal.Value
public import proofs.«01_k».proof.Proof.Gen.DattnReferenceIdeal.Read
public import proofs.«01_k».proof.Proof.Rows
public import proofs.«01_k».proof.Proof.Fn
public import Idealize.ShloMosaic.Lib.Pipeline.ValueKit.Geometry
public import Idealize.ShloMosaic.Lib.StableHlo.Run

@[expose] public section

set_option maxRecDepth 16384

noncomputable section

namespace Cert.DattnIdeal.Hand

open Cert.DattnIdeal Cert.DattnIdeal.Gen Idealize.ShloMosaic Idealize.ShloMosaic.TcCoe Idealize.ShloMosaic.StableHlo Idealize.ShloMosaic.Pipeline Cert.MlpMath

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

theorem zero_offsets : (![0, 0] : Fin 2 → ℕ) = fun _ => 0 := by funext a; fin_cases a <;> rfl

variable (m : (ℓ : Loc nD τ sig) → Buf (Elt Ideal) ℓ) (c : Dev nD) (A B : ℕ → ℕ → EReal)

/-- A point's block: the product of a block of rows with the transposed weights. -/
theorem block_at (x0 : Vec Ideal S1024x1024 .bf16) (x1 : Vec Ideal S512x1024 .bf16)
    (h0 : ∀ i, x0 i = A (i 0).val (i 1).val) (h1 : ∀ i, x1 i = B (i 0).val (i 1).val) (i : S1024x512.Idx) :
    k0_pay1 x0 x1 i = ∑ k : Fin 1024, A (i 0).val k.val * B (i 1).val k.val := by
  unfold k0_pay1
  rw [shapeCast_self, shapeCast_self]
  exact product_t A B x0 x1 h0 h1 i

variable (ha : ∀ i, (V m c main_v0 : (⟨S16384x1024, .bf16⟩ : BufTy).Contents (Elt Ideal)) i = A (i 0).val (i 1).val)
variable (hb : ∀ i, (V m c main_v1 : (⟨S512x1024, .bf16⟩ : BufTy).Contents (Elt Ideal)) i = B (i 0).val (i 1).val)

include ha in
theorem blk_0 (t : Fin cfg0.N) (i : S1024x1024.Idx) :
    (iblk m c 0 t : Vec Ideal S1024x1024 .bf16) i = A (t.val * 1024 + (i 0).val) (i 1).val := by
  blk_simp [iblk]
  refine (ha _).trans ?_
  blk_simp [index0_0]

include hb in
theorem blk_1 (t : Fin cfg0.N) (i : S512x1024.Idx) : (iblk m c 1 t : Vec Ideal S512x1024 .bf16) i = B (i 0).val (i 1).val := by
  blk_simp [iblk]
  refine (hb _).trans ?_
  blk_simp [index0_1]

/-- The gradient, as an array. -/
def rowsArr : (⟨S16384x512, .f32⟩ : BufTy).Contents (Elt Ideal) := fun i => ∑ k : Fin 1024, A (i 0).val k.val * B (i 1).val k.val

include ha hb in
theorem rows_arr : (dats m 0 c).arrAt 2 cfg0.N = rowsArr A B := by
  refine (dats m 0 c).arrAt_eq_of_covers 2 _ (by decide +kernel) fun t hf y => ?_
  have hN : t.val < 16 := t.isLt
  blk_simp
  rw [after0_2]
  unfold out0_2
  rw [View.canon_unit_zero (S := S1024x512) zero_offsets, View.ld_unit_zero (S := S1024x1024) zero_offsets,
    View.ld_unit_zero (S := S512x1024) zero_offsets]
  refine (block_at (fun a k => A (t.val * 1024 + a) k) B _ _ (blk_0 m c A ha t) (blk_1 m c B hb t) y).trans ?_
  unfold rowsArr
  blk_simp [index0_2]

theorem V_ct : (V m c main_v0 : S16384x1024.Idx → EReal) = m ((c : Thread nD τ).loc main_arg0) := by
  show StableHlo.after hostOps0 _ _ = _
  after_results_simp <;> rfl

theorem V_weights : (V m c main_v1 : S512x1024.Idx → EReal) = m ((c : Thread nD τ).loc main_arg1) := by
  show StableHlo.after hostOps0 _ _ = _
  after_results_simp <;> rfl

/-- The result: the reference's. -/
theorem result_eq (x0 : (⟨S16384x1024, .f32⟩ : BufTy).Contents (Elt Ideal)) (x1 : (⟨S512x1024, .f32⟩ : BufTy).Contents (Elt Ideal))
    (e0 : m ((c : Thread nD τ).loc main_arg0) = x0) (e1 : m ((c : Thread nD τ).loc main_arg1) = x1) :
    (dats m 0 c).arrAt 2 cfg0.N = Cert.DattnReferenceIdeal.Read.val_main_v2 (F := Ideal) x0 x1 := by
  obtain ⟨A, ha⟩ := fn_two x0
  obtain ⟨B, hb⟩ := fn_two x1
  have ga : ∀ i : S16384x1024.Idx, (V m c main_v0 : S16384x1024.Idx → EReal) i = A (i 0).val (i 1).val :=
    fun i => (congrFun (V_ct m c) i).trans ((congrFun e0 i).trans (ha i))
  have gb : ∀ i : S512x1024.Idx, (V m c main_v1 : S512x1024.Idx → EReal) i = B (i 0).val (i 1).val :=
    fun i => (congrFun (V_weights m c) i).trans ((congrFun e1 i).trans (hb i))
  rw [rows_arr m c A B ga gb]
  funext i
  rw [Cert.DattnReferenceIdeal.Read.val_main_v2_apply]
  refine Finset.sum_congr rfl fun s _ => ?_
  rw [ha, hb]

end Cert.DattnIdeal.Hand

end
-- ==== Proof.Drz.Value.lean ====
/- The gradient of the gated retention rows, as its product with the transposed output weights leaves it, is the reference's. -/
module

public import proofs.«01_k».proof.Proof.Gen.DrzIdeal.Value
public import proofs.«01_k».proof.Proof.Gen.DrzReferenceIdeal.Read
public import proofs.«01_k».proof.Proof.Rows
public import proofs.«01_k».proof.Proof.Fn
public import Idealize.ShloMosaic.Lib.Pipeline.ValueKit.Geometry
public import Idealize.ShloMosaic.Lib.StableHlo.Run

@[expose] public section

set_option maxRecDepth 16384

noncomputable section

namespace Cert.DrzIdeal.Hand

open Cert.DrzIdeal Cert.DrzIdeal.Gen Idealize.ShloMosaic Idealize.ShloMosaic.TcCoe Idealize.ShloMosaic.StableHlo Idealize.ShloMosaic.Pipeline Cert.MlpMath

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

theorem zero_offsets : (![0, 0] : Fin 2 → ℕ) = fun _ => 0 := by funext a; fin_cases a <;> rfl

variable (m : (ℓ : Loc nD τ sig) → Buf (Elt Ideal) ℓ) (c : Dev nD) (A B : ℕ → ℕ → EReal)

/-- A point's block: the product of a block of rows with the transposed weights. -/
theorem block_at (x0 : Vec Ideal S1024x1024 .bf16) (x1 : Vec Ideal S512x1024 .bf16)
    (h0 : ∀ i, x0 i = A (i 0).val (i 1).val) (h1 : ∀ i, x1 i = B (i 0).val (i 1).val) (i : S1024x512.Idx) :
    k0_pay1 x0 x1 i = ∑ k : Fin 1024, A (i 0).val k.val * B (i 1).val k.val := by
  unfold k0_pay1
  rw [shapeCast_self, shapeCast_self]
  exact product_t A B x0 x1 h0 h1 i

variable (ha : ∀ i, (V m c main_v0 : (⟨S16384x1024, .bf16⟩ : BufTy).Contents (Elt Ideal)) i = A (i 0).val (i 1).val)
variable (hb : ∀ i, (V m c main_v1 : (⟨S512x1024, .bf16⟩ : BufTy).Contents (Elt Ideal)) i = B (i 0).val (i 1).val)

include ha in
theorem blk_0 (t : Fin cfg0.N) (i : S1024x1024.Idx) :
    (iblk m c 0 t : Vec Ideal S1024x1024 .bf16) i = A (t.val * 1024 + (i 0).val) (i 1).val := by
  blk_simp [iblk]
  refine (ha _).trans ?_
  blk_simp [index0_0]

include hb in
theorem blk_1 (t : Fin cfg0.N) (i : S512x1024.Idx) : (iblk m c 1 t : Vec Ideal S512x1024 .bf16) i = B (i 0).val (i 1).val := by
  blk_simp [iblk]
  refine (hb _).trans ?_
  blk_simp [index0_1]

/-- The gradient, as an array. -/
def rowsArr : (⟨S16384x512, .f32⟩ : BufTy).Contents (Elt Ideal) := fun i => ∑ k : Fin 1024, A (i 0).val k.val * B (i 1).val k.val

include ha hb in
theorem rows_arr : (dats m 0 c).arrAt 2 cfg0.N = rowsArr A B := by
  refine (dats m 0 c).arrAt_eq_of_covers 2 _ (by decide +kernel) fun t hf y => ?_
  have hN : t.val < 16 := t.isLt
  blk_simp
  rw [after0_2]
  unfold out0_2
  rw [View.canon_unit_zero (S := S1024x512) zero_offsets, View.ld_unit_zero (S := S1024x1024) zero_offsets,
    View.ld_unit_zero (S := S512x1024) zero_offsets]
  refine (block_at (fun a k => A (t.val * 1024 + a) k) B _ _ (blk_0 m c A ha t) (blk_1 m c B hb t) y).trans ?_
  unfold rowsArr
  blk_simp [index0_2]

theorem V_ct : (V m c main_v0 : S16384x1024.Idx → EReal) = m ((c : Thread nD τ).loc main_arg0) := by
  show StableHlo.after hostOps0 _ _ = _
  after_results_simp <;> rfl

theorem V_weights : (V m c main_v1 : S512x1024.Idx → EReal) = m ((c : Thread nD τ).loc main_arg1) := by
  show StableHlo.after hostOps0 _ _ = _
  after_results_simp <;> rfl

/-- The result: the reference's. -/
theorem result_eq (x0 : (⟨S16384x1024, .f32⟩ : BufTy).Contents (Elt Ideal)) (x1 : (⟨S512x1024, .f32⟩ : BufTy).Contents (Elt Ideal))
    (e0 : m ((c : Thread nD τ).loc main_arg0) = x0) (e1 : m ((c : Thread nD τ).loc main_arg1) = x1) :
    (dats m 0 c).arrAt 2 cfg0.N = Cert.DrzReferenceIdeal.Read.val_main_v2 (F := Ideal) x0 x1 := by
  obtain ⟨A, ha⟩ := fn_two x0
  obtain ⟨B, hb⟩ := fn_two x1
  have ga : ∀ i : S16384x1024.Idx, (V m c main_v0 : S16384x1024.Idx → EReal) i = A (i 0).val (i 1).val :=
    fun i => (congrFun (V_ct m c) i).trans ((congrFun e0 i).trans (ha i))
  have gb : ∀ i : S512x1024.Idx, (V m c main_v1 : S512x1024.Idx → EReal) i = B (i 0).val (i 1).val :=
    fun i => (congrFun (V_weights m c) i).trans ((congrFun e1 i).trans (hb i))
  rw [rows_arr m c A B ga gb]
  funext i
  rw [Cert.DrzReferenceIdeal.Read.val_main_v2_apply]
  refine Finset.sum_congr rfl fun s _ => ?_
  rw [ha, hb]

end Cert.DrzIdeal.Hand

end
-- ==== Proof.Attno.Value.lean ====
/- The product of the attention's rows with the output weights is the reference's. -/
module

public import proofs.«01_k».proof.Proof.Gen.AttnoIdeal.Value
public import proofs.«01_k».proof.Proof.Gen.AttnoReferenceIdeal.Read
public import proofs.«01_k».proof.Proof.Rows
public import proofs.«01_k».proof.Proof.Fn
public import Idealize.ShloMosaic.Lib.Pipeline.ValueKit.Geometry
public import Idealize.ShloMosaic.Lib.StableHlo.Run

@[expose] public section

set_option maxRecDepth 16384

noncomputable section

namespace Cert.AttnoIdeal.Hand

open Cert.AttnoIdeal Cert.AttnoIdeal.Gen Idealize.ShloMosaic Idealize.ShloMosaic.TcCoe Idealize.ShloMosaic.StableHlo Idealize.ShloMosaic.Pipeline Cert.MlpMath

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)

theorem zero_offsets : (![0, 0] : Fin 2 → ℕ) = fun _ => 0 := by funext a; fin_cases a <;> rfl

variable (m : (ℓ : Loc nD τ sig) → Buf (Elt Ideal) ℓ) (c : Dev nD) (A B : ℕ → ℕ → EReal)

/-- A point's block: the product of a block of rows with the weights. -/
theorem block_at (x0 : Vec Ideal S1024x512 .bf16) (x1 : Vec Ideal S512x1024 .bf16)
    (h0 : ∀ i, x0 i = A (i 0).val (i 1).val) (h1 : ∀ i, x1 i = B (i 0).val (i 1).val) (i : S1024x1024.Idx) :
    k0_pay1 x0 x1 i = ∑ k : Fin 512, A (i 0).val k.val * B k.val (i 1).val := by
  unfold k0_pay1
  rw [shapeCast_self, shapeCast_self]
  exact product A B x0 x1 h0 h1 i

variable (ha : ∀ i, (V m c main_v0 : (⟨S16384x512, .bf16⟩ : BufTy).Contents (Elt Ideal)) i = A (i 0).val (i 1).val)
variable (hb : ∀ i, (V m c main_v1 : (⟨S512x1024, .bf16⟩ : BufTy).Contents (Elt Ideal)) i = B (i 0).val (i 1).val)

include ha in
theorem blk_0 (t : Fin cfg0.N) (i : S1024x512.Idx) :
    (iblk m c 0 t : Vec Ideal S1024x512 .bf16) i = A (t.val * 1024 + (i 0).val) (i 1).val := by
  blk_simp [iblk]
  refine (ha _).trans ?_
  blk_simp [index0_0]

include hb in
theorem blk_1 (t : Fin cfg0.N) (i : S512x1024.Idx) : (iblk m c 1 t : Vec Ideal S512x1024 .bf16) i = B (i 0).val (i 1).val := by
  blk_simp [iblk]
  refine (hb _).trans ?_
  blk_simp [index0_1]

/-- The product, as an array. -/
def rowsArr : (⟨S16384x1024, .bf16⟩ : BufTy).Contents (Elt Ideal) := fun i => ∑ k : Fin 512, A (i 0).val k.val * B k.val (i 1).val

include ha hb in
theorem rows_arr : (dats m 0 c).arrAt 2 cfg0.N = rowsArr A B := by
  refine (dats m 0 c).arrAt_eq_of_covers 2 _ (by decide +kernel) fun t hf y => ?_
  have hN : t.val < 16 := t.isLt
  blk_simp
  rw [after0_2]
  unfold out0_2
  rw [View.canon_unit_zero (S := S1024x1024) zero_offsets, View.ld_unit_zero (S := S1024x512) zero_offsets,
    View.ld_unit_zero (S := S512x1024) zero_offsets]
  refine (block_at (fun a k => A (t.val * 1024 + a) k) B _ _ (blk_0 m c A ha t) (blk_1 m c B hb t) y).trans ?_
  unfold rowsArr
  blk_simp [index0_2]

theorem V_rows : (V m c main_v0 : S16384x512.Idx → EReal) = m ((c : Thread nD τ).loc main_arg0) := by
  show StableHlo.after hostOps0 _ _ = _
  after_results_simp <;> rfl

theorem V_weights : (V m c main_v1 : S512x1024.Idx → EReal) = m ((c : Thread nD τ).loc main_arg1) := by
  show StableHlo.after hostOps0 _ _ = _
  after_results_simp <;> rfl

/-- The result: the reference's. -/
theorem result_eq (x0 : (⟨S16384x512, .f32⟩ : BufTy).Contents (Elt Ideal)) (x1 : (⟨S512x1024, .f32⟩ : BufTy).Contents (Elt Ideal))
    (e0 : m ((c : Thread nD τ).loc main_arg0) = x0) (e1 : m ((c : Thread nD τ).loc main_arg1) = x1) :
    (dats m 0 c).arrAt 2 cfg0.N = Cert.AttnoReferenceIdeal.Read.val_main_v1 (F := Ideal) x0 x1 := by
  obtain ⟨A, ha⟩ := fn_two x0
  obtain ⟨B, hb⟩ := fn_two x1
  have ga : ∀ i : S16384x512.Idx, (V m c main_v0 : S16384x512.Idx → EReal) i = A (i 0).val (i 1).val :=
    fun i => (congrFun (V_rows m c) i).trans ((congrFun e0 i).trans (ha i))
  have gb : ∀ i : S512x1024.Idx, (V m c main_v1 : S512x1024.Idx → EReal) i = B (i 0).val (i 1).val :=
    fun i => (congrFun (V_weights m c) i).trans ((congrFun e1 i).trans (hb i))
  rw [rows_arr m c A B ga gb]
  funext i
  rw [Cert.AttnoReferenceIdeal.Read.val_main_v1_apply, Cert.AttnoReferenceIdeal.Read.val_main_v0_apply]
  refine Finset.sum_congr rfl fun s _ => ?_
  rw [ha, hb]

end Cert.AttnoIdeal.Hand

end
-- ==== Proof.Wao.Arr.lean ====
/- What the call of the attention output weights' gradient leaves: blocks of the two inputs multiplied over their rows, added
   up in a buffer that is kept between the points. -/
module

public import proofs.«01_k».proof.Proof.Gen.WaoIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WaoIdeal.Hand

open Cert.WaoIdeal Cert.WaoIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec F S2048x512 .bf16) (x1 : Vec F S2048x1024 .bf16) (xs : Vec F S512x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S512x1024) no_offsets]
  simp only [View.readAt_eq_ld, h3.read_unread, h4.read_unread, View.ld_unit_zero (S := S2048x512) no_offsets, View.ld_unit_zero (S := S2048x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S512x1024) no_offsets]
  simp only [View.readAt_eq_ld, h3.read_unread, h4.read_unread, h6.read_unread, View.ld_unit_zero (S := S2048x512) no_offsets, View.ld_unit_zero (S := S2048x1024) no_offsets, View.ld_unit_zero (S := S512x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S512x1024) no_offsets]
  simp only [View.readAt_eq_ld, h3.read_unread, h4.read_unread, h6.read_unread, View.ld_unit_zero (S := S2048x512) no_offsets, View.ld_unit_zero (S := S2048x1024) no_offsets, View.ld_unit_zero (S := S512x1024) no_offsets]

/-- A buffer just written whole reads back as the value written. -/
theorem read_back (w : Vec F S512x1024 .f32) :
    a6.view.readCov [(⟨Rect.unit (s := S512x1024) ![0, 0] S512x1024.size inb_S512x1024_S512x1024_0_0, w⟩ : View.Piece (Elt F) S512x1024 .f32)]
      (Rect.unit (s := S512x1024) ![0, 0] S512x1024.size inb_S512x1024_S512x1024_0_0).toLoadRect = w := by
  unfold View.readCov
  rw [View.readAt_eq_ld, View.read_writes_full, View.ld_unit_zero (S := S512x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S512x1024) no_offsets]
  refine (read_back a6 _).trans ?_
  simp only [View.readAt_eq_ld, h3.read_unread, h4.read_unread, h6.read_unread, View.ld_unit_zero (S := S2048x512) no_offsets, View.ld_unit_zero (S := S2048x1024) no_offsets, View.ld_unit_zero (S := S512x1024) no_offsets]

end Pieces

/-! ## The product of two blocks -/

section Product

variable (x : FVec Ideal S2048x512 .bf16) (y : FVec Ideal S2048x1024 .bf16) (z : FVec Ideal S512x1024 .f32) (A B : ℕ → ℕ → EReal)
  (hx : ∀ i, x i = A (i 0).val (i 1).val) (hy : ∀ i, y i = B (i 0).val (i 1).val)

include hx hy in
theorem pay1_at (i : S512x1024.Idx) : k0_pay1 (F := Ideal) x y i = ∑ l : Fin 2048, A l.val (i 0).val * B l.val (i 1).val := by
  unfold k0_pay1
  rw [shapeCast_self, shapeCast_self]
  exact product_l A B dot_S2048x512_S2048x1024_S512x1024_0_0_1_1_n_n rfl rfl rfl rfl rfl rfl rfl rfl x y hx hy i

include hx hy in
theorem pay2_at (i : S512x1024.Idx) : k0_pay2 (F := Ideal) x y i = ∑ l : Fin 2048, A l.val (i 0).val * B l.val (i 1).val := by
  unfold k0_pay2
  rw [shapeCast_self]
  exact pay1_at x y A B hx hy i

include hx hy in
theorem pay3_at (i : S512x1024.Idx) : k0_pay3 (F := Ideal) x y z i = z i + ∑ l : Fin 2048, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 8, 0] := (by decide +kernel : ∀ t : Fin grid0.N, _)
theorem index0_1 : ∀ t : Fin cfg0.N, win0_1.index t = ![t.val % 8, 0] := (by decide +kernel : ∀ t : Fin grid0.N, _)
theorem index0_2 : ∀ t : Fin cfg0.N, win0_2.index t = ![0, 0] := (by decide +kernel : ∀ t : Fin grid0.N, _)
theorem last_point : ∀ t : Fin cfg0.N, (cfg0.win 2).flush t = true → t.val % 8 = 8 - 1 := (by decide +kernel : ∀ t : Fin grid0.N, _)

variable (m : (ℓ : Loc nD τ sig) → Buf (Elt Ideal) ℓ) (c : Dev nD) (A B : ℕ → ℕ → EReal)
variable (ha : ∀ i, (V m c main_v0 : (⟨S16384x512, .bf16⟩ : BufTy).Contents (Elt Ideal)) i = A (i 0).val (i 1).val)
variable (hb : ∀ i, (V m c main_v1 : (⟨S16384x1024, .bf16⟩ : BufTy).Contents (Elt Ideal)) i = B (i 0).val (i 1).val)

include ha in
theorem blk_0 (t : Fin cfg0.N) (i : S2048x512.Idx) :
    (iblk m c 0 t : Vec Ideal S2048x512 .bf16) i = A (t.val % 8 * 2048 + (i 0).val) (0 * 512 + (i 1).val) := by
  blk_simp [iblk]
  refine (ha _).trans ?_
  blk_simp [index0_0]

include hb in
theorem blk_1 (t : Fin cfg0.N) (i : S2048x1024.Idx) :
    (iblk m c 1 t : Vec Ideal S2048x1024 .bf16) i = B (t.val % 8 * 2048 + (i 0).val) (0 * 1024 + (i 1).val) := by
  blk_simp [iblk]
  refine (hb _).trans ?_
  blk_simp [index0_1]

include ha hb in
/-- What is kept after a point: the products of its run so far. -/
theorem kept_at (n : ℕ) (hn : n < cfg0.N) (i : S512x1024.Idx) :
    (outsAt0 m c n hn).2 i = ∑ b ∈ Finset.range (n % 8 + 1), part A B 2048 (0 * 512 + (i 0).val) (0 * 1024 + (i 1).val) b := by
  refine run_sum 8 cfg0.N (by decide) (fun n hn => (outsAt0 m c n hn).2 i) (fun n => part A B 2048 (0 * 512 + (i 0).val) (0 * 1024 + (i 1).val)) (fun n _ => rfl)
    (fun n hn h0 => ?_) (fun n hn h0 => ?_) n hn
  · have hN : n < 8 := hn
    dsimp only
    rw [outsAt0_A m c ⟨n, hn⟩ h0 (by show ¬1 ≤ n; omega) (by show ¬n % 8 = 7; omega)]
    dsimp only
    rw [kept_A c _ _ _ _ _ _ _ _ _ (iblk m c 0 ⟨n, hn⟩) (iblk m c 1 ⟨n, hn⟩)]
    refine (pay2_at _ _ (fun a b => A (n % 8 * 2048 + a) (0 * 512 + b)) (fun a b => B (n % 8 * 2048 + a) (0 * 1024 + b)) (blk_0 m c A ha ⟨n, hn⟩) (blk_1 m c B hb ⟨n, hn⟩) i).trans ?_
    dsimp only
    rw [h0]
    rfl
  · have hN : n + 1 < 8 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by show 1 ≤ n + 1; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ n + 1; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 8 * 2048 + a) (0 * 512 + b)) (fun a b => B ((n + 1) % 8 * 2048 + a) (0 * 1024 + b)) (blk_0 m c A ha ⟨n + 1, hn⟩) (blk_1 m c B hb ⟨n + 1, hn⟩) i

/-- The array of the gradient. -/
def gradArr : (⟨S512x1024, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 8 := t.isLt
  have hl := last_point t hf
  have h0 : ¬t.val % 8 = 0 := by omega
  have h1 : 1 ≤ t.val := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 8 2048 rfl _ _).symm.trans ?_
  unfold gradArr
  blk_simp [index0_2]

end Cert.WaoIdeal.Hand

end
-- ==== Proof.Wao.Value.lean ====
/- The attention output weights' gradient is the reference's. -/
module

public import proofs.«01_k».proof.Proof.Wao.Arr
public import proofs.«01_k».proof.Proof.Fn
public import proofs.«01_k».proof.Proof.Gen.WaoReferenceIdeal.Read
public import Idealize.ShloMosaic.Lib.StableHlo.Run

@[expose] public section

set_option maxRecDepth 16384

noncomputable section

namespace Cert.WaoIdeal.Hand

open Cert.WaoIdeal Cert.WaoIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v0 : S16384x512.Idx → EReal) = m ((c : Thread nD τ).loc main_arg0) := by
  show StableHlo.after hostOps0 _ _ = _
  after_results_simp <;> rfl

/-- The cotangent. -/
theorem V_ct : (V m c main_v1 : S16384x1024.Idx → EReal) = m ((c : Thread nD τ).loc main_arg1) := by
  show StableHlo.after hostOps0 _ _ = _
  after_results_simp <;> rfl

/-- The result: the reference's. -/
theorem result_eq (x0 : (⟨S16384x512, .f32⟩ : BufTy).Contents (Elt Ideal)) (x1 : (⟨S16384x1024, .f32⟩ : BufTy).Contents (Elt Ideal))
    (e0 : m ((c : Thread nD τ).loc main_arg0) = x0) (e1 : m ((c : Thread nD τ).loc main_arg1) = x1) :
    (dats m 0 c).arrAt 2 cfg0.N = Cert.WaoReferenceIdeal.Read.val_main_v3 (F := Ideal) x0 x1 := by
  obtain ⟨A, ha⟩ := fn_two (x0)
  obtain ⟨B, hb⟩ := fn_two x1
  have ga : ∀ i : S16384x512.Idx, (V m c main_v0 : S16384x512.Idx → EReal) i = A (i 0).val (i 1).val :=
    fun i => (congrFun (V_rows m c) i).trans ((congrFun e0 i).trans (ha i))
  have gb : ∀ i : S16384x1024.Idx, (V m c main_v1 : S16384x1024.Idx → EReal) i = B (i 0).val (i 1).val :=
    fun i => (congrFun (V_ct m c) i).trans ((congrFun e1 i).trans (hb i))
  rw [grad_arr m c A B ga gb]
  funext i
  rw [Cert.WaoReferenceIdeal.Read.val_main_v3_apply, Cert.WaoReferenceIdeal.Read.val_main_v2_apply]
  show grad A B (i 0).val (i 1).val = _
  unfold grad
  refine Finset.sum_congr rfl fun s _ => ?_
  rw [hb, ha]
  exact mul_comm _ _

end Cert.WaoIdeal.Hand

end
-- ==== Proof.Wro.Arr.lean ====
/- What the call of the retention output weights' gradient leaves: blocks of the two inputs multiplied over their rows, added
   up in a buffer that is kept between the points. -/
module

public import proofs.«01_k».proof.Proof.Gen.WroIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WroIdeal.Hand

open Cert.WroIdeal Cert.WroIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S2048x512 .bf16) (h3 : a3.IsWhole)
  (a4 : Memref sig .tc .vmem S2048x1024 .bf16) (h4 : a4.IsWhole) (a5 : Memref sig .tc .vmem S512x1024 .f32) (h5 : a5.IsWhole)
  (a6 : Memref sig .tc .vmem S512x1024 .f32) (h6 : a6.IsWhole)
  (x0 : Vec F S2048x512 .bf16) (x1 : Vec F S2048x1024 .bf16) (xs : Vec F S512x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S512x1024) no_offsets]
  simp only [View.readAt_eq_ld, h3.read_unread, h4.read_unread, View.ld_unit_zero (S := S2048x512) no_offsets, View.ld_unit_zero (S := S2048x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S512x1024) no_offsets]
  simp only [View.readAt_eq_ld, h3.read_unread, h4.read_unread, h6.read_unread, View.ld_unit_zero (S := S2048x512) no_offsets, View.ld_unit_zero (S := S2048x1024) no_offsets, View.ld_unit_zero (S := S512x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S512x1024) no_offsets]
  simp only [View.readAt_eq_ld, h3.read_unread, h4.read_unread, h6.read_unread, View.ld_unit_zero (S := S2048x512) no_offsets, View.ld_unit_zero (S := S2048x1024) no_offsets, View.ld_unit_zero (S := S512x1024) no_offsets]

/-- A buffer just written whole reads back as the value written. -/
theorem read_back (w : Vec F S512x1024 .f32) :
    a6.view.readCov [(⟨Rect.unit (s := S512x1024) ![0, 0] S512x1024.size inb_S512x1024_S512x1024_0_0, w⟩ : View.Piece (Elt F) S512x1024 .f32)]
      (Rect.unit (s := S512x1024) ![0, 0] S512x1024.size inb_S512x1024_S512x1024_0_0).toLoadRect = w := by
  unfold View.readCov
  rw [View.readAt_eq_ld, View.read_writes_full, View.ld_unit_zero (S := S512x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S512x1024) no_offsets]
  refine (read_back a6 _).trans ?_
  simp only [View.readAt_eq_ld, h3.read_unread, h4.read_unread, h6.read_unread, View.ld_unit_zero (S := S2048x512) no_offsets, View.ld_unit_zero (S := S2048x1024) no_offsets, View.ld_unit_zero (S := S512x1024) no_offsets]

end Pieces

/-! ## The product of two blocks -/

section Product

variable (x : FVec Ideal S2048x512 .bf16) (y : FVec Ideal S2048x1024 .bf16) (z : FVec Ideal S512x1024 .f32) (A B : ℕ → ℕ → EReal)
  (hx : ∀ i, x i = A (i 0).val (i 1).val) (hy : ∀ i, y i = B (i 0).val (i 1).val)

include hx hy in
theorem pay1_at (i : S512x1024.Idx) : k0_pay1 (F := Ideal) x y i = ∑ l : Fin 2048, A l.val (i 0).val * B l.val (i 1).val := by
  unfold k0_pay1
  rw [shapeCast_self, shapeCast_self]
  exact product_l A B dot_S2048x512_S2048x1024_S512x1024_0_0_1_1_n_n rfl rfl rfl rfl rfl rfl rfl rfl x y hx hy i

include hx hy in
theorem pay2_at (i : S512x1024.Idx) : k0_pay2 (F := Ideal) x y i = ∑ l : Fin 2048, A l.val (i 0).val * B l.val (i 1).val := by
  unfold k0_pay2
  rw [shapeCast_self]
  exact pay1_at x y A B hx hy i

include hx hy in
theorem pay3_at (i : S512x1024.Idx) : k0_pay3 (F := Ideal) x y z i = z i + ∑ l : Fin 2048, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 8, 0] := (by decide +kernel : ∀ t : Fin grid0.N, _)
theorem index0_1 : ∀ t : Fin cfg0.N, win0_1.index t = ![t.val % 8, 0] := (by decide +kernel : ∀ t : Fin grid0.N, _)
theorem index0_2 : ∀ t : Fin cfg0.N, win0_2.index t = ![0, 0] := (by decide +kernel : ∀ t : Fin grid0.N, _)
theorem last_point : ∀ t : Fin cfg0.N, (cfg0.win 2).flush t = true → t.val % 8 = 8 - 1 := (by decide +kernel : ∀ t : Fin grid0.N, _)

variable (m : (ℓ : Loc nD τ sig) → Buf (Elt Ideal) ℓ) (c : Dev nD) (A B : ℕ → ℕ → EReal)
variable (ha : ∀ i, (V m c main_v0 : (⟨S16384x512, .bf16⟩ : BufTy).Contents (Elt Ideal)) i = A (i 0).val (i 1).val)
variable (hb : ∀ i, (V m c main_v1 : (⟨S16384x1024, .bf16⟩ : BufTy).Contents (Elt Ideal)) i = B (i 0).val (i 1).val)

include ha in
theorem blk_0 (t : Fin cfg0.N) (i : S2048x512.Idx) :
    (iblk m c 0 t : Vec Ideal S2048x512 .bf16) i = A (t.val % 8 * 2048 + (i 0).val) (0 * 512 + (i 1).val) := by
  blk_simp [iblk]
  refine (ha _).trans ?_
  blk_simp [index0_0]

include hb in
theorem blk_1 (t : Fin cfg0.N) (i : S2048x1024.Idx) :
    (iblk m c 1 t : Vec Ideal S2048x1024 .bf16) i = B (t.val % 8 * 2048 + (i 0).val) (0 * 1024 + (i 1).val) := by
  blk_simp [iblk]
  refine (hb _).trans ?_
  blk_simp [index0_1]

include ha hb in
/-- What is kept after a point: the products of its run so far. -/
theorem kept_at (n : ℕ) (hn : n < cfg0.N) (i : S512x1024.Idx) :
    (outsAt0 m c n hn).2 i = ∑ b ∈ Finset.range (n % 8 + 1), part A B 2048 (0 * 512 + (i 0).val) (0 * 1024 + (i 1).val) b := by
  refine run_sum 8 cfg0.N (by decide) (fun n hn => (outsAt0 m c n hn).2 i) (fun n => part A B 2048 (0 * 512 + (i 0).val) (0 * 1024 + (i 1).val)) (fun n _ => rfl)
    (fun n hn h0 => ?_) (fun n hn h0 => ?_) n hn
  · have hN : n < 8 := hn
    dsimp only
    rw [outsAt0_A m c ⟨n, hn⟩ h0 (by show ¬1 ≤ n; omega) (by show ¬n % 8 = 7; omega)]
    dsimp only
    rw [kept_A c _ _ _ _ _ _ _ _ _ (iblk m c 0 ⟨n, hn⟩) (iblk m c 1 ⟨n, hn⟩)]
    refine (pay2_at _ _ (fun a b => A (n % 8 * 2048 + a) (0 * 512 + b)) (fun a b => B (n % 8 * 2048 + a) (0 * 1024 + b)) (blk_0 m c A ha ⟨n, hn⟩) (blk_1 m c B hb ⟨n, hn⟩) i).trans ?_
    dsimp only
    rw [h0]
    rfl
  · have hN : n + 1 < 8 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by show 1 ≤ n + 1; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ n + 1; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 8 * 2048 + a) (0 * 512 + b)) (fun a b => B ((n + 1) % 8 * 2048 + a) (0 * 1024 + b)) (blk_0 m c A ha ⟨n + 1, hn⟩) (blk_1 m c B hb ⟨n + 1, hn⟩) i

/-- The array of the gradient. -/
def gradArr : (⟨S512x1024, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 8 := t.isLt
  have hl := last_point t hf
  have h0 : ¬t.val % 8 = 0 := by omega
  have h1 : 1 ≤ t.val := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 8 2048 rfl _ _).symm.trans ?_
  unfold gradArr
  blk_simp [index0_2]

end Cert.WroIdeal.Hand

end
-- ==== Proof.Wro.Value.lean ====
/- The retention output weights' gradient is the reference's. -/
module

public import proofs.«01_k».proof.Proof.Wro.Arr
public import proofs.«01_k».proof.Proof.Fn
public import proofs.«01_k».proof.Proof.Gen.WroReferenceIdeal.Read
public import Idealize.ShloMosaic.Lib.StableHlo.Run

@[expose] public section

set_option maxRecDepth 16384

noncomputable section

namespace Cert.WroIdeal.Hand

open Cert.WroIdeal Cert.WroIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v0 : S16384x512.Idx → EReal) = m ((c : Thread nD τ).loc main_arg0) := by
  show StableHlo.after hostOps0 _ _ = _
  after_results_simp <;> rfl

/-- The cotangent. -/
theorem V_ct : (V m c main_v1 : S16384x1024.Idx → EReal) = m ((c : Thread nD τ).loc main_arg1) := by
  show StableHlo.after hostOps0 _ _ = _
  after_results_simp <;> rfl

/-- The result: the reference's. -/
theorem result_eq (x0 : (⟨S16384x512, .f32⟩ : BufTy).Contents (Elt Ideal)) (x1 : (⟨S16384x1024, .f32⟩ : BufTy).Contents (Elt Ideal))
    (e0 : m ((c : Thread nD τ).loc main_arg0) = x0) (e1 : m ((c : Thread nD τ).loc main_arg1) = x1) :
    (dats m 0 c).arrAt 2 cfg0.N = Cert.WroReferenceIdeal.Read.val_main_v3 (F := Ideal) x0 x1 := by
  obtain ⟨A, ha⟩ := fn_two (x0)
  obtain ⟨B, hb⟩ := fn_two x1
  have ga : ∀ i : S16384x512.Idx, (V m c main_v0 : S16384x512.Idx → EReal) i = A (i 0).val (i 1).val :=
    fun i => (congrFun (V_rows m c) i).trans ((congrFun e0 i).trans (ha i))
  have gb : ∀ i : S16384x1024.Idx, (V m c main_v1 : S16384x1024.Idx → EReal) i = B (i 0).val (i 1).val :=
    fun i => (congrFun (V_ct m c) i).trans ((congrFun e1 i).trans (hb i))
  rw [grad_arr m c A B ga gb]
  funext i
  rw [Cert.WroReferenceIdeal.Read.val_main_v3_apply, Cert.WroReferenceIdeal.Read.val_main_v2_apply]
  show grad A B (i 0).val (i 1).val = _
  unfold grad
  refine Finset.sum_congr rfl fun s _ => ?_
  rw [hb, ha]
  exact mul_comm _ _

end Cert.WroIdeal.Hand

end
-- ==== Proof.Wout.Arr.lean ====
/- What the call of the output weights' gradient leaves: blocks of the two inputs multiplied over their rows, added
   up in a buffer that is kept between the points. -/
module

public import proofs.«01_k».proof.Proof.Gen.WoutIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WoutIdeal.Hand

open Cert.WoutIdeal Cert.WoutIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x0 : Vec F S2048x1024 .bf16) (x1 : Vec F S2048x1024 .bf16) (xs : Vec F S1024x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) no_offsets]
  simp only [View.readAt_eq_ld, h3.read_unread, h4.read_unread, View.ld_unit_zero (S := S2048x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S1024x1024) no_offsets]
  simp only [View.readAt_eq_ld, h3.read_unread, h4.read_unread, h6.read_unread, View.ld_unit_zero (S := S2048x1024) no_offsets, View.ld_unit_zero (S := S1024x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S1024x1024) no_offsets]
  simp only [View.readAt_eq_ld, h3.read_unread, h4.read_unread, h6.read_unread, View.ld_unit_zero (S := S2048x1024) no_offsets, View.ld_unit_zero (S := S1024x1024) no_offsets]

/-- A buffer just written whole reads back as the value written. -/
theorem read_back (w : Vec F S1024x1024 .f32) :
    a6.view.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w := by
  unfold View.readCov
  rw [View.readAt_eq_ld, View.read_writes_full, View.ld_unit_zero (S := S1024x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S1024x1024) no_offsets]
  refine (read_back a6 _).trans ?_
  simp only [View.readAt_eq_ld, h3.read_unread, h4.read_unread, h6.read_unread, View.ld_unit_zero (S := S2048x1024) no_offsets, View.ld_unit_zero (S := S1024x1024) no_offsets]

end Pieces

/-! ## The product of two blocks -/

section Product

variable (x : FVec Ideal S2048x1024 .bf16) (y : FVec Ideal S2048x1024 .bf16) (z : FVec Ideal S1024x1024 .f32) (A B : ℕ → ℕ → EReal)
  (hx : ∀ i, x i = A (i 0).val (i 1).val) (hy : ∀ i, y i = B (i 0).val (i 1).val)

include hx hy in
theorem pay1_at (i : S1024x1024.Idx) : k0_pay1 (F := Ideal) x y i = ∑ l : Fin 2048, A l.val (i 0).val * B l.val (i 1).val := by
  unfold k0_pay1
  rw [shapeCast_self, shapeCast_self]
  exact product_l A B dot_S2048x1024_S2048x1024_S1024x1024_0_0_1_1_n_n rfl rfl rfl rfl rfl rfl rfl rfl x y hx hy i

include hx hy in
theorem pay2_at (i : S1024x1024.Idx) : k0_pay2 (F := Ideal) x y i = ∑ l : Fin 2048, A l.val (i 0).val * B l.val (i 1).val := by
  unfold k0_pay2
  rw [shapeCast_self]
  exact pay1_at x y A B hx hy i

include hx hy in
theorem pay3_at (i : S1024x1024.Idx) : k0_pay3 (F := Ideal) x y z i = z i + ∑ l : Fin 2048, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 8, 0] := (by decide +kernel : ∀ t : Fin grid0.N, _)
theorem index0_1 : ∀ t : Fin cfg0.N, win0_1.index t = ![t.val % 8, 0] := (by decide +kernel : ∀ t : Fin grid0.N, _)
theorem index0_2 : ∀ t : Fin cfg0.N, win0_2.index t = ![0, 0] := (by decide +kernel : ∀ t : Fin grid0.N, _)
theorem last_point : ∀ t : Fin cfg0.N, (cfg0.win 2).flush t = true → t.val % 8 = 8 - 1 := (by decide +kernel : ∀ t : Fin grid0.N, _)

variable (m : (ℓ : Loc nD τ sig) → Buf (Elt Ideal) ℓ) (c : Dev nD) (A B : ℕ → ℕ → EReal)
variable (ha : ∀ i, (V m c main_v0 : (⟨S16384x1024, .bf16⟩ : BufTy).Contents (Elt Ideal)) i = A (i 0).val (i 1).val)
variable (hb : ∀ i, (V m c main_v1 : (⟨S16384x1024, .bf16⟩ : BufTy).Contents (Elt Ideal)) i = B (i 0).val (i 1).val)

include ha in
theorem blk_0 (t : Fin cfg0.N) (i : S2048x1024.Idx) :
    (iblk m c 0 t : Vec Ideal S2048x1024 .bf16) i = A (t.val % 8 * 2048 + (i 0).val) (0 * 1024 + (i 1).val) := by
  blk_simp [iblk]
  refine (ha _).trans ?_
  blk_simp [index0_0]

include hb in
theorem blk_1 (t : Fin cfg0.N) (i : S2048x1024.Idx) :
    (iblk m c 1 t : Vec Ideal S2048x1024 .bf16) i = B (t.val % 8 * 2048 + (i 0).val) (0 * 1024 + (i 1).val) := by
  blk_simp [iblk]
  refine (hb _).trans ?_
  blk_simp [index0_1]

include ha hb in
/-- What is kept after a point: the products of its run so far. -/
theorem kept_at (n : ℕ) (hn : n < cfg0.N) (i : S1024x1024.Idx) :
    (outsAt0 m c n hn).2 i = ∑ b ∈ Finset.range (n % 8 + 1), part A B 2048 (0 * 1024 + (i 0).val) (0 * 1024 + (i 1).val) b := by
  refine run_sum 8 cfg0.N (by decide) (fun n hn => (outsAt0 m c n hn).2 i) (fun n => part A B 2048 (0 * 1024 + (i 0).val) (0 * 1024 + (i 1).val)) (fun n _ => rfl)
    (fun n hn h0 => ?_) (fun n hn h0 => ?_) n hn
  · have hN : n < 8 := hn
    dsimp only
    rw [outsAt0_A m c ⟨n, hn⟩ h0 (by show ¬1 ≤ n; omega) (by show ¬n % 8 = 7; omega)]
    dsimp only
    rw [kept_A c _ _ _ _ _ _ _ _ _ (iblk m c 0 ⟨n, hn⟩) (iblk m c 1 ⟨n, hn⟩)]
    refine (pay2_at _ _ (fun a b => A (n % 8 * 2048 + a) (0 * 1024 + b)) (fun a b => B (n % 8 * 2048 + a) (0 * 1024 + b)) (blk_0 m c A ha ⟨n, hn⟩) (blk_1 m c B hb ⟨n, hn⟩) i).trans ?_
    dsimp only
    rw [h0]
    rfl
  · have hN : n + 1 < 8 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by show 1 ≤ n + 1; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ n + 1; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 8 * 2048 + a) (0 * 1024 + b)) (fun a b => B ((n + 1) % 8 * 2048 + a) (0 * 1024 + b)) (blk_0 m c A ha ⟨n + 1, hn⟩) (blk_1 m c B hb ⟨n + 1, hn⟩) i

/-- The array of the gradient. -/
def gradArr : (⟨S1024x1024, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 8 := t.isLt
  have hl := last_point t hf
  have h0 : ¬t.val % 8 = 0 := by omega
  have h1 : 1 ≤ t.val := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 8 2048 rfl _ _).symm.trans ?_
  unfold gradArr
  blk_simp [index0_2]

end Cert.WoutIdeal.Hand

end
-- ==== Proof.Wout.Value.lean ====
/- The output weights' gradient is the reference's. -/
module

public import proofs.«01_k».proof.Proof.Wout.Arr
public import proofs.«01_k».proof.Proof.Fn
public import proofs.«01_k».proof.Proof.Gen.WoutReferenceIdeal.Read
public import Idealize.ShloMosaic.Lib.StableHlo.Run

@[expose] public section

set_option maxRecDepth 16384

noncomputable section

namespace Cert.WoutIdeal.Hand

open Cert.WoutIdeal Cert.WoutIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v0 : S16384x1024.Idx → EReal) = m ((c : Thread nD τ).loc main_arg0) := by
  show StableHlo.after hostOps0 _ _ = _
  after_results_simp <;> rfl

/-- The cotangent. -/
theorem V_ct : (V m c main_v1 : S16384x1024.Idx → EReal) = m ((c : Thread nD τ).loc main_arg1) := by
  show StableHlo.after hostOps0 _ _ = _
  after_results_simp <;> rfl

/-- The result: the reference's. -/
theorem result_eq (x0 : (⟨S16384x1024, .f32⟩ : BufTy).Contents (Elt Ideal)) (x1 : (⟨S16384x1024, .f32⟩ : BufTy).Contents (Elt Ideal))
    (e0 : m ((c : Thread nD τ).loc main_arg0) = x0) (e1 : m ((c : Thread nD τ).loc main_arg1) = x1) :
    (dats m 0 c).arrAt 2 cfg0.N = Cert.WoutReferenceIdeal.Read.val_main_v3 (F := Ideal) x0 x1 := by
  obtain ⟨A, ha⟩ := fn_two (x0)
  obtain ⟨B, hb⟩ := fn_two x1
  have ga : ∀ i : S16384x1024.Idx, (V m c main_v0 : S16384x1024.Idx → EReal) i = A (i 0).val (i 1).val :=
    fun i => (congrFun (V_rows m c) i).trans ((congrFun e0 i).trans (ha i))
  have gb : ∀ i : S16384x1024.Idx, (V m c main_v1 : S16384x1024.Idx → EReal) i = B (i 0).val (i 1).val :=
    fun i => (congrFun (V_ct m c) i).trans ((congrFun e1 i).trans (hb i))
  rw [grad_arr m c A B ga gb]
  funext i
  rw [Cert.WoutReferenceIdeal.Read.val_main_v3_apply, Cert.WoutReferenceIdeal.Read.val_main_v2_apply]
  show grad A B (i 0).val (i 1).val = _
  unfold grad
  refine Finset.sum_congr rfl fun s _ => ?_
  rw [hb, ha]
  exact mul_comm _ _

end Cert.WoutIdeal.Hand

end
-- ==== Proof.Wgate.Arr.lean ====
/- What the call of the per-layer gate weights' gradient leaves: blocks of the two inputs multiplied over their rows, added
   up in a buffer that is kept between the points. -/
module

public import proofs.«01_k».proof.Proof.Gen.WgateIdeal.Value
public import proofs.«01_k».proof.Proof.Runs
public import Idealize.ShloMosaic.Lib.Pipeline.ValueKit.Geometry
public import Idealize.ShloMosaic.Lib.VecWindow

@[expose] public section

set_option maxRecDepth 16384

noncomputable section

namespace Cert.WgateIdeal.Hand

open Cert.WgateIdeal Cert.WgateIdeal.Gen Idealize.ShloMosaic Idealize.ShloMosaic.TcCoe Idealize.ShloMosaic.Tactic Idealize.ShloMosaic.Pipeline Cert.MlpMath

/-! ## What a point stores -/

section Pieces

variable {F : FTy → Type} [FloatOps F]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x0 : Vec F S2048x1024 .bf16) (x1 : Vec F S2048x1024 .bf16) (xs : Vec F S1024x1024 .f32)

/-- The first point of a run keeps its product. -/
theorem kept_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero (S := S1024x1024) no_offsets]
  simp only [View.readAt_eq_ld, h3.read_unread, h4.read_unread, View.ld_unit_zero (S := S2048x1024) no_offsets]

/-- A later point adds its product to what is kept. -/
theorem kept_B (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero (S := S1024x1024) no_offsets]
  simp only [View.readAt_eq_ld, h3.read_unread, h4.read_unread, h6.read_unread, View.ld_unit_zero (S := S2048x1024) no_offsets, View.ld_unit_zero (S := S1024x1024) no_offsets]

/-- The last point of a run does the same. -/
theorem kept_C (hc0 : ¬cond0_0 i) (hc1 : cond0_1 i) (hc2 : cond0_2 i) :
    sout0_C_0 c i a3 h3 a4 h4 a5 h5 a6 h6 hc0 hc1 hc2 x0 x1 xs = k0_pay3 x0 x1 xs := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero (S := S1024x1024) no_offsets]
  simp only [View.readAt_eq_ld, h3.read_unread, h4.read_unread, h6.read_unread, View.ld_unit_zero (S := S2048x1024) no_offsets, View.ld_unit_zero (S := S1024x1024) no_offsets]

/-- A buffer just written whole reads back as the value written. -/
theorem read_back (w : Vec F S1024x1024 .f32) :
    a6.view.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w := by
  unfold View.readCov
  rw [View.readAt_eq_ld, View.read_writes_full, View.ld_unit_zero (S := S1024x1024) no_offsets]

/-- It also writes the block of the result. -/
theorem out_C (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero (S := S1024x1024) no_offsets]
  refine (read_back a6 _).trans ?_
  simp only [View.readAt_eq_ld, h3.read_unread, h4.read_unread, h6.read_unread, View.ld_unit_zero (S := S2048x1024) no_offsets, View.ld_unit_zero (S := S1024x1024) no_offsets]

end Pieces

/-! ## The product of two blocks -/

section Product

variable (x : FVec Ideal S2048x1024 .bf16) (y : FVec Ideal S2048x1024 .bf16) (z : FVec Ideal S1024x1024 .f32) (A B : ℕ → ℕ → EReal)
  (hx : ∀ i, x i = A (i 0).val (i 1).val) (hy : ∀ i, y i = B (i 0).val (i 1).val)

include hx hy in
theorem pay1_at (i : S1024x1024.Idx) : k0_pay1 (F := Ideal) x y i = ∑ l : Fin 2048, A l.val (i 0).val * B l.val (i 1).val := by
  unfold k0_pay1
  rw [shapeCast_self, shapeCast_self]
  exact product_l A B dot_S2048x1024_S2048x1024_S1024x1024_0_0_1_1_n_n rfl rfl rfl rfl rfl rfl rfl rfl x y hx hy i

include hx hy in
theorem pay2_at (i : S1024x1024.Idx) : k0_pay2 (F := Ideal) x y i = ∑ l : Fin 2048, A l.val (i 0).val * B l.val (i 1).val := by
  unfold k0_pay2
  rw [shapeCast_self]
  exact pay1_at x y A B hx hy i

include hx hy in
theorem pay3_at (i : S1024x1024.Idx) : k0_pay3 (F := Ideal) x y z i = z i + ∑ l : Fin 2048, A l.val (i 0).val * B l.val (i 1).val := by
  unfold k0_pay3
  rw [shapeCast_self]
  exact congrArg (z i + ·) (pay1_at x y A B hx hy i)

end Product

/-! ## The runs -/

theorem index0_0 : ∀ t : Fin cfg0.N, win0_0.index t = ![t.val % 8, 0] := (by decide +kernel : ∀ t : Fin grid0.N, _)
theorem index0_1 : ∀ t : Fin cfg0.N, win0_1.index t = ![t.val % 8, 0] := (by decide +kernel : ∀ t : Fin grid0.N, _)
theorem index0_2 : ∀ t : Fin cfg0.N, win0_2.index t = ![0, 0] := (by decide +kernel : ∀ t : Fin grid0.N, _)
theorem last_point : ∀ t : Fin cfg0.N, (cfg0.win 2).flush t = true → t.val % 8 = 8 - 1 := (by decide +kernel : ∀ t : Fin grid0.N, _)

variable (m : (ℓ : Loc nD τ sig) → Buf (Elt Ideal) ℓ) (c : Dev nD) (A B : ℕ → ℕ → EReal)
variable (ha : ∀ i, (V m c main_v13 : (⟨S16384x1024, .bf16⟩ : BufTy).Contents (Elt Ideal)) i = A (i 0).val (i 1).val)
variable (hb : ∀ i, (V m c main_v14 : (⟨S16384x1024, .bf16⟩ : BufTy).Contents (Elt Ideal)) i = B (i 0).val (i 1).val)

include ha in
theorem blk_0 (t : Fin cfg0.N) (i : S2048x1024.Idx) :
    (iblk m c 0 t : Vec Ideal S2048x1024 .bf16) i = A (t.val % 8 * 2048 + (i 0).val) (0 * 1024 + (i 1).val) := by
  blk_simp [iblk]
  refine (ha _).trans ?_
  blk_simp [index0_0]

include hb in
theorem blk_1 (t : Fin cfg0.N) (i : S2048x1024.Idx) :
    (iblk m c 1 t : Vec Ideal S2048x1024 .bf16) i = B (t.val % 8 * 2048 + (i 0).val) (0 * 1024 + (i 1).val) := by
  blk_simp [iblk]
  refine (hb _).trans ?_
  blk_simp [index0_1]

include ha hb in
/-- What is kept after a point: the products of its run so far. -/
theorem kept_at (n : ℕ) (hn : n < cfg0.N) (i : S1024x1024.Idx) :
    (outsAt0 m c n hn).2 i = ∑ b ∈ Finset.range (n % 8 + 1), part A B 2048 (0 * 1024 + (i 0).val) (0 * 1024 + (i 1).val) b := by
  refine run_sum 8 cfg0.N (by decide) (fun n hn => (outsAt0 m c n hn).2 i) (fun n => part A B 2048 (0 * 1024 + (i 0).val) (0 * 1024 + (i 1).val)) (fun n _ => rfl)
    (fun n hn h0 => ?_) (fun n hn h0 => ?_) n hn
  · have hN : n < 8 := hn
    dsimp only
    rw [outsAt0_A m c ⟨n, hn⟩ h0 (by show ¬1 ≤ n; omega) (by show ¬n % 8 = 7; omega)]
    dsimp only
    rw [kept_A c _ _ _ _ _ _ _ _ _ (iblk m c 0 ⟨n, hn⟩) (iblk m c 1 ⟨n, hn⟩)]
    refine (pay2_at _ _ (fun a b => A (n % 8 * 2048 + a) (0 * 1024 + b)) (fun a b => B (n % 8 * 2048 + a) (0 * 1024 + b)) (blk_0 m c A ha ⟨n, hn⟩) (blk_1 m c B hb ⟨n, hn⟩) i).trans ?_
    dsimp only
    rw [h0]
    rfl
  · have hN : n + 1 < 8 := hn
    have step : (outsAt0 m c (n + 1) hn).2 = k0_pay3 (iblk m c 0 ⟨n + 1, hn⟩) (iblk m c 1 ⟨n + 1, hn⟩) (outsAt0 m c n (Nat.lt_of_succ_lt hn)).2 := by
      by_cases h2 : (n + 1) % 8 = 7
      · rw [outsAt0_C m c ⟨n + 1, hn⟩ h0 (by show 1 ≤ n + 1; omega) h2]
        dsimp only
        rw [kept_C c _ _ _ _ _ _ _ _ _ (iblk m c 0 ⟨n + 1, hn⟩) (iblk m c 1 ⟨n + 1, hn⟩) _]
        rfl
      · rw [outsAt0_B m c ⟨n + 1, hn⟩ h0 (by show 1 ≤ n + 1; omega) h2]
        dsimp only
        rw [kept_B c _ _ _ _ _ _ _ _ _ (iblk m c 0 ⟨n + 1, hn⟩) (iblk m c 1 ⟨n + 1, hn⟩) _]
        rfl
    dsimp only
    rw [step]
    exact pay3_at _ _ _ (fun a b => A ((n + 1) % 8 * 2048 + a) (0 * 1024 + b)) (fun a b => B ((n + 1) % 8 * 2048 + a) (0 * 1024 + b)) (blk_0 m c A ha ⟨n + 1, hn⟩) (blk_1 m c B hb ⟨n + 1, hn⟩) i

/-- The array of the gradient. -/
def gradArr : (⟨S1024x1024, .f32⟩ : BufTy).Contents (Elt Ideal) := fun i => grad A B (i 0).val (i 1).val

include ha hb in
theorem grad_arr : (dats m 0 c).arrAt 2 cfg0.N = gradArr A B := by
  refine (dats m 0 c).arrAt_eq_of_covers 2 _ (by decide +kernel) fun t hf y => ?_
  have hN : t.val < 8 := t.isLt
  have hl := last_point t hf
  have h0 : ¬t.val % 8 = 0 := by omega
  have h1 : 1 ≤ t.val := by omega
  blk_simp
  rw [after0_2]
  have e : (outsAt0 m c t.val t.isLt).1 = (outsAt0 m c t.val t.isLt).2 := by
    rw [outsAt0_C m c t h0 h1 hl]
    dsimp only
    rw [out_C c _ _ _ _ _ _ _ _ _ (iblk m c 0 t) (iblk m c 1 t) _, kept_C c _ _ _ _ _ _ _ _ _ (iblk m c 0 t) (iblk m c 1 t) _]
  rw [e]
  refine (kept_at m c A B ha hb t.val t.isLt y).trans ?_
  rw [hl]
  refine (grad_parts A B 8 2048 rfl _ _).symm.trans ?_
  unfold gradArr
  blk_simp [index0_2]

end Cert.WgateIdeal.Hand

end
-- ==== Proof.Wgate.Value.lean ====
/- The per-layer gate weights' gradient is the reference's. -/
module

public import proofs.«01_k».proof.Proof.Wgate.Arr
public import proofs.«01_k».proof.Proof.Fn
public import proofs.«01_k».proof.Proof.Gen.WgateReferenceIdeal.Read
public import Idealize.ShloMosaic.Lib.StableHlo.Run

@[expose] public section

set_option maxRecDepth 16384

noncomputable section

namespace Cert.WgateIdeal.Hand

open Cert.WgateIdeal Cert.WgateIdeal.Gen Idealize.ShloMosaic Idealize.ShloMosaic.TcCoe Idealize.ShloMosaic.StableHlo Cert.MlpMath

variable (m : (ℓ : Loc nD τ sig) → Buf (Elt Ideal) ℓ) (c : Dev nD)

/-- The rows that are multiplied. -/
theorem V_rows : (V m c main_v13 : S16384x1024.Idx → EReal) = Cert.WgateReferenceIdeal.Read.val_main_v13 (F := Ideal) (m ((c : Thread nD τ).loc main_arg0)) (m ((c : Thread nD τ).loc main_arg1)) := by
  show StableHlo.after hostOps0 _ _ = _
  after_results_simp <;> rfl

/-- The cotangent. -/
theorem V_ct : (V m c main_v14 : S16384x1024.Idx → EReal) = m ((c : Thread nD τ).loc main_arg2) := by
  show StableHlo.after hostOps0 _ _ = _
  after_results_simp <;> rfl

/-- The result: the reference's. -/
theorem result_eq (x0 : (⟨S16384x1024, .f32⟩ : BufTy).Contents (Elt Ideal)) (x1 : (⟨S1024, .f32⟩ : BufTy).Contents (Elt Ideal)) (x2 : (⟨S16384x1024, .f32⟩ : BufTy).Contents (Elt Ideal))
    (e0 : m ((c : Thread nD τ).loc main_arg0) = x0) (e1 : m ((c : Thread nD τ).loc main_arg1) = x1) (e2 : m ((c : Thread nD τ).loc main_arg2) = x2) :
    (dats m 0 c).arrAt 2 cfg0.N = Cert.WgateReferenceIdeal.Read.val_main_v16 (F := Ideal) x0 x1 x2 := by
  obtain ⟨A, ha⟩ := fn_two (Cert.WgateReferenceIdeal.Read.val_main_v13 (F := Ideal) x0 x1)
  obtain ⟨B, hb⟩ := fn_two x2
  have ga : ∀ i : S16384x1024.Idx, (V m c main_v13 : S16384x1024.Idx → EReal) i = A (i 0).val (i 1).val :=
    fun i => (congrFun (V_rows m c) i).trans ((congrFun (congrArg₂ (Cert.WgateReferenceIdeal.Read.val_main_v13 (F := Ideal)) e0 e1) i).trans (ha i))
  have gb : ∀ i : S16384x1024.Idx, (V m c main_v14 : S16384x1024.Idx → EReal) i = B (i 0).val (i 1).val :=
    fun i => (congrFun (V_ct m c) i).trans ((congrFun e2 i).trans (hb i))
  rw [grad_arr m c A B ga gb]
  funext i
  rw [Cert.WgateReferenceIdeal.Read.val_main_v16_apply, Cert.WgateReferenceIdeal.Read.val_main_v15_apply]
  show grad A B (i 0).val (i 1).val = _
  unfold grad
  refine Finset.sum_congr rfl fun s _ => ?_
  rw [hb, ha]
  exact mul_comm _ _

end Cert.WgateIdeal.Hand

end
-- ==== Proof.Inp.Run.lean ====
/- The input projection's run: what every buffer outside the calls' own holds when it ends. -/
module

public import proofs.«01_k».proof.Proof.Gen.InpIdeal.Frame

@[expose] public section

set_option maxRecDepth 16384

noncomputable section

namespace Cert.InpIdeal.Hand

open Cert.InpIdeal Cert.InpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the buffers at the last boundary's contents and the counters at zero. -/
theorem run_buffers : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c b hb, funext fun g => hz g (.inr (no_unscoped g.2))⟩)

end Cert.InpIdeal.Hand

end
-- ==== Proof.Inp.Math.lean ====
/- The cotangent of the rows before the input projection, as a function of natural-number coordinates over the extended reals. -/
module

public import proofs.«01_k».proof.Proof.Mlp.Math

@[expose] public section

noncomputable section

namespace Cert.MlpMath

/-- The normed row's cotangent: the projection's cotangent by the weights. -/
def inDh (U P : ℕ → ℕ → EReal) (i k : ℕ) : EReal := ∑ f : Fin 4864, P i f.val * U k f.val

end Cert.MlpMath

end
-- ==== Proof.Inp.Pieces.lean ====
/- What the backward call of the input projection leaves in its output blocks at a grid point, as values. -/
module

public import proofs.«01_k».proof.Proof.Gen.InpIdeal.Frame
public import Idealize.ShloMosaic.Lib.Pipeline.Value
public import Idealize.ShloMosaic.Lib.VecWindow
public import Idealize.ShloMosaic.Lib.WritesUnit

@[expose] public section

set_option maxRecDepth 16384

noncomputable section

namespace Cert.InpIdeal.Hand

open Cert.InpIdeal Cert.InpIdeal.Gen Idealize.ShloMosaic Idealize.ShloMosaic.TcCoe Idealize.ShloMosaic.Tactic Idealize.ShloMosaic.Pipeline

variable {F : FTy → Type} [FloatOps F]

theorem zero_offsets : (![0, 0] : Fin 2 → ℕ) = fun _ => 0 := by funext a; fin_cases a <;> rfl

variable (c : Dev nD) (i : grid1.Coords) (a3 : Memref sig .tc .vmem S512x4864 .bf16) (h3 : a3.IsWhole)
  (a4 : Memref sig .tc .vmem S1024x4864 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S8x1024 .f32) (h9 : a9.IsWhole)
  (x0 : Vec F S512x4864 .bf16) (x1 : Vec F S1024x4864 .bf16) (x2 : Vec F S512x1024 .f32) (x3 : Vec F S512x1024 .f32)
  (x4 : Vec F S1x1024 .f32) (x6 : Vec F S8x1024 .f32)

/-- The first point's block of the residual gradient. -/
theorem out_A_5 (hc : cond1_0 i) :
    out1_A_5 c i a3 h3 a4 h4 a5 h5 a6 h6 a7 h7 a8 h8 a9 h9 hc x0 x1 x2 x3 x4 = k1_pay1 (k1_pay7 x0 x1 x2 x4) x3 := by
  unfold out1_A_5
  rw [View.read_writes_eq_canon _ _ _ (cover1_A_5 c i a3 h3 a4 h4 a5 h5 a6 h6 a7 h7 a8 h8 a9 h9 hc x0 x1 x2 x3 x4)]
  unfold kernelRun1_A
  dsimp only
  sl_unfold_words
  rw [View.canon_unit_zero (S := S512x1024) zero_offsets]
  simp only [View.readAt_eq_ld, h3.read_unread, h4.read_unread, h5.read_unread, h6.read_unread, h7.read_unread,
    View.ld_unit_zero (S := S512x1024) zero_offsets, View.ld_unit_zero (S := S512x4864) zero_offsets,
    View.ld_unit_zero (S := S1024x4864) zero_offsets, View.ld_unit_zero (S := S1x1024) zero_offsets]

/-- A later point's block of the residual gradient. -/
theorem out_B_5 (hc : ¬cond1_0 i) :
    out1_B_5 c i a3 h3 a4 h4 a5 h5 a6 h6 a7 h7 a8 h8 a9 h9 hc x0 x1 x2 x3 x4 x6 = k1_pay1 (k1_pay7 x0 x1 x2 x4) x3 := by
  unfold out1_B_5
  rw [View.read_writes_eq_canon _ _ _ (cover1_B_5 c i a3 h3 a4 h4 a5 h5 a6 h6 a7 h7 a8 h8 a9 h9 hc x0 x1 x2 x3 x4 x6)]
  unfold kernelRun1_B
  dsimp only
  sl_unfold_words
  rw [View.canon_unit_zero (S := S512x1024) zero_offsets]
  simp only [View.readAt_eq_ld, h3.read_unread, h4.read_unread, h5.read_unread, h6.read_unread, h7.read_unread,
    View.ld_unit_zero (S := S512x1024) zero_offsets, View.ld_unit_zero (S := S512x4864) zero_offsets,
    View.ld_unit_zero (S := S1024x4864) zero_offsets, View.ld_unit_zero (S := S1x1024) zero_offsets]

/-- The first row of the 8 by 1024 block of column sums. -/
abbrev firstRow : Rect S8x1024 := Rect.unit (s := S8x1024) ![0, 0] S1x1024.size inb_S8x1024_S1x1024_0_0

theorem firstRow_idx (x : S1x1024.Idx) (a : Fin S8x1024.rank) :
    (firstRow.idx x a).val = (![0, 0] : Fin S8x1024.rank → ℕ) a + (x a).val := by
  show (![0, 0] : Fin S8x1024.rank → ℕ) a + 1 * (x a).val = _
  rw [Nat.one_mul]

/-- The first row of a block just written whole is the written value's. -/
theorem firstRow_zero (w : Vec F S8x1024 .f32) :
    a9.view.readCov [(⟨Rect.unit (s := S8x1024) ![0, 0] S8x1024.size inb_S8x1024_S8x1024_0_0, w⟩ : View.Piece (Elt F) S8x1024 .f32)]
      firstRow.toLoadRect = View.ld w firstRow := by
  unfold View.readCov
  rw [View.readAt_eq_ld, View.read_writes_full]

/-- The first point leaves its column sums, added to zero, in the first row. -/
theorem out_A_6 (hc : cond1_0 i) (x : S1x1024.Idx) :
    out1_A_6 c i a3 h3 a4 h4 a5 h5 a6 h6 a7 h7 a8 h8 a9 h9 hc x0 x1 x2 x3 x4 (firstRow.idx x)
      = k1_pay2 (k1_pay8 x0 x1 x2) (View.ld (k1_pay3 (F := F)) firstRow) x := by
  unfold out1_A_6
  unfold kernelRun1_A
  dsimp only
  sl_unfold_words
  refine (View.read_writes_cons_unit_of_mem _ _ _ _ _ _ x rfl fun a => (firstRow_idx x a)).trans ?_
  refine (congrFun (congrArg (k1_pay2 _) (firstRow_zero a9 (k1_pay3 (F := F)))) x).trans ?_
  simp only [View.readAt_eq_ld, h3.read_unread, h4.read_unread, h5.read_unread,
    View.ld_unit_zero (S := S512x1024) zero_offsets, View.ld_unit_zero (S := S512x4864) zero_offsets,
    View.ld_unit_zero (S := S1024x4864) zero_offsets]

/-- A later point adds its column sums to the first row. -/
theorem out_B_6 (hc : ¬cond1_0 i) (x : S1x1024.Idx) :
    out1_B_6 c i a3 h3 a4 h4 a5 h5 a6 h6 a7 h7 a8 h8 a9 h9 hc x0 x1 x2 x3 x4 x6 (firstRow.idx x)
      = k1_pay2 (k1_pay8 x0 x1 x2) (View.ld x6 firstRow) x := by
  unfold out1_B_6
  unfold kernelRun1_B
  dsimp only
  sl_unfold_words
  refine (View.read_writes_cons_unit_of_mem _ _ _ _ _ _ x rfl fun a => (firstRow_idx x a)).trans ?_
  simp only [View.readAt_eq_ld, h3.read_unread, h4.read_unread, h5.read_unread, h9.read_unread,
    View.ld_unit_zero (S := S512x1024) zero_offsets, View.ld_unit_zero (S := S512x4864) zero_offsets,
    View.ld_unit_zero (S := S1024x4864) zero_offsets]

end Cert.InpIdeal.Hand
-- ==== Proof.Inp.Point.lean ====
/- What a grid point of each call of the input projection leaves, with its blocks as functions of coordinates. -/
module

public import proofs.«01_k».proof.Proof.Inp.Pieces
public import proofs.«01_k».proof.Proof.Rows
public import proofs.«01_k».proof.Proof.Ideal.Math

@[expose] public section

set_option maxRecDepth 8192

noncomputable section

namespace Cert.InpIdeal.Hand

open Cert.InpIdeal Cert.InpIdeal.Gen Idealize.ShloMosaic Cert.MlpMath Cert.Attn

/-! ## The products -/

/-- A product of blocks into zeros, at an index. -/
theorem inDot (x : FVec Ideal S1024x1024 .bf16) (y : FVec Ideal S1024x2432 .bf16) (A B : ℕ → ℕ → EReal)
    (hx : ∀ i, x i = (A (i 0).val (i 1).val)) (hy : ∀ i, y i = (B (i 0).val (i 1).val)) (i : S1024x2432.Idx) :
    matmul (F := Ideal) dot_S1024x1024_S1024x2432_S1024x2432_1_0_0_1_n_n none x y (constant S1024x2432 .f32 0x00000000#32) i
      = (∑ t : Fin 1024, A (i 0).val t.val * B t.val (i 1).val) :=
  product A B x y hx hy i

/-- A product of blocks into zeros, at an index. -/
theorem rowDot (x : FVec Ideal S512x4864 .bf16) (y : FVec Ideal S1024x4864 .bf16) (A B : ℕ → ℕ → EReal)
    (hx : ∀ i, x i = (A (i 0).val (i 1).val)) (hy : ∀ i, y i = (B (i 0).val (i 1).val)) (i : S512x1024.Idx) :
    matmul (F := Ideal) dot_S512x4864_S1024x4864_S512x1024_1_1_0_0_n_n none x y (constant S512x1024 .f32 0x00000000#32) i
      = (∑ t : Fin 4864, A (i 0).val t.val * B (i 1).val t.val) :=
  product_t A B x y hx hy i

/-! ## The forward call -/

variable (A B : ℕ → ℕ → EReal)

/-- The forward call's block: the product. -/
theorem proj_block (x0 : Vec Ideal S1024x1024 .bf16) (x1 : Vec Ideal S1024x2432 .bf16)
    (h0 : ∀ i, x0 i = (A (i 0).val (i 1).val)) (h1 : ∀ i, x1 i = (B (i 0).val (i 1).val)) (i : S1024x2432.Idx) :
    out0_2 x0 x1 i = (∑ k : Fin 1024, A (i 0).val k.val * B k.val (i 1).val) := by
  unfold out0_2
  rw [View.canon_unit_zero (S := S1024x2432) zero_offsets, View.ld_unit_zero (S := S1024x2432) zero_offsets,
    View.ld_unit_zero (S := S1024x1024) zero_offsets]
  unfold k0_pay1
  rw [shapeCast_self, shapeCast_self]
  exact inDot x0 x1 A B h0 h1 i

/-! ## The backward call of the projection and the norm -/

/-- A column's sum, kept as a row. -/
theorem col_sum (x : FVec Ideal S512x1024 .f32) (hx : ∀ i, x i = (A (i 0).val (i 1).val)) (i : S1x1024.Idx) :
    shapeCast S1x1024 (multiReduction .add [0] S1024 x 0x00000000#32 reduces_S512x1024_S1024 (.inl rfl) rfl) shapeCasts_S1024_S1x1024 i
      = (∑ l : Fin 512, A l.val (i 1).val) := by
  have b0 : (i 0).val < 1 := (i 0).isLt
  refine (shapeCast_apply _ _ i (fun a => match a with | ⟨0, _⟩ => ⟨(i 1).val, (i 1).isLt⟩ : S1024.Idx) ?_).trans ?_
  · rewrite [Shape.rowMajor_val_one, Shape.rowMajor_val_two]
    show (i 1).val = (i 0).val * 1024 + (i 1).val
    omega
  · refine (Ideal.multiReduction_add_single x _ _ _ _ _).trans ?_
    exact Finset.sum_congr rfl fun l _ => hx _

variable (P : ℕ → ℕ → EReal) (G : ℕ → EReal) (X Y : ℕ → ℕ → EReal)

/-- The normed row's cotangent at an index of the block. -/
abbrev dhLoc (a k : ℕ) : EReal := ∑ f : Fin 4864, P a f.val * B k f.val

variable (x0 : Vec Ideal S512x4864 .bf16) (x1 : Vec Ideal S1024x4864 .bf16) (x2 : Vec Ideal S512x1024 .f32) (x3 : Vec Ideal S512x1024 .f32)
  (x4 : Vec Ideal S1x1024 .f32)
  (h0 : ∀ i, x0 i = (P (i 0).val (i 1).val)) (h1 : ∀ i, x1 i = (B (i 0).val (i 1).val))
  (h2 : ∀ i, x2 i = (X (i 0).val (i 1).val)) (h3 : ∀ i, x3 i = (Y (i 0).val (i 1).val))
  (h4 : ∀ i, x4 i = (G (i 1).val))

include h0 h1 in
theorem pay4_at (i : S512x1024.Idx) : k1_pay4 x0 x1 i = (dhLoc B P (i 0).val (i 1).val) := by
  unfold k1_pay4
  rw [shapeCast_self, shapeCast_self]
  exact rowDot x0 x1 P B h0 h1 i

include h2 in
theorem pay5_at (i : S512x1.Idx) : k1_pay5 x2 i = (rs X (i 0).val) := by
  unfold k1_pay5
  show Ideal.rsqrt (Ideal.div (shapeCast S512x1 (multiReduction .add [1] S512 (mulf (F := Ideal) x2 x2) 0x00000000#32 reduces_S512x1024_S512 (.inl rfl) rfl) shapeCasts_S512_S512x1 i)
    (Ideal.ofBits .f32 0x44800000#32) + Ideal.ofBits .f32 0x358637BD#32) = _
  rw [rows_sum (fun a l => X a l * X a l) (mulf (F := Ideal) x2 x2) (fun j => by
    show x2 j * x2 j = _
    rw [h2]), bits_width, bits_eps]
  rfl

include h2 in
theorem pay6_at (i : S512x1024.Idx) : k1_pay6 x2 i = (xn X (i 0).val (i 1).val) := by
  unfold k1_pay6
  show x2 i * broadcastTo S512x1024 (k1_pay5 x2) broadcasts_S512x1_S512x1024 i = _
  rw [h2, column_spread (by decide) _ (rs X) (pay5_at X x2 h2)]
  rfl

include h0 h1 h2 in
theorem pay8_at (i : S512x1024.Idx) :
    k1_pay8 x0 x1 x2 i = (dhLoc B P (i 0).val (i 1).val * xn X (i 0).val (i 1).val) := by
  unfold k1_pay8
  show k1_pay4 x0 x1 i * k1_pay6 x2 i = _
  rw [pay4_at B P x0 x1 h0 h1, pay6_at X x2 h2]

include h0 h1 h2 h3 h4 in
/-- The residual gradient's block. -/
theorem dx_block (i : S512x1024.Idx) :
    k1_pay1 (k1_pay7 x0 x1 x2 x4) x3 i
      = (Y (i 0).val (i 1).val + rs X (i 0).val * (dhLoc B P (i 0).val (i 1).val * G (i 1).val
          - xn X (i 0).val (i 1).val * Ideal.div (∑ l : Fin 1024, dhLoc B P (i 0).val l.val * G l.val * xn X (i 0).val l.val) ((1024 : ℝ) : EReal))) := by
  have e24 : ∀ j : S512x1024.Idx, mulf (F := Ideal) (k1_pay4 x0 x1) (broadcastTo S512x1024 x4 broadcasts_S1x1024_S512x1024) j
      = (dhLoc B P (j 0).val (j 1).val * G (j 1).val) := fun j => by
    show k1_pay4 x0 x1 j * broadcastTo S512x1024 x4 broadcasts_S1x1024_S512x1024 j = _
    rw [pay4_at B P x0 x1 h0 h1, row_spread x4 G h4]
  have e25 : ∀ j : S512x1024.Idx, mulf (F := Ideal) (mulf (F := Ideal) (k1_pay4 x0 x1) (broadcastTo S512x1024 x4 broadcasts_S1x1024_S512x1024)) (k1_pay6 x2) j
      = (dhLoc B P (j 0).val (j 1).val * G (j 1).val * xn X (j 0).val (j 1).val) := fun j => by
    show mulf (F := Ideal) (k1_pay4 x0 x1) (broadcastTo S512x1024 x4 broadcasts_S1x1024_S512x1024) j * k1_pay6 x2 j = _
    rw [e24, pay6_at X x2 h2]
  unfold k1_pay1 k1_pay7
  rw [shapeCast_self]
  refine (show _ = x3 i + broadcastTo S512x1024 (k1_pay5 x2) broadcasts_S512x1_S512x1024 i
    * (mulf (F := Ideal) (k1_pay4 x0 x1) (broadcastTo S512x1024 x4 broadcasts_S1x1024_S512x1024) i
      - k1_pay6 x2 i * broadcastTo S512x1024 (divf (F := Ideal) (shapeCast S512x1 (multiReduction .add [1] S512
          (mulf (F := Ideal) (mulf (F := Ideal) (k1_pay4 x0 x1) (broadcastTo S512x1024 x4 broadcasts_S1x1024_S512x1024)) (k1_pay6 x2))
          0x00000000#32 reduces_S512x1024_S512 (.inl rfl) rfl) shapeCasts_S512_S512x1) (broadcast S512x1 (Scalar.ofBits (F := Ideal) .f32 0x44800000#32)))
        broadcasts_S512x1_S512x1024 i) from rfl).trans ?_
  rw [h3, column_spread (by decide) _ (rs X) (pay5_at X x2 h2), e24, pay6_at X x2 h2,
    column_spread (by decide) _ (fun a => Ideal.div (∑ l : Fin 1024, dhLoc B P a l.val * G l.val * xn X a l.val) ((1024 : ℝ) : EReal)) (fun j => by
      show Ideal.div (shapeCast S512x1 _ shapeCasts_S512_S512x1 j) (Ideal.ofBits .f32 0x44800000#32) = _
      rw [rows_sum (fun a l => dhLoc B P a l * G l * xn X a l) _ e25, bits_width])]

include h0 h1 h2 in
/-- The column sums a point adds to the first row. -/
theorem gain_block (x6 : Vec Ideal S1x1024 .f32) (g : ℕ → EReal) (h6 : ∀ i, x6 i = (g (i 1).val)) (i : S1x1024.Idx) :
    k1_pay2 (k1_pay8 x0 x1 x2) x6 i
      = (g (i 1).val + ∑ l : Fin 512, dhLoc B P l.val (i 1).val * xn X l.val (i 1).val) := by
  unfold k1_pay2
  rw [shapeCast_self]
  show x6 i + shapeCast S1x1024 (multiReduction (F := Ideal) .add [0] S1024 (k1_pay8 x0 x1 x2) 0x00000000#32 reduces_S512x1024_S1024 (.inl rfl) rfl) shapeCasts_S1024_S1x1024 i = _
  rw [h6, col_sum (fun a l => dhLoc B P a l * xn X a l) _ (pay8_at B P X x0 x1 x2 h0 h1 h2)]

end Cert.InpIdeal.Hand
-- ==== Proof.Inp.Arr.lean ====
/- The arrays the calls of the input projection leave: the points' blocks read at the arrays' indices. -/
module

public import proofs.«01_k».proof.Proof.Inp.Math
public import proofs.«01_k».proof.Proof.Inp.Point
public import proofs.«01_k».proof.Proof.Ideal.Grad
public import Idealize.ShloMosaic.Lib.Pipeline.ValueKit.Geometry

@[expose] public section

set_option maxRecDepth 16384

noncomputable section

namespace Cert.InpIdeal.Hand

open Cert.InpIdeal Cert.InpIdeal.Gen Idealize.ShloMosaic Idealize.ShloMosaic.TcCoe Idealize.ShloMosaic.Pipeline Cert.Attn Cert.MlpMath

theorem index0_0 : ∀ t : Fin cfg0.N, win0_0.index t = ![t.val % 16, 0] := (by decide +kernel : ∀ t : Fin grid0.N, _)
theorem index0_1 : ∀ t : Fin cfg0.N, win0_1.index t = ![0, t.val / 16] := (by decide +kernel : ∀ t : Fin grid0.N, _)
theorem index0_2 : ∀ t : Fin cfg0.N, win0_2.index t = ![t.val % 16, t.val / 16] := (by decide +kernel : ∀ t : Fin grid0.N, _)
theorem index1_0 : ∀ t : Fin cfg1.N, win1_0.index t = ![t.val, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![t.val, 0] := (by decide +kernel : ∀ t : Fin grid1.N, _)
theorem index1_3 : ∀ t : Fin cfg1.N, win1_3.index t = ![t.val, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![t.val, 0] := (by decide +kernel : ∀ t : Fin grid1.N, _)
theorem index1_6 : ∀ t : Fin cfg1.N, win1_6.index t = ![0, 0] := (by decide +kernel : ∀ t : Fin grid1.N, _)

variable (V : (c : Dev nD) → (b : Ref sig .tc) → Buf (Elt Ideal) ((c : Thread nD τ).loc b)) (c : Dev nD)
variable (X : ℕ → ℕ → EReal) (G : ℕ → EReal) (U Y P : ℕ → ℕ → EReal)

/-! ## The forward call -/

section Forward

variable (hh : ∀ i, (V c main_v14 : (⟨S16384x1024, .bf16⟩ : BufTy).Contents (Elt Ideal)) i = (hm X G (i 0).val (i 1).val))
variable (hu : ∀ i, (V c main_v15 : (⟨S1024x4864, .bf16⟩ : BufTy).Contents (Elt Ideal)) i = (U (i 0).val (i 1).val))

include hh in
theorem blk0_0 (t : Fin cfg0.N) (i : S1024x1024.Idx) :
    (iblk0 V c 0 t : Vec Ideal S1024x1024 .bf16) i = (hm X G (t.val % 16 * 1024 + (i 0).val) (i 1).val) := by
  blk_simp [iblk0]
  refine (hh _).trans ?_
  blk_simp [index0_0]

include hu in
theorem blk0_1 (t : Fin cfg0.N) (i : S1024x2432.Idx) :
    (iblk0 V c 1 t : Vec Ideal S1024x2432 .bf16) i = (U (i 0).val (t.val / 16 * 2432 + (i 1).val)) := by
  blk_simp [iblk0]
  refine (hu _).trans ?_
  blk_simp [index0_1]

/-- The projection. -/
def projArr : (⟨S16384x4864, .bf16⟩ : BufTy).Contents (Elt Ideal) := fun i => (up X G U (i 0).val (i 1).val)

include hh hu in
theorem proj_arr : (dat0 V c).arrAt 2 cfg0.N = projArr X G U := by
  refine (dat0 V c).arrAt_eq_of_covers 2 _ (by decide +kernel) fun t hf y => ?_
  have hN : t.val < 32 := t.isLt
  blk_simp
  rw [after0_2]
  refine (proj_block (fun a k => hm X G (t.val % 16 * 1024 + a) k) (fun k f => U k (t.val / 16 * 2432 + f)) _ _
    (blk0_0 V c X G hh t) (blk0_1 V c U hu t) y).trans ?_
  unfold projArr
  blk_simp [index0_2]
  rfl

end Forward

/-! ## The projection's and the norm's gradients -/

section Norm

variable (hp : ∀ i, (V c main_v16 : (⟨S16384x4864, .bf16⟩ : BufTy).Contents (Elt Ideal)) i = (P (i 0).val (i 1).val))
variable (hu : ∀ i, (V c main_v15 : (⟨S1024x4864, .bf16⟩ : BufTy).Contents (Elt Ideal)) i = (U (i 0).val (i 1).val))
variable (hx : ∀ i, (V c main_arg0 : (⟨S16384x1024, .f32⟩ : BufTy).Contents (Elt Ideal)) i = (X (i 0).val (i 1).val))
variable (hy : ∀ i, (V c main_arg3 : (⟨S16384x1024, .f32⟩ : BufTy).Contents (Elt Ideal)) i = (Y (i 0).val (i 1).val))
variable (hg : ∀ i, (V c main_v0 : (⟨S1x1024, .f32⟩ : BufTy).Contents (Elt Ideal)) i = (G (i 1).val))

include hp in
theorem blk1_0 (t : Fin cfg1.N) (i : S512x4864.Idx) :
    (iblk1 V c 0 t : Vec Ideal S512x4864 .bf16) i = (P (t.val * 512 + (i 0).val) (i 1).val) := by
  blk_simp [iblk1]
  refine (hp _).trans ?_
  blk_simp [index1_0]

include hu in
theorem blk1_1 (t : Fin cfg1.N) (i : S1024x4864.Idx) :
    (iblk1 V c 1 t : Vec Ideal S1024x4864 .bf16) i = (U (i 0).val (i 1).val) := by
  blk_simp [iblk1]
  refine (hu _).trans ?_
  blk_simp [index1_1]

include hx in
theorem blk1_2 (t : Fin cfg1.N) (i : S512x1024.Idx) :
    (iblk1 V c 2 t : Vec Ideal S512x1024 .f32) i = (X (t.val * 512 + (i 0).val) (i 1).val) := by
  blk_simp [iblk1]
  refine (hx _).trans ?_
  blk_simp [index1_2]

include hy in
theorem blk1_3 (t : Fin cfg1.N) (i : S512x1024.Idx) :
    (iblk1 V c 3 t : Vec Ideal S512x1024 .f32) i = (Y (t.val * 512 + (i 0).val) (i 1).val) := by
  blk_simp [iblk1]
  refine (hy _).trans ?_
  blk_simp [index1_3]

include hg in
theorem blk1_4 (t : Fin cfg1.N) (i : S1x1024.Idx) :
    (iblk1 V c 4 t : Vec Ideal S1x1024 .f32) i = (G (i 1).val) := by
  blk_simp [iblk1]
  refine (hg _).trans ?_
  blk_simp [index1_4]

/-- What a point leaves of the residual gradient, whichever case runs. -/
theorem rows_eq (t : Fin cfg1.N) : (outsAt1 V c t.val t.isLt).1
    = k1_pay1 (k1_pay7 (iblk1 V c 0 t) (iblk1 V c 1 t) (iblk1 V c 2 t) (iblk1 V c 4 t)) (iblk1 V c 3 t) := by
  by_cases h0 : t.val % 32 = 0
  · have e := out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) ((hcond1_0 t).mpr h0)
    rw [outsAt1_A V c t h0]
    dsimp only
    rw [e]
  · have e := out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t)
      (outsAt1 V c (t.val - 1) (Nat.lt_of_le_of_lt (Nat.sub_le _ _) t.isLt)).2 (fun h => h0 ((hcond1_0 t).mp h))
    rw [outsAt1_B V c t h0]
    dsimp only
    rw [e]

/-- The first point's row of column sums. -/
theorem sums_first (t : Fin cfg1.N) (h0 : t.val % 32 = 0) (x : S1x1024.Idx) : (outsAt1 V c t.val t.isLt).2 (firstRow.idx x)
    = k1_pay2 (k1_pay8 (iblk1 V c 0 t) (iblk1 V c 1 t) (iblk1 V c 2 t)) (View.ld (k1_pay3 (F := Ideal)) firstRow) x := by
  have e := out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) ((hcond1_0 t).mpr h0) x
  rw [outsAt1_A V c t h0]
  dsimp only
  rw [e]

/-- A later point's row of column sums. -/
theorem sums_later (t : Fin cfg1.N) (h0 : ¬ t.val % 32 = 0) (x : S1x1024.Idx) : (outsAt1 V c t.val t.isLt).2 (firstRow.idx x)
    = k1_pay2 (k1_pay8 (iblk1 V c 0 t) (iblk1 V c 1 t) (iblk1 V c 2 t))
        (View.ld (outsAt1 V c (t.val - 1) (Nat.lt_of_le_of_lt (Nat.sub_le _ _) t.isLt)).2 firstRow) x := by
  have e := out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t)
    (outsAt1 V c (t.val - 1) (Nat.lt_of_le_of_lt (Nat.sub_le _ _) t.isLt)).2 (fun h => h0 ((hcond1_0 t).mp h)) x
  rw [outsAt1_B V c t h0]
  dsimp only
  rw [e]

/-- The residual gradient. -/
def dxArr : (⟨S16384x1024, .f32⟩ : BufTy).Contents (Elt Ideal) := fun i => (normDx X G (inDh U P) Y (i 0).val (i 1).val)

include hp hu hx hy hg in
theorem dx_arr : (dat1 V c).arrAt 5 cfg1.N = dxArr X G U Y P := by
  refine (dat1 V c).arrAt_eq_of_covers 5 _ (by decide +kernel) fun t hf y => ?_
  have hN : t.val < 32 := t.isLt
  blk_simp
  rw [after1_5, rows_eq]
  refine (dx_block U (fun a f => P (t.val * 512 + a) f) G (fun a k => X (t.val * 512 + a) k) (fun a k => Y (t.val * 512 + a) k) _ _ _ _ _
    (blk1_0 V c P hp t) (blk1_1 V c U hu t) (blk1_2 V c X hx t) (blk1_3 V c Y hy t) (blk1_4 V c G hg t) y).trans ?_
  unfold dxArr
  blk_simp [index1_5]
  rfl

include hp hu hx in
/-- The first row of the column sums after a point: the rows of the tiles up to the point's. -/
theorem sums_at : ∀ (n : ℕ) (hn : n < cfg1.N) (x : S1x1024.Idx), (outsAt1 V c n hn).2 (firstRow.idx x)
    = (∑ b ∈ Finset.range (n + 1), ∑ l : Fin 512, inDh U P (b * 512 + l.val) (x 1).val * xn X (b * 512 + l.val) (x 1).val)
  | 0, hn, x => by
    refine (sums_first V c ⟨0, hn⟩ rfl x).trans (((gain_block U (fun a f => P (0 * 512 + a) f) (fun a k => X (0 * 512 + a) k) _ _ _
      (blk1_0 V c P hp ⟨0, hn⟩) (blk1_1 V c U hu ⟨0, hn⟩) (blk1_2 V c X hx ⟨0, hn⟩) _ (fun _ => 0) (fun i => ?_) x).trans ?_))
    · exact Ideal.ofBits_zero_f32
    · rw [Finset.sum_range_one, zero_add]
      rfl
  | n + 1, hn, x => by
    have hN : n + 1 < 32 := hn
    refine (sums_later V c ⟨n + 1, hn⟩ (by show ¬ (n + 1) % 32 = 0; omega) x).trans (((gain_block U (fun a f => P ((n + 1) * 512 + a) f) (fun a k => X ((n + 1) * 512 + a) k) _ _ _
      (blk1_0 V c P hp ⟨n + 1, hn⟩) (blk1_1 V c U hu ⟨n + 1, hn⟩) (blk1_2 V c X hx ⟨n + 1, hn⟩) _
      (fun k => ∑ b ∈ Finset.range (n + 1), ∑ l : Fin 512, inDh U P (b * 512 + l.val) k * xn X (b * 512 + l.val) k)
      (fun i => sums_at n (Nat.lt_of_succ_lt hn) i) x).trans ?_))
    rw [Finset.sum_range_succ _ (n + 1)]
    rfl

/-- The block of column sums is written back once, after the last point. -/
theorem sums_arr : (dat1 V c).arrAt 6 cfg1.N = (outsAt1 V c 31 (by decide)).2 := by
  refine (dat1 V c).arrAt_eq_of_covers 6 _ (by decide +kernel) fun t hf y => ?_
  have h7 : t.val = 31 := by
    have h := (flush1_6 t).1 hf
    have hN : t.val < 32 := t.isLt
    omega
  have et : ∀ (a b : ℕ) (ha : a < cfg1.N) (hb : b < cfg1.N), a = b → (outsAt1 V c a ha).2 = (outsAt1 V c b hb).2 :=
    fun a b ha hb h => by subst h; rfl
  blk_simp
  rw [after1_6]
  refine (congrFun (et _ _ t.isLt (by decide) h7) y).trans (congrArg (outsAt1 V c 31 (by decide)).2 (funext fun a => Fin.ext ?_))
  match a with
  | ⟨0, _⟩ => blk_simp [index1_6]
  | ⟨1, _⟩ => blk_simp [index1_6]

include hp hu hx in
/-- The first row of the column sums is the gain's gradient. -/
theorem gain_arr (i : S8x1024.Idx) (h : (i 0).val = 0) :
    ((dat1 V c).arrAt 6 cfg1.N : (⟨S8x1024, .f32⟩ : BufTy).Contents (Elt Ideal)) i = (normGain X (inDh U P) (i 1).val) := by
  have hi : firstRow.idx (fun a => match a with | ⟨0, _⟩ => ⟨0, Nat.one_pos⟩ | ⟨1, _⟩ => ⟨(i 1).val, (i 1).isLt⟩ : S1x1024.Idx) = i := by
    funext a
    refine Fin.ext ((firstRow_idx _ a).trans ?_)
    match a with
    | ⟨0, _⟩ => exact h.symm
    | ⟨1, _⟩ => show 0 + (i 1).val = (i 1).val; omega
  rw [sums_arr]
  refine (congrArg (outsAt1 V c 31 (by decide)).2 hi.symm).trans
    ((sums_at V c X U P hp hu hx 31 (by decide) _).trans ?_)
  have e := (Cert.KernelIdeal.Hand.sum_pairs 32 512 fun r => inDh U P r (i 1).val * xn X r (i 1).val).symm
  simp only [Nat.reduceMul] at e
  unfold normGain
  exact e

end Norm

end Cert.InpIdeal.Hand

end
-- ==== Proof.Inp.Ref.lean ====
/- The reference's results: the projection and the gradients of the norm before it, as functions of coordinates. -/
module

public import proofs.«01_k».proof.Proof.Gen.InpReferenceIdeal.Read
public import proofs.«01_k».proof.Proof.Inp.Math

@[expose] public section

set_option maxRecDepth 8192

noncomputable section

namespace Cert.InpReferenceIdeal.Hand

open Cert.InpReferenceIdeal Cert.InpReferenceIdeal.Gen Cert.InpReferenceIdeal.Read Idealize.ShloMosaic Cert.Attn Cert.MlpMath

theorem zero_bits_add (r : EReal) : Ideal.ofBits .f32 0x00000000#32 + r = r := by
  rw [Ideal.ofBits_zero_f32, zero_add]

variable (X : ℕ → ℕ → EReal) (G : ℕ → EReal) (U Y P : ℕ → ℕ → EReal)
variable {x0 : (⟨S16384x1024, .f32⟩ : BufTy).Contents (Elt Ideal)} {x1 : (⟨S1024, .f32⟩ : BufTy).Contents (Elt Ideal)}
  {x2 : (⟨S1024x4864, .f32⟩ : BufTy).Contents (Elt Ideal)} {x3 : (⟨S16384x1024, .f32⟩ : BufTy).Contents (Elt Ideal)}
  {x4 : (⟨S16384x4864, .f32⟩ : BufTy).Contents (Elt Ideal)}
variable (h0 : ∀ i, x0 i = (X (i 0).val (i 1).val)) (h1 : ∀ i, x1 i = (G (i 0).val))
  (h2 : ∀ i, x2 i = (U (i 0).val (i 1).val)) (h3 : ∀ i, x3 i = (Y (i 0).val (i 1).val))
  (h4 : ∀ i, x4 i = (P (i 0).val (i 1).val))

include h0 in
/-- The rows' shifted mean squares. -/
theorem v6_at (i : S16384x1.Idx) : val_main_v6 (F := Ideal) x0 i = (ms X (i 0).val) := by
  have e1 : val_main_v1 (F := Ideal) x0 (idx_main_v2 i) = (∑ k : Fin 1024, X (i 0).val k.val * X (i 0).val k.val) := by
    rw [val_main_v1_apply, val_main_cst_apply]
    simp only [val_main_v0_apply, h0]
    refine Eq.trans ?_ (zero_bits_add _)
    rfl
  rw [val_main_v6_apply, val_main_v4_apply, val_main_v2_apply, e1, val_main_v3_apply, val_main_cst_0_apply, val_main_v5_apply, val_main_cst_1_apply]
  show Ideal.div (∑ k : Fin 1024, X (i 0).val k.val * X (i 0).val k.val) (Ideal.ofBits .f32 0x44800000#32) + Ideal.ofBits .f32 0x358637BD#32 = _
  rw [bits_width, bits_eps]
  rfl

include h0 in
theorem v7_at (i : S16384x1.Idx) : val_main_v7 (F := Ideal) x0 i = (rs X (i 0).val) := by
  rw [val_main_v7_apply, v6_at X h0]
  rfl

include h0 in
theorem v12_at (i : S16384x1024.Idx) : val_main_v12 (F := Ideal) x0 i = (xn X (i 0).val (i 1).val) := by
  rw [val_main_v12_apply, val_main_v11_apply, v7_at X h0, h0]
  rfl

include h0 h1 in
theorem v15_at (i : S16384x1024.Idx) : val_main_v15 (F := Ideal) x0 x1 i = (hm X G (i 0).val (i 1).val) := by
  rw [val_main_v15_apply, v12_at X h0, val_main_v14_apply, val_main_v13_apply, h1]
  rfl

include h0 h1 h2 in
theorem v16_at (i : S16384x4864.Idx) : val_main_v16 (F := Ideal) x0 x1 x2 i = (up X G U (i 0).val (i 1).val) := by
  rw [val_main_v16_apply]
  simp only [v15_at X G h0 h1, h2]
  rfl

include h2 h4 in
theorem v19_at (i : S16384x1024.Idx) : val_main_v19 (F := Ideal) x2 x4 i = (inDh U P (i 0).val (i 1).val) := by
  rw [val_main_v19_apply]
  simp only [h4, h2]
  rfl

include h1 h2 h4 in
theorem v24_at (i : S16384x1024.Idx) :
    val_main_v24 (F := Ideal) x1 x2 x4 i = (inDh U P (i 0).val (i 1).val * G (i 1).val) := by
  rw [val_main_v24_apply, v19_at U P h2 h4, val_main_v23_apply, val_main_v13_apply, h1]
  rfl

include h0 h2 h4 in
/-- The gain's gradient. -/
theorem v25_at (i : S1024.Idx) : val_main_v25 (F := Ideal) x0 x2 x4 i = (normGain X (inDh U P) (i 0).val) := by
  have e37 : ∀ j : S1024.Idx, val_main_v21 (F := Ideal) x0 x2 x4 j = (normGain X (inDh U P) (j 0).val) := fun j => by
    rw [val_main_v21_apply, val_main_cst_3_apply]
    simp only [val_main_v20_apply, v12_at X h0, v19_at U P h2 h4]
    refine Eq.trans ?_ (zero_bits_add _)
    refine congrArg (Ideal.ofBits .f32 0x00000000#32 + ·) ?_
    exact Finset.sum_congr rfl fun t _ => mul_comm _ _
  rw [val_main_v25_apply, val_main_cst_4_apply, Fin.sum_univ_one, val_main_v22_apply, e37]
  refine (zero_bits_add _).trans ?_
  show normGain X (inDh U P) (0 * 1024 + (i 0).val) = _
  rw [Nat.zero_mul, Nat.zero_add]

include h0 h1 h2 h4 in
theorem v36_at (i : S16384x1024.Idx) : val_main_v36 (F := Ideal) x0 x1 x2 x4 i = normTerm X G (inDh U P) (i 0).val := by
  have e43 : ∀ j : S16384.Idx, val_main_v27 (F := Ideal) x0 x1 x2 x4 j
      = (∑ l : Fin 1024, X (j 0).val l.val * (inDh U P (j 0).val l.val * G l.val)) := fun j => by
    rw [val_main_v27_apply, val_main_cst_5_apply]
    simp only [val_main_v26_apply, h0, v24_at G U P h1 h2 h4]
    refine Eq.trans ?_ (zero_bits_add _)
    rfl
  rw [val_main_v36_apply, val_main_v35_apply, val_main_cst_7_apply, Fin.sum_univ_one, val_main_v34_apply, val_main_v32_apply, val_main_v28_apply, e43,
    val_main_v10_apply, val_main_v9_apply, val_main_cst_2_apply, val_main_v8_apply, v7_at X h0, v6_at X h0, val_main_v33_apply, val_main_cst_6_apply]
  refine (zero_bits_add _).trans ?_
  rw [show (idx_main_v28 (idx_main_v35 (idx_main_v36 i) 0) 0).val = (i 0).val by show (i 0).val * 1 + 0 = _; omega]
  show Ideal.div ((∑ l : Fin 1024, X (i 0).val l.val * (inDh U P (i 0).val l.val * G l.val))
    * (Ideal.ofBits .f32 0xBF000000#32 * Ideal.div (rs X (i 0).val) (ms X (i 0).val))) (Ideal.ofBits .f32 0x44800000#32) = _
  rw [bits_width, bits_neg_half]
  rfl

include h0 h1 h2 h3 h4 in
/-- The rows' gradient. -/
theorem v40_at (i : S16384x1024.Idx) : val_main_v40 (F := Ideal) x0 x1 x2 x3 x4 i = (normDx X G (inDh U P) Y (i 0).val (i 1).val) := by
  rw [val_main_v40_apply, val_main_v39_apply, val_main_v38_apply, val_main_v37_apply, val_main_v31_apply, val_main_v30_apply, val_main_v29_apply,
    v36_at X G U P h0 h1 h2 h4, v24_at G U P h1 h2 h4, v7_at X h0, h0, h3]
  exact norm_chain X G (inDh U P) Y _ _

end Cert.InpReferenceIdeal.Hand

end
-- ==== Proof.Inp.Host.lean ====
/- What the host operations around the calls of the input projection leave, as functions of the arguments. -/
module

public import proofs.«01_k».proof.Proof.Gen.InpIdeal.Frame
public import proofs.«01_k».proof.Proof.Inp.Ref
public import Idealize.ShloMosaic.Lib.StableHlo.Run

@[expose] public section

set_option maxRecDepth 16384

noncomputable section

namespace Cert.InpIdeal.Hand

open Cert.InpIdeal Cert.InpIdeal.Gen Idealize.ShloMosaic Idealize.ShloMosaic.TcCoe Idealize.SL.Sem Idealize.ShloMosaic.StableHlo Cert.MlpMath

variable (m : (ℓ : Loc nD τ sig) → Buf (Elt Ideal) ℓ) (ρ : Dev nD → PrngReg) (c : Dev nD)

/-- The normed rows the forward call reads. -/
theorem V1_hm : (W1 m ρ c main_v14 : S16384x1024.Idx → EReal)
    = Cert.InpReferenceIdeal.Read.val_main_v15 (F := Ideal) (m ((c : Thread nD τ).loc main_arg0)) (m ((c : Thread nD τ).loc main_arg1)) := by
  show StableHlo.after hostOps0 (W0 m ρ c) _ = _
  after_results_simp <;> rfl

/-- The projection's weights. -/
theorem V1_in : (W1 m ρ c main_v15 : S1024x4864.Idx → EReal) = m ((c : Thread nD τ).loc main_arg2) := by
  show StableHlo.after hostOps0 (W0 m ρ c) _ = _
  after_results_simp <;> rfl

/-- The projection's cotangent. -/
theorem V1_ct : (W1 m ρ c main_v16 : S16384x4864.Idx → EReal) = m ((c : Thread nD τ).loc main_arg4) := by
  show StableHlo.after hostOps0 (W0 m ρ c) _ = _
  after_results_simp <;> rfl

/-- The gain as a row. -/
theorem V1_gain : (W1 m ρ c main_v0 : S1x1024.Idx → EReal)
    = broadcastInDim S1x1024 ![1] bcast_S1024_S1x1024_1 (m ((c : Thread nD τ).loc main_arg1) : S1024.Idx → EReal) := by
  show StableHlo.after hostOps0 (W0 m ρ c) _ = _
  after_results_simp <;> rfl

/-- The gain's gradient is the first row of the block of column sums. -/
theorem W4_gain (i : S1024.Idx) : (W4 m ρ c main_v21 : S1024.Idx → EReal) i
    = (W3 m ρ c main_v18_1 : S8x1024.Idx → EReal) (fun a => match a with | ⟨0, _⟩ => ⟨0, Nat.succ_pos 7⟩ | ⟨1, _⟩ => ⟨(i 0).val, (i 0).isLt⟩) := by
  have e : (W4 m ρ c main_v21 : S1024.Idx → EReal) = shapeCast S1024 (extractStridedSlice S1x1024 ![0, 0] (W3 m ρ c main_v18_1 : S8x1024.Idx → EReal) slices_S8x1024_S1x1024_0_0) shapeCasts_S1x1024_S1024 := by
    show StableHlo.after hostOps2 (W3 m ρ c) _ = _
    after_results_simp <;> rfl
  rw [e]
  refine (shapeCast_apply _ _ i (fun a => match a with | ⟨0, _⟩ => ⟨0, Nat.one_pos⟩ | ⟨1, _⟩ => ⟨(i 0).val, (i 0).isLt⟩ : S1x1024.Idx) ?_).trans ?_
  · rewrite [Shape.rowMajor_val_one, Shape.rowMajor_val_two]
    show 0 * 1024 + (i 0).val = (i 0).val
    omega
  · refine congrArg (W3 m ρ c main_v18_1 : S8x1024.Idx → EReal) (funext fun a => Fin.ext ?_)
    match a with
    | ⟨0, _⟩ => rfl
    | ⟨1, _⟩ => show 0 + (i 0).val = (i 0).val; omega

/-- The projection's result is the call's, in the result's format. -/
theorem W4_proj : (W4 m ρ c main_v19 : S16384x4864.Idx → EReal) = (W3 m ρ c main_v17 : S16384x4864.Idx → EReal) := by
  show StableHlo.after hostOps2 (W3 m ρ c) _ = _
  after_results_simp <;> rfl

variable (X : ℕ → ℕ → EReal) (G : ℕ → EReal) (U Y P : ℕ → ℕ → EReal)
  (h0 : ∀ i : S16384x1024.Idx, (m ((c : Thread nD τ).loc main_arg0) : S16384x1024.Idx → EReal) i = (X (i 0).val (i 1).val))
  (h1 : ∀ i : S1024.Idx, (m ((c : Thread nD τ).loc main_arg1) : S1024.Idx → EReal) i = (G (i 0).val))
  (h2 : ∀ i : S1024x4864.Idx, (m ((c : Thread nD τ).loc main_arg2) : S1024x4864.Idx → EReal) i = (U (i 0).val (i 1).val))
  (h3 : ∀ i : S16384x1024.Idx, (m ((c : Thread nD τ).loc main_arg3) : S16384x1024.Idx → EReal) i = (Y (i 0).val (i 1).val))
  (h4 : ∀ i : S16384x4864.Idx, (m ((c : Thread nD τ).loc main_arg4) : S16384x4864.Idx → EReal) i = (P (i 0).val (i 1).val))

include h0 h1 in
theorem V1_hm_at (i : S16384x1024.Idx) : (W1 m ρ c main_v14 : S16384x1024.Idx → EReal) i = (hm X G (i 0).val (i 1).val) := by
  rw [V1_hm]
  exact Cert.InpReferenceIdeal.Hand.v15_at X G h0 h1 i

include h1 in
theorem V1_gain_at (i : S1x1024.Idx) : (W1 m ρ c main_v0 : S1x1024.Idx → EReal) i = (G (i 1).val) := by
  rw [V1_gain]
  exact h1 _

end Cert.InpIdeal.Hand

end
-- ==== Proof.Inp.Value.lean ====
/- The input projection's three results are the reference's. -/
module

public import proofs.«01_k».proof.Proof.Inp.Arr
public import proofs.«01_k».proof.Proof.Inp.Host
public import proofs.«01_k».proof.Proof.Fn

@[expose] public section

set_option maxRecDepth 16384

noncomputable section

namespace Cert.InpIdeal.Hand

open Cert.InpIdeal Cert.InpIdeal.Gen Idealize.ShloMosaic Idealize.ShloMosaic.TcCoe Idealize.ShloMosaic.Pipeline Cert.MlpMath

variable (m : (ℓ : Loc nD τ sig) → Buf (Elt Ideal) ℓ) (ρ : Dev nD → PrngReg) (c : Dev nD)

variable (X : ℕ → ℕ → EReal) (G : ℕ → EReal) (U Y P : ℕ → ℕ → EReal)
  (h0 : ∀ i : S16384x1024.Idx, (m ((c : Thread nD τ).loc main_arg0) : S16384x1024.Idx → EReal) i = (X (i 0).val (i 1).val))
  (h1 : ∀ i : S1024.Idx, (m ((c : Thread nD τ).loc main_arg1) : S1024.Idx → EReal) i = (G (i 0).val))
  (h2 : ∀ i : S1024x4864.Idx, (m ((c : Thread nD τ).loc main_arg2) : S1024x4864.Idx → EReal) i = (U (i 0).val (i 1).val))
  (h3 : ∀ i : S16384x1024.Idx, (m ((c : Thread nD τ).loc main_arg3) : S16384x1024.Idx → EReal) i = (Y (i 0).val (i 1).val))
  (h4 : ∀ i : S16384x4864.Idx, (m ((c : Thread nD τ).loc main_arg4) : S16384x4864.Idx → EReal) i = (P (i 0).val (i 1).val))

include h2 in
theorem W1_in_at (i : S1024x4864.Idx) : (W1 m ρ c main_v15 : S1024x4864.Idx → EReal) i = (U (i 0).val (i 1).val) := by
  rw [V1_in]
  exact h2 i

include h0 h1 h2 in
/-- The projection. -/
theorem W4_proj_at (i : S16384x4864.Idx) : (W4 m ρ c main_v19 : S16384x4864.Idx → EReal) i = (up X G U (i 0).val (i 1).val) := by
  rw [W4_proj, W3_of m ρ c main_v17 (by decide +kernel)]
  exact (congrFun ((W2_arr m ρ c 2).trans (proj_arr (V1 m ρ) c X G U (V1_hm_at m ρ c X G h0 h1) (W1_in_at m ρ c U h2))) i :)

include h4 in
theorem W2_ct (i : S16384x4864.Idx) : (W2 m ρ c main_v16 : S16384x4864.Idx → EReal) i = (P (i 0).val (i 1).val) := by
  rw [W2_of m ρ c main_v16 (by decide +kernel), V1_ct]
  exact h4 i

include h2 in
theorem W2_in (i : S1024x4864.Idx) : (W2 m ρ c main_v15 : S1024x4864.Idx → EReal) i = (U (i 0).val (i 1).val) := by
  rw [W2_of m ρ c main_v15 (by decide +kernel)]
  exact W1_in_at m ρ c U h2 i

include h1 in
theorem W2_gain (i : S1x1024.Idx) : (W2 m ρ c main_v0 : S1x1024.Idx → EReal) i = (G (i 1).val) := by
  rw [W2_of m ρ c main_v0 (by decide +kernel)]
  exact V1_gain_at m ρ c G h1 i

include h0 in
theorem W2_x (i : S16384x1024.Idx) : (W2 m ρ c main_arg0 : S16384x1024.Idx → EReal) i = (X (i 0).val (i 1).val) := by
  rw [W2_args m ρ c main_arg0 (by decide)]
  exact h0 i

include h3 in
theorem W2_y (i : S16384x1024.Idx) : (W2 m ρ c main_arg3 : S16384x1024.Idx → EReal) i = (Y (i 0).val (i 1).val) := by
  rw [W2_args m ρ c main_arg3 (by decide)]
  exact h3 i

include h0 h1 h2 h3 h4 in
/-- The residual's gradient. -/
theorem W4_dx (i : S16384x1024.Idx) : (W4 m ρ c main_v18_0 : S16384x1024.Idx → EReal) i = (normDx X G (inDh U P) Y (i 0).val (i 1).val) :=
  (congrFun ((W4_of m ρ c main_v18_0 (by decide)).trans ((W3_arr m ρ c 5).trans (dx_arr (V2 m ρ) c X G U Y P (W2_ct m ρ c P h4)
    (W2_in m ρ c U h2) (W2_x m ρ c X h0) (W2_y m ρ c Y h3) (W2_gain m ρ c G h1)))) i :)

include h0 h2 h4 in
/-- The gain's gradient. -/
theorem W4_dgain (i : S1024.Idx) : (W4 m ρ c main_v21 : S1024.Idx → EReal) i = (normGain X (inDh U P) (i 0).val) := by
  refine (W4_gain m ρ c i).trans ?_
  refine (congrFun (W3_arr m ρ c 6) _).trans ?_
  exact gain_arr (V2 m ρ) c X U P (W2_ct m ρ c P h4) (W2_in m ρ c U h2) (W2_x m ρ c X h0) _ rfl

/-- The three results: the reference's. -/
theorem results_eq
    (x0 : (⟨S16384x1024, .f32⟩ : BufTy).Contents (Elt Ideal)) (x1 : (⟨S1024, .f32⟩ : BufTy).Contents (Elt Ideal))
    (x2 : (⟨S1024x4864, .f32⟩ : BufTy).Contents (Elt Ideal)) (x3 : (⟨S16384x1024, .f32⟩ : BufTy).Contents (Elt Ideal))
    (x4 : (⟨S16384x4864, .f32⟩ : BufTy).Contents (Elt Ideal))
    (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4) :
    W4 m ρ c main_v19 = Cert.InpReferenceIdeal.Read.val_main_v16 (F := Ideal) x0 x1 x2
    ∧ W4 m ρ c main_v18_0 = Cert.InpReferenceIdeal.Read.val_main_v40 (F := Ideal) x0 x1 x2 x3 x4
    ∧ W4 m ρ c main_v21 = Cert.InpReferenceIdeal.Read.val_main_v25 (F := Ideal) x0 x2 x4 := by
  obtain ⟨X, h0⟩ := fn_two x0
  obtain ⟨G, h1⟩ := fn_one x1
  obtain ⟨U, h2⟩ := fn_two x2
  obtain ⟨Y, h3⟩ := fn_two x3
  obtain ⟨P, h4⟩ := fn_two x4
  have g0 := fun i => (congrFun e0 i).trans (h0 i)
  have g1 := fun i => (congrFun e1 i).trans (h1 i)
  have g2 := fun i => (congrFun e2 i).trans (h2 i)
  have g3 := fun i => (congrFun e3 i).trans (h3 i)
  have g4 := fun i => (congrFun e4 i).trans (h4 i)
  exact ⟨funext fun i => (W4_proj_at m ρ c X G U g0 g1 g2 i).trans (Cert.InpReferenceIdeal.Hand.v16_at X G U h0 h1 h2 i).symm,
    funext fun i => (W4_dx m ρ c X G U Y P g0 g1 g2 g3 g4 i).trans (Cert.InpReferenceIdeal.Hand.v40_at X G U Y P h0 h1 h2 h3 h4 i).symm,
    funext fun i => (W4_dgain m ρ c X U P g0 g2 g4 i).trans (Cert.InpReferenceIdeal.Hand.v25_at X U P h0 h2 h4 i).symm⟩

end Cert.InpIdeal.Hand

end
-- ==== Proof.Mlp.Run.lean ====
/- The backward's run: what every buffer outside the calls' own holds when it ends. -/
module

public import proofs.«01_k».proof.Proof.Gen.MlpIdeal.Frame

@[expose] public section

set_option maxRecDepth 16384

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the buffers at the last boundary's contents and the counters at zero. -/
theorem run_buffers : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c b hb => h c b hb, funext fun g => hz g (.inr (no_unscoped g.2))⟩)

end Cert.MlpIdeal.Hand

end
-- ==== Proof.Mlp.Pieces.lean ====
/- What the backward call of the up-projection leaves in its output blocks at a grid point, as values. -/
module

public import proofs.«01_k».proof.Proof.Gen.MlpIdeal.Frame
public import Idealize.ShloMosaic.Lib.Pipeline.Value
public import Idealize.ShloMosaic.Lib.VecWindow
public import Idealize.ShloMosaic.Lib.WritesUnit

@[expose] public section

set_option maxRecDepth 16384

noncomputable section

namespace Cert.MlpIdeal.Hand

open Cert.MlpIdeal Cert.MlpIdeal.Gen Idealize.ShloMosaic Idealize.ShloMosaic.TcCoe Idealize.ShloMosaic.Tactic Idealize.ShloMosaic.Pipeline

variable {F : FTy → Type} [FloatOps F]

theorem zero_offsets : (![0, 0] : Fin 2 → ℕ) = fun _ => 0 := by funext a; fin_cases a <;> rfl

variable (c : Dev nD) (i : grid2.Coords) (a3 : Memref sig .tc .vmem S512x4096 .bf16) (h3 : a3.IsWhole)
  (a4 : Memref sig .tc .vmem S1024x4096 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S8x1024 .f32) (h10 : a10.IsWhole)
  (x0 : Vec F S512x4096 .bf16) (x1 : Vec F S1024x4096 .bf16) (x2 : Vec F S512x1024 .f32) (x3 : Vec F S512x1024 .f32)
  (x4 : Vec F S1x1024 .f32) (x7 : Vec F S8x1024 .f32)

/-- The first point's block of the residual gradient. -/
theorem out_A_5 (hc : cond2_0 i) :
    out2_A_5 c i a3 h3 a4 h4 a5 h5 a6 h6 a7 h7 a8 h8 a9 h9 a10 h10 hc x0 x1 x2 x3 x4 = k2_pay1 (k2_pay8 x0 x1 x2 x4) x3 := by
  unfold out2_A_5
  rw [View.read_writes_eq_canon _ _ _ (cover2_A_5 c i a3 h3 a4 h4 a5 h5 a6 h6 a7 h7 a8 h8 a9 h9 a10 h10 hc x0 x1 x2 x3 x4)]
  unfold kernelRun2_A
  dsimp only
  sl_unfold_words
  rw [View.canon_unit_zero (S := S512x1024) zero_offsets]
  simp only [View.readAt_eq_ld, h3.read_unread, h4.read_unread, h5.read_unread, h6.read_unread, h7.read_unread,
    View.ld_unit_zero (S := S512x1024) zero_offsets, View.ld_unit_zero (S := S512x4096) zero_offsets,
    View.ld_unit_zero (S := S1024x4096) zero_offsets, View.ld_unit_zero (S := S1x1024) zero_offsets]

/-- A later point's block of the residual gradient. -/
theorem out_B_5 (hc : ¬cond2_0 i) :
    out2_B_5 c i a3 h3 a4 h4 a5 h5 a6 h6 a7 h7 a8 h8 a9 h9 a10 h10 hc x0 x1 x2 x3 x4 x7 = k2_pay1 (k2_pay8 x0 x1 x2 x4) x3 := by
  unfold out2_B_5
  rw [View.read_writes_eq_canon _ _ _ (cover2_B_5 c i a3 h3 a4 h4 a5 h5 a6 h6 a7 h7 a8 h8 a9 h9 a10 h10 hc x0 x1 x2 x3 x4 x7)]
  unfold kernelRun2_B
  dsimp only
  sl_unfold_words
  rw [View.canon_unit_zero (S := S512x1024) zero_offsets]
  simp only [View.readAt_eq_ld, h3.read_unread, h4.read_unread, h5.read_unread, h6.read_unread, h7.read_unread,
    View.ld_unit_zero (S := S512x1024) zero_offsets, View.ld_unit_zero (S := S512x4096) zero_offsets,
    View.ld_unit_zero (S := S1024x4096) zero_offsets, View.ld_unit_zero (S := S1x1024) zero_offsets]

/-- The first row of the 8 by 1024 block of column sums. -/
abbrev firstRow : Rect S8x1024 := Rect.unit (s := S8x1024) ![0, 0] S1x1024.size inb_S8x1024_S1x1024_0_0

theorem firstRow_idx (x : S1x1024.Idx) (a : Fin S8x1024.rank) :
    (firstRow.idx x a).val = (![0, 0] : Fin S8x1024.rank → ℕ) a + (x a).val := by
  show (![0, 0] : Fin S8x1024.rank → ℕ) a + 1 * (x a).val = _
  rw [Nat.one_mul]

/-- The first row of a block just written whole is the written value's. -/
theorem firstRow_zero (w : Vec F S8x1024 .f32) :
    a10.view.readCov [(⟨Rect.unit (s := S8x1024) ![0, 0] S8x1024.size inb_S8x1024_S8x1024_0_0, w⟩ : View.Piece (Elt F) S8x1024 .f32)]
      firstRow.toLoadRect = View.ld w firstRow := by
  unfold View.readCov
  rw [View.readAt_eq_ld, View.read_writes_full]

/-- The first point leaves its column sums, added to zero, in the first row. -/
theorem out_A_7 (hc : cond2_0 i) (x : S1x1024.Idx) :
    out2_A_7 c i a3 h3 a4 h4 a5 h5 a6 h6 a7 h7 a8 h8 a9 h9 a10 h10 hc x0 x1 x2 x3 x4 (firstRow.idx x)
      = k2_pay3 (k2_pay9 x0 x1 x2) (View.ld (k2_pay4 (F := F)) firstRow) x := by
  unfold out2_A_7
  unfold kernelRun2_A
  dsimp only
  sl_unfold_words
  refine (View.read_writes_cons_unit_of_mem _ _ _ _ _ _ x rfl fun a => (firstRow_idx x a)).trans ?_
  refine (congrFun (congrArg (k2_pay3 _) (firstRow_zero a10 (k2_pay4 (F := F)))) x).trans ?_
  simp only [View.readAt_eq_ld, h3.read_unread, h4.read_unread, h5.read_unread,
    View.ld_unit_zero (S := S512x1024) zero_offsets, View.ld_unit_zero (S := S512x4096) zero_offsets,
    View.ld_unit_zero (S := S1024x4096) zero_offsets]

/-- A later point adds its column sums to the first row. -/
theorem out_B_7 (hc : ¬cond2_0 i) (x : S1x1024.Idx) :
    out2_B_7 c i a3 h3 a4 h4 a5 h5 a6 h6 a7 h7 a8 h8 a9 h9 a10 h10 hc x0 x1 x2 x3 x4 x7 (firstRow.idx x)
      = k2_pay3 (k2_pay9 x0 x1 x2) (View.ld x7 firstRow) x := by
  unfold out2_B_7
  unfold kernelRun2_B
  dsimp only
  sl_unfold_words
  refine (View.read_writes_cons_unit_of_mem _ _ _ _ _ _ x rfl fun a => (firstRow_idx x a)).trans ?_
  simp only [View.readAt_eq_ld, h3.read_unread, h4.read_unread, h5.read_unread, h10.read_unread,
    View.ld_unit_zero (S := S512x1024) zero_offsets, View.ld_unit_zero (S := S512x4096) zero_offsets,
    View.ld_unit_zero (S := S1024x4096) zero_offsets]

end Cert.MlpIdeal.Hand
-- ==== Proof.Mlp.Point.lean ====
/- What a grid point of each call of the feed-forward backward leaves, with its blocks as functions of coordinates. -/
module

public import proofs.«01_k».proof.Proof.Mlp.Pieces
public import proofs.«01_k».proof.Proof.Rows
public import proofs.«01_k».proof.Proof.Ideal.Math

@[expose] public section

set_option maxRecDepth 8192

noncomputable section

namespace Cert.MlpIdeal.Hand

open Cert.MlpIdeal Cert.MlpIdeal.Gen Idealize.ShloMosaic Cert.MlpMath Cert.Attn

/-! ## The products -/

/-- A product of blocks into zeros, at an index. -/
theorem upDot (x : FVec Ideal S1024x1024 .bf16) (y : FVec Ideal S1024x2048 .bf16) (A B : ℕ → ℕ → EReal)
    (hx : ∀ i, x i = (A (i 0).val (i 1).val)) (hy : ∀ i, y i = (B (i 0).val (i 1).val)) (i : S1024x2048.Idx) :
    matmul (F := Ideal) dot_S1024x1024_S1024x2048_S1024x2048_1_0_0_1_n_n none x y (constant S1024x2048 .f32 0x00000000#32) i
      = (∑ t : Fin 1024, A (i 0).val t.val * B t.val (i 1).val) :=
  product A B x y hx hy i

/-- A product of blocks into zeros, at an index. -/
theorem actDot (x : FVec Ideal S1024x1024 .bf16) (y : FVec Ideal S2048x1024 .bf16) (A B : ℕ → ℕ → EReal)
    (hx : ∀ i, x i = (A (i 0).val (i 1).val)) (hy : ∀ i, y i = (B (i 0).val (i 1).val)) (i : S1024x2048.Idx) :
    matmul (F := Ideal) dot_S1024x1024_S2048x1024_S1024x2048_1_1_0_0_n_n none x y (constant S1024x2048 .f32 0x00000000#32) i
      = (∑ t : Fin 1024, A (i 0).val t.val * B (i 1).val t.val) :=
  product_t A B x y hx hy i

/-- A product of blocks into zeros, at an index. -/
theorem rowDot (x : FVec Ideal S512x4096 .bf16) (y : FVec Ideal S1024x4096 .bf16) (A B : ℕ → ℕ → EReal)
    (hx : ∀ i, x i = (A (i 0).val (i 1).val)) (hy : ∀ i, y i = (B (i 0).val (i 1).val)) (i : S512x1024.Idx) :
    matmul (F := Ideal) dot_S512x4096_S1024x4096_S512x1024_1_1_0_0_n_n none x y (constant S512x1024 .f32 0x00000000#32) i
      = (∑ t : Fin 4096, A (i 0).val t.val * B (i 1).val t.val) :=
  product_t A B x y hx hy i

/-! ## The forward call and the activation's gradient -/

variable (A B C : ℕ → ℕ → EReal)

/-- The forward call's block: the product's square above zero. -/
theorem act_block (x0 : Vec Ideal S1024x1024 .bf16) (x1 : Vec Ideal S1024x2048 .bf16)
    (h0 : ∀ i, x0 i = (A (i 0).val (i 1).val)) (h1 : ∀ i, x1 i = (B (i 0).val (i 1).val)) (i : S1024x2048.Idx) :
    out0_2 x0 x1 i
      = (max (∑ k : Fin 1024, A (i 0).val k.val * B k.val (i 1).val) 0 * max (∑ k : Fin 1024, A (i 0).val k.val * B k.val (i 1).val) 0) := by
  unfold out0_2
  rw [View.canon_unit_zero (S := S1024x2048) zero_offsets, View.ld_unit_zero (S := S1024x2048) zero_offsets,
    View.ld_unit_zero (S := S1024x1024) zero_offsets]
  unfold k0_pay1
  rw [shapeCast_self, shapeCast_self]
  show max (matmul (F := Ideal) dot_S1024x1024_S1024x2048_S1024x2048_1_0_0_1_n_n none x0 x1 (constant S1024x2048 .f32 0x00000000#32) i)
      (Ideal.ofBits .f32 0x00000000#32)
    * max (matmul (F := Ideal) dot_S1024x1024_S1024x2048_S1024x2048_1_0_0_1_n_n none x0 x1 (constant S1024x2048 .f32 0x00000000#32) i)
      (Ideal.ofBits .f32 0x00000000#32) = _
  rw [upDot x0 x1 A B h0 h1, Ideal.ofBits_zero_f32]

/-- The activation gradient's block: the product times twice the root of the saved activation. -/
theorem du_block (x0 : Vec Ideal S1024x1024 .bf16) (x1 : Vec Ideal S2048x1024 .bf16) (x2 : Vec Ideal S1024x2048 .bf16)
    (h0 : ∀ i, x0 i = (A (i 0).val (i 1).val)) (h1 : ∀ i, x1 i = (B (i 0).val (i 1).val))
    (h2 : ∀ i, x2 i = (C (i 0).val (i 1).val)) (i : S1024x2048.Idx) :
    out1_3 x0 x1 x2 i
      = ((∑ k : Fin 1024, A (i 0).val k.val * B (i 1).val k.val) * (((2 : ℝ) : EReal) * Ideal.sqrt (C (i 0).val (i 1).val))) := by
  unfold out1_3
  rw [View.canon_unit_zero (S := S1024x2048) zero_offsets, View.ld_unit_zero (S := S1024x2048) zero_offsets,
    View.ld_unit_zero (S := S1024x1024) zero_offsets, View.ld_unit_zero (S := S2048x1024) zero_offsets]
  unfold k1_pay1
  rw [shapeCast_self, shapeCast_self, shapeCast_self]
  show matmul (F := Ideal) dot_S1024x1024_S2048x1024_S1024x2048_1_1_0_0_n_n none x0 x1 (constant S1024x2048 .f32 0x00000000#32) i
    * (Ideal.ofBits .f32 0x40000000#32 * Ideal.sqrt (x2 i)) = _
  rw [actDot x0 x1 A B h0 h1, h2, bits_two]

/-! ## The backward call of the up-projection and the norm -/

/-- A column's sum, kept as a row. -/
theorem col_sum (x : FVec Ideal S512x1024 .f32) (hx : ∀ i, x i = (A (i 0).val (i 1).val)) (i : S1x1024.Idx) :
    shapeCast S1x1024 (multiReduction .add [0] S1024 x 0x00000000#32 reduces_S512x1024_S1024 (.inl rfl) rfl) shapeCasts_S1024_S1x1024 i
      = (∑ l : Fin 512, A l.val (i 1).val) := by
  have b0 : (i 0).val < 1 := (i 0).isLt
  refine (shapeCast_apply _ _ i (fun a => match a with | ⟨0, _⟩ => ⟨(i 1).val, (i 1).isLt⟩ : S1024.Idx) ?_).trans ?_
  · rewrite [Shape.rowMajor_val_one, Shape.rowMajor_val_two]
    show (i 1).val = (i 0).val * 1024 + (i 1).val
    omega
  · refine (Ideal.multiReduction_add_single x _ _ _ _ _).trans ?_
    exact Finset.sum_congr rfl fun l _ => hx _

variable (P : ℕ → ℕ → EReal) (G : ℕ → EReal) (X Y : ℕ → ℕ → EReal)

/-- The normed row's cotangent at an index of the block. -/
abbrev dhLoc (a k : ℕ) : EReal := ∑ f : Fin 4096, P a f.val * B k f.val

variable (x0 : Vec Ideal S512x4096 .bf16) (x1 : Vec Ideal S1024x4096 .bf16) (x2 : Vec Ideal S512x1024 .f32) (x3 : Vec Ideal S512x1024 .f32)
  (x4 : Vec Ideal S1x1024 .f32)
  (h0 : ∀ i, x0 i = (P (i 0).val (i 1).val)) (h1 : ∀ i, x1 i = (B (i 0).val (i 1).val))
  (h2 : ∀ i, x2 i = (X (i 0).val (i 1).val)) (h3 : ∀ i, x3 i = (Y (i 0).val (i 1).val))
  (h4 : ∀ i, x4 i = (G (i 1).val))

include h0 h1 in
theorem pay5_at (i : S512x1024.Idx) : k2_pay5 x0 x1 i = (dhLoc B P (i 0).val (i 1).val) := by
  unfold k2_pay5
  rw [shapeCast_self, shapeCast_self]
  exact rowDot x0 x1 P B h0 h1 i

include h2 in
theorem pay6_at (i : S512x1.Idx) : k2_pay6 x2 i = (rs X (i 0).val) := by
  unfold k2_pay6
  show Ideal.rsqrt (Ideal.div (shapeCast S512x1 (multiReduction .add [1] S512 (mulf (F := Ideal) x2 x2) 0x00000000#32 reduces_S512x1024_S512 (.inl rfl) rfl) shapeCasts_S512_S512x1 i)
    (Ideal.ofBits .f32 0x44800000#32) + Ideal.ofBits .f32 0x358637BD#32) = _
  rw [rows_sum (fun a l => X a l * X a l) (mulf (F := Ideal) x2 x2) (fun j => by
    show x2 j * x2 j = _
    rw [h2]), bits_width, bits_eps]
  rfl

include h2 in
theorem pay7_at (i : S512x1024.Idx) : k2_pay7 x2 i = (xn X (i 0).val (i 1).val) := by
  unfold k2_pay7
  show x2 i * broadcastTo S512x1024 (k2_pay6 x2) broadcasts_S512x1_S512x1024 i = _
  rw [h2, column_spread (by decide) _ (rs X) (pay6_at X x2 h2)]
  rfl

include h0 h1 h2 in
theorem pay9_at (i : S512x1024.Idx) :
    k2_pay9 x0 x1 x2 i = (dhLoc B P (i 0).val (i 1).val * xn X (i 0).val (i 1).val) := by
  unfold k2_pay9
  show k2_pay5 x0 x1 i * k2_pay7 x2 i = _
  rw [pay5_at B P x0 x1 h0 h1, pay7_at X x2 h2]

include h0 h1 h2 h3 h4 in
/-- The residual gradient's block. -/
theorem dx_block (i : S512x1024.Idx) :
    k2_pay1 (k2_pay8 x0 x1 x2 x4) x3 i
      = (Y (i 0).val (i 1).val + rs X (i 0).val * (dhLoc B P (i 0).val (i 1).val * G (i 1).val
          - xn X (i 0).val (i 1).val * Ideal.div (∑ l : Fin 1024, dhLoc B P (i 0).val l.val * G l.val * xn X (i 0).val l.val) ((1024 : ℝ) : EReal))) := by
  have e24 : ∀ j : S512x1024.Idx, mulf (F := Ideal) (k2_pay5 x0 x1) (broadcastTo S512x1024 x4 broadcasts_S1x1024_S512x1024) j
      = (dhLoc B P (j 0).val (j 1).val * G (j 1).val) := fun j => by
    show k2_pay5 x0 x1 j * broadcastTo S512x1024 x4 broadcasts_S1x1024_S512x1024 j = _
    rw [pay5_at B P x0 x1 h0 h1, row_spread x4 G h4]
  have e25 : ∀ j : S512x1024.Idx, mulf (F := Ideal) (mulf (F := Ideal) (k2_pay5 x0 x1) (broadcastTo S512x1024 x4 broadcasts_S1x1024_S512x1024)) (k2_pay7 x2) j
      = (dhLoc B P (j 0).val (j 1).val * G (j 1).val * xn X (j 0).val (j 1).val) := fun j => by
    show mulf (F := Ideal) (k2_pay5 x0 x1) (broadcastTo S512x1024 x4 broadcasts_S1x1024_S512x1024) j * k2_pay7 x2 j = _
    rw [e24, pay7_at X x2 h2]
  unfold k2_pay1 k2_pay8
  rw [shapeCast_self]
  refine (show _ = x3 i + broadcastTo S512x1024 (k2_pay6 x2) broadcasts_S512x1_S512x1024 i
    * (mulf (F := Ideal) (k2_pay5 x0 x1) (broadcastTo S512x1024 x4 broadcasts_S1x1024_S512x1024) i
      - k2_pay7 x2 i * broadcastTo S512x1024 (divf (F := Ideal) (shapeCast S512x1 (multiReduction .add [1] S512
          (mulf (F := Ideal) (mulf (F := Ideal) (k2_pay5 x0 x1) (broadcastTo S512x1024 x4 broadcasts_S1x1024_S512x1024)) (k2_pay7 x2))
          0x00000000#32 reduces_S512x1024_S512 (.inl rfl) rfl) shapeCasts_S512_S512x1) (broadcast S512x1 (Scalar.ofBits (F := Ideal) .f32 0x44800000#32)))
        broadcasts_S512x1_S512x1024 i) from rfl).trans ?_
  rw [h3, column_spread (by decide) _ (rs X) (pay6_at X x2 h2), e24, pay7_at X x2 h2,
    column_spread (by decide) _ (fun a => Ideal.div (∑ l : Fin 1024, dhLoc B P a l.val * G l.val * xn X a l.val) ((1024 : ℝ) : EReal)) (fun j => by
      show Ideal.div (shapeCast S512x1 _ shapeCasts_S512_S512x1 j) (Ideal.ofBits .f32 0x44800000#32) = _
      rw [rows_sum (fun a l => dhLoc B P a l * G l * xn X a l) _ e25, bits_width])]

include h0 h1 h2 in
/-- The column sums a point adds to the first row. -/
theorem gain_block (x7 : Vec Ideal S1x1024 .f32) (g : ℕ → EReal) (h7 : ∀ i, x7 i = (g (i 1).val)) (i : S1x1024.Idx) :
    k2_pay3 (k2_pay9 x0 x1 x2) x7 i
      = (g (i 1).val + ∑ l : Fin 512, dhLoc B P l.val (i 1).val * xn X l.val (i 1).val) := by
  unfold k2_pay3
  rw [shapeCast_self]
  show x7 i + shapeCast S1x1024 (multiReduction (F := Ideal) .add [0] S1024 (k2_pay9 x0 x1 x2) 0x00000000#32 reduces_S512x1024_S1024 (.inl rfl) rfl) shapeCasts_S1024_S1x1024 i = _
  rw [h7, col_sum (fun a l => dhLoc B P a l * xn X a l) _ (pay9_at B P X x0 x1 x2 h0 h1 h2)]

end Cert.MlpIdeal.Hand
-- ==== Proof.Mlp.Arr.lean ====
/- The arrays the calls of the feed-forward backward leave: the points' blocks read at the arrays' indices. -/
module

public import proofs.«01_k».proof.Proof.Mlp.Point
public import proofs.«01_k».proof.Proof.Ideal.Grad
public import Idealize.ShloMosaic.Lib.Pipeline.ValueKit.Geometry

@[expose] public section

set_option maxRecDepth 16384

noncomputable section

namespace Cert.MlpIdeal.Hand

open Cert.MlpIdeal Cert.MlpIdeal.Gen Idealize.ShloMosaic Idealize.ShloMosaic.TcCoe Idealize.ShloMosaic.Pipeline Cert.Attn Cert.MlpMath

theorem index0_0 : ∀ t : Fin cfg0.N, win0_0.index t = ![t.val % 16, 0] := (by decide +kernel : ∀ t : Fin grid0.N, _)
theorem index0_1 : ∀ t : Fin cfg0.N, win0_1.index t = ![0, t.val / 16] := (by decide +kernel : ∀ t : Fin grid0.N, _)
theorem index0_2 : ∀ t : Fin cfg0.N, win0_2.index t = ![t.val % 16, t.val / 16] := (by decide +kernel : ∀ t : Fin grid0.N, _)
theorem index1_0 : ∀ t : Fin cfg1.N, win1_0.index t = ![t.val % 16, 0] := (by decide +kernel : ∀ t : Fin grid1.N, _)
theorem index1_1 : ∀ t : Fin cfg1.N, win1_1.index t = ![t.val / 16, 0] := (by decide +kernel : ∀ t : Fin grid1.N, _)
theorem index1_2 : ∀ t : Fin cfg1.N, win1_2.index t = ![t.val % 16, t.val / 16] := (by decide +kernel : ∀ t : Fin grid1.N, _)
theorem index1_3 : ∀ t : Fin cfg1.N, win1_3.index t = ![t.val % 16, t.val / 16] := (by decide +kernel : ∀ t : Fin grid1.N, _)
theorem index2_0 : ∀ t : Fin cfg2.N, win2_0.index t = ![t.val, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0] := (by decide +kernel : ∀ t : Fin grid2.N, _)
theorem index2_3 : ∀ t : Fin cfg2.N, win2_3.index t = ![t.val, 0] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![t.val, 0] := (by decide +kernel : ∀ t : Fin grid2.N, _)
theorem index2_7 : ∀ t : Fin cfg2.N, win2_7.index t = ![0, 0] := (by decide +kernel : ∀ t : Fin grid2.N, _)

variable (V : (c : Dev nD) → (b : Ref sig .tc) → Buf (Elt Ideal) ((c : Thread nD τ).loc b)) (c : Dev nD)
variable (X : ℕ → ℕ → EReal) (G : ℕ → EReal) (U D Y : ℕ → ℕ → EReal)

/-! ## The forward call -/

section Forward

variable (hh : ∀ i, (V c main_v14 : (⟨S16384x1024, .bf16⟩ : BufTy).Contents (Elt Ideal)) i = (hm X G (i 0).val (i 1).val))
variable (hu : ∀ i, (V c main_v15 : (⟨S1024x4096, .bf16⟩ : BufTy).Contents (Elt Ideal)) i = (U (i 0).val (i 1).val))

include hh in
theorem blk0_0 (t : Fin cfg0.N) (i : S1024x1024.Idx) :
    (iblk0 V c 0 t : Vec Ideal S1024x1024 .bf16) i = (hm X G (t.val % 16 * 1024 + (i 0).val) (i 1).val) := by
  blk_simp [iblk0]
  refine (hh _).trans ?_
  blk_simp [index0_0]

include hu in
theorem blk0_1 (t : Fin cfg0.N) (i : S1024x2048.Idx) :
    (iblk0 V c 1 t : Vec Ideal S1024x2048 .bf16) i = (U (i 0).val (t.val / 16 * 2048 + (i 1).val)) := by
  blk_simp [iblk0]
  refine (hu _).trans ?_
  blk_simp [index0_1]

/-- The saved activation. -/
def actArr : (⟨S16384x4096, .bf16⟩ : BufTy).Contents (Elt Ideal) := fun i => (act X G U (i 0).val (i 1).val)

include hh hu in
theorem act_arr : (dat0 V c).arrAt 2 cfg0.N = actArr X G U := by
  refine (dat0 V c).arrAt_eq_of_covers 2 _ (by decide +kernel) fun t hf y => ?_
  have hN : t.val < 32 := t.isLt
  blk_simp
  rw [after0_2]
  refine (act_block (fun a k => hm X G (t.val % 16 * 1024 + a) k) (fun k f => U k (t.val / 16 * 2048 + f)) _ _
    (blk0_0 V c X G hh t) (blk0_1 V c U hu t) y).trans ?_
  unfold actArr
  blk_simp [index0_2]
  rfl

end Forward

/-! ## The activation's gradient -/

section Act

variable (hy : ∀ i, (V c main_v17 : (⟨S16384x1024, .bf16⟩ : BufTy).Contents (Elt Ideal)) i = (Y (i 0).val (i 1).val))
variable (hd : ∀ i, (V c main_v16 : (⟨S4096x1024, .bf16⟩ : BufTy).Contents (Elt Ideal)) i = (D (i 0).val (i 1).val))
variable (ha : ∀ i, (V c main_v18 : (⟨S16384x4096, .bf16⟩ : BufTy).Contents (Elt Ideal)) i = (act X G U (i 0).val (i 1).val))

include hy in
theorem blk1_0 (t : Fin cfg1.N) (i : S1024x1024.Idx) :
    (iblk1 V c 0 t : Vec Ideal S1024x1024 .bf16) i = (Y (t.val % 16 * 1024 + (i 0).val) (i 1).val) := by
  blk_simp [iblk1]
  refine (hy _).trans ?_
  blk_simp [index1_0]

include hd in
theorem blk1_1 (t : Fin cfg1.N) (i : S2048x1024.Idx) :
    (iblk1 V c 1 t : Vec Ideal S2048x1024 .bf16) i = (D (t.val / 16 * 2048 + (i 0).val) (i 1).val) := by
  blk_simp [iblk1]
  refine (hd _).trans ?_
  blk_simp [index1_1]

include ha in
theorem blk1_2 (t : Fin cfg1.N) (i : S1024x2048.Idx) :
    (iblk1 V c 2 t : Vec Ideal S1024x2048 .bf16) i = act X G U (t.val % 16 * 1024 + (i 0).val) (t.val / 16 * 2048 + (i 1).val) := by
  blk_simp [iblk1]
  refine (ha _).trans ?_
  blk_simp [index1_2]

/-- The upward product's cotangent. -/
def duArr : (⟨S16384x4096, .bf16⟩ : BufTy).Contents (Elt Ideal) := fun i => (du X G U D Y (i 0).val (i 1).val)

include hy hd ha in
theorem du_arr : (dat1 V c).arrAt 3 cfg1.N = duArr X G U D Y := by
  refine (dat1 V c).arrAt_eq_of_covers 3 _ (by decide +kernel) fun t hf y => ?_
  have hN : t.val < 32 := t.isLt
  blk_simp
  rw [after1_3]
  refine (du_block (fun a k => Y (t.val % 16 * 1024 + a) k) (fun f k => D (t.val / 16 * 2048 + f) k)
    (fun a f => act X G U (t.val % 16 * 1024 + a) (t.val / 16 * 2048 + f)) _ _ _
    (blk1_0 V c Y hy t) (blk1_1 V c D hd t) (blk1_2 V c X G U ha t) y).trans ?_
  unfold duArr
  blk_simp [index1_3]
  exact du_sqrt X G U D Y _ _

end Act

/-! ## The up-projection's and the norm's gradients -/

section Norm

variable (hp : ∀ i, (V c main_v19 : (⟨S16384x4096, .bf16⟩ : BufTy).Contents (Elt Ideal)) i = (du X G U D Y (i 0).val (i 1).val))
variable (hu : ∀ i, (V c main_v15 : (⟨S1024x4096, .bf16⟩ : BufTy).Contents (Elt Ideal)) i = (U (i 0).val (i 1).val))
variable (hx : ∀ i, (V c main_arg0 : (⟨S16384x1024, .f32⟩ : BufTy).Contents (Elt Ideal)) i = (X (i 0).val (i 1).val))
variable (hy : ∀ i, (V c main_arg4 : (⟨S16384x1024, .f32⟩ : BufTy).Contents (Elt Ideal)) i = (Y (i 0).val (i 1).val))
variable (hg : ∀ i, (V c main_v0 : (⟨S1x1024, .f32⟩ : BufTy).Contents (Elt Ideal)) i = (G (i 1).val))

include hp in
theorem blk2_0 (t : Fin cfg2.N) (i : S512x4096.Idx) :
    (iblk2 V c 0 t : Vec Ideal S512x4096 .bf16) i = (du X G U D Y (t.val * 512 + (i 0).val) (i 1).val) := by
  blk_simp [iblk2]
  refine (hp _).trans ?_
  blk_simp [index2_0]

include hu in
theorem blk2_1 (t : Fin cfg2.N) (i : S1024x4096.Idx) :
    (iblk2 V c 1 t : Vec Ideal S1024x4096 .bf16) i = (U (i 0).val (i 1).val) := by
  blk_simp [iblk2]
  refine (hu _).trans ?_
  blk_simp [index2_1]

include hx in
theorem blk2_2 (t : Fin cfg2.N) (i : S512x1024.Idx) :
    (iblk2 V c 2 t : Vec Ideal S512x1024 .f32) i = (X (t.val * 512 + (i 0).val) (i 1).val) := by
  blk_simp [iblk2]
  refine (hx _).trans ?_
  blk_simp [index2_2]

include hy in
theorem blk2_3 (t : Fin cfg2.N) (i : S512x1024.Idx) :
    (iblk2 V c 3 t : Vec Ideal S512x1024 .f32) i = (Y (t.val * 512 + (i 0).val) (i 1).val) := by
  blk_simp [iblk2]
  refine (hy _).trans ?_
  blk_simp [index2_3]

include hg in
theorem blk2_4 (t : Fin cfg2.N) (i : S1x1024.Idx) :
    (iblk2 V c 4 t : Vec Ideal S1x1024 .f32) i = (G (i 1).val) := by
  blk_simp [iblk2]
  refine (hg _).trans ?_
  blk_simp [index2_4]

/-- What a point leaves of the residual gradient, whichever case runs. -/
theorem rows_eq (t : Fin cfg2.N) : (outsAt2 V c t.val t.isLt).1
    = k2_pay1 (k2_pay8 (iblk2 V c 0 t) (iblk2 V c 1 t) (iblk2 V c 2 t) (iblk2 V c 4 t)) (iblk2 V c 3 t) := by
  by_cases h0 : t.val % 32 = 0
  · have e := out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) ((hcond2_0 t).mpr h0)
    rw [outsAt2_A V c t h0]
    dsimp only
    rw [e]
  · have e := out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t)
      (outsAt2 V c (t.val - 1) (Nat.lt_of_le_of_lt (Nat.sub_le _ _) t.isLt)).2.2 (fun h => h0 ((hcond2_0 t).mp h))
    rw [outsAt2_B V c t h0]
    dsimp only
    rw [e]

/-- The first point's row of column sums. -/
theorem sums_first (t : Fin cfg2.N) (h0 : t.val % 32 = 0) (x : S1x1024.Idx) : (outsAt2 V c t.val t.isLt).2.2 (firstRow.idx x)
    = k2_pay3 (k2_pay9 (iblk2 V c 0 t) (iblk2 V c 1 t) (iblk2 V c 2 t)) (View.ld (k2_pay4 (F := Ideal)) firstRow) x := by
  have e := out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t) ((hcond2_0 t).mpr h0) x
  rw [outsAt2_A V c t h0]
  dsimp only
  rw [e]

/-- A later point's row of column sums. -/
theorem sums_later (t : Fin cfg2.N) (h0 : ¬ t.val % 32 = 0) (x : S1x1024.Idx) : (outsAt2 V c t.val t.isLt).2.2 (firstRow.idx x)
    = k2_pay3 (k2_pay9 (iblk2 V c 0 t) (iblk2 V c 1 t) (iblk2 V c 2 t))
        (View.ld (outsAt2 V c (t.val - 1) (Nat.lt_of_le_of_lt (Nat.sub_le _ _) t.isLt)).2.2 firstRow) x := by
  have e := out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (iblk2 V c 0 t) (iblk2 V c 1 t) (iblk2 V c 2 t) (iblk2 V c 3 t) (iblk2 V c 4 t)
    (outsAt2 V c (t.val - 1) (Nat.lt_of_le_of_lt (Nat.sub_le _ _) t.isLt)).2.2 (fun h => h0 ((hcond2_0 t).mp h)) x
  rw [outsAt2_B V c t h0]
  dsimp only
  rw [e]

/-- The residual gradient. -/
def dxArr : (⟨S16384x1024, .f32⟩ : BufTy).Contents (Elt Ideal) := fun i => (dx X G U D Y (i 0).val (i 1).val)

include hp hu hx hy hg in
theorem dx_arr : (dat2 V c).arrAt 5 cfg2.N = dxArr X G U D Y := by
  refine (dat2 V c).arrAt_eq_of_covers 5 _ (by decide +kernel) fun t hf y => ?_
  have hN : t.val < 32 := t.isLt
  blk_simp
  rw [after2_5, rows_eq]
  refine (dx_block U (fun a f => du X G U D Y (t.val * 512 + a) f) G (fun a k => X (t.val * 512 + a) k) (fun a k => Y (t.val * 512 + a) k) _ _ _ _ _
    (blk2_0 V c X G U D Y hp t) (blk2_1 V c U hu t) (blk2_2 V c X hx t) (blk2_3 V c Y hy t) (blk2_4 V c G hg t) y).trans ?_
  unfold dxArr
  blk_simp [index2_5]
  rfl

include hp hu hx in
/-- The first row of the column sums after a point: the rows of the tiles up to the point's. -/
theorem sums_at : ∀ (n : ℕ) (hn : n < cfg2.N) (x : S1x1024.Idx), (outsAt2 V c n hn).2.2 (firstRow.idx x)
    = (∑ b ∈ Finset.range (n + 1), ∑ l : Fin 512, dh X G U D Y (b * 512 + l.val) (x 1).val * xn X (b * 512 + l.val) (x 1).val)
  | 0, hn, x => by
    refine (sums_first V c ⟨0, hn⟩ rfl x).trans (((gain_block U (fun a f => du X G U D Y (0 * 512 + a) f) (fun a k => X (0 * 512 + a) k) _ _ _
      (blk2_0 V c X G U D Y hp ⟨0, hn⟩) (blk2_1 V c U hu ⟨0, hn⟩) (blk2_2 V c X hx ⟨0, hn⟩) _ (fun _ => 0) (fun i => ?_) x).trans ?_))
    · exact Ideal.ofBits_zero_f32
    · rw [Finset.sum_range_one, zero_add]
      rfl
  | n + 1, hn, x => by
    have hN : n + 1 < 32 := hn
    refine (sums_later V c ⟨n + 1, hn⟩ (by show ¬ (n + 1) % 32 = 0; omega) x).trans (((gain_block U (fun a f => du X G U D Y ((n + 1) * 512 + a) f) (fun a k => X ((n + 1) * 512 + a) k) _ _ _
      (blk2_0 V c X G U D Y hp ⟨n + 1, hn⟩) (blk2_1 V c U hu ⟨n + 1, hn⟩) (blk2_2 V c X hx ⟨n + 1, hn⟩) _
      (fun k => ∑ b ∈ Finset.range (n + 1), ∑ l : Fin 512, dh X G U D Y (b * 512 + l.val) k * xn X (b * 512 + l.val) k)
      (fun i => sums_at n (Nat.lt_of_succ_lt hn) i) x).trans ?_))
    rw [Finset.sum_range_succ _ (n + 1)]
    rfl

/-- The block of column sums is written back once, after the last point. -/
theorem sums_arr : (dat2 V c).arrAt 7 cfg2.N = (outsAt2 V c 31 (by decide)).2.2 := by
  refine (dat2 V c).arrAt_eq_of_covers 7 _ (by decide +kernel) fun t hf y => ?_
  have h7 : t.val = 31 := by
    have h := (flush2_7 t).1 hf
    have hN : t.val < 32 := t.isLt
    omega
  have et : ∀ (a b : ℕ) (ha : a < cfg2.N) (hb : b < cfg2.N), a = b → (outsAt2 V c a ha).2.2 = (outsAt2 V c b hb).2.2 :=
    fun a b ha hb h => by subst h; rfl
  blk_simp
  rw [after2_7]
  refine (congrFun (et _ _ t.isLt (by decide) h7) y).trans (congrArg (outsAt2 V c 31 (by decide)).2.2 (funext fun a => Fin.ext ?_))
  match a with
  | ⟨0, _⟩ => blk_simp [index2_7]
  | ⟨1, _⟩ => blk_simp [index2_7]

include hp hu hx in
/-- The first row of the column sums is the gain's gradient. -/
theorem gain_arr (i : S8x1024.Idx) (h : (i 0).val = 0) :
    ((dat2 V c).arrAt 7 cfg2.N : (⟨S8x1024, .f32⟩ : BufTy).Contents (Elt Ideal)) i = (dgain X G U D Y (i 1).val) := by
  have hi : firstRow.idx (fun a => match a with | ⟨0, _⟩ => ⟨0, Nat.one_pos⟩ | ⟨1, _⟩ => ⟨(i 1).val, (i 1).isLt⟩ : S1x1024.Idx) = i := by
    funext a
    refine Fin.ext ((firstRow_idx _ a).trans ?_)
    match a with
    | ⟨0, _⟩ => exact h.symm
    | ⟨1, _⟩ => show 0 + (i 1).val = (i 1).val; omega
  rw [sums_arr]
  refine (congrArg (outsAt2 V c 31 (by decide)).2.2 hi.symm).trans
    ((sums_at V c X G U D Y hp hu hx 31 (by decide) _).trans ?_)
  have e := (Cert.KernelIdeal.Hand.sum_pairs 32 512 fun r => dh X G U D Y r (i 1).val * xn X r (i 1).val).symm
  simp only [Nat.reduceMul] at e
  unfold dgain
  exact e

end Norm

end Cert.MlpIdeal.Hand

end
-- ==== Proof.Mlp.Ref.lean ====
/- The reference's results: the gradients of the feed-forward block, as functions of coordinates. -/
module

public import proofs.«01_k».proof.Proof.Gen.MlpReferenceIdeal.Read
public import proofs.«01_k».proof.Proof.Mlp.Math

@[expose] public section

set_option maxRecDepth 8192

noncomputable section

namespace Cert.MlpReferenceIdeal.Hand

open Cert.MlpReferenceIdeal Cert.MlpReferenceIdeal.Gen Cert.MlpReferenceIdeal.Read Idealize.ShloMosaic Cert.Attn Cert.MlpMath

theorem zero_bits_add (r : EReal) : Ideal.ofBits .f32 0x00000000#32 + r = r := by
  rw [Ideal.ofBits_zero_f32, zero_add]

variable (X : ℕ → ℕ → EReal) (G : ℕ → EReal) (U D Y : ℕ → ℕ → EReal)
variable {x0 : (⟨S16384x1024, .f32⟩ : BufTy).Contents (Elt Ideal)} {x1 : (⟨S1024, .f32⟩ : BufTy).Contents (Elt Ideal)}
  {x2 : (⟨S1024x4096, .f32⟩ : BufTy).Contents (Elt Ideal)} {x3 : (⟨S4096x1024, .f32⟩ : BufTy).Contents (Elt Ideal)}
  {x4 : (⟨S16384x1024, .f32⟩ : BufTy).Contents (Elt Ideal)}
variable (h0 : ∀ i, x0 i = (X (i 0).val (i 1).val)) (h1 : ∀ i, x1 i = (G (i 0).val))
  (h2 : ∀ i, x2 i = (U (i 0).val (i 1).val)) (h3 : ∀ i, x3 i = (D (i 0).val (i 1).val))
  (h4 : ∀ i, x4 i = (Y (i 0).val (i 1).val))

include h0 in
/-- The rows' shifted mean squares. -/
theorem v6_at (i : S16384x1.Idx) : val_main_v6 (F := Ideal) x0 i = (ms X (i 0).val) := by
  have e1 : val_main_v1 (F := Ideal) x0 (idx_main_v2 i) = (∑ k : Fin 1024, X (i 0).val k.val * X (i 0).val k.val) := by
    rw [val_main_v1_apply, val_main_cst_apply]
    simp only [val_main_v0_apply, h0]
    refine Eq.trans ?_ (zero_bits_add _)
    rfl
  rw [val_main_v6_apply, val_main_v4_apply, val_main_v2_apply, e1, val_main_v3_apply, val_main_cst_0_apply, val_main_v5_apply, val_main_cst_1_apply]
  show Ideal.div (∑ k : Fin 1024, X (i 0).val k.val * X (i 0).val k.val) (Ideal.ofBits .f32 0x44800000#32) + Ideal.ofBits .f32 0x358637BD#32 = _
  rw [bits_width, bits_eps]
  rfl

include h0 in
theorem v7_at (i : S16384x1.Idx) : val_main_v7 (F := Ideal) x0 i = (rs X (i 0).val) := by
  rw [val_main_v7_apply, v6_at X h0]
  rfl

include h0 in
theorem v12_at (i : S16384x1024.Idx) : val_main_v12 (F := Ideal) x0 i = (xn X (i 0).val (i 1).val) := by
  rw [val_main_v12_apply, val_main_v11_apply, v7_at X h0, h0]
  rfl

include h0 h1 in
theorem v15_at (i : S16384x1024.Idx) : val_main_v15 (F := Ideal) x0 x1 i = (hm X G (i 0).val (i 1).val) := by
  rw [val_main_v15_apply, v12_at X h0, val_main_v14_apply, val_main_v13_apply, h1]
  rfl

include h0 h1 h2 in
theorem v16_at (i : S16384x4096.Idx) : val_main_v16 (F := Ideal) x0 x1 x2 i = (up X G U (i 0).val (i 1).val) := by
  rw [val_main_v16_apply]
  simp only [v15_at X G h0 h1, h2]
  rfl

include h0 h1 h2 in
theorem v17_at (i : S16384x4096.Idx) : val_main_v17 (F := Ideal) x0 x1 x2 i = (max (up X G U (i 0).val (i 1).val) 0) := by
  rw [val_main_v17_apply, v16_at X G U h0 h1 h2, val_main_call0_v0_apply, val_main_call0_cst_apply]
  show max (up X G U (i 0).val (i 1).val) (Ideal.ofBits .f32 0x00000000#32) = _
  rw [Ideal.ofBits_zero_f32]

include h3 h4 in
theorem v29_at (i : S16384x4096.Idx) : val_main_v29 (F := Ideal) x3 x4 i = (dact D Y (i 0).val (i 1).val) := by
  have e : ∀ j : S16384x1024.Idx, val_main_v26 (F := Ideal) x4 j = (Y (j 0).val (j 1).val) := fun j => by
    rw [val_main_v26_apply, h4]
    have b1 : (j 1).val < 1024 := (j 1).isLt
    show (Y (((j 0).val * 1024 + (j 1).val) / 1024) (((j 0).val * 1024 + (j 1).val) % 1024)) = _
    congr 2 <;> omega
  rw [val_main_v29_apply]
  simp only [e, h3]
  rfl

include h0 h1 h2 h3 h4 in
/-- The upward product's cotangent. -/
theorem v32_at (i : S16384x4096.Idx) : val_main_v32 (F := Ideal) x0 x1 x2 x3 x4 i = (du X G U D Y (i 0).val (i 1).val) := by
  rw [val_main_v32_apply, val_main_v19_apply, v16_at X G U h0 h1 h2, val_main_v18_apply, val_main_cst_3_apply, val_main_v30_apply, v29_at D Y h3 h4,
    val_main_v23_apply, v17_at X G U h0 h1 h2, val_main_v22_apply, val_main_cst_5_apply, val_main_v31_apply, val_main_cst_6_apply]
  by_cases h : 0 < up X G U (i 0).val (i 1).val
  · rw [show FloatOps.cmpf (F := Ideal) (φ := .f32) .ogt (up X G U (i 0).val (i 1).val) (FloatOps.ofBits .f32 0x00000000#32) = 1#1 by
      show (BitVec.ofBool (decide ((Ideal.ofBits .f32 0x00000000#32) < (up X G U (i 0).val (i 1).val)))) = 1#1
      rw [Ideal.ofBits_zero_f32, decide_eq_true h]; rfl]
    show dact D Y (i 0).val (i 1).val * (Ideal.ofBits .f32 0x40000000#32 * max (up X G U (i 0).val (i 1).val) 0) = _
    rw [bits_two]
    rfl
  · rw [show FloatOps.cmpf (F := Ideal) (φ := .f32) .ogt (up X G U (i 0).val (i 1).val) (FloatOps.ofBits .f32 0x00000000#32) = 0#1 by
      show (BitVec.ofBool (decide ((Ideal.ofBits .f32 0x00000000#32) < (up X G U (i 0).val (i 1).val)))) = 0#1
      rw [Ideal.ofBits_zero_f32, decide_eq_false h]; rfl]
    show Ideal.ofBits .f32 0x00000000#32 = _
    rw [Ideal.ofBits_zero_f32, du_nonpos X G U D Y _ _ h]

include h0 h1 h2 h3 h4 in
theorem v35_at (i : S16384x1024.Idx) : val_main_v35 (F := Ideal) x0 x1 x2 x3 x4 i = (dh X G U D Y (i 0).val (i 1).val) := by
  rw [val_main_v35_apply]
  simp only [v32_at X G U D Y h0 h1 h2 h3 h4, h2]
  rfl

include h0 h1 h2 h3 h4 in
theorem v40_at (i : S16384x1024.Idx) :
    val_main_v40 (F := Ideal) x0 x1 x2 x3 x4 i = (dh X G U D Y (i 0).val (i 1).val * G (i 1).val) := by
  rw [val_main_v40_apply, v35_at X G U D Y h0 h1 h2 h3 h4, val_main_v39_apply, val_main_v13_apply, h1]
  rfl

include h0 h1 h2 h3 h4 in
/-- The gain's gradient. -/
theorem v41_at (i : S1024.Idx) : val_main_v41 (F := Ideal) x0 x1 x2 x3 x4 i = (dgain X G U D Y (i 0).val) := by
  have e37 : ∀ j : S1024.Idx, val_main_v37 (F := Ideal) x0 x1 x2 x3 x4 j = (dgain X G U D Y (j 0).val) := fun j => by
    rw [val_main_v37_apply, val_main_cst_7_apply]
    simp only [val_main_v36_apply, v12_at X h0, v35_at X G U D Y h0 h1 h2 h3 h4]
    refine Eq.trans ?_ (zero_bits_add _)
    refine congrArg (Ideal.ofBits .f32 0x00000000#32 + ·) ?_
    exact Finset.sum_congr rfl fun t _ => mul_comm _ _
  rw [val_main_v41_apply, val_main_cst_8_apply, Fin.sum_univ_one, val_main_v38_apply, e37]
  refine (zero_bits_add _).trans ?_
  show dgain X G U D Y (0 * 1024 + (i 0).val) = _
  rw [Nat.zero_mul, Nat.zero_add]

include h0 h1 h2 h3 h4 in
theorem v52_at (i : S16384x1024.Idx) : val_main_v52 (F := Ideal) x0 x1 x2 x3 x4 i = chainTerm X G U D Y (i 0).val := by
  have e43 : ∀ j : S16384.Idx, val_main_v43 (F := Ideal) x0 x1 x2 x3 x4 j
      = (∑ l : Fin 1024, X (j 0).val l.val * (dh X G U D Y (j 0).val l.val * G l.val)) := fun j => by
    rw [val_main_v43_apply, val_main_cst_9_apply]
    simp only [val_main_v42_apply, h0, v40_at X G U D Y h0 h1 h2 h3 h4]
    refine Eq.trans ?_ (zero_bits_add _)
    rfl
  rw [val_main_v52_apply, val_main_v51_apply, val_main_cst_11_apply, Fin.sum_univ_one, val_main_v50_apply, val_main_v48_apply, val_main_v44_apply, e43,
    val_main_v10_apply, val_main_v9_apply, val_main_cst_2_apply, val_main_v8_apply, v7_at X h0, v6_at X h0, val_main_v49_apply, val_main_cst_10_apply]
  refine (zero_bits_add _).trans ?_
  rw [show (idx_main_v44 (idx_main_v51 (idx_main_v52 i) 0) 0).val = (i 0).val by show (i 0).val * 1 + 0 = _; omega]
  show Ideal.div ((∑ l : Fin 1024, X (i 0).val l.val * (dh X G U D Y (i 0).val l.val * G l.val))
    * (Ideal.ofBits .f32 0xBF000000#32 * Ideal.div (rs X (i 0).val) (ms X (i 0).val))) (Ideal.ofBits .f32 0x44800000#32) = _
  rw [bits_width, bits_neg_half]
  rfl

include h0 h1 h2 h3 h4 in
/-- The rows' gradient. -/
theorem v56_at (i : S16384x1024.Idx) : val_main_v56 (F := Ideal) x0 x1 x2 x3 x4 i = (dx X G U D Y (i 0).val (i 1).val) := by
  rw [val_main_v56_apply, val_main_v55_apply, val_main_v54_apply, val_main_v53_apply, val_main_v47_apply, val_main_v46_apply, val_main_v45_apply,
    v52_at X G U D Y h0 h1 h2 h3 h4, v40_at X G U D Y h0 h1 h2 h3 h4, v7_at X h0, h0, h4]
  exact dx_chain X G U D Y _ _

end Cert.MlpReferenceIdeal.Hand

end
-- ==== Proof.Mlp.Host.lean ====
/- What the host operations around the calls of the feed-forward backward leave, as functions of the arguments. -/
module

public import proofs.«01_k».proof.Proof.Gen.MlpIdeal.Frame
public import proofs.«01_k».proof.Proof.Mlp.Ref
public import Idealize.ShloMosaic.Lib.StableHlo.Run

@[expose] public section

set_option maxRecDepth 16384

noncomputable section

namespace Cert.MlpIdeal.Hand

open Cert.MlpIdeal Cert.MlpIdeal.Gen Idealize.ShloMosaic Idealize.ShloMosaic.TcCoe Idealize.SL.Sem Idealize.ShloMosaic.StableHlo Cert.MlpMath

variable (m : (ℓ : Loc nD τ sig) → Buf (Elt Ideal) ℓ) (ρ : Dev nD → PrngReg) (c : Dev nD)

/-- The normed rows the forward call reads. -/
theorem V1_hm : (W1 m ρ c main_v14 : S16384x1024.Idx → EReal)
    = Cert.MlpReferenceIdeal.Read.val_main_v15 (F := Ideal) (m ((c : Thread nD τ).loc main_arg0)) (m ((c : Thread nD τ).loc main_arg1)) := by
  show StableHlo.after hostOps0 (W0 m ρ c) _ = _
  after_results_simp <;> rfl

/-- The upward weights. -/
theorem V1_up : (W1 m ρ c main_v15 : S1024x4096.Idx → EReal) = m ((c : Thread nD τ).loc main_arg2) := by
  show StableHlo.after hostOps0 (W0 m ρ c) _ = _
  after_results_simp <;> rfl

/-- The downward weights. -/
theorem V1_down : (W1 m ρ c main_v16 : S4096x1024.Idx → EReal) = m ((c : Thread nD τ).loc main_arg3) := by
  show StableHlo.after hostOps0 (W0 m ρ c) _ = _
  after_results_simp <;> rfl

/-- The cotangent. -/
theorem V1_ct : (W1 m ρ c main_v17 : S16384x1024.Idx → EReal) = m ((c : Thread nD τ).loc main_arg4) := by
  show StableHlo.after hostOps0 (W0 m ρ c) _ = _
  after_results_simp <;> rfl

/-- The gain as a row. -/
theorem V1_gain : (W1 m ρ c main_v0 : S1x1024.Idx → EReal)
    = broadcastInDim S1x1024 ![1] bcast_S1024_S1x1024_1 (m ((c : Thread nD τ).loc main_arg1) : S1024.Idx → EReal) := by
  show StableHlo.after hostOps0 (W0 m ρ c) _ = _
  after_results_simp <;> rfl

/-- The gain's gradient is the first row of the block of column sums. -/
theorem W5_gain (i : S1024.Idx) : (W5 m ρ c main_v22 : S1024.Idx → EReal) i
    = (W4 m ρ c main_v20_2 : S8x1024.Idx → EReal) (fun a => match a with | ⟨0, _⟩ => ⟨0, Nat.succ_pos 7⟩ | ⟨1, _⟩ => ⟨(i 0).val, (i 0).isLt⟩) := by
  have e : (W5 m ρ c main_v22 : S1024.Idx → EReal) = shapeCast S1024 (extractStridedSlice S1x1024 ![0, 0] (W4 m ρ c main_v20_2 : S8x1024.Idx → EReal) slices_S8x1024_S1x1024_0_0) shapeCasts_S1x1024_S1024 := by
    show StableHlo.after hostOps3 (W4 m ρ c) _ = _
    after_results_simp <;> rfl
  rw [e]
  refine (shapeCast_apply _ _ i (fun a => match a with | ⟨0, _⟩ => ⟨0, Nat.one_pos⟩ | ⟨1, _⟩ => ⟨(i 0).val, (i 0).isLt⟩ : S1x1024.Idx) ?_).trans ?_
  · rewrite [Shape.rowMajor_val_one, Shape.rowMajor_val_two]
    show 0 * 1024 + (i 0).val = (i 0).val
    omega
  · refine congrArg (W4 m ρ c main_v20_2 : S8x1024.Idx → EReal) (funext fun a => Fin.ext ?_)
    match a with
    | ⟨0, _⟩ => rfl
    | ⟨1, _⟩ => show 0 + (i 0).val = (i 0).val; omega

variable (X : ℕ → ℕ → EReal) (G : ℕ → EReal) (U D Y : ℕ → ℕ → EReal)
  (h0 : ∀ i : S16384x1024.Idx, (m ((c : Thread nD τ).loc main_arg0) : S16384x1024.Idx → EReal) i = (X (i 0).val (i 1).val))
  (h1 : ∀ i : S1024.Idx, (m ((c : Thread nD τ).loc main_arg1) : S1024.Idx → EReal) i = (G (i 0).val))
  (h2 : ∀ i : S1024x4096.Idx, (m ((c : Thread nD τ).loc main_arg2) : S1024x4096.Idx → EReal) i = (U (i 0).val (i 1).val))
  (h3 : ∀ i : S4096x1024.Idx, (m ((c : Thread nD τ).loc main_arg3) : S4096x1024.Idx → EReal) i = (D (i 0).val (i 1).val))
  (h4 : ∀ i : S16384x1024.Idx, (m ((c : Thread nD τ).loc main_arg4) : S16384x1024.Idx → EReal) i = (Y (i 0).val (i 1).val))

include h0 h1 in
theorem V1_hm_at (i : S16384x1024.Idx) : (W1 m ρ c main_v14 : S16384x1024.Idx → EReal) i = (hm X G (i 0).val (i 1).val) := by
  rw [V1_hm]
  exact Cert.MlpReferenceIdeal.Hand.v15_at X G h0 h1 i

include h1 in
theorem V1_gain_at (i : S1x1024.Idx) : (W1 m ρ c main_v0 : S1x1024.Idx → EReal) i = (G (i 1).val) := by
  rw [V1_gain]
  exact h1 _

end Cert.MlpIdeal.Hand

end
-- ==== Proof.Mlp.Value.lean ====
/- The feed-forward backward's two results are the reference's gradients. -/
module

public import proofs.«01_k».proof.Proof.Mlp.Arr
public import proofs.«01_k».proof.Proof.Mlp.Host
public import proofs.«01_k».proof.Proof.Fn

@[expose] public section

set_option maxRecDepth 16384

noncomputable section

namespace Cert.MlpIdeal.Hand

open Cert.MlpIdeal Cert.MlpIdeal.Gen Idealize.ShloMosaic Idealize.ShloMosaic.TcCoe Idealize.ShloMosaic.Pipeline Cert.MlpMath

variable (m : (ℓ : Loc nD τ sig) → Buf (Elt Ideal) ℓ) (ρ : Dev nD → PrngReg) (c : Dev nD)

variable (X : ℕ → ℕ → EReal) (G : ℕ → EReal) (U D Y : ℕ → ℕ → EReal)
  (h0 : ∀ i : S16384x1024.Idx, (m ((c : Thread nD τ).loc main_arg0) : S16384x1024.Idx → EReal) i = (X (i 0).val (i 1).val))
  (h1 : ∀ i : S1024.Idx, (m ((c : Thread nD τ).loc main_arg1) : S1024.Idx → EReal) i = (G (i 0).val))
  (h2 : ∀ i : S1024x4096.Idx, (m ((c : Thread nD τ).loc main_arg2) : S1024x4096.Idx → EReal) i = (U (i 0).val (i 1).val))
  (h3 : ∀ i : S4096x1024.Idx, (m ((c : Thread nD τ).loc main_arg3) : S4096x1024.Idx → EReal) i = (D (i 0).val (i 1).val))
  (h4 : ∀ i : S16384x1024.Idx, (m ((c : Thread nD τ).loc main_arg4) : S16384x1024.Idx → EReal) i = (Y (i 0).val (i 1).val))

include h2 in
theorem W1_up_at (i : S1024x4096.Idx) : (W1 m ρ c main_v15 : S1024x4096.Idx → EReal) i = (U (i 0).val (i 1).val) := by
  rw [V1_up]
  exact h2 i

include h0 h1 h2 in
/-- The saved activation, before the second call. -/
theorem W2_act (i : S16384x4096.Idx) : (W2 m ρ c main_v18 : S16384x4096.Idx → EReal) i = (act X G U (i 0).val (i 1).val) :=
  (congrFun ((W2_arr m ρ c 2).trans (act_arr (V1 m ρ) c X G U (V1_hm_at m ρ c X G h0 h1) (W1_up_at m ρ c U h2))) i :)

include h4 in
theorem W2_ct (i : S16384x1024.Idx) : (W2 m ρ c main_v17 : S16384x1024.Idx → EReal) i = (Y (i 0).val (i 1).val) := by
  rw [W2_of m ρ c main_v17 (by decide +kernel), V1_ct]
  exact h4 i

include h3 in
theorem W2_down (i : S4096x1024.Idx) : (W2 m ρ c main_v16 : S4096x1024.Idx → EReal) i = (D (i 0).val (i 1).val) := by
  rw [W2_of m ρ c main_v16 (by decide +kernel), V1_down]
  exact h3 i

include h0 h1 h2 h3 h4 in
/-- The upward product's cotangent, before the third call. -/
theorem W3_du (i : S16384x4096.Idx) : (W3 m ρ c main_v19 : S16384x4096.Idx → EReal) i = (du X G U D Y (i 0).val (i 1).val) :=
  (congrFun ((W3_arr m ρ c 3).trans (du_arr (V2 m ρ) c X G U D Y (W2_ct m ρ c Y h4) (W2_down m ρ c D h3) (W2_act m ρ c X G U h0 h1 h2))) i :)

include h2 in
theorem W3_up (i : S1024x4096.Idx) : (W3 m ρ c main_v15 : S1024x4096.Idx → EReal) i = (U (i 0).val (i 1).val) := by
  rw [W3_of m ρ c main_v15 (by decide +kernel), W2_of m ρ c main_v15 (by decide +kernel)]
  exact W1_up_at m ρ c U h2 i

include h1 in
theorem W3_gain (i : S1x1024.Idx) : (W3 m ρ c main_v0 : S1x1024.Idx → EReal) i = (G (i 1).val) := by
  rw [W3_of m ρ c main_v0 (by decide +kernel), W2_of m ρ c main_v0 (by decide +kernel)]
  exact V1_gain_at m ρ c G h1 i

include h0 in
theorem W3_x (i : S16384x1024.Idx) : (W3 m ρ c main_arg0 : S16384x1024.Idx → EReal) i = (X (i 0).val (i 1).val) := by
  rw [W3_args m ρ c main_arg0 (by decide)]
  exact h0 i

include h4 in
theorem W3_y (i : S16384x1024.Idx) : (W3 m ρ c main_arg4 : S16384x1024.Idx → EReal) i = (Y (i 0).val (i 1).val) := by
  rw [W3_args m ρ c main_arg4 (by decide)]
  exact h4 i

include h0 h1 h2 h3 h4 in
/-- The residual's gradient. -/
theorem W5_dx (i : S16384x1024.Idx) : (W5 m ρ c main_v20_0 : S16384x1024.Idx → EReal) i = (dx X G U D Y (i 0).val (i 1).val) :=
  (congrFun ((W5_of m ρ c main_v20_0 (by decide)).trans ((W4_arr m ρ c 5).trans (dx_arr (V3 m ρ) c X G U D Y (W3_du m ρ c X G U D Y h0 h1 h2 h3 h4)
    (W3_up m ρ c U h2) (W3_x m ρ c X h0) (W3_y m ρ c Y h4) (W3_gain m ρ c G h1)))) i :)

include h0 h1 h2 h3 h4 in
/-- The gain's gradient. -/
theorem W5_dgain (i : S1024.Idx) : (W5 m ρ c main_v22 : S1024.Idx → EReal) i = (dgain X G U D Y (i 0).val) := by
  refine (W5_gain m ρ c i).trans ?_
  refine (congrFun (W4_arr m ρ c 7) _).trans ?_
  exact gain_arr (V3 m ρ) c X G U D Y (W3_du m ρ c X G U D Y h0 h1 h2 h3 h4) (W3_up m ρ c U h2) (W3_x m ρ c X h0) _ rfl

/-- The two results: the reference's. -/
theorem results_eq
    (x0 : (⟨S16384x1024, .f32⟩ : BufTy).Contents (Elt Ideal)) (x1 : (⟨S1024, .f32⟩ : BufTy).Contents (Elt Ideal))
    (x2 : (⟨S1024x4096, .f32⟩ : BufTy).Contents (Elt Ideal)) (x3 : (⟨S4096x1024, .f32⟩ : BufTy).Contents (Elt Ideal))
    (x4 : (⟨S16384x1024, .f32⟩ : BufTy).Contents (Elt Ideal))
    (e0 : m ((c : Thread nD τ).loc main_arg0) = x0) (e1 : m ((c : Thread nD τ).loc main_arg1) = x1) (e2 : m ((c : Thread nD τ).loc main_arg2) = x2)
    (e3 : m ((c : Thread nD τ).loc main_arg3) = x3) (e4 : m ((c : Thread nD τ).loc main_arg4) = x4) :
    W5 m ρ c main_v20_0 = Cert.MlpReferenceIdeal.Read.val_main_v56 (F := Ideal) x0 x1 x2 x3 x4
    ∧ W5 m ρ c main_v22 = Cert.MlpReferenceIdeal.Read.val_main_v41 (F := Ideal) x0 x1 x2 x3 x4 := by
  obtain ⟨X, h0⟩ := fn_two x0
  obtain ⟨G, h1⟩ := fn_one x1
  obtain ⟨U, h2⟩ := fn_two x2
  obtain ⟨D, h3⟩ := fn_two x3
  obtain ⟨Y, h4⟩ := fn_two x4
  have g0 := fun i => (congrFun e0 i).trans (h0 i)
  have g1 := fun i => (congrFun e1 i).trans (h1 i)
  have g2 := fun i => (congrFun e2 i).trans (h2 i)
  have g3 := fun i => (congrFun e3 i).trans (h3 i)
  have g4 := fun i => (congrFun e4 i).trans (h4 i)
  exact ⟨funext fun i => (W5_dx m ρ c X G U D Y g0 g1 g2 g3 g4 i).trans (Cert.MlpReferenceIdeal.Hand.v56_at X G U D Y h0 h1 h2 h3 h4 i).symm,
    funext fun i => (W5_dgain m ρ c X G U D Y g0 g1 g2 g3 g4 i).trans (Cert.MlpReferenceIdeal.Hand.v41_at X G U D Y h0 h1 h2 h3 h4 i).symm⟩

end Cert.MlpIdeal.Hand

end
-- ==== Proof.lean ====
module

public import proofs.«01_k».proof.Defs
public import proofs.«01_k».proof.Proof.Bits.Run
public import proofs.«01_k».proof.Proof.Ideal.Value
public import proofs.«01_k».proof.Proof.Win.Value
public import proofs.«01_k».proof.Proof.Wup.Value
public import proofs.«01_k».proof.Proof.Wdown.Value
public import proofs.«01_k».proof.Proof.Down.Value
public import proofs.«01_k».proof.Proof.Gen.Down.Frame
public import proofs.«01_k».proof.Proof.Oproj.Value
public import proofs.«01_k».proof.Proof.Gen.Oproj.Frame
public import proofs.«01_k».proof.Proof.Dattn.Value
public import proofs.«01_k».proof.Proof.Gen.Dattn.Frame
public import proofs.«01_k».proof.Proof.Drz.Value
public import proofs.«01_k».proof.Proof.Gen.Drz.Frame
public import proofs.«01_k».proof.Proof.Attno.Value
public import proofs.«01_k».proof.Proof.Gen.Attno.Frame
public import proofs.«01_k».proof.Proof.Wao.Value
public import proofs.«01_k».proof.Proof.Wro.Value
public import proofs.«01_k».proof.Proof.Wout.Value
public import proofs.«01_k».proof.Proof.Wgate.Value
public import proofs.«01_k».proof.Proof.Gen.Wao.Frame
public import proofs.«01_k».proof.Proof.Gen.Wro.Frame
public import proofs.«01_k».proof.Proof.Gen.Wout.Frame
public import proofs.«01_k».proof.Proof.Gen.Wgate.Frame
public import proofs.«01_k».proof.Proof.Inp.Run
public import proofs.«01_k».proof.Proof.Inp.Value
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpReferenceIdeal
public import proofs.«01_k».proof.Proof.Gen.InpReferenceIdeal.Run
public import proofs.«01_k».proof.Proof.Gen.InpReferenceIdeal.Read
public import proofs.«01_k».proof.Proof.Gen.Win.Frame
public import proofs.«01_k».proof.Proof.Gen.Wup.Frame
public import proofs.«01_k».proof.Proof.Gen.Wdown.Frame
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Mlp.Run
public import proofs.«01_k».proof.Proof.Mlp.Value
public import proofs.«01_k».proof.Proof.Gen.MlpReferenceIdeal.Run
public import proofs.«01_k».proof.Proof.Gen.MlpReferenceIdeal.Read
public import proofs.«01_k».proof.Proof.Gen.ReferenceIdeal.Run
public import proofs.«01_k».proof.Proof.Gen.ReferenceIdeal.Read
public import Idealize.ShloMosaic.Lib.Quiescent

@[expose] public section

noncomputable section

namespace Cert.Proof

open Idealize.ShloMosaic Idealize.SL.Sem

/-- The shape relations that the precondition states. -/
theorem preFacts : Cert.Pre_finite.Facts where
  bcast_S_S16384x8x64 := by decide
  bcast_S_S16384x2x64 := by decide
  bcast_S_S16384x512 := by decide

/-- The reference declares no semaphore and writes no argument. -/
theorem frame_reference : Cert.quiescent_ReferenceIdeal (hReferenceIdeal := Cert.ReferenceIdeal.Gen.facts) := fun m ρ _ =>
  (θ_run _ _ _).mono (fun r h => ⟨fun c => ⟨(h c).2.2.2.1, (h c).2.2.2.2.1, (h c).2.2.2.2.2.1, (h c).2.2.2.2.2.2⟩,
    sem_eq_zero_of_no_sems rfl r.2⟩) (Cert.ReferenceIdeal.Value.run (F := Ideal) m ρ)

/-- At finite arguments the kernel's three results are the reference's gradients. -/
theorem values_agree : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => Cert.ReferenceIdeal.Read.val_main_v61 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v62 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.ReferenceIdeal.Read.val_main_v63 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run _ _ _).mono (fun r h c => ?_) (Cert.KernelIdeal.Hand.run_results (F := Ideal) m g)
    obtain ⟨p0, p1, p2, p3⟩ := hpre c
    obtain ⟨r0, r1, r2⟩ := Cert.KernelIdeal.Hand.results_eq m c _ _ _ _ rfl rfl rfl rfl
      (fun i => Cert.KernelIdeal.Hand.real_of_finite _ (congrFun p0 i)) (fun i => Cert.KernelIdeal.Hand.real_of_finite _ (congrFun p1 i))
      (fun i => Cert.KernelIdeal.Hand.real_of_finite _ (congrFun p2 i)) (fun i => Cert.KernelIdeal.Hand.real_of_finite _ (congrFun p3 i))
    exact ⟨(h c).1.trans r0, (h c).2.1.trans r1, (h c).2.2.1.trans r2, (h c).2.2.2⟩
  · refine (θ_run _ _ _).mono (fun r h c => ?_) (Cert.ReferenceIdeal.Value.run (F := Ideal) m' g')
    obtain ⟨a0, a1, a2, a3⟩ := hargs c
    refine ⟨(h c).1.trans ((Cert.ReferenceIdeal.Read.val_main_v61_eq m' c).trans ?_), (h c).2.1.trans ((Cert.ReferenceIdeal.Read.val_main_v62_eq m' c).trans ?_),
      (h c).2.2.1.trans ((Cert.ReferenceIdeal.Read.val_main_v63_eq _ _ _).trans ?_), (h c).2.2.2⟩
    · rw [a0, a1, a2, a3]
    · rw [a0, a1, a2, a3]
    · rw [a0, a1, a3]

/-- The feed-forward reference declares no semaphore and writes no argument. -/
theorem frame_reference_mlp : Cert.quiescent_MlpReferenceIdeal (hMlpReferenceIdeal := Cert.MlpReferenceIdeal.Gen.facts) := fun m ρ _ =>
  (θ_run _ _ _).mono (fun r h => ⟨fun c => (h c).2.2, sem_eq_zero_of_no_sems rfl r.2⟩) (Cert.MlpReferenceIdeal.Value.run (F := Ideal) m ρ)

/-- The feed-forward calls' two results are the reference's gradients. -/
theorem values_agree_mlp : Cert.algebraic_MlpIdeal_MlpReferenceIdeal (hMlpIdeal := Cert.MlpIdeal.Gen.facts)
    (hMlpReferenceIdeal := Cert.MlpReferenceIdeal.Gen.facts) := by
  intro m g m' g' _ hargs
  refine ⟨fun c => Cert.MlpReferenceIdeal.Read.val_main_v56 (F := Ideal) (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4)),
    fun c => Cert.MlpReferenceIdeal.Read.val_main_v41 (F := Ideal) (m ((c.tc : Thread Cert.MlpIdeal.nD Cert.MlpIdeal.τ).loc Cert.MlpIdeal.main_arg0))
      (m ((c.tc : Thread Cert.MlpIdeal.nD Cert.MlpIdeal.τ).loc Cert.MlpIdeal.main_arg1))
      (m ((c.tc : Thread Cert.MlpIdeal.nD Cert.MlpIdeal.τ).loc Cert.MlpIdeal.main_arg2))
      (m ((c.tc : Thread Cert.MlpIdeal.nD Cert.MlpIdeal.τ).loc Cert.MlpIdeal.main_arg3))
      (m ((c.tc : Thread Cert.MlpIdeal.nD Cert.MlpIdeal.τ).loc Cert.MlpIdeal.main_arg4)), ?_, ?_⟩
  · refine (θ_run _ _ _).mono (fun r h c => ?_) (Cert.MlpIdeal.Hand.run_buffers (F := Ideal) m g)
    obtain ⟨r0, r1⟩ := Cert.MlpIdeal.Hand.results_eq m g c _ _ _ _ _ rfl rfl rfl rfl rfl
    exact ⟨(h.1 c _ (Cert.MlpIdeal.Gen.mem_uc Cert.MlpIdeal.main_v20_0 (by decide))).trans r0,
      (h.1 c _ (Cert.MlpIdeal.Gen.mem_uc Cert.MlpIdeal.main_v22 (by decide))).trans r1,
      (h.1 c _ (Cert.MlpIdeal.Gen.mem_uc Cert.MlpIdeal.main_arg0 (by decide))).trans (Cert.MlpIdeal.Gen.W5_main_arg0 m g c),
      (h.1 c _ (Cert.MlpIdeal.Gen.mem_uc Cert.MlpIdeal.main_arg1 (by decide))).trans (Cert.MlpIdeal.Gen.W5_main_arg1 m g c),
      (h.1 c _ (Cert.MlpIdeal.Gen.mem_uc Cert.MlpIdeal.main_arg2 (by decide))).trans (Cert.MlpIdeal.Gen.W5_main_arg2 m g c),
      (h.1 c _ (Cert.MlpIdeal.Gen.mem_uc Cert.MlpIdeal.main_arg3 (by decide))).trans (Cert.MlpIdeal.Gen.W5_main_arg3 m g c),
      (h.1 c _ (Cert.MlpIdeal.Gen.mem_uc Cert.MlpIdeal.main_arg4 (by decide))).trans (Cert.MlpIdeal.Gen.W5_main_arg4 m g c)⟩
  · refine (θ_run _ _ _).mono (fun r h c => ?_) (Cert.MlpReferenceIdeal.Value.run (F := Ideal) m' g')
    obtain ⟨a0, a1, a2, a3, a4⟩ := hargs c
    refine ⟨(h c).1.trans ((Cert.MlpReferenceIdeal.Read.val_main_v56_eq m' c).trans ?_),
      (h c).2.1.trans ((Cert.MlpReferenceIdeal.Read.val_main_v41_eq _ _ _ _ _).trans ?_), (h c).2.2⟩
    · rw [a0, a1, a2, a3, a4]
    · rw [a0, a1, a2, a3, a4]

/-- The input projection's reference declares no semaphore and writes no argument. -/
theorem frame_reference_inp : Cert.quiescent_InpReferenceIdeal (hInpReferenceIdeal := Cert.InpReferenceIdeal.Gen.facts) := fun m ρ _ =>
  (θ_run _ _ _).mono (fun r h => ⟨fun c => (h c).2.2.2, sem_eq_zero_of_no_sems rfl r.2⟩) (Cert.InpReferenceIdeal.Value.run (F := Ideal) m ρ)

/-- The input projection's three results are the reference's. -/
theorem values_agree_inp : Cert.algebraic_InpIdeal_InpReferenceIdeal (hInpIdeal := Cert.InpIdeal.Gen.facts)
    (hInpReferenceIdeal := Cert.InpReferenceIdeal.Gen.facts) := by
  intro m g m' g' _ hargs
  refine ⟨fun c => Cert.InpReferenceIdeal.Read.val_main_v16 (F := Ideal) (m ((c.tc : Thread Cert.InpIdeal.nD Cert.InpIdeal.τ).loc Cert.InpIdeal.main_arg0))
      (m ((c.tc : Thread Cert.InpIdeal.nD Cert.InpIdeal.τ).loc Cert.InpIdeal.main_arg1))
      (m ((c.tc : Thread Cert.InpIdeal.nD Cert.InpIdeal.τ).loc Cert.InpIdeal.main_arg2)),
    fun c => Cert.InpReferenceIdeal.Read.val_main_v40 (F := Ideal) (m ((c.tc : Thread Cert.InpIdeal.nD Cert.InpIdeal.τ).loc Cert.InpIdeal.main_arg0))
      (m ((c.tc : Thread Cert.InpIdeal.nD Cert.InpIdeal.τ).loc Cert.InpIdeal.main_arg1))
      (m ((c.tc : Thread Cert.InpIdeal.nD Cert.InpIdeal.τ).loc Cert.InpIdeal.main_arg2))
      (m ((c.tc : Thread Cert.InpIdeal.nD Cert.InpIdeal.τ).loc Cert.InpIdeal.main_arg3))
      (m ((c.tc : Thread Cert.InpIdeal.nD Cert.InpIdeal.τ).loc Cert.InpIdeal.main_arg4)),
    fun c => Cert.InpReferenceIdeal.Read.val_main_v25 (F := Ideal) (m ((c.tc : Thread Cert.InpIdeal.nD Cert.InpIdeal.τ).loc Cert.InpIdeal.main_arg0))
      (m ((c.tc : Thread Cert.InpIdeal.nD Cert.InpIdeal.τ).loc Cert.InpIdeal.main_arg2))
      (m ((c.tc : Thread Cert.InpIdeal.nD Cert.InpIdeal.τ).loc Cert.InpIdeal.main_arg4)), ?_, ?_⟩
  · refine (θ_run _ _ _).mono (fun r h c => ?_) (Cert.InpIdeal.Hand.run_buffers (F := Ideal) m g)
    obtain ⟨r0, r1, r2⟩ := Cert.InpIdeal.Hand.results_eq m g c _ _ _ _ _ rfl rfl rfl rfl rfl
    exact ⟨(h.1 c _ (Cert.InpIdeal.Gen.mem_uc Cert.InpIdeal.main_v19 (by decide))).trans r0,
      (h.1 c _ (Cert.InpIdeal.Gen.mem_uc Cert.InpIdeal.main_v18_0 (by decide))).trans r1,
      (h.1 c _ (Cert.InpIdeal.Gen.mem_uc Cert.InpIdeal.main_v21 (by decide))).trans r2,
      (h.1 c _ (Cert.InpIdeal.Gen.mem_uc Cert.InpIdeal.main_arg0 (by decide))).trans (Cert.InpIdeal.Gen.W4_main_arg0 m g c),
      (h.1 c _ (Cert.InpIdeal.Gen.mem_uc Cert.InpIdeal.main_arg1 (by decide))).trans (Cert.InpIdeal.Gen.W4_main_arg1 m g c),
      (h.1 c _ (Cert.InpIdeal.Gen.mem_uc Cert.InpIdeal.main_arg2 (by decide))).trans (Cert.InpIdeal.Gen.W4_main_arg2 m g c),
      (h.1 c _ (Cert.InpIdeal.Gen.mem_uc Cert.InpIdeal.main_arg3 (by decide))).trans (Cert.InpIdeal.Gen.W4_main_arg3 m g c),
      (h.1 c _ (Cert.InpIdeal.Gen.mem_uc Cert.InpIdeal.main_arg4 (by decide))).trans (Cert.InpIdeal.Gen.W4_main_arg4 m g c)⟩
  · refine (θ_run _ _ _).mono (fun r h c => ?_) (Cert.InpReferenceIdeal.Value.run (F := Ideal) m' g')
    obtain ⟨a0, a1, a2, a3, a4⟩ := hargs c
    refine ⟨(h c).1.trans ((Cert.InpReferenceIdeal.Read.val_main_v16_eq _ _ _).trans ?_), (h c).2.1.trans ((Cert.InpReferenceIdeal.Read.val_main_v40_eq m' c).trans ?_),
      (h c).2.2.1.trans ((Cert.InpReferenceIdeal.Read.val_main_v25_eq _ _ _).trans ?_), (h c).2.2.2⟩
    · rw [a0, a1, a2]
    · rw [a0, a1, a2, a3, a4]
    · rw [a0, a2, a4]

/-- The reference of the MLP's downward call declares no semaphore and writes no argument. -/
theorem frame_reference_down : Cert.quiescent_DownReferenceIdeal (hDownReferenceIdeal := Cert.DownReferenceIdeal.Gen.facts) := fun m ρ _ =>
  (θ_run _ _ _).mono (fun r h => ⟨fun c => (h c).2.2, sem_eq_zero_of_no_sems rfl r.2⟩) (Cert.DownReferenceIdeal.Value.run (F := Ideal) m ρ)

/-- The two results of the MLP's downward call are the reference's. -/
theorem values_agree_down : Cert.algebraic_DownIdeal_DownReferenceIdeal (hDownIdeal := Cert.DownIdeal.Gen.facts)
    (hDownReferenceIdeal := Cert.DownReferenceIdeal.Gen.facts) := by
  intro m g m' g' _ hargs
  refine ⟨fun c => (Cert.DownIdeal.Gen.dats m 0 c).arrAt 4 Cert.DownIdeal.cfg0.N,
    fun c => (Cert.DownIdeal.Gen.dats m 0 c).arrAt 5 Cert.DownIdeal.cfg0.N, Cert.DownIdeal.Value.run_blocks (F := Ideal) m g, ?_⟩
  refine (θ_run _ _ _).mono (fun r h c => ?_) (Cert.DownReferenceIdeal.Value.run (F := Ideal) m' g')
  obtain ⟨a0, a1, a2, a3⟩ := hargs c
  obtain ⟨r0, r1⟩ := Cert.DownIdeal.Hand.results_eq m c _ _ _ _ a0.symm a1.symm a2.symm a3.symm
  exact ⟨(h c).1.trans ((Cert.DownReferenceIdeal.Read.val_main_v1_eq _ _ _).trans r0.symm),
    (h c).2.1.trans ((Cert.DownReferenceIdeal.Read.val_main_v15_eq _ _ _ _).trans r1.symm), (h c).2.2⟩

/-- The reference of the output projection declares no semaphore and writes no argument. -/
theorem frame_reference_out_proj : Cert.quiescent_OprojReferenceIdeal (hOprojReferenceIdeal := Cert.OprojReferenceIdeal.Gen.facts) := fun m ρ _ =>
  (θ_run _ _ _).mono (fun r h => ⟨fun c => (h c).2.2, sem_eq_zero_of_no_sems rfl r.2⟩) (Cert.OprojReferenceIdeal.Value.run (F := Ideal) m ρ)

/-- The two results of the output projection are the reference's. -/
theorem values_agree_out_proj : Cert.algebraic_OprojIdeal_OprojReferenceIdeal (hOprojIdeal := Cert.OprojIdeal.Gen.facts)
    (hOprojReferenceIdeal := Cert.OprojReferenceIdeal.Gen.facts) := by
  intro m g m' g' _ hargs
  refine ⟨fun c => (Cert.OprojIdeal.Gen.dats m 0 c).arrAt 4 Cert.OprojIdeal.cfg0.N,
    fun c => (Cert.OprojIdeal.Gen.dats m 0 c).arrAt 5 Cert.OprojIdeal.cfg0.N, Cert.OprojIdeal.Value.run_blocks (F := Ideal) m g, ?_⟩
  refine (θ_run _ _ _).mono (fun r h c => ?_) (Cert.OprojReferenceIdeal.Value.run (F := Ideal) m' g')
  obtain ⟨a0, a1, a2, a3⟩ := hargs c
  obtain ⟨r0, r1⟩ := Cert.OprojIdeal.Hand.results_eq m c _ _ _ _ a0.symm a1.symm a2.symm a3.symm
  exact ⟨(h c).1.trans ((Cert.OprojReferenceIdeal.Read.val_main_v1_eq _ _ _).trans r0.symm),
    (h c).2.1.trans ((Cert.OprojReferenceIdeal.Read.val_main_v15_eq _ _ _ _).trans r1.symm), (h c).2.2⟩

/-- The reference of the gradient of the attention's rows declares no semaphore and writes no argument. -/
theorem frame_reference_d_attn : Cert.quiescent_DattnReferenceIdeal (hDattnReferenceIdeal := Cert.DattnReferenceIdeal.Gen.facts) := fun m ρ _ =>
  (θ_run _ _ _).mono (fun r h => ⟨fun c => (h c).2, sem_eq_zero_of_no_sems rfl r.2⟩) (Cert.DattnReferenceIdeal.Value.run (F := Ideal) m ρ)

/-- The gradient of the attention's rows is the reference's. -/
theorem values_agree_d_attn : Cert.algebraic_DattnIdeal_DattnReferenceIdeal (hDattnIdeal := Cert.DattnIdeal.Gen.facts)
    (hDattnReferenceIdeal := Cert.DattnReferenceIdeal.Gen.facts) := by
  intro m g m' g' _ hargs
  refine ⟨fun c => (Cert.DattnIdeal.Gen.dats m 0 c).arrAt 2 Cert.DattnIdeal.cfg0.N, Cert.DattnIdeal.Value.run_blocks (F := Ideal) m g, ?_⟩
  refine (θ_run _ _ _).mono (fun r h c => ?_) (Cert.DattnReferenceIdeal.Value.run (F := Ideal) m' g')
  obtain ⟨a0, a1⟩ := hargs c
  exact ⟨(h c).1.trans ((Cert.DattnReferenceIdeal.Read.val_main_v2_eq _ _).trans
    (Cert.DattnIdeal.Hand.result_eq m c _ _ a0.symm a1.symm).symm), (h c).2⟩

/-- The reference of the gradient of the gated retention rows declares no semaphore and writes no argument. -/
theorem frame_reference_d_rz : Cert.quiescent_DrzReferenceIdeal (hDrzReferenceIdeal := Cert.DrzReferenceIdeal.Gen.facts) := fun m ρ _ =>
  (θ_run _ _ _).mono (fun r h => ⟨fun c => (h c).2, sem_eq_zero_of_no_sems rfl r.2⟩) (Cert.DrzReferenceIdeal.Value.run (F := Ideal) m ρ)

/-- The gradient of the gated retention rows is the reference's. -/
theorem values_agree_d_rz : Cert.algebraic_DrzIdeal_DrzReferenceIdeal (hDrzIdeal := Cert.DrzIdeal.Gen.facts)
    (hDrzReferenceIdeal := Cert.DrzReferenceIdeal.Gen.facts) := by
  intro m g m' g' _ hargs
  refine ⟨fun c => (Cert.DrzIdeal.Gen.dats m 0 c).arrAt 2 Cert.DrzIdeal.cfg0.N, Cert.DrzIdeal.Value.run_blocks (F := Ideal) m g, ?_⟩
  refine (θ_run _ _ _).mono (fun r h c => ?_) (Cert.DrzReferenceIdeal.Value.run (F := Ideal) m' g')
  obtain ⟨a0, a1⟩ := hargs c
  exact ⟨(h c).1.trans ((Cert.DrzReferenceIdeal.Read.val_main_v2_eq _ _).trans
    (Cert.DrzIdeal.Hand.result_eq m c _ _ a0.symm a1.symm).symm), (h c).2⟩

/-- The reference of the attention's output projection declares no semaphore and writes no argument. -/
theorem frame_reference_attn_o : Cert.quiescent_AttnoReferenceIdeal (hAttnoReferenceIdeal := Cert.AttnoReferenceIdeal.Gen.facts) := fun m ρ _ =>
  (θ_run _ _ _).mono (fun r h => ⟨fun c => (h c).2, sem_eq_zero_of_no_sems rfl r.2⟩) (Cert.AttnoReferenceIdeal.Value.run (F := Ideal) m ρ)

/-- The attention's output projection is the reference's. -/
theorem values_agree_attn_o : Cert.algebraic_AttnoIdeal_AttnoReferenceIdeal (hAttnoIdeal := Cert.AttnoIdeal.Gen.facts)
    (hAttnoReferenceIdeal := Cert.AttnoReferenceIdeal.Gen.facts) := by
  intro m g m' g' _ hargs
  refine ⟨fun c => (Cert.AttnoIdeal.Gen.dats m 0 c).arrAt 2 Cert.AttnoIdeal.cfg0.N, Cert.AttnoIdeal.Value.run_blocks (F := Ideal) m g, ?_⟩
  refine (θ_run _ _ _).mono (fun r h c => ?_) (Cert.AttnoReferenceIdeal.Value.run (F := Ideal) m' g')
  obtain ⟨a0, a1⟩ := hargs c
  exact ⟨(h c).1.trans ((Cert.AttnoReferenceIdeal.Read.val_main_v1_eq _ _).trans
    (Cert.AttnoIdeal.Hand.result_eq m c _ _ a0.symm a1.symm).symm), (h c).2⟩

/-- The reference of the input weights' gradient declares no semaphore and writes no argument. -/
theorem frame_reference_w_in : Cert.quiescent_WinReferenceIdeal (hWinReferenceIdeal := Cert.WinReferenceIdeal.Gen.facts) := fun m ρ _ =>
  (θ_run _ _ _).mono (fun r h => ⟨fun c => (h c).2, sem_eq_zero_of_no_sems rfl r.2⟩) (Cert.WinReferenceIdeal.Value.run (F := Ideal) m ρ)

/-- The input weights' gradient is the reference's. -/
theorem values_agree_w_in : Cert.algebraic_WinIdeal_WinReferenceIdeal (hWinIdeal := Cert.WinIdeal.Gen.facts)
    (hWinReferenceIdeal := Cert.WinReferenceIdeal.Gen.facts) := by
  intro m g m' g' _ hargs
  refine ⟨fun c => (Cert.WinIdeal.Gen.dats m 0 c).arrAt 2 Cert.WinIdeal.cfg0.N, Cert.WinIdeal.Value.run_blocks (F := Ideal) m g, ?_⟩
  refine (θ_run _ _ _).mono (fun r h c => ?_) (Cert.WinReferenceIdeal.Value.run (F := Ideal) m' g')
  obtain ⟨a0, a1, a2⟩ := hargs c
  exact ⟨(h c).1.trans ((Cert.WinReferenceIdeal.Read.val_main_v16_eq _ _ _).trans
    (Cert.WinIdeal.Hand.result_eq m c _ _ _ a0.symm a1.symm a2.symm).symm), (h c).2⟩

/-- The reference of the upward weights' gradient declares no semaphore and writes no argument. -/
theorem frame_reference_w_up : Cert.quiescent_WupReferenceIdeal (hWupReferenceIdeal := Cert.WupReferenceIdeal.Gen.facts) := fun m ρ _ =>
  (θ_run _ _ _).mono (fun r h => ⟨fun c => (h c).2, sem_eq_zero_of_no_sems rfl r.2⟩) (Cert.WupReferenceIdeal.Value.run (F := Ideal) m ρ)

/-- The upward weights' gradient is the reference's. -/
theorem values_agree_w_up : Cert.algebraic_WupIdeal_WupReferenceIdeal (hWupIdeal := Cert.WupIdeal.Gen.facts)
    (hWupReferenceIdeal := Cert.WupReferenceIdeal.Gen.facts) := by
  intro m g m' g' _ hargs
  refine ⟨fun c => (Cert.WupIdeal.Gen.dats m 0 c).arrAt 2 Cert.WupIdeal.cfg0.N, Cert.WupIdeal.Value.run_blocks (F := Ideal) m g, ?_⟩
  refine (θ_run _ _ _).mono (fun r h c => ?_) (Cert.WupReferenceIdeal.Value.run (F := Ideal) m' g')
  obtain ⟨a0, a1, a2⟩ := hargs c
  exact ⟨(h c).1.trans ((Cert.WupReferenceIdeal.Read.val_main_v16_eq _ _ _).trans
    (Cert.WupIdeal.Hand.result_eq m c _ _ _ a0.symm a1.symm a2.symm).symm), (h c).2⟩

/-- The reference of the downward weights' gradient declares no semaphore and writes no argument. -/
theorem frame_reference_w_down : Cert.quiescent_WdownReferenceIdeal (hWdownReferenceIdeal := Cert.WdownReferenceIdeal.Gen.facts) := fun m ρ _ =>
  (θ_run _ _ _).mono (fun r h => ⟨fun c => (h c).2, sem_eq_zero_of_no_sems rfl r.2⟩) (Cert.WdownReferenceIdeal.Value.run (F := Ideal) m ρ)

/-- The downward weights' gradient is the reference's. -/
theorem values_agree_w_down : Cert.algebraic_WdownIdeal_WdownReferenceIdeal (hWdownIdeal := Cert.WdownIdeal.Gen.facts)
    (hWdownReferenceIdeal := Cert.WdownReferenceIdeal.Gen.facts) := by
  intro m g m' g' _ hargs
  refine ⟨fun c => (Cert.WdownIdeal.Gen.dats m 0 c).arrAt 2 Cert.WdownIdeal.cfg0.N, Cert.WdownIdeal.Value.run_blocks (F := Ideal) m g, ?_⟩
  refine (θ_run _ _ _).mono (fun r h c => ?_) (Cert.WdownReferenceIdeal.Value.run (F := Ideal) m' g')
  obtain ⟨a0, a1⟩ := hargs c
  exact ⟨(h c).1.trans ((Cert.WdownReferenceIdeal.Read.val_main_v3_eq _ _).trans
    (Cert.WdownIdeal.Hand.result_eq m c _ _ a0.symm a1.symm).symm), (h c).2⟩

/-- The reference of the attention output weights' gradient declares no semaphore and writes no argument. -/
theorem frame_reference_w_attn_o : Cert.quiescent_WaoReferenceIdeal (hWaoReferenceIdeal := Cert.WaoReferenceIdeal.Gen.facts) := fun m ρ _ =>
  (θ_run _ _ _).mono (fun r h => ⟨fun c => (h c).2, sem_eq_zero_of_no_sems rfl r.2⟩) (Cert.WaoReferenceIdeal.Value.run (F := Ideal) m ρ)

/-- The attention output weights' gradient is the reference's. -/
theorem values_agree_w_attn_o : Cert.algebraic_WaoIdeal_WaoReferenceIdeal (hWaoIdeal := Cert.WaoIdeal.Gen.facts)
    (hWaoReferenceIdeal := Cert.WaoReferenceIdeal.Gen.facts) := by
  intro m g m' g' _ hargs
  refine ⟨fun c => (Cert.WaoIdeal.Gen.dats m 0 c).arrAt 2 Cert.WaoIdeal.cfg0.N, Cert.WaoIdeal.Value.run_blocks (F := Ideal) m g, ?_⟩
  refine (θ_run _ _ _).mono (fun r h c => ?_) (Cert.WaoReferenceIdeal.Value.run (F := Ideal) m' g')
  obtain ⟨a0, a1⟩ := hargs c
  exact ⟨(h c).1.trans ((Cert.WaoReferenceIdeal.Read.val_main_v3_eq _ _).trans
    (Cert.WaoIdeal.Hand.result_eq m c _ _ a0.symm a1.symm).symm), (h c).2⟩

/-- The reference of the retention output weights' gradient declares no semaphore and writes no argument. -/
theorem frame_reference_w_ret_o : Cert.quiescent_WroReferenceIdeal (hWroReferenceIdeal := Cert.WroReferenceIdeal.Gen.facts) := fun m ρ _ =>
  (θ_run _ _ _).mono (fun r h => ⟨fun c => (h c).2, sem_eq_zero_of_no_sems rfl r.2⟩) (Cert.WroReferenceIdeal.Value.run (F := Ideal) m ρ)

/-- The retention output weights' gradient is the reference's. -/
theorem values_agree_w_ret_o : Cert.algebraic_WroIdeal_WroReferenceIdeal (hWroIdeal := Cert.WroIdeal.Gen.facts)
    (hWroReferenceIdeal := Cert.WroReferenceIdeal.Gen.facts) := by
  intro m g m' g' _ hargs
  refine ⟨fun c => (Cert.WroIdeal.Gen.dats m 0 c).arrAt 2 Cert.WroIdeal.cfg0.N, Cert.WroIdeal.Value.run_blocks (F := Ideal) m g, ?_⟩
  refine (θ_run _ _ _).mono (fun r h c => ?_) (Cert.WroReferenceIdeal.Value.run (F := Ideal) m' g')
  obtain ⟨a0, a1⟩ := hargs c
  exact ⟨(h c).1.trans ((Cert.WroReferenceIdeal.Read.val_main_v3_eq _ _).trans
    (Cert.WroIdeal.Hand.result_eq m c _ _ a0.symm a1.symm).symm), (h c).2⟩

/-- The reference of the output weights' gradient declares no semaphore and writes no argument. -/
theorem frame_reference_w_out : Cert.quiescent_WoutReferenceIdeal (hWoutReferenceIdeal := Cert.WoutReferenceIdeal.Gen.facts) := fun m ρ _ =>
  (θ_run _ _ _).mono (fun r h => ⟨fun c => (h c).2, sem_eq_zero_of_no_sems rfl r.2⟩) (Cert.WoutReferenceIdeal.Value.run (F := Ideal) m ρ)

/-- The output weights' gradient is the reference's. -/
theorem values_agree_w_out : Cert.algebraic_WoutIdeal_WoutReferenceIdeal (hWoutIdeal := Cert.WoutIdeal.Gen.facts)
    (hWoutReferenceIdeal := Cert.WoutReferenceIdeal.Gen.facts) := by
  intro m g m' g' _ hargs
  refine ⟨fun c => (Cert.WoutIdeal.Gen.dats m 0 c).arrAt 2 Cert.WoutIdeal.cfg0.N, Cert.WoutIdeal.Value.run_blocks (F := Ideal) m g, ?_⟩
  refine (θ_run _ _ _).mono (fun r h c => ?_) (Cert.WoutReferenceIdeal.Value.run (F := Ideal) m' g')
  obtain ⟨a0, a1⟩ := hargs c
  exact ⟨(h c).1.trans ((Cert.WoutReferenceIdeal.Read.val_main_v3_eq _ _).trans
    (Cert.WoutIdeal.Hand.result_eq m c _ _ a0.symm a1.symm).symm), (h c).2⟩

/-- The reference of the per-layer gate weights' gradient declares no semaphore and writes no argument. -/
theorem frame_reference_w_ple_gate : Cert.quiescent_WgateReferenceIdeal (hWgateReferenceIdeal := Cert.WgateReferenceIdeal.Gen.facts) := fun m ρ _ =>
  (θ_run _ _ _).mono (fun r h => ⟨fun c => (h c).2, sem_eq_zero_of_no_sems rfl r.2⟩) (Cert.WgateReferenceIdeal.Value.run (F := Ideal) m ρ)

/-- The per-layer gate weights' gradient is the reference's. -/
theorem values_agree_w_ple_gate : Cert.algebraic_WgateIdeal_WgateReferenceIdeal (hWgateIdeal := Cert.WgateIdeal.Gen.facts)
    (hWgateReferenceIdeal := Cert.WgateReferenceIdeal.Gen.facts) := by
  intro m g m' g' _ hargs
  refine ⟨fun c => (Cert.WgateIdeal.Gen.dats m 0 c).arrAt 2 Cert.WgateIdeal.cfg0.N, Cert.WgateIdeal.Value.run_blocks (F := Ideal) m g, ?_⟩
  refine (θ_run _ _ _).mono (fun r h c => ?_) (Cert.WgateReferenceIdeal.Value.run (F := Ideal) m' g')
  obtain ⟨a0, a1, a2⟩ := hargs c
  exact ⟨(h c).1.trans ((Cert.WgateReferenceIdeal.Read.val_main_v16_eq _ _ _).trans
    (Cert.WgateIdeal.Hand.result_eq m c _ _ _ a0.symm a1.symm a2.symm).symm), (h c).2⟩

/-- The certificate's claims. -/
theorem claim : Cert.Claim :=
  ⟨Cert.Inp.Gen.facts, Cert.InpIdeal.Gen.facts, Cert.InpReferenceIdeal.Gen.facts,
    Cert.Down.Gen.facts, Cert.DownIdeal.Gen.facts, Cert.DownReferenceIdeal.Gen.facts,
    Cert.Oproj.Gen.facts, Cert.OprojIdeal.Gen.facts, Cert.OprojReferenceIdeal.Gen.facts,
    Cert.Dattn.Gen.facts, Cert.DattnIdeal.Gen.facts, Cert.DattnReferenceIdeal.Gen.facts,
    Cert.Drz.Gen.facts, Cert.DrzIdeal.Gen.facts, Cert.DrzReferenceIdeal.Gen.facts,
    Cert.Attno.Gen.facts, Cert.AttnoIdeal.Gen.facts, Cert.AttnoReferenceIdeal.Gen.facts,
    Cert.Win.Gen.facts, Cert.WinIdeal.Gen.facts, Cert.WinReferenceIdeal.Gen.facts,
    Cert.Wup.Gen.facts, Cert.WupIdeal.Gen.facts, Cert.WupReferenceIdeal.Gen.facts,
    Cert.Wdown.Gen.facts, Cert.WdownIdeal.Gen.facts, Cert.WdownReferenceIdeal.Gen.facts,
    Cert.Wao.Gen.facts, Cert.WaoIdeal.Gen.facts, Cert.WaoReferenceIdeal.Gen.facts,
    Cert.Wro.Gen.facts, Cert.WroIdeal.Gen.facts, Cert.WroReferenceIdeal.Gen.facts,
    Cert.Wout.Gen.facts, Cert.WoutIdeal.Gen.facts, Cert.WoutReferenceIdeal.Gen.facts,
    Cert.Wgate.Gen.facts, Cert.WgateIdeal.Gen.facts, Cert.WgateReferenceIdeal.Gen.facts,
    Cert.Mlp.Gen.facts, Cert.MlpIdeal.Gen.facts, Cert.MlpReferenceIdeal.Gen.facts,
    Cert.Kernel.Gen.facts, Cert.KernelIdeal.Gen.facts, Cert.ReferenceIdeal.Gen.facts, preFacts,
    fun m ρ _ => Cert.Inp.Gen.frame (F := Bits) m ρ,
    fun m ρ _ => Cert.InpIdeal.Gen.frame (F := Ideal) m ρ,
    frame_reference_inp,
    fun m ρ _ => Cert.Down.Gen.frame (F := Bits) m ρ,
    fun m ρ _ => Cert.DownIdeal.Gen.frame (F := Ideal) m ρ,
    frame_reference_down,
    fun m ρ _ => Cert.Oproj.Gen.frame (F := Bits) m ρ,
    fun m ρ _ => Cert.OprojIdeal.Gen.frame (F := Ideal) m ρ,
    frame_reference_out_proj,
    fun m ρ _ => Cert.Dattn.Gen.frame (F := Bits) m ρ,
    fun m ρ _ => Cert.DattnIdeal.Gen.frame (F := Ideal) m ρ,
    frame_reference_d_attn,
    fun m ρ _ => Cert.Drz.Gen.frame (F := Bits) m ρ,
    fun m ρ _ => Cert.DrzIdeal.Gen.frame (F := Ideal) m ρ,
    frame_reference_d_rz,
    fun m ρ _ => Cert.Attno.Gen.frame (F := Bits) m ρ,
    fun m ρ _ => Cert.AttnoIdeal.Gen.frame (F := Ideal) m ρ,
    frame_reference_attn_o,
    fun m ρ _ => Cert.Win.Gen.frame (F := Bits) m ρ,
    fun m ρ _ => Cert.WinIdeal.Gen.frame (F := Ideal) m ρ,
    frame_reference_w_in,
    fun m ρ _ => Cert.Wup.Gen.frame (F := Bits) m ρ,
    fun m ρ _ => Cert.WupIdeal.Gen.frame (F := Ideal) m ρ,
    frame_reference_w_up,
    fun m ρ _ => Cert.Wdown.Gen.frame (F := Bits) m ρ,
    fun m ρ _ => Cert.WdownIdeal.Gen.frame (F := Ideal) m ρ,
    frame_reference_w_down,
    fun m ρ _ => Cert.Wao.Gen.frame (F := Bits) m ρ,
    fun m ρ _ => Cert.WaoIdeal.Gen.frame (F := Ideal) m ρ,
    frame_reference_w_attn_o,
    fun m ρ _ => Cert.Wro.Gen.frame (F := Bits) m ρ,
    fun m ρ _ => Cert.WroIdeal.Gen.frame (F := Ideal) m ρ,
    frame_reference_w_ret_o,
    fun m ρ _ => Cert.Wout.Gen.frame (F := Bits) m ρ,
    fun m ρ _ => Cert.WoutIdeal.Gen.frame (F := Ideal) m ρ,
    frame_reference_w_out,
    fun m ρ _ => Cert.Wgate.Gen.frame (F := Bits) m ρ,
    fun m ρ _ => Cert.WgateIdeal.Gen.frame (F := Ideal) m ρ,
    frame_reference_w_ple_gate,
    fun m ρ _ => Cert.Mlp.Gen.frame (F := Bits) m ρ,
    fun m ρ _ => Cert.MlpIdeal.Gen.frame (F := Ideal) m ρ,
    frame_reference_mlp,
    fun m ρ _ => Cert.Kernel.Hand.frame (F := Bits) m ρ,
    fun m ρ _ => Cert.KernelIdeal.Hand.frame (F := Ideal) m ρ,
    fun m ρ _ => Cert.KernelIdeal.Hand.frame (F := Ideal) m ρ,
    frame_reference,
    fun m ρ _ => frame_reference m ρ trivial,
    trivial,
    values_agree_inp,
    trivial,
    values_agree_down,
    trivial,
    values_agree_out_proj,
    trivial,
    values_agree_d_attn,
    trivial,
    values_agree_d_rz,
    trivial,
    values_agree_attn_o,
    trivial,
    values_agree_w_in,
    trivial,
    values_agree_w_up,
    trivial,
    values_agree_w_down,
    trivial,
    values_agree_w_attn_o,
    trivial,
    values_agree_w_ret_o,
    trivial,
    values_agree_w_out,
    trivial,
    values_agree_w_ple_gate,
    trivial,
    values_agree_mlp,
    trivial,
    values_agree⟩

end Cert.Proof

end
